-- ==== Defs.lean ====
def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionRefIdeal (m : (ℓ : Loc Cert.AttentionRefIdeal.nD Cert.AttentionRefIdeal.τ Cert.AttentionRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_MlpLast (m : (ℓ : Loc Cert.MlpLast.nD Cert.MlpLast.τ Cert.MlpLast.sig) → Buf (Elt Bits) ℓ) : Prop :=
  True

def Pre_MlpLastIdeal (m : (ℓ : Loc Cert.MlpLastIdeal.nD Cert.MlpLastIdeal.τ Cert.MlpLastIdeal.sig) → Buf (Elt Ideal) ℓ) : Prop :=
  True

def Pre_MlpLastRefIdeal (m : (ℓ : Loc Cert.MlpLastRefIdeal.nD Cert.MlpLastRefIdeal.τ Cert.MlpLastRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_ProjOdd (m : (ℓ : Loc Cert.ProjOdd.nD Cert.ProjOdd.τ Cert.ProjOdd.sig) → Buf (Elt Bits) ℓ) : Prop :=
  True

def Pre_ProjOddIdeal (m : (ℓ : Loc Cert.ProjOddIdeal.nD Cert.ProjOddIdeal.τ Cert.ProjOddIdeal.sig) → Buf (Elt Ideal) ℓ) : Prop :=
  True

def Pre_ProjOddRefIdeal (m : (ℓ : Loc Cert.ProjOddRefIdeal.nD Cert.ProjOddRefIdeal.τ Cert.ProjOddRefIdeal.sig) → Buf (Elt Ideal) ℓ) : Prop :=
  True

def Pre_ProjEven (m : (ℓ : Loc Cert.ProjEven.nD Cert.ProjEven.τ Cert.ProjEven.sig) → Buf (Elt Bits) ℓ) : Prop :=
  True

def Pre_ProjEvenIdeal (m : (ℓ : Loc Cert.ProjEvenIdeal.nD Cert.ProjEvenIdeal.τ Cert.ProjEvenIdeal.sig) → Buf (Elt Ideal) ℓ) : Prop :=
  True

def Pre_ProjEvenRefIdeal (m : (ℓ : Loc Cert.ProjEvenRefIdeal.nD Cert.ProjEvenRefIdeal.τ Cert.ProjEvenRefIdeal.sig) → Buf (Elt Ideal) ℓ) : Prop :=
  True

def Pre_ProjOddS (m : (ℓ : Loc Cert.ProjOddS.nD Cert.ProjOddS.τ Cert.ProjOddS.sig) → Buf (Elt Bits) ℓ) : Prop :=
  True

def Pre_ProjOddSIdeal (m : (ℓ : Loc Cert.ProjOddSIdeal.nD Cert.ProjOddSIdeal.τ Cert.ProjOddSIdeal.sig) → Buf (Elt Ideal) ℓ) : Prop :=
  True

def Pre_ProjOddSRefIdeal (m : (ℓ : Loc Cert.ProjOddSRefIdeal.nD Cert.ProjOddSRefIdeal.τ Cert.ProjOddSRefIdeal.sig) → Buf (Elt Ideal) ℓ) : Prop :=
  True

def Pre_MlpLastS (m : (ℓ : Loc Cert.MlpLastS.nD Cert.MlpLastS.τ Cert.MlpLastS.sig) → Buf (Elt Bits) ℓ) : Prop :=
  True

def Pre_MlpLastSIdeal (m : (ℓ : Loc Cert.MlpLastSIdeal.nD Cert.MlpLastSIdeal.τ Cert.MlpLastSIdeal.sig) → Buf (Elt Ideal) ℓ) : Prop :=
  True

def Pre_MlpLastSRefIdeal (m : (ℓ : Loc Cert.MlpLastSRefIdeal.nD Cert.MlpLastSRefIdeal.τ Cert.MlpLastSRefIdeal.sig) → Buf (Elt Ideal) ℓ) : Prop :=
  True

def Pre_MixS (m : (ℓ : Loc Cert.MixS.nD Cert.MixS.τ Cert.MixS.sig) → Buf (Elt Bits) ℓ) : Prop :=
  True

def Pre_MixSIdeal (m : (ℓ : Loc Cert.MixSIdeal.nD Cert.MixSIdeal.τ Cert.MixSIdeal.sig) → Buf (Elt Ideal) ℓ) : Prop :=
  True

def Pre_MixSRefIdeal (m : (ℓ : Loc Cert.MixSRefIdeal.nD Cert.MixSRefIdeal.τ Cert.MixSRefIdeal.sig) → Buf (Elt Ideal) ℓ) : Prop :=
  True

def Pre_MixState (m : (ℓ : Loc Cert.MixState.nD Cert.MixState.τ Cert.MixState.sig) → Buf (Elt Bits) ℓ) : Prop :=
  True

def Pre_MixStateIdeal (m : (ℓ : Loc Cert.MixStateIdeal.nD Cert.MixStateIdeal.τ Cert.MixStateIdeal.sig) → Buf (Elt Ideal) ℓ) : Prop :=
  True

def Pre_MixStateIdeal_gates_below_inf [hPre_gates_below_inf : Cert.Pre_gates_below_inf.Facts] (m : (ℓ : Loc Cert.MixStateIdeal.nD Cert.MixStateIdeal.τ Cert.MixStateIdeal.sig) → Buf (Elt Ideal) ℓ) : Prop :=
  ∀ c : Dev Cert.MixStateIdeal.nD,
    (Cert.Pre_gates_below_inf.fn (F := Ideal) (m ((c.tc : Thread Cert.MixStateIdeal.nD Cert.MixStateIdeal.τ).loc Cert.MixStateIdeal.main_arg0)) (m ((c.tc : Thread Cert.MixStateIdeal.nD Cert.MixStateIdeal.τ).loc Cert.MixStateIdeal.main_arg1)) (m ((c.tc : Thread Cert.MixStateIdeal.nD Cert.MixStateIdeal.τ).loc Cert.MixStateIdeal.main_arg2)) (m ((c.tc : Thread Cert.MixStateIdeal.nD Cert.MixStateIdeal.τ).loc Cert.MixStateIdeal.main_arg3)) (m ((c.tc : Thread Cert.MixStateIdeal.nD Cert.MixStateIdeal.τ).loc Cert.MixStateIdeal.main_arg4)) (m ((c.tc : Thread Cert.MixStateIdeal.nD Cert.MixStateIdeal.τ).loc Cert.MixStateIdeal.main_arg5)) (m ((c.tc : Thread Cert.MixStateIdeal.nD Cert.MixStateIdeal.τ).loc Cert.MixStateIdeal.main_arg6)) (m ((c.tc : Thread Cert.MixStateIdeal.nD Cert.MixStateIdeal.τ).loc Cert.MixStateIdeal.main_arg7)) (m ((c.tc : Thread Cert.MixStateIdeal.nD Cert.MixStateIdeal.τ).loc Cert.MixStateIdeal.main_arg8))) = (fun _ => 1#1)

def Pre_MixStateRefIdeal (m : (ℓ : Loc Cert.MixStateRefIdeal.nD Cert.MixStateRefIdeal.τ Cert.MixStateRefIdeal.sig) → Buf (Elt Ideal) ℓ) : Prop :=
  True

def Pre_MixStateRefIdeal_gates_below_inf [hPre_gates_below_inf : Cert.Pre_gates_below_inf.Facts] (m : (ℓ : Loc Cert.MixStateRefIdeal.nD Cert.MixStateRefIdeal.τ Cert.MixStateRefIdeal.sig) → Buf (Elt Ideal) ℓ) : Prop :=
  ∀ c : Dev Cert.MixStateRefIdeal.nD,
    (Cert.Pre_gates_below_inf.fn (F := Ideal) (m ((c.tc : Thread Cert.MixStateRefIdeal.nD Cert.MixStateRefIdeal.τ).loc Cert.MixStateRefIdeal.main_arg0)) (m ((c.tc : Thread Cert.MixStateRefIdeal.nD Cert.MixStateRefIdeal.τ).loc Cert.MixStateRefIdeal.main_arg1)) (m ((c.tc : Thread Cert.MixStateRefIdeal.nD Cert.MixStateRefIdeal.τ).loc Cert.MixStateRefIdeal.main_arg2)) (m ((c.tc : Thread Cert.MixStateRefIdeal.nD Cert.MixStateRefIdeal.τ).loc Cert.MixStateRefIdeal.main_arg3)) (m ((c.tc : Thread Cert.MixStateRefIdeal.nD Cert.MixStateRefIdeal.τ).loc Cert.MixStateRefIdeal.main_arg4)) (m ((c.tc : Thread Cert.MixStateRefIdeal.nD Cert.MixStateRefIdeal.τ).loc Cert.MixStateRefIdeal.main_arg5)) (m ((c.tc : Thread Cert.MixStateRefIdeal.nD Cert.MixStateRefIdeal.τ).loc Cert.MixStateRefIdeal.main_arg6)) (m ((c.tc : Thread Cert.MixStateRefIdeal.nD Cert.MixStateRefIdeal.τ).loc Cert.MixStateRefIdeal.main_arg7)) (m ((c.tc : Thread Cert.MixStateRefIdeal.nD Cert.MixStateRefIdeal.τ).loc Cert.MixStateRefIdeal.main_arg8))) = (fun _ => 1#1)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2)
      ∧ r.2.mem ((c.tc : Thread Cert.AttentionRefIdeal.nD Cert.AttentionRefIdeal.τ).loc Cert.AttentionRefIdeal.main_arg3) = m ((c.tc : Thread Cert.AttentionRefIdeal.nD Cert.AttentionRefIdeal.τ).loc Cert.AttentionRefIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7))
      ∧ r.2.sem = fun _ => 0)

def quiescent_MlpLast [hMlpLast : Cert.MlpLast.Facts] : Prop :=
  ∀ (m : (ℓ : Loc Cert.MlpLast.nD Cert.MlpLast.τ Cert.MlpLast.sig) → Buf (Elt Bits) ℓ) (g : Dev Cert.MlpLast.nD → PrngReg), Pre_MlpLast m →
    θ_run (Cert.MlpLast.defs (F := Bits)) (onTc (τ := Cert.MlpLast.τ) (Cert.MlpLast.main (F := Bits))) ⟨m, fun _ => 0, g⟩ (fun r => (∀ c : Dev Cert.MlpLast.nD,
      r.2.mem ((c.tc : Thread Cert.MlpLast.nD Cert.MlpLast.τ).loc Cert.MlpLast.main_arg0) = m ((c.tc : Thread Cert.MlpLast.nD Cert.MlpLast.τ).loc Cert.MlpLast.main_arg0)
      ∧ r.2.mem ((c.tc : Thread Cert.MlpLast.nD Cert.MlpLast.τ).loc Cert.MlpLast.main_arg1) = m ((c.tc : Thread Cert.MlpLast.nD Cert.MlpLast.τ).loc Cert.MlpLast.main_arg1)
      ∧ r.2.mem ((c.tc : Thread Cert.MlpLast.nD Cert.MlpLast.τ).loc Cert.MlpLast.main_arg2) = m ((c.tc : Thread Cert.MlpLast.nD Cert.MlpLast.τ).loc Cert.MlpLast.main_arg2)
      ∧ r.2.mem ((c.tc : Thread Cert.MlpLast.nD Cert.MlpLast.τ).loc Cert.MlpLast.main_arg3) = m ((c.tc : Thread Cert.MlpLast.nD Cert.MlpLast.τ).loc Cert.MlpLast.main_arg3)
      ∧ r.2.mem ((c.tc : Thread Cert.MlpLast.nD Cert.MlpLast.τ).loc Cert.MlpLast.main_arg4) = m ((c.tc : Thread Cert.MlpLast.nD Cert.MlpLast.τ).loc Cert.MlpLast.main_arg4)
      ∧ r.2.mem ((c.tc : Thread Cert.MlpLast.nD Cert.MlpLast.τ).loc Cert.MlpLast.main_arg5) = m ((c.tc : Thread Cert.MlpLast.nD Cert.MlpLast.τ).loc Cert.MlpLast.main_arg5)
      ∧ r.2.mem ((c.tc : Thread Cert.MlpLast.nD Cert.MlpLast.τ).loc Cert.MlpLast.main_arg6) = m ((c.tc : Thread Cert.MlpLast.nD Cert.MlpLast.τ).loc Cert.MlpLast.main_arg6)
      ∧ r.2.mem ((c.tc : Thread Cert.MlpLast.nD Cert.MlpLast.τ).loc Cert.MlpLast.main_arg7) = m ((c.tc : Thread Cert.MlpLast.nD Cert.MlpLast.τ).loc Cert.MlpLast.main_arg7))
      ∧ r.2.sem = fun _ => 0)

def quiescent_MlpLastIdeal [hMlpLastIdeal : Cert.MlpLastIdeal.Facts] : Prop :=
  ∀ (m : (ℓ : Loc Cert.MlpLastIdeal.nD Cert.MlpLastIdeal.τ Cert.MlpLastIdeal.sig) → Buf (Elt Ideal) ℓ) (g : Dev Cert.MlpLastIdeal.nD → PrngReg), Pre_MlpLastIdeal m →
    θ_run (Cert.MlpLastIdeal.defs (F := Ideal)) (onTc (τ := Cert.MlpLastIdeal.τ) (Cert.MlpLastIdeal.main (F := Ideal))) ⟨m, fun _ => 0, g⟩ (fun r => (∀ c : Dev Cert.MlpLastIdeal.nD,
      r.2.mem ((c.tc : Thread Cert.MlpLastIdeal.nD Cert.MlpLastIdeal.τ).loc Cert.MlpLastIdeal.main_arg0) = m ((c.tc : Thread Cert.MlpLastIdeal.nD Cert.MlpLastIdeal.τ).loc Cert.MlpLastIdeal.main_arg0)
      ∧ r.2.mem ((c.tc : Thread Cert.MlpLastIdeal.nD Cert.MlpLastIdeal.τ).loc Cert.MlpLastIdeal.main_arg1) = m ((c.tc : Thread Cert.MlpLastIdeal.nD Cert.MlpLastIdeal.τ).loc Cert.MlpLastIdeal.main_arg1)
      ∧ r.2.mem ((c.tc : Thread Cert.MlpLastIdeal.nD Cert.MlpLastIdeal.τ).loc Cert.MlpLastIdeal.main_arg2) = m ((c.tc : Thread Cert.MlpLastIdeal.nD Cert.MlpLastIdeal.τ).loc Cert.MlpLastIdeal.main_arg2)
      ∧ r.2.mem ((c.tc : Thread Cert.MlpLastIdeal.nD Cert.MlpLastIdeal.τ).loc Cert.MlpLastIdeal.main_arg3) = m ((c.tc : Thread Cert.MlpLastIdeal.nD Cert.MlpLastIdeal.τ).loc Cert.MlpLastIdeal.main_arg3)
      ∧ r.2.mem ((c.tc : Thread Cert.MlpLastIdeal.nD Cert.MlpLastIdeal.τ).loc Cert.MlpLastIdeal.main_arg4) = m ((c.tc : Thread Cert.MlpLastIdeal.nD Cert.MlpLastIdeal.τ).loc Cert.MlpLastIdeal.main_arg4)
      ∧ r.2.mem ((c.tc : Thread Cert.MlpLastIdeal.nD Cert.MlpLastIdeal.τ).loc Cert.MlpLastIdeal.main_arg5) = m ((c.tc : Thread Cert.MlpLastIdeal.nD Cert.MlpLastIdeal.τ).loc Cert.MlpLastIdeal.main_arg5)
      ∧ r.2.mem ((c.tc : Thread Cert.MlpLastIdeal.nD Cert.MlpLastIdeal.τ).loc Cert.MlpLastIdeal.main_arg6) = m ((c.tc : Thread Cert.MlpLastIdeal.nD Cert.MlpLastIdeal.τ).loc Cert.MlpLastIdeal.main_arg6)
      ∧ r.2.mem ((c.tc : Thread Cert.MlpLastIdeal.nD Cert.MlpLastIdeal.τ).loc Cert.MlpLastIdeal.main_arg7) = m ((c.tc : Thread Cert.MlpLastIdeal.nD Cert.MlpLastIdeal.τ).loc Cert.MlpLastIdeal.main_arg7))
      ∧ r.2.sem = fun _ => 0)

def quiescent_MlpLastRefIdeal [hMlpLastRefIdeal : Cert.MlpLastRefIdeal.Facts] : Prop :=
  ∀ (m : (ℓ : Loc Cert.MlpLastRefIdeal.nD Cert.MlpLastRefIdeal.τ Cert.MlpLastRefIdeal.sig) → Buf (Elt Ideal) ℓ) (g : Dev Cert.MlpLastRefIdeal.nD → PrngReg), Pre_MlpLastRefIdeal m →
    θ_run (Cert.MlpLastRefIdeal.defs (F := Ideal)) (onTc (τ := Cert.MlpLastRefIdeal.τ) (Cert.MlpLastRefIdeal.main (F := Ideal))) ⟨m, fun _ => 0, g⟩ (fun r => (∀ c : Dev Cert.MlpLastRefIdeal.nD,
      r.2.mem ((c.tc : Thread Cert.MlpLastRefIdeal.nD Cert.MlpLastRefIdeal.τ).loc Cert.MlpLastRefIdeal.main_arg0) = m ((c.tc : Thread Cert.MlpLastRefIdeal.nD Cert.MlpLastRefIdeal.τ).loc Cert.MlpLastRefIdeal.main_arg0)
      ∧ r.2.mem ((c.tc : Thread Cert.MlpLastRefIdeal.nD Cert.MlpLastRefIdeal.τ).loc Cert.MlpLastRefIdeal.main_arg1) = m ((c.tc : Thread Cert.MlpLastRefIdeal.nD Cert.MlpLastRefIdeal.τ).loc Cert.MlpLastRefIdeal.main_arg1)
      ∧ r.2.mem ((c.tc : Thread Cert.MlpLastRefIdeal.nD Cert.MlpLastRefIdeal.τ).loc Cert.MlpLastRefIdeal.main_arg2) = m ((c.tc : Thread Cert.MlpLastRefIdeal.nD Cert.MlpLastRefIdeal.τ).loc Cert.MlpLastRefIdeal.main_arg2)
      ∧ r.2.mem ((c.tc : Thread Cert.MlpLastRefIdeal.nD Cert.MlpLastRefIdeal.τ).loc Cert.MlpLastRefIdeal.main_arg3) = m ((c.tc : Thread Cert.MlpLastRefIdeal.nD Cert.MlpLastRefIdeal.τ).loc Cert.MlpLastRefIdeal.main_arg3)
      ∧ r.2.mem ((c.tc : Thread Cert.MlpLastRefIdeal.nD Cert.MlpLastRefIdeal.τ).loc Cert.MlpLastRefIdeal.main_arg4) = m ((c.tc : Thread Cert.MlpLastRefIdeal.nD Cert.MlpLastRefIdeal.τ).loc Cert.MlpLastRefIdeal.main_arg4)
      ∧ r.2.mem ((c.tc : Thread Cert.MlpLastRefIdeal.nD Cert.MlpLastRefIdeal.τ).loc Cert.MlpLastRefIdeal.main_arg5) = m ((c.tc : Thread Cert.MlpLastRefIdeal.nD Cert.MlpLastRefIdeal.τ).loc Cert.MlpLastRefIdeal.main_arg5)
      ∧ r.2.mem ((c.tc : Thread Cert.MlpLastRefIdeal.nD Cert.MlpLastRefIdeal.τ).loc Cert.MlpLastRefIdeal.main_arg6) = m ((c.tc : Thread Cert.MlpLastRefIdeal.nD Cert.MlpLastRefIdeal.τ).loc Cert.MlpLastRefIdeal.main_arg6)
      ∧ r.2.mem ((c.tc : Thread Cert.MlpLastRefIdeal.nD Cert.MlpLastRefIdeal.τ).loc Cert.MlpLastRefIdeal.main_arg7) = m ((c.tc : Thread Cert.MlpLastRefIdeal.nD Cert.MlpLastRefIdeal.τ).loc Cert.MlpLastRefIdeal.main_arg7))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3))
      ∧ r.2.sem = fun _ => 0)

def quiescent_ProjOdd [hProjOdd : Cert.ProjOdd.Facts] : Prop :=
  ∀ (m : (ℓ : Loc Cert.ProjOdd.nD Cert.ProjOdd.τ Cert.ProjOdd.sig) → Buf (Elt Bits) ℓ) (g : Dev Cert.ProjOdd.nD → PrngReg), Pre_ProjOdd m →
    θ_run (Cert.ProjOdd.defs (F := Bits)) (onTc (τ := Cert.ProjOdd.τ) (Cert.ProjOdd.main (F := Bits))) ⟨m, fun _ => 0, g⟩ (fun r => (∀ c : Dev Cert.ProjOdd.nD,
      r.2.mem ((c.tc : Thread Cert.ProjOdd.nD Cert.ProjOdd.τ).loc Cert.ProjOdd.main_arg0) = m ((c.tc : Thread Cert.ProjOdd.nD Cert.ProjOdd.τ).loc Cert.ProjOdd.main_arg0)
      ∧ r.2.mem ((c.tc : Thread Cert.ProjOdd.nD Cert.ProjOdd.τ).loc Cert.ProjOdd.main_arg1) = m ((c.tc : Thread Cert.ProjOdd.nD Cert.ProjOdd.τ).loc Cert.ProjOdd.main_arg1)
      ∧ r.2.mem ((c.tc : Thread Cert.ProjOdd.nD Cert.ProjOdd.τ).loc Cert.ProjOdd.main_arg2) = m ((c.tc : Thread Cert.ProjOdd.nD Cert.ProjOdd.τ).loc Cert.ProjOdd.main_arg2)
      ∧ r.2.mem ((c.tc : Thread Cert.ProjOdd.nD Cert.ProjOdd.τ).loc Cert.ProjOdd.main_arg3) = m ((c.tc : Thread Cert.ProjOdd.nD Cert.ProjOdd.τ).loc Cert.ProjOdd.main_arg3)
      ∧ r.2.mem ((c.tc : Thread Cert.ProjOdd.nD Cert.ProjOdd.τ).loc Cert.ProjOdd.main_arg4) = m ((c.tc : Thread Cert.ProjOdd.nD Cert.ProjOdd.τ).loc Cert.ProjOdd.main_arg4))
      ∧ r.2.sem = fun _ => 0)

def quiescent_ProjOddIdeal [hProjOddIdeal : Cert.ProjOddIdeal.Facts] : Prop :=
  ∀ (m : (ℓ : Loc Cert.ProjOddIdeal.nD Cert.ProjOddIdeal.τ Cert.ProjOddIdeal.sig) → Buf (Elt Ideal) ℓ) (g : Dev Cert.ProjOddIdeal.nD → PrngReg), Pre_ProjOddIdeal m →
    θ_run (Cert.ProjOddIdeal.defs (F := Ideal)) (onTc (τ := Cert.ProjOddIdeal.τ) (Cert.ProjOddIdeal.main (F := Ideal))) ⟨m, fun _ => 0, g⟩ (fun r => (∀ c : Dev Cert.ProjOddIdeal.nD,
      r.2.mem ((c.tc : Thread Cert.ProjOddIdeal.nD Cert.ProjOddIdeal.τ).loc Cert.ProjOddIdeal.main_arg0) = m ((c.tc : Thread Cert.ProjOddIdeal.nD Cert.ProjOddIdeal.τ).loc Cert.ProjOddIdeal.main_arg0)
      ∧ r.2.mem ((c.tc : Thread Cert.ProjOddIdeal.nD Cert.ProjOddIdeal.τ).loc Cert.ProjOddIdeal.main_arg1) = m ((c.tc : Thread Cert.ProjOddIdeal.nD Cert.ProjOddIdeal.τ).loc Cert.ProjOddIdeal.main_arg1)
      ∧ r.2.mem ((c.tc : Thread Cert.ProjOddIdeal.nD Cert.ProjOddIdeal.τ).loc Cert.ProjOddIdeal.main_arg2) = m ((c.tc : Thread Cert.ProjOddIdeal.nD Cert.ProjOddIdeal.τ).loc Cert.ProjOddIdeal.main_arg2)
      ∧ r.2.mem ((c.tc : Thread Cert.ProjOddIdeal.nD Cert.ProjOddIdeal.τ).loc Cert.ProjOddIdeal.main_arg3) = m ((c.tc : Thread Cert.ProjOddIdeal.nD Cert.ProjOddIdeal.τ).loc Cert.ProjOddIdeal.main_arg3)
      ∧ r.2.mem ((c.tc : Thread Cert.ProjOddIdeal.nD Cert.ProjOddIdeal.τ).loc Cert.ProjOddIdeal.main_arg4) = m ((c.tc : Thread Cert.ProjOddIdeal.nD Cert.ProjOddIdeal.τ).loc Cert.ProjOddIdeal.main_arg4))
      ∧ r.2.sem = fun _ => 0)

def quiescent_ProjOddRefIdeal [hProjOddRefIdeal : Cert.ProjOddRefIdeal.Facts] : Prop :=
  ∀ (m : (ℓ : Loc Cert.ProjOddRefIdeal.nD Cert.ProjOddRefIdeal.τ Cert.ProjOddRefIdeal.sig) → Buf (Elt Ideal) ℓ) (g : Dev Cert.ProjOddRefIdeal.nD → PrngReg), Pre_ProjOddRefIdeal m →
    θ_run (Cert.ProjOddRefIdeal.defs (F := Ideal)) (onTc (τ := Cert.ProjOddRefIdeal.τ) (Cert.ProjOddRefIdeal.main (F := Ideal))) ⟨m, fun _ => 0, g⟩ (fun r => (∀ c : Dev Cert.ProjOddRefIdeal.nD,
      r.2.mem ((c.tc : Thread Cert.ProjOddRefIdeal.nD Cert.ProjOddRefIdeal.τ).loc Cert.ProjOddRefIdeal.main_arg0) = m ((c.tc : Thread Cert.ProjOddRefIdeal.nD Cert.ProjOddRefIdeal.τ).loc Cert.ProjOddRefIdeal.main_arg0)
      ∧ r.2.mem ((c.tc : Thread Cert.ProjOddRefIdeal.nD Cert.ProjOddRefIdeal.τ).loc Cert.ProjOddRefIdeal.main_arg1) = m ((c.tc : Thread Cert.ProjOddRefIdeal.nD Cert.ProjOddRefIdeal.τ).loc Cert.ProjOddRefIdeal.main_arg1)
      ∧ r.2.mem ((c.tc : Thread Cert.ProjOddRefIdeal.nD Cert.ProjOddRefIdeal.τ).loc Cert.ProjOddRefIdeal.main_arg2) = m ((c.tc : Thread Cert.ProjOddRefIdeal.nD Cert.ProjOddRefIdeal.τ).loc Cert.ProjOddRefIdeal.main_arg2)
      ∧ r.2.mem ((c.tc : Thread Cert.ProjOddRefIdeal.nD Cert.ProjOddRefIdeal.τ).loc Cert.ProjOddRefIdeal.main_arg3) = m ((c.tc : Thread Cert.ProjOddRefIdeal.nD Cert.ProjOddRefIdeal.τ).loc Cert.ProjOddRefIdeal.main_arg3)
      ∧ r.2.mem ((c.tc : Thread Cert.ProjOddRefIdeal.nD Cert.ProjOddRefIdeal.τ).loc Cert.ProjOddRefIdeal.main_arg4) = m ((c.tc : Thread Cert.ProjOddRefIdeal.nD Cert.ProjOddRefIdeal.τ).loc Cert.ProjOddRefIdeal.main_arg4))
      ∧ r.2.sem = fun _ => 0)

def quiescent_ProjEven [hProjEven : Cert.ProjEven.Facts] : Prop :=
  ∀ (m : (ℓ : Loc Cert.ProjEven.nD Cert.ProjEven.τ Cert.ProjEven.sig) → Buf (Elt Bits) ℓ) (g : Dev Cert.ProjEven.nD → PrngReg), Pre_ProjEven m →
    θ_run (Cert.ProjEven.defs (F := Bits)) (onTc (τ := Cert.ProjEven.τ) (Cert.ProjEven.main (F := Bits))) ⟨m, fun _ => 0, g⟩ (fun r => (∀ c : Dev Cert.ProjEven.nD,
      r.2.mem ((c.tc : Thread Cert.ProjEven.nD Cert.ProjEven.τ).loc Cert.ProjEven.main_arg0) = m ((c.tc : Thread Cert.ProjEven.nD Cert.ProjEven.τ).loc Cert.ProjEven.main_arg0)
      ∧ r.2.mem ((c.tc : Thread Cert.ProjEven.nD Cert.ProjEven.τ).loc Cert.ProjEven.main_arg1) = m ((c.tc : Thread Cert.ProjEven.nD Cert.ProjEven.τ).loc Cert.ProjEven.main_arg1)
      ∧ r.2.mem ((c.tc : Thread Cert.ProjEven.nD Cert.ProjEven.τ).loc Cert.ProjEven.main_arg2) = m ((c.tc : Thread Cert.ProjEven.nD Cert.ProjEven.τ).loc Cert.ProjEven.main_arg2)
      ∧ r.2.mem ((c.tc : Thread Cert.ProjEven.nD Cert.ProjEven.τ).loc Cert.ProjEven.main_arg3) = m ((c.tc : Thread Cert.ProjEven.nD Cert.ProjEven.τ).loc Cert.ProjEven.main_arg3)
      ∧ r.2.mem ((c.tc : Thread Cert.ProjEven.nD Cert.ProjEven.τ).loc Cert.ProjEven.main_arg4) = m ((c.tc : Thread Cert.ProjEven.nD Cert.ProjEven.τ).loc Cert.ProjEven.main_arg4))
      ∧ r.2.sem = fun _ => 0)

def quiescent_ProjEvenIdeal [hProjEvenIdeal : Cert.ProjEvenIdeal.Facts] : Prop :=
  ∀ (m : (ℓ : Loc Cert.ProjEvenIdeal.nD Cert.ProjEvenIdeal.τ Cert.ProjEvenIdeal.sig) → Buf (Elt Ideal) ℓ) (g : Dev Cert.ProjEvenIdeal.nD → PrngReg), Pre_ProjEvenIdeal m →
    θ_run (Cert.ProjEvenIdeal.defs (F := Ideal)) (onTc (τ := Cert.ProjEvenIdeal.τ) (Cert.ProjEvenIdeal.main (F := Ideal))) ⟨m, fun _ => 0, g⟩ (fun r => (∀ c : Dev Cert.ProjEvenIdeal.nD,
      r.2.mem ((c.tc : Thread Cert.ProjEvenIdeal.nD Cert.ProjEvenIdeal.τ).loc Cert.ProjEvenIdeal.main_arg0) = m ((c.tc : Thread Cert.ProjEvenIdeal.nD Cert.ProjEvenIdeal.τ).loc Cert.ProjEvenIdeal.main_arg0)
      ∧ r.2.mem ((c.tc : Thread Cert.ProjEvenIdeal.nD Cert.ProjEvenIdeal.τ).loc Cert.ProjEvenIdeal.main_arg1) = m ((c.tc : Thread Cert.ProjEvenIdeal.nD Cert.ProjEvenIdeal.τ).loc Cert.ProjEvenIdeal.main_arg1)
      ∧ r.2.mem ((c.tc : Thread Cert.ProjEvenIdeal.nD Cert.ProjEvenIdeal.τ).loc Cert.ProjEvenIdeal.main_arg2) = m ((c.tc : Thread Cert.ProjEvenIdeal.nD Cert.ProjEvenIdeal.τ).loc Cert.ProjEvenIdeal.main_arg2)
      ∧ r.2.mem ((c.tc : Thread Cert.ProjEvenIdeal.nD Cert.ProjEvenIdeal.τ).loc Cert.ProjEvenIdeal.main_arg3) = m ((c.tc : Thread Cert.ProjEvenIdeal.nD Cert.ProjEvenIdeal.τ).loc Cert.ProjEvenIdeal.main_arg3)
      ∧ r.2.mem ((c.tc : Thread Cert.ProjEvenIdeal.nD Cert.ProjEvenIdeal.τ).loc Cert.ProjEvenIdeal.main_arg4) = m ((c.tc : Thread Cert.ProjEvenIdeal.nD Cert.ProjEvenIdeal.τ).loc Cert.ProjEvenIdeal.main_arg4))
      ∧ r.2.sem = fun _ => 0)

def quiescent_ProjEvenRefIdeal [hProjEvenRefIdeal : Cert.ProjEvenRefIdeal.Facts] : Prop :=
  ∀ (m : (ℓ : Loc Cert.ProjEvenRefIdeal.nD Cert.ProjEvenRefIdeal.τ Cert.ProjEvenRefIdeal.sig) → Buf (Elt Ideal) ℓ) (g : Dev Cert.ProjEvenRefIdeal.nD → PrngReg), Pre_ProjEvenRefIdeal m →
    θ_run (Cert.ProjEvenRefIdeal.defs (F := Ideal)) (onTc (τ := Cert.ProjEvenRefIdeal.τ) (Cert.ProjEvenRefIdeal.main (F := Ideal))) ⟨m, fun _ => 0, g⟩ (fun r => (∀ c : Dev Cert.ProjEvenRefIdeal.nD,
      r.2.mem ((c.tc : Thread Cert.ProjEvenRefIdeal.nD Cert.ProjEvenRefIdeal.τ).loc Cert.ProjEvenRefIdeal.main_arg0) = m ((c.tc : Thread Cert.ProjEvenRefIdeal.nD Cert.ProjEvenRefIdeal.τ).loc Cert.ProjEvenRefIdeal.main_arg0)
      ∧ r.2.mem ((c.tc : Thread Cert.ProjEvenRefIdeal.nD Cert.ProjEvenRefIdeal.τ).loc Cert.ProjEvenRefIdeal.main_arg1) = m ((c.tc : Thread Cert.ProjEvenRefIdeal.nD Cert.ProjEvenRefIdeal.τ).loc Cert.ProjEvenRefIdeal.main_arg1)
      ∧ r.2.mem ((c.tc : Thread Cert.ProjEvenRefIdeal.nD Cert.ProjEvenRefIdeal.τ).loc Cert.ProjEvenRefIdeal.main_arg2) = m ((c.tc : Thread Cert.ProjEvenRefIdeal.nD Cert.ProjEvenRefIdeal.τ).loc Cert.ProjEvenRefIdeal.main_arg2)
      ∧ r.2.mem ((c.tc : Thread Cert.ProjEvenRefIdeal.nD Cert.ProjEvenRefIdeal.τ).loc Cert.ProjEvenRefIdeal.main_arg3) = m ((c.tc : Thread Cert.ProjEvenRefIdeal.nD Cert.ProjEvenRefIdeal.τ).loc Cert.ProjEvenRefIdeal.main_arg3)
      ∧ r.2.mem ((c.tc : Thread Cert.ProjEvenRefIdeal.nD Cert.ProjEvenRefIdeal.τ).loc Cert.ProjEvenRefIdeal.main_arg4) = m ((c.tc : Thread Cert.ProjEvenRefIdeal.nD Cert.ProjEvenRefIdeal.τ).loc Cert.ProjEvenRefIdeal.main_arg4))
      ∧ r.2.sem = fun _ => 0)

def quiescent_ProjOddS [hProjOddS : Cert.ProjOddS.Facts] : Prop :=
  ∀ (m : (ℓ : Loc Cert.ProjOddS.nD Cert.ProjOddS.τ Cert.ProjOddS.sig) → Buf (Elt Bits) ℓ) (g : Dev Cert.ProjOddS.nD → PrngReg), Pre_ProjOddS m →
    θ_run (Cert.ProjOddS.defs (F := Bits)) (onTc (τ := Cert.ProjOddS.τ) (Cert.ProjOddS.main (F := Bits))) ⟨m, fun _ => 0, g⟩ (fun r => (∀ c : Dev Cert.ProjOddS.nD,
      r.2.mem ((c.tc : Thread Cert.ProjOddS.nD Cert.ProjOddS.τ).loc Cert.ProjOddS.main_arg0) = m ((c.tc : Thread Cert.ProjOddS.nD Cert.ProjOddS.τ).loc Cert.ProjOddS.main_arg0)
      ∧ r.2.mem ((c.tc : Thread Cert.ProjOddS.nD Cert.ProjOddS.τ).loc Cert.ProjOddS.main_arg1) = m ((c.tc : Thread Cert.ProjOddS.nD Cert.ProjOddS.τ).loc Cert.ProjOddS.main_arg1)
      ∧ r.2.mem ((c.tc : Thread Cert.ProjOddS.nD Cert.ProjOddS.τ).loc Cert.ProjOddS.main_arg2) = m ((c.tc : Thread Cert.ProjOddS.nD Cert.ProjOddS.τ).loc Cert.ProjOddS.main_arg2)
      ∧ r.2.mem ((c.tc : Thread Cert.ProjOddS.nD Cert.ProjOddS.τ).loc Cert.ProjOddS.main_arg3) = m ((c.tc : Thread Cert.ProjOddS.nD Cert.ProjOddS.τ).loc Cert.ProjOddS.main_arg3)
      ∧ r.2.mem ((c.tc : Thread Cert.ProjOddS.nD Cert.ProjOddS.τ).loc Cert.ProjOddS.main_arg4) = m ((c.tc : Thread Cert.ProjOddS.nD Cert.ProjOddS.τ).loc Cert.ProjOddS.main_arg4))
      ∧ r.2.sem = fun _ => 0)

def quiescent_ProjOddSIdeal [hProjOddSIdeal : Cert.ProjOddSIdeal.Facts] : Prop :=
  ∀ (m : (ℓ : Loc Cert.ProjOddSIdeal.nD Cert.ProjOddSIdeal.τ Cert.ProjOddSIdeal.sig) → Buf (Elt Ideal) ℓ) (g : Dev Cert.ProjOddSIdeal.nD → PrngReg), Pre_ProjOddSIdeal m →
    θ_run (Cert.ProjOddSIdeal.defs (F := Ideal)) (onTc (τ := Cert.ProjOddSIdeal.τ) (Cert.ProjOddSIdeal.main (F := Ideal))) ⟨m, fun _ => 0, g⟩ (fun r => (∀ c : Dev Cert.ProjOddSIdeal.nD,
      r.2.mem ((c.tc : Thread Cert.ProjOddSIdeal.nD Cert.ProjOddSIdeal.τ).loc Cert.ProjOddSIdeal.main_arg0) = m ((c.tc : Thread Cert.ProjOddSIdeal.nD Cert.ProjOddSIdeal.τ).loc Cert.ProjOddSIdeal.main_arg0)
      ∧ r.2.mem ((c.tc : Thread Cert.ProjOddSIdeal.nD Cert.ProjOddSIdeal.τ).loc Cert.ProjOddSIdeal.main_arg1) = m ((c.tc : Thread Cert.ProjOddSIdeal.nD Cert.ProjOddSIdeal.τ).loc Cert.ProjOddSIdeal.main_arg1)
      ∧ r.2.mem ((c.tc : Thread Cert.ProjOddSIdeal.nD Cert.ProjOddSIdeal.τ).loc Cert.ProjOddSIdeal.main_arg2) = m ((c.tc : Thread Cert.ProjOddSIdeal.nD Cert.ProjOddSIdeal.τ).loc Cert.ProjOddSIdeal.main_arg2)
      ∧ r.2.mem ((c.tc : Thread Cert.ProjOddSIdeal.nD Cert.ProjOddSIdeal.τ).loc Cert.ProjOddSIdeal.main_arg3) = m ((c.tc : Thread Cert.ProjOddSIdeal.nD Cert.ProjOddSIdeal.τ).loc Cert.ProjOddSIdeal.main_arg3)
      ∧ r.2.mem ((c.tc : Thread Cert.ProjOddSIdeal.nD Cert.ProjOddSIdeal.τ).loc Cert.ProjOddSIdeal.main_arg4) = m ((c.tc : Thread Cert.ProjOddSIdeal.nD Cert.ProjOddSIdeal.τ).loc Cert.ProjOddSIdeal.main_arg4))
      ∧ r.2.sem = fun _ => 0)

def quiescent_ProjOddSRefIdeal [hProjOddSRefIdeal : Cert.ProjOddSRefIdeal.Facts] : Prop :=
  ∀ (m : (ℓ : Loc Cert.ProjOddSRefIdeal.nD Cert.ProjOddSRefIdeal.τ Cert.ProjOddSRefIdeal.sig) → Buf (Elt Ideal) ℓ) (g : Dev Cert.ProjOddSRefIdeal.nD → PrngReg), Pre_ProjOddSRefIdeal m →
    θ_run (Cert.ProjOddSRefIdeal.defs (F := Ideal)) (onTc (τ := Cert.ProjOddSRefIdeal.τ) (Cert.ProjOddSRefIdeal.main (F := Ideal))) ⟨m, fun _ => 0, g⟩ (fun r => (∀ c : Dev Cert.ProjOddSRefIdeal.nD,
      r.2.mem ((c.tc : Thread Cert.ProjOddSRefIdeal.nD Cert.ProjOddSRefIdeal.τ).loc Cert.ProjOddSRefIdeal.main_arg0) = m ((c.tc : Thread Cert.ProjOddSRefIdeal.nD Cert.ProjOddSRefIdeal.τ).loc Cert.ProjOddSRefIdeal.main_arg0)
      ∧ r.2.mem ((c.tc : Thread Cert.ProjOddSRefIdeal.nD Cert.ProjOddSRefIdeal.τ).loc Cert.ProjOddSRefIdeal.main_arg1) = m ((c.tc : Thread Cert.ProjOddSRefIdeal.nD Cert.ProjOddSRefIdeal.τ).loc Cert.ProjOddSRefIdeal.main_arg1)
      ∧ r.2.mem ((c.tc : Thread Cert.ProjOddSRefIdeal.nD Cert.ProjOddSRefIdeal.τ).loc Cert.ProjOddSRefIdeal.main_arg2) = m ((c.tc : Thread Cert.ProjOddSRefIdeal.nD Cert.ProjOddSRefIdeal.τ).loc Cert.ProjOddSRefIdeal.main_arg2)
      ∧ r.2.mem ((c.tc : Thread Cert.ProjOddSRefIdeal.nD Cert.ProjOddSRefIdeal.τ).loc Cert.ProjOddSRefIdeal.main_arg3) = m ((c.tc : Thread Cert.ProjOddSRefIdeal.nD Cert.ProjOddSRefIdeal.τ).loc Cert.ProjOddSRefIdeal.main_arg3)
      ∧ r.2.mem ((c.tc : Thread Cert.ProjOddSRefIdeal.nD Cert.ProjOddSRefIdeal.τ).loc Cert.ProjOddSRefIdeal.main_arg4) = m ((c.tc : Thread Cert.ProjOddSRefIdeal.nD Cert.ProjOddSRefIdeal.τ).loc Cert.ProjOddSRefIdeal.main_arg4))
      ∧ r.2.sem = fun _ => 0)

def quiescent_MlpLastS [hMlpLastS : Cert.MlpLastS.Facts] : Prop :=
  ∀ (m : (ℓ : Loc Cert.MlpLastS.nD Cert.MlpLastS.τ Cert.MlpLastS.sig) → Buf (Elt Bits) ℓ) (g : Dev Cert.MlpLastS.nD → PrngReg), Pre_MlpLastS m →
    θ_run (Cert.MlpLastS.defs (F := Bits)) (onTc (τ := Cert.MlpLastS.τ) (Cert.MlpLastS.main (F := Bits))) ⟨m, fun _ => 0, g⟩ (fun r => (∀ c : Dev Cert.MlpLastS.nD,
      r.2.mem ((c.tc : Thread Cert.MlpLastS.nD Cert.MlpLastS.τ).loc Cert.MlpLastS.main_arg0) = m ((c.tc : Thread Cert.MlpLastS.nD Cert.MlpLastS.τ).loc Cert.MlpLastS.main_arg0)
      ∧ r.2.mem ((c.tc : Thread Cert.MlpLastS.nD Cert.MlpLastS.τ).loc Cert.MlpLastS.main_arg1) = m ((c.tc : Thread Cert.MlpLastS.nD Cert.MlpLastS.τ).loc Cert.MlpLastS.main_arg1)
      ∧ r.2.mem ((c.tc : Thread Cert.MlpLastS.nD Cert.MlpLastS.τ).loc Cert.MlpLastS.main_arg2) = m ((c.tc : Thread Cert.MlpLastS.nD Cert.MlpLastS.τ).loc Cert.MlpLastS.main_arg2)
      ∧ r.2.mem ((c.tc : Thread Cert.MlpLastS.nD Cert.MlpLastS.τ).loc Cert.MlpLastS.main_arg3) = m ((c.tc : Thread Cert.MlpLastS.nD Cert.MlpLastS.τ).loc Cert.MlpLastS.main_arg3)
      ∧ r.2.mem ((c.tc : Thread Cert.MlpLastS.nD Cert.MlpLastS.τ).loc Cert.MlpLastS.main_arg4) = m ((c.tc : Thread Cert.MlpLastS.nD Cert.MlpLastS.τ).loc Cert.MlpLastS.main_arg4)
      ∧ r.2.mem ((c.tc : Thread Cert.MlpLastS.nD Cert.MlpLastS.τ).loc Cert.MlpLastS.main_arg5) = m ((c.tc : Thread Cert.MlpLastS.nD Cert.MlpLastS.τ).loc Cert.MlpLastS.main_arg5)
      ∧ r.2.mem ((c.tc : Thread Cert.MlpLastS.nD Cert.MlpLastS.τ).loc Cert.MlpLastS.main_arg6) = m ((c.tc : Thread Cert.MlpLastS.nD Cert.MlpLastS.τ).loc Cert.MlpLastS.main_arg6)
      ∧ r.2.mem ((c.tc : Thread Cert.MlpLastS.nD Cert.MlpLastS.τ).loc Cert.MlpLastS.main_arg7) = m ((c.tc : Thread Cert.MlpLastS.nD Cert.MlpLastS.τ).loc Cert.MlpLastS.main_arg7))
      ∧ r.2.sem = fun _ => 0)

def quiescent_MlpLastSIdeal [hMlpLastSIdeal : Cert.MlpLastSIdeal.Facts] : Prop :=
  ∀ (m : (ℓ : Loc Cert.MlpLastSIdeal.nD Cert.MlpLastSIdeal.τ Cert.MlpLastSIdeal.sig) → Buf (Elt Ideal) ℓ) (g : Dev Cert.MlpLastSIdeal.nD → PrngReg), Pre_MlpLastSIdeal m →
    θ_run (Cert.MlpLastSIdeal.defs (F := Ideal)) (onTc (τ := Cert.MlpLastSIdeal.τ) (Cert.MlpLastSIdeal.main (F := Ideal))) ⟨m, fun _ => 0, g⟩ (fun r => (∀ c : Dev Cert.MlpLastSIdeal.nD,
      r.2.mem ((c.tc : Thread Cert.MlpLastSIdeal.nD Cert.MlpLastSIdeal.τ).loc Cert.MlpLastSIdeal.main_arg0) = m ((c.tc : Thread Cert.MlpLastSIdeal.nD Cert.MlpLastSIdeal.τ).loc Cert.MlpLastSIdeal.main_arg0)
      ∧ r.2.mem ((c.tc : Thread Cert.MlpLastSIdeal.nD Cert.MlpLastSIdeal.τ).loc Cert.MlpLastSIdeal.main_arg1) = m ((c.tc : Thread Cert.MlpLastSIdeal.nD Cert.MlpLastSIdeal.τ).loc Cert.MlpLastSIdeal.main_arg1)
      ∧ r.2.mem ((c.tc : Thread Cert.MlpLastSIdeal.nD Cert.MlpLastSIdeal.τ).loc Cert.MlpLastSIdeal.main_arg2) = m ((c.tc : Thread Cert.MlpLastSIdeal.nD Cert.MlpLastSIdeal.τ).loc Cert.MlpLastSIdeal.main_arg2)
      ∧ r.2.mem ((c.tc : Thread Cert.MlpLastSIdeal.nD Cert.MlpLastSIdeal.τ).loc Cert.MlpLastSIdeal.main_arg3) = m ((c.tc : Thread Cert.MlpLastSIdeal.nD Cert.MlpLastSIdeal.τ).loc Cert.MlpLastSIdeal.main_arg3)
      ∧ r.2.mem ((c.tc : Thread Cert.MlpLastSIdeal.nD Cert.MlpLastSIdeal.τ).loc Cert.MlpLastSIdeal.main_arg4) = m ((c.tc : Thread Cert.MlpLastSIdeal.nD Cert.MlpLastSIdeal.τ).loc Cert.MlpLastSIdeal.main_arg4)
      ∧ r.2.mem ((c.tc : Thread Cert.MlpLastSIdeal.nD Cert.MlpLastSIdeal.τ).loc Cert.MlpLastSIdeal.main_arg5) = m ((c.tc : Thread Cert.MlpLastSIdeal.nD Cert.MlpLastSIdeal.τ).loc Cert.MlpLastSIdeal.main_arg5)
      ∧ r.2.mem ((c.tc : Thread Cert.MlpLastSIdeal.nD Cert.MlpLastSIdeal.τ).loc Cert.MlpLastSIdeal.main_arg6) = m ((c.tc : Thread Cert.MlpLastSIdeal.nD Cert.MlpLastSIdeal.τ).loc Cert.MlpLastSIdeal.main_arg6)
      ∧ r.2.mem ((c.tc : Thread Cert.MlpLastSIdeal.nD Cert.MlpLastSIdeal.τ).loc Cert.MlpLastSIdeal.main_arg7) = m ((c.tc : Thread Cert.MlpLastSIdeal.nD Cert.MlpLastSIdeal.τ).loc Cert.MlpLastSIdeal.main_arg7))
      ∧ r.2.sem = fun _ => 0)

def quiescent_MlpLastSRefIdeal [hMlpLastSRefIdeal : Cert.MlpLastSRefIdeal.Facts] : Prop :=
  ∀ (m : (ℓ : Loc Cert.MlpLastSRefIdeal.nD Cert.MlpLastSRefIdeal.τ Cert.MlpLastSRefIdeal.sig) → Buf (Elt Ideal) ℓ) (g : Dev Cert.MlpLastSRefIdeal.nD → PrngReg), Pre_MlpLastSRefIdeal m →
    θ_run (Cert.MlpLastSRefIdeal.defs (F := Ideal)) (onTc (τ := Cert.MlpLastSRefIdeal.τ) (Cert.MlpLastSRefIdeal.main (F := Ideal))) ⟨m, fun _ => 0, g⟩ (fun r => (∀ c : Dev Cert.MlpLastSRefIdeal.nD,
      r.2.mem ((c.tc : Thread Cert.MlpLastSRefIdeal.nD Cert.MlpLastSRefIdeal.τ).loc Cert.MlpLastSRefIdeal.main_arg0) = m ((c.tc : Thread Cert.MlpLastSRefIdeal.nD Cert.MlpLastSRefIdeal.τ).loc Cert.MlpLastSRefIdeal.main_arg0)
      ∧ r.2.mem ((c.tc : Thread Cert.MlpLastSRefIdeal.nD Cert.MlpLastSRefIdeal.τ).loc Cert.MlpLastSRefIdeal.main_arg1) = m ((c.tc : Thread Cert.MlpLastSRefIdeal.nD Cert.MlpLastSRefIdeal.τ).loc Cert.MlpLastSRefIdeal.main_arg1)
      ∧ r.2.mem ((c.tc : Thread Cert.MlpLastSRefIdeal.nD Cert.MlpLastSRefIdeal.τ).loc Cert.MlpLastSRefIdeal.main_arg2) = m ((c.tc : Thread Cert.MlpLastSRefIdeal.nD Cert.MlpLastSRefIdeal.τ).loc Cert.MlpLastSRefIdeal.main_arg2)
      ∧ r.2.mem ((c.tc : Thread Cert.MlpLastSRefIdeal.nD Cert.MlpLastSRefIdeal.τ).loc Cert.MlpLastSRefIdeal.main_arg3) = m ((c.tc : Thread Cert.MlpLastSRefIdeal.nD Cert.MlpLastSRefIdeal.τ).loc Cert.MlpLastSRefIdeal.main_arg3)
      ∧ r.2.mem ((c.tc : Thread Cert.MlpLastSRefIdeal.nD Cert.MlpLastSRefIdeal.τ).loc Cert.MlpLastSRefIdeal.main_arg4) = m ((c.tc : Thread Cert.MlpLastSRefIdeal.nD Cert.MlpLastSRefIdeal.τ).loc Cert.MlpLastSRefIdeal.main_arg4)
      ∧ r.2.mem ((c.tc : Thread Cert.MlpLastSRefIdeal.nD Cert.MlpLastSRefIdeal.τ).loc Cert.MlpLastSRefIdeal.main_arg5) = m ((c.tc : Thread Cert.MlpLastSRefIdeal.nD Cert.MlpLastSRefIdeal.τ).loc Cert.MlpLastSRefIdeal.main_arg5)
      ∧ r.2.mem ((c.tc : Thread Cert.MlpLastSRefIdeal.nD Cert.MlpLastSRefIdeal.τ).loc Cert.MlpLastSRefIdeal.main_arg6) = m ((c.tc : Thread Cert.MlpLastSRefIdeal.nD Cert.MlpLastSRefIdeal.τ).loc Cert.MlpLastSRefIdeal.main_arg6)
      ∧ r.2.mem ((c.tc : Thread Cert.MlpLastSRefIdeal.nD Cert.MlpLastSRefIdeal.τ).loc Cert.MlpLastSRefIdeal.main_arg7) = m ((c.tc : Thread Cert.MlpLastSRefIdeal.nD Cert.MlpLastSRefIdeal.τ).loc Cert.MlpLastSRefIdeal.main_arg7))
      ∧ r.2.sem = fun _ => 0)

def quiescent_MixS [hMixS : Cert.MixS.Facts] : Prop :=
  ∀ (m : (ℓ : Loc Cert.MixS.nD Cert.MixS.τ Cert.MixS.sig) → Buf (Elt Bits) ℓ) (g : Dev Cert.MixS.nD → PrngReg), Pre_MixS m →
    θ_run (Cert.MixS.defs (F := Bits)) (onTc (τ := Cert.MixS.τ) (Cert.MixS.main (F := Bits))) ⟨m, fun _ => 0, g⟩ (fun r => (∀ c : Dev Cert.MixS.nD,
      r.2.mem ((c.tc : Thread Cert.MixS.nD Cert.MixS.τ).loc Cert.MixS.main_arg0) = m ((c.tc : Thread Cert.MixS.nD Cert.MixS.τ).loc Cert.MixS.main_arg0)
      ∧ r.2.mem ((c.tc : Thread Cert.MixS.nD Cert.MixS.τ).loc Cert.MixS.main_arg1) = m ((c.tc : Thread Cert.MixS.nD Cert.MixS.τ).loc Cert.MixS.main_arg1)
      ∧ r.2.mem ((c.tc : Thread Cert.MixS.nD Cert.MixS.τ).loc Cert.MixS.main_arg2) = m ((c.tc : Thread Cert.MixS.nD Cert.MixS.τ).loc Cert.MixS.main_arg2)
      ∧ r.2.mem ((c.tc : Thread Cert.MixS.nD Cert.MixS.τ).loc Cert.MixS.main_arg3) = m ((c.tc : Thread Cert.MixS.nD Cert.MixS.τ).loc Cert.MixS.main_arg3)
      ∧ r.2.mem ((c.tc : Thread Cert.MixS.nD Cert.MixS.τ).loc Cert.MixS.main_arg4) = m ((c.tc : Thread Cert.MixS.nD Cert.MixS.τ).loc Cert.MixS.main_arg4)
      ∧ r.2.mem ((c.tc : Thread Cert.MixS.nD Cert.MixS.τ).loc Cert.MixS.main_arg5) = m ((c.tc : Thread Cert.MixS.nD Cert.MixS.τ).loc Cert.MixS.main_arg5)
      ∧ r.2.mem ((c.tc : Thread Cert.MixS.nD Cert.MixS.τ).loc Cert.MixS.main_arg6) = m ((c.tc : Thread Cert.MixS.nD Cert.MixS.τ).loc Cert.MixS.main_arg6)
      ∧ r.2.mem ((c.tc : Thread Cert.MixS.nD Cert.MixS.τ).loc Cert.MixS.main_arg7) = m ((c.tc : Thread Cert.MixS.nD Cert.MixS.τ).loc Cert.MixS.main_arg7)
      ∧ r.2.mem ((c.tc : Thread Cert.MixS.nD Cert.MixS.τ).loc Cert.MixS.main_arg8) = m ((c.tc : Thread Cert.MixS.nD Cert.MixS.τ).loc Cert.MixS.main_arg8))
      ∧ r.2.sem = fun _ => 0)

def quiescent_MixSIdeal [hMixSIdeal : Cert.MixSIdeal.Facts] : Prop :=
  ∀ (m : (ℓ : Loc Cert.MixSIdeal.nD Cert.MixSIdeal.τ Cert.MixSIdeal.sig) → Buf (Elt Ideal) ℓ) (g : Dev Cert.MixSIdeal.nD → PrngReg), Pre_MixSIdeal m →
    θ_run (Cert.MixSIdeal.defs (F := Ideal)) (onTc (τ := Cert.MixSIdeal.τ) (Cert.MixSIdeal.main (F := Ideal))) ⟨m, fun _ => 0, g⟩ (fun r => (∀ c : Dev Cert.MixSIdeal.nD,
      r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
      ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
      ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
      ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
      ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
      ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5)
      ∧ r.2.mem ((c.tc : Thread Cert.MixSIdeal.nD Cert.MixSIdeal.τ).loc Cert.MixSIdeal.main_arg6) = m ((c.tc : Thread Cert.MixSIdeal.nD Cert.MixSIdeal.τ).loc Cert.MixSIdeal.main_arg6)
      ∧ r.2.mem ((c.tc : Thread Cert.MixSIdeal.nD Cert.MixSIdeal.τ).loc Cert.MixSIdeal.main_arg7) = m ((c.tc : Thread Cert.MixSIdeal.nD Cert.MixSIdeal.τ).loc Cert.MixSIdeal.main_arg7)
      ∧ r.2.mem ((c.tc : Thread Cert.MixSIdeal.nD Cert.MixSIdeal.τ).loc Cert.MixSIdeal.main_arg8) = m ((c.tc : Thread Cert.MixSIdeal.nD Cert.MixSIdeal.τ).loc Cert.MixSIdeal.main_arg8))
      ∧ r.2.sem = fun _ => 0)

def quiescent_MixSRefIdeal [hMixSRefIdeal : Cert.MixSRefIdeal.Facts] : Prop :=
  ∀ (m : (ℓ : Loc Cert.MixSRefIdeal.nD Cert.MixSRefIdeal.τ Cert.MixSRefIdeal.sig) → Buf (Elt Ideal) ℓ) (g : Dev Cert.MixSRefIdeal.nD → PrngReg), Pre_MixSRefIdeal m →
    θ_run (Cert.MixSRefIdeal.defs (F := Ideal)) (onTc (τ := Cert.MixSRefIdeal.τ) (Cert.MixSRefIdeal.main (F := Ideal))) ⟨m, fun _ => 0, g⟩ (fun r => (∀ c : Dev Cert.MixSRefIdeal.nD,
      r.2.mem ((c.tc : Thread Cert.MixSRefIdeal.nD Cert.MixSRefIdeal.τ).loc Cert.MixSRefIdeal.main_arg0) = m ((c.tc : Thread Cert.MixSRefIdeal.nD Cert.MixSRefIdeal.τ).loc Cert.MixSRefIdeal.main_arg0)
      ∧ r.2.mem ((c.tc : Thread Cert.MixSRefIdeal.nD Cert.MixSRefIdeal.τ).loc Cert.MixSRefIdeal.main_arg1) = m ((c.tc : Thread Cert.MixSRefIdeal.nD Cert.MixSRefIdeal.τ).loc Cert.MixSRefIdeal.main_arg1)
      ∧ r.2.mem ((c.tc : Thread Cert.MixSRefIdeal.nD Cert.MixSRefIdeal.τ).loc Cert.MixSRefIdeal.main_arg2) = m ((c.tc : Thread Cert.MixSRefIdeal.nD Cert.MixSRefIdeal.τ).loc Cert.MixSRefIdeal.main_arg2)
      ∧ r.2.mem ((c.tc : Thread Cert.MixSRefIdeal.nD Cert.MixSRefIdeal.τ).loc Cert.MixSRefIdeal.main_arg3) = m ((c.tc : Thread Cert.MixSRefIdeal.nD Cert.MixSRefIdeal.τ).loc Cert.MixSRefIdeal.main_arg3)
      ∧ r.2.mem ((c.tc : Thread Cert.MixSRefIdeal.nD Cert.MixSRefIdeal.τ).loc Cert.MixSRefIdeal.main_arg4) = m ((c.tc : Thread Cert.MixSRefIdeal.nD Cert.MixSRefIdeal.τ).loc Cert.MixSRefIdeal.main_arg4)
      ∧ r.2.mem ((c.tc : Thread Cert.MixSRefIdeal.nD Cert.MixSRefIdeal.τ).loc Cert.MixSRefIdeal.main_arg5) = m ((c.tc : Thread Cert.MixSRefIdeal.nD Cert.MixSRefIdeal.τ).loc Cert.MixSRefIdeal.main_arg5)
      ∧ r.2.mem ((c.tc : Thread Cert.MixSRefIdeal.nD Cert.MixSRefIdeal.τ).loc Cert.MixSRefIdeal.main_arg6) = m ((c.tc : Thread Cert.MixSRefIdeal.nD Cert.MixSRefIdeal.τ).loc Cert.MixSRefIdeal.main_arg6)
      ∧ r.2.mem ((c.tc : Thread Cert.MixSRefIdeal.nD Cert.MixSRefIdeal.τ).loc Cert.MixSRefIdeal.main_arg7) = m ((c.tc : Thread Cert.MixSRefIdeal.nD Cert.MixSRefIdeal.τ).loc Cert.MixSRefIdeal.main_arg7)
      ∧ r.2.mem ((c.tc : Thread Cert.MixSRefIdeal.nD Cert.MixSRefIdeal.τ).loc Cert.MixSRefIdeal.main_arg8) = m ((c.tc : Thread Cert.MixSRefIdeal.nD Cert.MixSRefIdeal.τ).loc Cert.MixSRefIdeal.main_arg8))
      ∧ r.2.sem = fun _ => 0)

def quiescent_MixState [hMixState : Cert.MixState.Facts] : Prop :=
  ∀ (m : (ℓ : Loc Cert.MixState.nD Cert.MixState.τ Cert.MixState.sig) → Buf (Elt Bits) ℓ) (g : Dev Cert.MixState.nD → PrngReg), Pre_MixState m →
    θ_run (Cert.MixState.defs (F := Bits)) (onTc (τ := Cert.MixState.τ) (Cert.MixState.main (F := Bits))) ⟨m, fun _ => 0, g⟩ (fun r => (∀ c : Dev Cert.MixState.nD,
      r.2.mem ((c.tc : Thread Cert.MixState.nD Cert.MixState.τ).loc Cert.MixState.main_arg0) = m ((c.tc : Thread Cert.MixState.nD Cert.MixState.τ).loc Cert.MixState.main_arg0)
      ∧ r.2.mem ((c.tc : Thread Cert.MixState.nD Cert.MixState.τ).loc Cert.MixState.main_arg1) = m ((c.tc : Thread Cert.MixState.nD Cert.MixState.τ).loc Cert.MixState.main_arg1)
      ∧ r.2.mem ((c.tc : Thread Cert.MixState.nD Cert.MixState.τ).loc Cert.MixState.main_arg2) = m ((c.tc : Thread Cert.MixState.nD Cert.MixState.τ).loc Cert.MixState.main_arg2)
      ∧ r.2.mem ((c.tc : Thread Cert.MixState.nD Cert.MixState.τ).loc Cert.MixState.main_arg3) = m ((c.tc : Thread Cert.MixState.nD Cert.MixState.τ).loc Cert.MixState.main_arg3)
      ∧ r.2.mem ((c.tc : Thread Cert.MixState.nD Cert.MixState.τ).loc Cert.MixState.main_arg4) = m ((c.tc : Thread Cert.MixState.nD Cert.MixState.τ).loc Cert.MixState.main_arg4)
      ∧ r.2.mem ((c.tc : Thread Cert.MixState.nD Cert.MixState.τ).loc Cert.MixState.main_arg5) = m ((c.tc : Thread Cert.MixState.nD Cert.MixState.τ).loc Cert.MixState.main_arg5)
      ∧ r.2.mem ((c.tc : Thread Cert.MixState.nD Cert.MixState.τ).loc Cert.MixState.main_arg6) = m ((c.tc : Thread Cert.MixState.nD Cert.MixState.τ).loc Cert.MixState.main_arg6)
      ∧ r.2.mem ((c.tc : Thread Cert.MixState.nD Cert.MixState.τ).loc Cert.MixState.main_arg7) = m ((c.tc : Thread Cert.MixState.nD Cert.MixState.τ).loc Cert.MixState.main_arg7)
      ∧ r.2.mem ((c.tc : Thread Cert.MixState.nD Cert.MixState.τ).loc Cert.MixState.main_arg8) = m ((c.tc : Thread Cert.MixState.nD Cert.MixState.τ).loc Cert.MixState.main_arg8))
      ∧ r.2.sem = fun _ => 0)

def quiescent_MixStateIdeal [hMixStateIdeal : Cert.MixStateIdeal.Facts] : Prop :=
  ∀ (m : (ℓ : Loc Cert.MixStateIdeal.nD Cert.MixStateIdeal.τ Cert.MixStateIdeal.sig) → Buf (Elt Ideal) ℓ) (g : Dev Cert.MixStateIdeal.nD → PrngReg), Pre_MixStateIdeal m →
    θ_run (Cert.MixStateIdeal.defs (F := Ideal)) (onTc (τ := Cert.MixStateIdeal.τ) (Cert.MixStateIdeal.main (F := Ideal))) ⟨m, fun _ => 0, g⟩ (fun r => (∀ c : Dev Cert.MixStateIdeal.nD,
      r.2.mem ((c.tc : Thread Cert.MixStateIdeal.nD Cert.MixStateIdeal.τ).loc Cert.MixStateIdeal.main_arg0) = m ((c.tc : Thread Cert.MixStateIdeal.nD Cert.MixStateIdeal.τ).loc Cert.MixStateIdeal.main_arg0)
      ∧ r.2.mem ((c.tc : Thread Cert.MixStateIdeal.nD Cert.MixStateIdeal.τ).loc Cert.MixStateIdeal.main_arg1) = m ((c.tc : Thread Cert.MixStateIdeal.nD Cert.MixStateIdeal.τ).loc Cert.MixStateIdeal.main_arg1)
      ∧ r.2.mem ((c.tc : Thread Cert.MixStateIdeal.nD Cert.MixStateIdeal.τ).loc Cert.MixStateIdeal.main_arg2) = m ((c.tc : Thread Cert.MixStateIdeal.nD Cert.MixStateIdeal.τ).loc Cert.MixStateIdeal.main_arg2)
      ∧ r.2.mem ((c.tc : Thread Cert.MixStateIdeal.nD Cert.MixStateIdeal.τ).loc Cert.MixStateIdeal.main_arg3) = m ((c.tc : Thread Cert.MixStateIdeal.nD Cert.MixStateIdeal.τ).loc Cert.MixStateIdeal.main_arg3)
      ∧ r.2.mem ((c.tc : Thread Cert.MixStateIdeal.nD Cert.MixStateIdeal.τ).loc Cert.MixStateIdeal.main_arg4) = m ((c.tc : Thread Cert.MixStateIdeal.nD Cert.MixStateIdeal.τ).loc Cert.MixStateIdeal.main_arg4)
      ∧ r.2.mem ((c.tc : Thread Cert.MixStateIdeal.nD Cert.MixStateIdeal.τ).loc Cert.MixStateIdeal.main_arg5) = m ((c.tc : Thread Cert.MixStateIdeal.nD Cert.MixStateIdeal.τ).loc Cert.MixStateIdeal.main_arg5)
      ∧ r.2.mem ((c.tc : Thread Cert.MixStateIdeal.nD Cert.MixStateIdeal.τ).loc Cert.MixStateIdeal.main_arg6) = m ((c.tc : Thread Cert.MixStateIdeal.nD Cert.MixStateIdeal.τ).loc Cert.MixStateIdeal.main_arg6)
      ∧ r.2.mem ((c.tc : Thread Cert.MixStateIdeal.nD Cert.MixStateIdeal.τ).loc Cert.MixStateIdeal.main_arg7) = m ((c.tc : Thread Cert.MixStateIdeal.nD Cert.MixStateIdeal.τ).loc Cert.MixStateIdeal.main_arg7)
      ∧ r.2.mem ((c.tc : Thread Cert.MixStateIdeal.nD Cert.MixStateIdeal.τ).loc Cert.MixStateIdeal.main_arg8) = m ((c.tc : Thread Cert.MixStateIdeal.nD Cert.MixStateIdeal.τ).loc Cert.MixStateIdeal.main_arg8))
      ∧ r.2.sem = fun _ => 0)

def quiescent_MixStateIdeal_pre_gates_below_inf [hMixStateIdeal : Cert.MixStateIdeal.Facts] [hPre_gates_below_inf : Cert.Pre_gates_below_inf.Facts] : Prop :=
  ∀ (m : (ℓ : Loc Cert.MixStateIdeal.nD Cert.MixStateIdeal.τ Cert.MixStateIdeal.sig) → Buf (Elt Ideal) ℓ) (g : Dev Cert.MixStateIdeal.nD → PrngReg), Pre_MixStateIdeal_gates_below_inf m →
    θ_run (Cert.MixStateIdeal.defs (F := Ideal)) (onTc (τ := Cert.MixStateIdeal.τ) (Cert.MixStateIdeal.main (F := Ideal))) ⟨m, fun _ => 0, g⟩ (fun r => (∀ c : Dev Cert.MixStateIdeal.nD,
      r.2.mem ((c.tc : Thread Cert.MixStateIdeal.nD Cert.MixStateIdeal.τ).loc Cert.MixStateIdeal.main_arg0) = m ((c.tc : Thread Cert.MixStateIdeal.nD Cert.MixStateIdeal.τ).loc Cert.MixStateIdeal.main_arg0)
      ∧ r.2.mem ((c.tc : Thread Cert.MixStateIdeal.nD Cert.MixStateIdeal.τ).loc Cert.MixStateIdeal.main_arg1) = m ((c.tc : Thread Cert.MixStateIdeal.nD Cert.MixStateIdeal.τ).loc Cert.MixStateIdeal.main_arg1)
      ∧ r.2.mem ((c.tc : Thread Cert.MixStateIdeal.nD Cert.MixStateIdeal.τ).loc Cert.MixStateIdeal.main_arg2) = m ((c.tc : Thread Cert.MixStateIdeal.nD Cert.MixStateIdeal.τ).loc Cert.MixStateIdeal.main_arg2)
      ∧ r.2.mem ((c.tc : Thread Cert.MixStateIdeal.nD Cert.MixStateIdeal.τ).loc Cert.MixStateIdeal.main_arg3) = m ((c.tc : Thread Cert.MixStateIdeal.nD Cert.MixStateIdeal.τ).loc Cert.MixStateIdeal.main_arg3)
      ∧ r.2.mem ((c.tc : Thread Cert.MixStateIdeal.nD Cert.MixStateIdeal.τ).loc Cert.MixStateIdeal.main_arg4) = m ((c.tc : Thread Cert.MixStateIdeal.nD Cert.MixStateIdeal.τ).loc Cert.MixStateIdeal.main_arg4)
      ∧ r.2.mem ((c.tc : Thread Cert.MixStateIdeal.nD Cert.MixStateIdeal.τ).loc Cert.MixStateIdeal.main_arg5) = m ((c.tc : Thread Cert.MixStateIdeal.nD Cert.MixStateIdeal.τ).loc Cert.MixStateIdeal.main_arg5)
      ∧ r.2.mem ((c.tc : Thread Cert.MixStateIdeal.nD Cert.MixStateIdeal.τ).loc Cert.MixStateIdeal.main_arg6) = m ((c.tc : Thread Cert.MixStateIdeal.nD Cert.MixStateIdeal.τ).loc Cert.MixStateIdeal.main_arg6)
      ∧ r.2.mem ((c.tc : Thread Cert.MixStateIdeal.nD Cert.MixStateIdeal.τ).loc Cert.MixStateIdeal.main_arg7) = m ((c.tc : Thread Cert.MixStateIdeal.nD Cert.MixStateIdeal.τ).loc Cert.MixStateIdeal.main_arg7)
      ∧ r.2.mem ((c.tc : Thread Cert.MixStateIdeal.nD Cert.MixStateIdeal.τ).loc Cert.MixStateIdeal.main_arg8) = m ((c.tc : Thread Cert.MixStateIdeal.nD Cert.MixStateIdeal.τ).loc Cert.MixStateIdeal.main_arg8))
      ∧ r.2.sem = fun _ => 0)

def quiescent_MixStateRefIdeal [hMixStateRefIdeal : Cert.MixStateRefIdeal.Facts] : Prop :=
  ∀ (m : (ℓ : Loc Cert.MixStateRefIdeal.nD Cert.MixStateRefIdeal.τ Cert.MixStateRefIdeal.sig) → Buf (Elt Ideal) ℓ) (g : Dev Cert.MixStateRefIdeal.nD → PrngReg), Pre_MixStateRefIdeal m →
    θ_run (Cert.MixStateRefIdeal.defs (F := Ideal)) (onTc (τ := Cert.MixStateRefIdeal.τ) (Cert.MixStateRefIdeal.main (F := Ideal))) ⟨m, fun _ => 0, g⟩ (fun r => (∀ c : Dev Cert.MixStateRefIdeal.nD,
      r.2.mem ((c.tc : Thread Cert.MixStateRefIdeal.nD Cert.MixStateRefIdeal.τ).loc Cert.MixStateRefIdeal.main_arg0) = m ((c.tc : Thread Cert.MixStateRefIdeal.nD Cert.MixStateRefIdeal.τ).loc Cert.MixStateRefIdeal.main_arg0)
      ∧ r.2.mem ((c.tc : Thread Cert.MixStateRefIdeal.nD Cert.MixStateRefIdeal.τ).loc Cert.MixStateRefIdeal.main_arg1) = m ((c.tc : Thread Cert.MixStateRefIdeal.nD Cert.MixStateRefIdeal.τ).loc Cert.MixStateRefIdeal.main_arg1)
      ∧ r.2.mem ((c.tc : Thread Cert.MixStateRefIdeal.nD Cert.MixStateRefIdeal.τ).loc Cert.MixStateRefIdeal.main_arg2) = m ((c.tc : Thread Cert.MixStateRefIdeal.nD Cert.MixStateRefIdeal.τ).loc Cert.MixStateRefIdeal.main_arg2)
      ∧ r.2.mem ((c.tc : Thread Cert.MixStateRefIdeal.nD Cert.MixStateRefIdeal.τ).loc Cert.MixStateRefIdeal.main_arg3) = m ((c.tc : Thread Cert.MixStateRefIdeal.nD Cert.MixStateRefIdeal.τ).loc Cert.MixStateRefIdeal.main_arg3)
      ∧ r.2.mem ((c.tc : Thread Cert.MixStateRefIdeal.nD Cert.MixStateRefIdeal.τ).loc Cert.MixStateRefIdeal.main_arg4) = m ((c.tc : Thread Cert.MixStateRefIdeal.nD Cert.MixStateRefIdeal.τ).loc Cert.MixStateRefIdeal.main_arg4)
      ∧ r.2.mem ((c.tc : Thread Cert.MixStateRefIdeal.nD Cert.MixStateRefIdeal.τ).loc Cert.MixStateRefIdeal.main_arg5) = m ((c.tc : Thread Cert.MixStateRefIdeal.nD Cert.MixStateRefIdeal.τ).loc Cert.MixStateRefIdeal.main_arg5)
      ∧ r.2.mem ((c.tc : Thread Cert.MixStateRefIdeal.nD Cert.MixStateRefIdeal.τ).loc Cert.MixStateRefIdeal.main_arg6) = m ((c.tc : Thread Cert.MixStateRefIdeal.nD Cert.MixStateRefIdeal.τ).loc Cert.MixStateRefIdeal.main_arg6)
      ∧ r.2.mem ((c.tc : Thread Cert.MixStateRefIdeal.nD Cert.MixStateRefIdeal.τ).loc Cert.MixStateRefIdeal.main_arg7) = m ((c.tc : Thread Cert.MixStateRefIdeal.nD Cert.MixStateRefIdeal.τ).loc Cert.MixStateRefIdeal.main_arg7)
      ∧ r.2.mem ((c.tc : Thread Cert.MixStateRefIdeal.nD Cert.MixStateRefIdeal.τ).loc Cert.MixStateRefIdeal.main_arg8) = m ((c.tc : Thread Cert.MixStateRefIdeal.nD Cert.MixStateRefIdeal.τ).loc Cert.MixStateRefIdeal.main_arg8))
      ∧ r.2.sem = fun _ => 0)

def quiescent_MixStateRefIdeal_pre_gates_below_inf [hMixStateRefIdeal : Cert.MixStateRefIdeal.Facts] [hPre_gates_below_inf : Cert.Pre_gates_below_inf.Facts] : Prop :=
  ∀ (m : (ℓ : Loc Cert.MixStateRefIdeal.nD Cert.MixStateRefIdeal.τ Cert.MixStateRefIdeal.sig) → Buf (Elt Ideal) ℓ) (g : Dev Cert.MixStateRefIdeal.nD → PrngReg), Pre_MixStateRefIdeal_gates_below_inf m →
    θ_run (Cert.MixStateRefIdeal.defs (F := Ideal)) (onTc (τ := Cert.MixStateRefIdeal.τ) (Cert.MixStateRefIdeal.main (F := Ideal))) ⟨m, fun _ => 0, g⟩ (fun r => (∀ c : Dev Cert.MixStateRefIdeal.nD,
      r.2.mem ((c.tc : Thread Cert.MixStateRefIdeal.nD Cert.MixStateRefIdeal.τ).loc Cert.MixStateRefIdeal.main_arg0) = m ((c.tc : Thread Cert.MixStateRefIdeal.nD Cert.MixStateRefIdeal.τ).loc Cert.MixStateRefIdeal.main_arg0)
      ∧ r.2.mem ((c.tc : Thread Cert.MixStateRefIdeal.nD Cert.MixStateRefIdeal.τ).loc Cert.MixStateRefIdeal.main_arg1) = m ((c.tc : Thread Cert.MixStateRefIdeal.nD Cert.MixStateRefIdeal.τ).loc Cert.MixStateRefIdeal.main_arg1)
      ∧ r.2.mem ((c.tc : Thread Cert.MixStateRefIdeal.nD Cert.MixStateRefIdeal.τ).loc Cert.MixStateRefIdeal.main_arg2) = m ((c.tc : Thread Cert.MixStateRefIdeal.nD Cert.MixStateRefIdeal.τ).loc Cert.MixStateRefIdeal.main_arg2)
      ∧ r.2.mem ((c.tc : Thread Cert.MixStateRefIdeal.nD Cert.MixStateRefIdeal.τ).loc Cert.MixStateRefIdeal.main_arg3) = m ((c.tc : Thread Cert.MixStateRefIdeal.nD Cert.MixStateRefIdeal.τ).loc Cert.MixStateRefIdeal.main_arg3)
      ∧ r.2.mem ((c.tc : Thread Cert.MixStateRefIdeal.nD Cert.MixStateRefIdeal.τ).loc Cert.MixStateRefIdeal.main_arg4) = m ((c.tc : Thread Cert.MixStateRefIdeal.nD Cert.MixStateRefIdeal.τ).loc Cert.MixStateRefIdeal.main_arg4)
      ∧ r.2.mem ((c.tc : Thread Cert.MixStateRefIdeal.nD Cert.MixStateRefIdeal.τ).loc Cert.MixStateRefIdeal.main_arg5) = m ((c.tc : Thread Cert.MixStateRefIdeal.nD Cert.MixStateRefIdeal.τ).loc Cert.MixStateRefIdeal.main_arg5)
      ∧ r.2.mem ((c.tc : Thread Cert.MixStateRefIdeal.nD Cert.MixStateRefIdeal.τ).loc Cert.MixStateRefIdeal.main_arg6) = m ((c.tc : Thread Cert.MixStateRefIdeal.nD Cert.MixStateRefIdeal.τ).loc Cert.MixStateRefIdeal.main_arg6)
      ∧ r.2.mem ((c.tc : Thread Cert.MixStateRefIdeal.nD Cert.MixStateRefIdeal.τ).loc Cert.MixStateRefIdeal.main_arg7) = m ((c.tc : Thread Cert.MixStateRefIdeal.nD Cert.MixStateRefIdeal.τ).loc Cert.MixStateRefIdeal.main_arg7)
      ∧ r.2.mem ((c.tc : Thread Cert.MixStateRefIdeal.nD Cert.MixStateRefIdeal.τ).loc Cert.MixStateRefIdeal.main_arg8) = m ((c.tc : Thread Cert.MixStateRefIdeal.nD Cert.MixStateRefIdeal.τ).loc Cert.MixStateRefIdeal.main_arg8))
      ∧ r.2.sem = fun _ => 0)

def preserves_Attention_AttentionIdeal : Prop :=
  True

def algebraic_AttentionIdeal_AttentionRefIdeal [hAttentionIdeal : Cert.AttentionIdeal.Facts] [hAttentionRefIdeal : Cert.AttentionRefIdeal.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)
      ∧ m' ((c.tc : Thread Cert.AttentionRefIdeal.nD Cert.AttentionRefIdeal.τ).loc Cert.AttentionRefIdeal.main_arg3) = m ((c.tc : Thread Cert.AttentionIdeal.nD Cert.AttentionIdeal.τ).loc Cert.AttentionIdeal.main_arg3)) →
    ∃ (v0 : (c : Dev Cert.AttentionIdeal.nD) → Buf (Elt Ideal) ((c.tc : Thread Cert.AttentionIdeal.nD Cert.AttentionIdeal.τ).loc Cert.AttentionIdeal.main_v0)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v31) = v0 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2)
          ∧ r.2.mem ((c.tc : Thread Cert.AttentionRefIdeal.nD Cert.AttentionRefIdeal.τ).loc Cert.AttentionRefIdeal.main_arg3) = m' ((c.tc : Thread Cert.AttentionRefIdeal.nD Cert.AttentionRefIdeal.τ).loc Cert.AttentionRefIdeal.main_arg3))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)) →
    ∃ (v0 : (c : Dev Cert.MlpIdeal.nD) → Buf (Elt Ideal) ((c.tc : Thread Cert.MlpIdeal.nD Cert.MlpIdeal.τ).loc Cert.MlpIdeal.main_v2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v2) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v35) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7))

def preserves_MlpLast_MlpLastIdeal : Prop :=
  True

def algebraic_MlpLastIdeal_MlpLastRefIdeal [hMlpLastIdeal : Cert.MlpLastIdeal.Facts] [hMlpLastRefIdeal : Cert.MlpLastRefIdeal.Facts] : Prop :=
  ∀ (m : (ℓ : Loc Cert.MlpLastIdeal.nD Cert.MlpLastIdeal.τ Cert.MlpLastIdeal.sig) → Buf (Elt Ideal) ℓ) (g : Dev Cert.MlpLastIdeal.nD → PrngReg)
    (m' : (ℓ : Loc Cert.MlpLastRefIdeal.nD Cert.MlpLastRefIdeal.τ Cert.MlpLastRefIdeal.sig) → Buf (Elt Ideal) ℓ) (g' : Dev Cert.MlpLastRefIdeal.nD → PrngReg), Pre_MlpLastIdeal m →
    (∀ c : Dev Cert.MlpLastIdeal.nD,
      m' ((c.tc : Thread Cert.MlpLastRefIdeal.nD Cert.MlpLastRefIdeal.τ).loc Cert.MlpLastRefIdeal.main_arg0) = m ((c.tc : Thread Cert.MlpLastIdeal.nD Cert.MlpLastIdeal.τ).loc Cert.MlpLastIdeal.main_arg0)
      ∧ m' ((c.tc : Thread Cert.MlpLastRefIdeal.nD Cert.MlpLastRefIdeal.τ).loc Cert.MlpLastRefIdeal.main_arg1) = m ((c.tc : Thread Cert.MlpLastIdeal.nD Cert.MlpLastIdeal.τ).loc Cert.MlpLastIdeal.main_arg1)
      ∧ m' ((c.tc : Thread Cert.MlpLastRefIdeal.nD Cert.MlpLastRefIdeal.τ).loc Cert.MlpLastRefIdeal.main_arg2) = m ((c.tc : Thread Cert.MlpLastIdeal.nD Cert.MlpLastIdeal.τ).loc Cert.MlpLastIdeal.main_arg2)
      ∧ m' ((c.tc : Thread Cert.MlpLastRefIdeal.nD Cert.MlpLastRefIdeal.τ).loc Cert.MlpLastRefIdeal.main_arg3) = m ((c.tc : Thread Cert.MlpLastIdeal.nD Cert.MlpLastIdeal.τ).loc Cert.MlpLastIdeal.main_arg3)
      ∧ m' ((c.tc : Thread Cert.MlpLastRefIdeal.nD Cert.MlpLastRefIdeal.τ).loc Cert.MlpLastRefIdeal.main_arg4) = m ((c.tc : Thread Cert.MlpLastIdeal.nD Cert.MlpLastIdeal.τ).loc Cert.MlpLastIdeal.main_arg4)
      ∧ m' ((c.tc : Thread Cert.MlpLastRefIdeal.nD Cert.MlpLastRefIdeal.τ).loc Cert.MlpLastRefIdeal.main_arg5) = m ((c.tc : Thread Cert.MlpLastIdeal.nD Cert.MlpLastIdeal.τ).loc Cert.MlpLastIdeal.main_arg5)
      ∧ m' ((c.tc : Thread Cert.MlpLastRefIdeal.nD Cert.MlpLastRefIdeal.τ).loc Cert.MlpLastRefIdeal.main_arg6) = m ((c.tc : Thread Cert.MlpLastIdeal.nD Cert.MlpLastIdeal.τ).loc Cert.MlpLastIdeal.main_arg6)
      ∧ m' ((c.tc : Thread Cert.MlpLastRefIdeal.nD Cert.MlpLastRefIdeal.τ).loc Cert.MlpLastRefIdeal.main_arg7) = m ((c.tc : Thread Cert.MlpLastIdeal.nD Cert.MlpLastIdeal.τ).loc Cert.MlpLastIdeal.main_arg7)) →
    ∃ (v0 : (c : Dev Cert.MlpLastIdeal.nD) → Buf (Elt Ideal) ((c.tc : Thread Cert.MlpLastIdeal.nD Cert.MlpLastIdeal.τ).loc Cert.MlpLastIdeal.main_v2)),
      θ_run (Cert.MlpLastIdeal.defs (F := Ideal)) (onTc (τ := Cert.MlpLastIdeal.τ) (Cert.MlpLastIdeal.main (F := Ideal))) ⟨m, fun _ => 0, g⟩ (fun r => ∀ c : Dev Cert.MlpLastIdeal.nD,
          r.2.mem ((c.tc : Thread Cert.MlpLastIdeal.nD Cert.MlpLastIdeal.τ).loc Cert.MlpLastIdeal.main_v2) = v0 c
          ∧ r.2.mem ((c.tc : Thread Cert.MlpLastIdeal.nD Cert.MlpLastIdeal.τ).loc Cert.MlpLastIdeal.main_arg0) = m ((c.tc : Thread Cert.MlpLastIdeal.nD Cert.MlpLastIdeal.τ).loc Cert.MlpLastIdeal.main_arg0)
          ∧ r.2.mem ((c.tc : Thread Cert.MlpLastIdeal.nD Cert.MlpLastIdeal.τ).loc Cert.MlpLastIdeal.main_arg1) = m ((c.tc : Thread Cert.MlpLastIdeal.nD Cert.MlpLastIdeal.τ).loc Cert.MlpLastIdeal.main_arg1)
          ∧ r.2.mem ((c.tc : Thread Cert.MlpLastIdeal.nD Cert.MlpLastIdeal.τ).loc Cert.MlpLastIdeal.main_arg2) = m ((c.tc : Thread Cert.MlpLastIdeal.nD Cert.MlpLastIdeal.τ).loc Cert.MlpLastIdeal.main_arg2)
          ∧ r.2.mem ((c.tc : Thread Cert.MlpLastIdeal.nD Cert.MlpLastIdeal.τ).loc Cert.MlpLastIdeal.main_arg3) = m ((c.tc : Thread Cert.MlpLastIdeal.nD Cert.MlpLastIdeal.τ).loc Cert.MlpLastIdeal.main_arg3)
          ∧ r.2.mem ((c.tc : Thread Cert.MlpLastIdeal.nD Cert.MlpLastIdeal.τ).loc Cert.MlpLastIdeal.main_arg4) = m ((c.tc : Thread Cert.MlpLastIdeal.nD Cert.MlpLastIdeal.τ).loc Cert.MlpLastIdeal.main_arg4)
          ∧ r.2.mem ((c.tc : Thread Cert.MlpLastIdeal.nD Cert.MlpLastIdeal.τ).loc Cert.MlpLastIdeal.main_arg5) = m ((c.tc : Thread Cert.MlpLastIdeal.nD Cert.MlpLastIdeal.τ).loc Cert.MlpLastIdeal.main_arg5)
          ∧ r.2.mem ((c.tc : Thread Cert.MlpLastIdeal.nD Cert.MlpLastIdeal.τ).loc Cert.MlpLastIdeal.main_arg6) = m ((c.tc : Thread Cert.MlpLastIdeal.nD Cert.MlpLastIdeal.τ).loc Cert.MlpLastIdeal.main_arg6)
          ∧ r.2.mem ((c.tc : Thread Cert.MlpLastIdeal.nD Cert.MlpLastIdeal.τ).loc Cert.MlpLastIdeal.main_arg7) = m ((c.tc : Thread Cert.MlpLastIdeal.nD Cert.MlpLastIdeal.τ).loc Cert.MlpLastIdeal.main_arg7))
      ∧ θ_run (Cert.MlpLastRefIdeal.defs (F := Ideal)) (onTc (τ := Cert.MlpLastRefIdeal.τ) (Cert.MlpLastRefIdeal.main (F := Ideal))) ⟨m', fun _ => 0, g'⟩ (fun r => ∀ c : Dev Cert.MlpLastRefIdeal.nD,
          r.2.mem ((c.tc : Thread Cert.MlpLastRefIdeal.nD Cert.MlpLastRefIdeal.τ).loc Cert.MlpLastRefIdeal.main_v48) = v0 c
          ∧ r.2.mem ((c.tc : Thread Cert.MlpLastRefIdeal.nD Cert.MlpLastRefIdeal.τ).loc Cert.MlpLastRefIdeal.main_arg0) = m' ((c.tc : Thread Cert.MlpLastRefIdeal.nD Cert.MlpLastRefIdeal.τ).loc Cert.MlpLastRefIdeal.main_arg0)
          ∧ r.2.mem ((c.tc : Thread Cert.MlpLastRefIdeal.nD Cert.MlpLastRefIdeal.τ).loc Cert.MlpLastRefIdeal.main_arg1) = m' ((c.tc : Thread Cert.MlpLastRefIdeal.nD Cert.MlpLastRefIdeal.τ).loc Cert.MlpLastRefIdeal.main_arg1)
          ∧ r.2.mem ((c.tc : Thread Cert.MlpLastRefIdeal.nD Cert.MlpLastRefIdeal.τ).loc Cert.MlpLastRefIdeal.main_arg2) = m' ((c.tc : Thread Cert.MlpLastRefIdeal.nD Cert.MlpLastRefIdeal.τ).loc Cert.MlpLastRefIdeal.main_arg2)
          ∧ r.2.mem ((c.tc : Thread Cert.MlpLastRefIdeal.nD Cert.MlpLastRefIdeal.τ).loc Cert.MlpLastRefIdeal.main_arg3) = m' ((c.tc : Thread Cert.MlpLastRefIdeal.nD Cert.MlpLastRefIdeal.τ).loc Cert.MlpLastRefIdeal.main_arg3)
          ∧ r.2.mem ((c.tc : Thread Cert.MlpLastRefIdeal.nD Cert.MlpLastRefIdeal.τ).loc Cert.MlpLastRefIdeal.main_arg4) = m' ((c.tc : Thread Cert.MlpLastRefIdeal.nD Cert.MlpLastRefIdeal.τ).loc Cert.MlpLastRefIdeal.main_arg4)
          ∧ r.2.mem ((c.tc : Thread Cert.MlpLastRefIdeal.nD Cert.MlpLastRefIdeal.τ).loc Cert.MlpLastRefIdeal.main_arg5) = m' ((c.tc : Thread Cert.MlpLastRefIdeal.nD Cert.MlpLastRefIdeal.τ).loc Cert.MlpLastRefIdeal.main_arg5)
          ∧ r.2.mem ((c.tc : Thread Cert.MlpLastRefIdeal.nD Cert.MlpLastRefIdeal.τ).loc Cert.MlpLastRefIdeal.main_arg6) = m' ((c.tc : Thread Cert.MlpLastRefIdeal.nD Cert.MlpLastRefIdeal.τ).loc Cert.MlpLastRefIdeal.main_arg6)
          ∧ r.2.mem ((c.tc : Thread Cert.MlpLastRefIdeal.nD Cert.MlpLastRefIdeal.τ).loc Cert.MlpLastRefIdeal.main_arg7) = m' ((c.tc : Thread Cert.MlpLastRefIdeal.nD Cert.MlpLastRefIdeal.τ).loc Cert.MlpLastRefIdeal.main_arg7))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)) →
    ∃ (v0 : (c : Dev Cert.OutprojIdeal.nD) → Buf (Elt Ideal) ((c.tc : Thread Cert.OutprojIdeal.nD Cert.OutprojIdeal.τ).loc Cert.OutprojIdeal.main_v0)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v0) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v10) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3))

def preserves_ProjOdd_ProjOddIdeal : Prop :=
  True

def algebraic_ProjOddIdeal_ProjOddRefIdeal [hProjOddIdeal : Cert.ProjOddIdeal.Facts] [hProjOddRefIdeal : Cert.ProjOddRefIdeal.Facts] : Prop :=
  ∀ (m : (ℓ : Loc Cert.ProjOddIdeal.nD Cert.ProjOddIdeal.τ Cert.ProjOddIdeal.sig) → Buf (Elt Ideal) ℓ) (g : Dev Cert.ProjOddIdeal.nD → PrngReg)
    (m' : (ℓ : Loc Cert.ProjOddRefIdeal.nD Cert.ProjOddRefIdeal.τ Cert.ProjOddRefIdeal.sig) → Buf (Elt Ideal) ℓ) (g' : Dev Cert.ProjOddRefIdeal.nD → PrngReg), Pre_ProjOddIdeal m →
    (∀ c : Dev Cert.ProjOddIdeal.nD,
      m' ((c.tc : Thread Cert.ProjOddRefIdeal.nD Cert.ProjOddRefIdeal.τ).loc Cert.ProjOddRefIdeal.main_arg0) = m ((c.tc : Thread Cert.ProjOddIdeal.nD Cert.ProjOddIdeal.τ).loc Cert.ProjOddIdeal.main_arg0)
      ∧ m' ((c.tc : Thread Cert.ProjOddRefIdeal.nD Cert.ProjOddRefIdeal.τ).loc Cert.ProjOddRefIdeal.main_arg1) = m ((c.tc : Thread Cert.ProjOddIdeal.nD Cert.ProjOddIdeal.τ).loc Cert.ProjOddIdeal.main_arg1)
      ∧ m' ((c.tc : Thread Cert.ProjOddRefIdeal.nD Cert.ProjOddRefIdeal.τ).loc Cert.ProjOddRefIdeal.main_arg2) = m ((c.tc : Thread Cert.ProjOddIdeal.nD Cert.ProjOddIdeal.τ).loc Cert.ProjOddIdeal.main_arg2)
      ∧ m' ((c.tc : Thread Cert.ProjOddRefIdeal.nD Cert.ProjOddRefIdeal.τ).loc Cert.ProjOddRefIdeal.main_arg3) = m ((c.tc : Thread Cert.ProjOddIdeal.nD Cert.ProjOddIdeal.τ).loc Cert.ProjOddIdeal.main_arg3)
      ∧ m' ((c.tc : Thread Cert.ProjOddRefIdeal.nD Cert.ProjOddRefIdeal.τ).loc Cert.ProjOddRefIdeal.main_arg4) = m ((c.tc : Thread Cert.ProjOddIdeal.nD Cert.ProjOddIdeal.τ).loc Cert.ProjOddIdeal.main_arg4)) →
    ∃ (v0 : (c : Dev Cert.ProjOddIdeal.nD) → Buf (Elt Ideal) ((c.tc : Thread Cert.ProjOddIdeal.nD Cert.ProjOddIdeal.τ).loc Cert.ProjOddIdeal.main_v1_0)) (v1 : (c : Dev Cert.ProjOddIdeal.nD) → Buf (Elt Ideal) ((c.tc : Thread Cert.ProjOddIdeal.nD Cert.ProjOddIdeal.τ).loc Cert.ProjOddIdeal.main_v1_1)) (v2 : (c : Dev Cert.ProjOddIdeal.nD) → Buf (Elt Ideal) ((c.tc : Thread Cert.ProjOddIdeal.nD Cert.ProjOddIdeal.τ).loc Cert.ProjOddIdeal.main_v1_2)) (v3 : (c : Dev Cert.ProjOddIdeal.nD) → Buf (Elt Ideal) ((c.tc : Thread Cert.ProjOddIdeal.nD Cert.ProjOddIdeal.τ).loc Cert.ProjOddIdeal.main_v1_3)) (v4 : (c : Dev Cert.ProjOddIdeal.nD) → Buf (Elt Ideal) ((c.tc : Thread Cert.ProjOddIdeal.nD Cert.ProjOddIdeal.τ).loc Cert.ProjOddIdeal.main_v1_4)),
      θ_run (Cert.ProjOddIdeal.defs (F := Ideal)) (onTc (τ := Cert.ProjOddIdeal.τ) (Cert.ProjOddIdeal.main (F := Ideal))) ⟨m, fun _ => 0, g⟩ (fun r => ∀ c : Dev Cert.ProjOddIdeal.nD,
          r.2.mem ((c.tc : Thread Cert.ProjOddIdeal.nD Cert.ProjOddIdeal.τ).loc Cert.ProjOddIdeal.main_v1_0) = v0 c
          ∧ r.2.mem ((c.tc : Thread Cert.ProjOddIdeal.nD Cert.ProjOddIdeal.τ).loc Cert.ProjOddIdeal.main_v1_1) = v1 c
          ∧ r.2.mem ((c.tc : Thread Cert.ProjOddIdeal.nD Cert.ProjOddIdeal.τ).loc Cert.ProjOddIdeal.main_v1_2) = v2 c
          ∧ r.2.mem ((c.tc : Thread Cert.ProjOddIdeal.nD Cert.ProjOddIdeal.τ).loc Cert.ProjOddIdeal.main_v1_3) = v3 c
          ∧ r.2.mem ((c.tc : Thread Cert.ProjOddIdeal.nD Cert.ProjOddIdeal.τ).loc Cert.ProjOddIdeal.main_v1_4) = v4 c
          ∧ r.2.mem ((c.tc : Thread Cert.ProjOddIdeal.nD Cert.ProjOddIdeal.τ).loc Cert.ProjOddIdeal.main_arg0) = m ((c.tc : Thread Cert.ProjOddIdeal.nD Cert.ProjOddIdeal.τ).loc Cert.ProjOddIdeal.main_arg0)
          ∧ r.2.mem ((c.tc : Thread Cert.ProjOddIdeal.nD Cert.ProjOddIdeal.τ).loc Cert.ProjOddIdeal.main_arg1) = m ((c.tc : Thread Cert.ProjOddIdeal.nD Cert.ProjOddIdeal.τ).loc Cert.ProjOddIdeal.main_arg1)
          ∧ r.2.mem ((c.tc : Thread Cert.ProjOddIdeal.nD Cert.ProjOddIdeal.τ).loc Cert.ProjOddIdeal.main_arg2) = m ((c.tc : Thread Cert.ProjOddIdeal.nD Cert.ProjOddIdeal.τ).loc Cert.ProjOddIdeal.main_arg2)
          ∧ r.2.mem ((c.tc : Thread Cert.ProjOddIdeal.nD Cert.ProjOddIdeal.τ).loc Cert.ProjOddIdeal.main_arg3) = m ((c.tc : Thread Cert.ProjOddIdeal.nD Cert.ProjOddIdeal.τ).loc Cert.ProjOddIdeal.main_arg3)
          ∧ r.2.mem ((c.tc : Thread Cert.ProjOddIdeal.nD Cert.ProjOddIdeal.τ).loc Cert.ProjOddIdeal.main_arg4) = m ((c.tc : Thread Cert.ProjOddIdeal.nD Cert.ProjOddIdeal.τ).loc Cert.ProjOddIdeal.main_arg4))
      ∧ θ_run (Cert.ProjOddRefIdeal.defs (F := Ideal)) (onTc (τ := Cert.ProjOddRefIdeal.τ) (Cert.ProjOddRefIdeal.main (F := Ideal))) ⟨m', fun _ => 0, g'⟩ (fun r => ∀ c : Dev Cert.ProjOddRefIdeal.nD,
          r.2.mem ((c.tc : Thread Cert.ProjOddRefIdeal.nD Cert.ProjOddRefIdeal.τ).loc Cert.ProjOddRefIdeal.main_v30) = v0 c
          ∧ r.2.mem ((c.tc : Thread Cert.ProjOddRefIdeal.nD Cert.ProjOddRefIdeal.τ).loc Cert.ProjOddRefIdeal.main_v28) = v1 c
          ∧ r.2.mem ((c.tc : Thread Cert.ProjOddRefIdeal.nD Cert.ProjOddRefIdeal.τ).loc Cert.ProjOddRefIdeal.main_v29) = v2 c
          ∧ r.2.mem ((c.tc : Thread Cert.ProjOddRefIdeal.nD Cert.ProjOddRefIdeal.τ).loc Cert.ProjOddRefIdeal.main_v31) = v3 c
          ∧ r.2.mem ((c.tc : Thread Cert.ProjOddRefIdeal.nD Cert.ProjOddRefIdeal.τ).loc Cert.ProjOddRefIdeal.main_v32) = v4 c
          ∧ r.2.mem ((c.tc : Thread Cert.ProjOddRefIdeal.nD Cert.ProjOddRefIdeal.τ).loc Cert.ProjOddRefIdeal.main_arg0) = m' ((c.tc : Thread Cert.ProjOddRefIdeal.nD Cert.ProjOddRefIdeal.τ).loc Cert.ProjOddRefIdeal.main_arg0)
          ∧ r.2.mem ((c.tc : Thread Cert.ProjOddRefIdeal.nD Cert.ProjOddRefIdeal.τ).loc Cert.ProjOddRefIdeal.main_arg1) = m' ((c.tc : Thread Cert.ProjOddRefIdeal.nD Cert.ProjOddRefIdeal.τ).loc Cert.ProjOddRefIdeal.main_arg1)
          ∧ r.2.mem ((c.tc : Thread Cert.ProjOddRefIdeal.nD Cert.ProjOddRefIdeal.τ).loc Cert.ProjOddRefIdeal.main_arg2) = m' ((c.tc : Thread Cert.ProjOddRefIdeal.nD Cert.ProjOddRefIdeal.τ).loc Cert.ProjOddRefIdeal.main_arg2)
          ∧ r.2.mem ((c.tc : Thread Cert.ProjOddRefIdeal.nD Cert.ProjOddRefIdeal.τ).loc Cert.ProjOddRefIdeal.main_arg3) = m' ((c.tc : Thread Cert.ProjOddRefIdeal.nD Cert.ProjOddRefIdeal.τ).loc Cert.ProjOddRefIdeal.main_arg3)
          ∧ r.2.mem ((c.tc : Thread Cert.ProjOddRefIdeal.nD Cert.ProjOddRefIdeal.τ).loc Cert.ProjOddRefIdeal.main_arg4) = m' ((c.tc : Thread Cert.ProjOddRefIdeal.nD Cert.ProjOddRefIdeal.τ).loc Cert.ProjOddRefIdeal.main_arg4))

def preserves_ProjEven_ProjEvenIdeal : Prop :=
  True

def algebraic_ProjEvenIdeal_ProjEvenRefIdeal [hProjEvenIdeal : Cert.ProjEvenIdeal.Facts] [hProjEvenRefIdeal : Cert.ProjEvenRefIdeal.Facts] : Prop :=
  ∀ (m : (ℓ : Loc Cert.ProjEvenIdeal.nD Cert.ProjEvenIdeal.τ Cert.ProjEvenIdeal.sig) → Buf (Elt Ideal) ℓ) (g : Dev Cert.ProjEvenIdeal.nD → PrngReg)
    (m' : (ℓ : Loc Cert.ProjEvenRefIdeal.nD Cert.ProjEvenRefIdeal.τ Cert.ProjEvenRefIdeal.sig) → Buf (Elt Ideal) ℓ) (g' : Dev Cert.ProjEvenRefIdeal.nD → PrngReg), Pre_ProjEvenIdeal m →
    (∀ c : Dev Cert.ProjEvenIdeal.nD,
      m' ((c.tc : Thread Cert.ProjEvenRefIdeal.nD Cert.ProjEvenRefIdeal.τ).loc Cert.ProjEvenRefIdeal.main_arg0) = m ((c.tc : Thread Cert.ProjEvenIdeal.nD Cert.ProjEvenIdeal.τ).loc Cert.ProjEvenIdeal.main_arg0)
      ∧ m' ((c.tc : Thread Cert.ProjEvenRefIdeal.nD Cert.ProjEvenRefIdeal.τ).loc Cert.ProjEvenRefIdeal.main_arg1) = m ((c.tc : Thread Cert.ProjEvenIdeal.nD Cert.ProjEvenIdeal.τ).loc Cert.ProjEvenIdeal.main_arg1)
      ∧ m' ((c.tc : Thread Cert.ProjEvenRefIdeal.nD Cert.ProjEvenRefIdeal.τ).loc Cert.ProjEvenRefIdeal.main_arg2) = m ((c.tc : Thread Cert.ProjEvenIdeal.nD Cert.ProjEvenIdeal.τ).loc Cert.ProjEvenIdeal.main_arg2)
      ∧ m' ((c.tc : Thread Cert.ProjEvenRefIdeal.nD Cert.ProjEvenRefIdeal.τ).loc Cert.ProjEvenRefIdeal.main_arg3) = m ((c.tc : Thread Cert.ProjEvenIdeal.nD Cert.ProjEvenIdeal.τ).loc Cert.ProjEvenIdeal.main_arg3)
      ∧ m' ((c.tc : Thread Cert.ProjEvenRefIdeal.nD Cert.ProjEvenRefIdeal.τ).loc Cert.ProjEvenRefIdeal.main_arg4) = m ((c.tc : Thread Cert.ProjEvenIdeal.nD Cert.ProjEvenIdeal.τ).loc Cert.ProjEvenIdeal.main_arg4)) →
    ∃ (v0 : (c : Dev Cert.ProjEvenIdeal.nD) → Buf (Elt Ideal) ((c.tc : Thread Cert.ProjEvenIdeal.nD Cert.ProjEvenIdeal.τ).loc Cert.ProjEvenIdeal.main_v1_0)) (v1 : (c : Dev Cert.ProjEvenIdeal.nD) → Buf (Elt Ideal) ((c.tc : Thread Cert.ProjEvenIdeal.nD Cert.ProjEvenIdeal.τ).loc Cert.ProjEvenIdeal.main_v1_1)),
      θ_run (Cert.ProjEvenIdeal.defs (F := Ideal)) (onTc (τ := Cert.ProjEvenIdeal.τ) (Cert.ProjEvenIdeal.main (F := Ideal))) ⟨m, fun _ => 0, g⟩ (fun r => ∀ c : Dev Cert.ProjEvenIdeal.nD,
          r.2.mem ((c.tc : Thread Cert.ProjEvenIdeal.nD Cert.ProjEvenIdeal.τ).loc Cert.ProjEvenIdeal.main_v1_0) = v0 c
          ∧ r.2.mem ((c.tc : Thread Cert.ProjEvenIdeal.nD Cert.ProjEvenIdeal.τ).loc Cert.ProjEvenIdeal.main_v1_1) = v1 c
          ∧ r.2.mem ((c.tc : Thread Cert.ProjEvenIdeal.nD Cert.ProjEvenIdeal.τ).loc Cert.ProjEvenIdeal.main_arg0) = m ((c.tc : Thread Cert.ProjEvenIdeal.nD Cert.ProjEvenIdeal.τ).loc Cert.ProjEvenIdeal.main_arg0)
          ∧ r.2.mem ((c.tc : Thread Cert.ProjEvenIdeal.nD Cert.ProjEvenIdeal.τ).loc Cert.ProjEvenIdeal.main_arg1) = m ((c.tc : Thread Cert.ProjEvenIdeal.nD Cert.ProjEvenIdeal.τ).loc Cert.ProjEvenIdeal.main_arg1)
          ∧ r.2.mem ((c.tc : Thread Cert.ProjEvenIdeal.nD Cert.ProjEvenIdeal.τ).loc Cert.ProjEvenIdeal.main_arg2) = m ((c.tc : Thread Cert.ProjEvenIdeal.nD Cert.ProjEvenIdeal.τ).loc Cert.ProjEvenIdeal.main_arg2)
          ∧ r.2.mem ((c.tc : Thread Cert.ProjEvenIdeal.nD Cert.ProjEvenIdeal.τ).loc Cert.ProjEvenIdeal.main_arg3) = m ((c.tc : Thread Cert.ProjEvenIdeal.nD Cert.ProjEvenIdeal.τ).loc Cert.ProjEvenIdeal.main_arg3)
          ∧ r.2.mem ((c.tc : Thread Cert.ProjEvenIdeal.nD Cert.ProjEvenIdeal.τ).loc Cert.ProjEvenIdeal.main_arg4) = m ((c.tc : Thread Cert.ProjEvenIdeal.nD Cert.ProjEvenIdeal.τ).loc Cert.ProjEvenIdeal.main_arg4))
      ∧ θ_run (Cert.ProjEvenRefIdeal.defs (F := Ideal)) (onTc (τ := Cert.ProjEvenRefIdeal.τ) (Cert.ProjEvenRefIdeal.main (F := Ideal))) ⟨m', fun _ => 0, g'⟩ (fun r => ∀ c : Dev Cert.ProjEvenRefIdeal.nD,
          r.2.mem ((c.tc : Thread Cert.ProjEvenRefIdeal.nD Cert.ProjEvenRefIdeal.τ).loc Cert.ProjEvenRefIdeal.main_v27) = v0 c
          ∧ r.2.mem ((c.tc : Thread Cert.ProjEvenRefIdeal.nD Cert.ProjEvenRefIdeal.τ).loc Cert.ProjEvenRefIdeal.main_v28) = v1 c
          ∧ r.2.mem ((c.tc : Thread Cert.ProjEvenRefIdeal.nD Cert.ProjEvenRefIdeal.τ).loc Cert.ProjEvenRefIdeal.main_arg0) = m' ((c.tc : Thread Cert.ProjEvenRefIdeal.nD Cert.ProjEvenRefIdeal.τ).loc Cert.ProjEvenRefIdeal.main_arg0)
          ∧ r.2.mem ((c.tc : Thread Cert.ProjEvenRefIdeal.nD Cert.ProjEvenRefIdeal.τ).loc Cert.ProjEvenRefIdeal.main_arg1) = m' ((c.tc : Thread Cert.ProjEvenRefIdeal.nD Cert.ProjEvenRefIdeal.τ).loc Cert.ProjEvenRefIdeal.main_arg1)
          ∧ r.2.mem ((c.tc : Thread Cert.ProjEvenRefIdeal.nD Cert.ProjEvenRefIdeal.τ).loc Cert.ProjEvenRefIdeal.main_arg2) = m' ((c.tc : Thread Cert.ProjEvenRefIdeal.nD Cert.ProjEvenRefIdeal.τ).loc Cert.ProjEvenRefIdeal.main_arg2)
          ∧ r.2.mem ((c.tc : Thread Cert.ProjEvenRefIdeal.nD Cert.ProjEvenRefIdeal.τ).loc Cert.ProjEvenRefIdeal.main_arg3) = m' ((c.tc : Thread Cert.ProjEvenRefIdeal.nD Cert.ProjEvenRefIdeal.τ).loc Cert.ProjEvenRefIdeal.main_arg3)
          ∧ r.2.mem ((c.tc : Thread Cert.ProjEvenRefIdeal.nD Cert.ProjEvenRefIdeal.τ).loc Cert.ProjEvenRefIdeal.main_arg4) = m' ((c.tc : Thread Cert.ProjEvenRefIdeal.nD Cert.ProjEvenRefIdeal.τ).loc Cert.ProjEvenRefIdeal.main_arg4))

def preserves_ProjOddS_ProjOddSIdeal : Prop :=
  True

def algebraic_ProjOddSIdeal_ProjOddSRefIdeal [hProjOddSIdeal : Cert.ProjOddSIdeal.Facts] [hProjOddSRefIdeal : Cert.ProjOddSRefIdeal.Facts] : Prop :=
  ∀ (m : (ℓ : Loc Cert.ProjOddSIdeal.nD Cert.ProjOddSIdeal.τ Cert.ProjOddSIdeal.sig) → Buf (Elt Ideal) ℓ) (g : Dev Cert.ProjOddSIdeal.nD → PrngReg)
    (m' : (ℓ : Loc Cert.ProjOddSRefIdeal.nD Cert.ProjOddSRefIdeal.τ Cert.ProjOddSRefIdeal.sig) → Buf (Elt Ideal) ℓ) (g' : Dev Cert.ProjOddSRefIdeal.nD → PrngReg), Pre_ProjOddSIdeal m →
    (∀ c : Dev Cert.ProjOddSIdeal.nD,
      m' ((c.tc : Thread Cert.ProjOddSRefIdeal.nD Cert.ProjOddSRefIdeal.τ).loc Cert.ProjOddSRefIdeal.main_arg0) = m ((c.tc : Thread Cert.ProjOddSIdeal.nD Cert.ProjOddSIdeal.τ).loc Cert.ProjOddSIdeal.main_arg0)
      ∧ m' ((c.tc : Thread Cert.ProjOddSRefIdeal.nD Cert.ProjOddSRefIdeal.τ).loc Cert.ProjOddSRefIdeal.main_arg1) = m ((c.tc : Thread Cert.ProjOddSIdeal.nD Cert.ProjOddSIdeal.τ).loc Cert.ProjOddSIdeal.main_arg1)
      ∧ m' ((c.tc : Thread Cert.ProjOddSRefIdeal.nD Cert.ProjOddSRefIdeal.τ).loc Cert.ProjOddSRefIdeal.main_arg2) = m ((c.tc : Thread Cert.ProjOddSIdeal.nD Cert.ProjOddSIdeal.τ).loc Cert.ProjOddSIdeal.main_arg2)
      ∧ m' ((c.tc : Thread Cert.ProjOddSRefIdeal.nD Cert.ProjOddSRefIdeal.τ).loc Cert.ProjOddSRefIdeal.main_arg3) = m ((c.tc : Thread Cert.ProjOddSIdeal.nD Cert.ProjOddSIdeal.τ).loc Cert.ProjOddSIdeal.main_arg3)
      ∧ m' ((c.tc : Thread Cert.ProjOddSRefIdeal.nD Cert.ProjOddSRefIdeal.τ).loc Cert.ProjOddSRefIdeal.main_arg4) = m ((c.tc : Thread Cert.ProjOddSIdeal.nD Cert.ProjOddSIdeal.τ).loc Cert.ProjOddSIdeal.main_arg4)) →
    ∃ (v0 : (c : Dev Cert.ProjOddSIdeal.nD) → Buf (Elt Ideal) ((c.tc : Thread Cert.ProjOddSIdeal.nD Cert.ProjOddSIdeal.τ).loc Cert.ProjOddSIdeal.main_v7_0)) (v1 : (c : Dev Cert.ProjOddSIdeal.nD) → Buf (Elt Ideal) ((c.tc : Thread Cert.ProjOddSIdeal.nD Cert.ProjOddSIdeal.τ).loc Cert.ProjOddSIdeal.main_v7_1)) (v2 : (c : Dev Cert.ProjOddSIdeal.nD) → Buf (Elt Ideal) ((c.tc : Thread Cert.ProjOddSIdeal.nD Cert.ProjOddSIdeal.τ).loc Cert.ProjOddSIdeal.main_v7_2)),
      θ_run (Cert.ProjOddSIdeal.defs (F := Ideal)) (onTc (τ := Cert.ProjOddSIdeal.τ) (Cert.ProjOddSIdeal.main (F := Ideal))) ⟨m, fun _ => 0, g⟩ (fun r => ∀ c : Dev Cert.ProjOddSIdeal.nD,
          r.2.mem ((c.tc : Thread Cert.ProjOddSIdeal.nD Cert.ProjOddSIdeal.τ).loc Cert.ProjOddSIdeal.main_v7_0) = v0 c
          ∧ r.2.mem ((c.tc : Thread Cert.ProjOddSIdeal.nD Cert.ProjOddSIdeal.τ).loc Cert.ProjOddSIdeal.main_v7_1) = v1 c
          ∧ r.2.mem ((c.tc : Thread Cert.ProjOddSIdeal.nD Cert.ProjOddSIdeal.τ).loc Cert.ProjOddSIdeal.main_v7_2) = v2 c
          ∧ r.2.mem ((c.tc : Thread Cert.ProjOddSIdeal.nD Cert.ProjOddSIdeal.τ).loc Cert.ProjOddSIdeal.main_arg0) = m ((c.tc : Thread Cert.ProjOddSIdeal.nD Cert.ProjOddSIdeal.τ).loc Cert.ProjOddSIdeal.main_arg0)
          ∧ r.2.mem ((c.tc : Thread Cert.ProjOddSIdeal.nD Cert.ProjOddSIdeal.τ).loc Cert.ProjOddSIdeal.main_arg1) = m ((c.tc : Thread Cert.ProjOddSIdeal.nD Cert.ProjOddSIdeal.τ).loc Cert.ProjOddSIdeal.main_arg1)
          ∧ r.2.mem ((c.tc : Thread Cert.ProjOddSIdeal.nD Cert.ProjOddSIdeal.τ).loc Cert.ProjOddSIdeal.main_arg2) = m ((c.tc : Thread Cert.ProjOddSIdeal.nD Cert.ProjOddSIdeal.τ).loc Cert.ProjOddSIdeal.main_arg2)
          ∧ r.2.mem ((c.tc : Thread Cert.ProjOddSIdeal.nD Cert.ProjOddSIdeal.τ).loc Cert.ProjOddSIdeal.main_arg3) = m ((c.tc : Thread Cert.ProjOddSIdeal.nD Cert.ProjOddSIdeal.τ).loc Cert.ProjOddSIdeal.main_arg3)
          ∧ r.2.mem ((c.tc : Thread Cert.ProjOddSIdeal.nD Cert.ProjOddSIdeal.τ).loc Cert.ProjOddSIdeal.main_arg4) = m ((c.tc : Thread Cert.ProjOddSIdeal.nD Cert.ProjOddSIdeal.τ).loc Cert.ProjOddSIdeal.main_arg4))
      ∧ θ_run (Cert.ProjOddSRefIdeal.defs (F := Ideal)) (onTc (τ := Cert.ProjOddSRefIdeal.τ) (Cert.ProjOddSRefIdeal.main (F := Ideal))) ⟨m', fun _ => 0, g'⟩ (fun r => ∀ c : Dev Cert.ProjOddSRefIdeal.nD,
          r.2.mem ((c.tc : Thread Cert.ProjOddSRefIdeal.nD Cert.ProjOddSRefIdeal.τ).loc Cert.ProjOddSRefIdeal.main_v25) = v0 c
          ∧ r.2.mem ((c.tc : Thread Cert.ProjOddSRefIdeal.nD Cert.ProjOddSRefIdeal.τ).loc Cert.ProjOddSRefIdeal.main_v26) = v1 c
          ∧ r.2.mem ((c.tc : Thread Cert.ProjOddSRefIdeal.nD Cert.ProjOddSRefIdeal.τ).loc Cert.ProjOddSRefIdeal.main_v27) = v2 c
          ∧ r.2.mem ((c.tc : Thread Cert.ProjOddSRefIdeal.nD Cert.ProjOddSRefIdeal.τ).loc Cert.ProjOddSRefIdeal.main_arg0) = m' ((c.tc : Thread Cert.ProjOddSRefIdeal.nD Cert.ProjOddSRefIdeal.τ).loc Cert.ProjOddSRefIdeal.main_arg0)
          ∧ r.2.mem ((c.tc : Thread Cert.ProjOddSRefIdeal.nD Cert.ProjOddSRefIdeal.τ).loc Cert.ProjOddSRefIdeal.main_arg1) = m' ((c.tc : Thread Cert.ProjOddSRefIdeal.nD Cert.ProjOddSRefIdeal.τ).loc Cert.ProjOddSRefIdeal.main_arg1)
          ∧ r.2.mem ((c.tc : Thread Cert.ProjOddSRefIdeal.nD Cert.ProjOddSRefIdeal.τ).loc Cert.ProjOddSRefIdeal.main_arg2) = m' ((c.tc : Thread Cert.ProjOddSRefIdeal.nD Cert.ProjOddSRefIdeal.τ).loc Cert.ProjOddSRefIdeal.main_arg2)
          ∧ r.2.mem ((c.tc : Thread Cert.ProjOddSRefIdeal.nD Cert.ProjOddSRefIdeal.τ).loc Cert.ProjOddSRefIdeal.main_arg3) = m' ((c.tc : Thread Cert.ProjOddSRefIdeal.nD Cert.ProjOddSRefIdeal.τ).loc Cert.ProjOddSRefIdeal.main_arg3)
          ∧ r.2.mem ((c.tc : Thread Cert.ProjOddSRefIdeal.nD Cert.ProjOddSRefIdeal.τ).loc Cert.ProjOddSRefIdeal.main_arg4) = m' ((c.tc : Thread Cert.ProjOddSRefIdeal.nD Cert.ProjOddSRefIdeal.τ).loc Cert.ProjOddSRefIdeal.main_arg4))

def preserves_MlpLastS_MlpLastSIdeal : Prop :=
  True

def algebraic_MlpLastSIdeal_MlpLastSRefIdeal [hMlpLastSIdeal : Cert.MlpLastSIdeal.Facts] [hMlpLastSRefIdeal : Cert.MlpLastSRefIdeal.Facts] : Prop :=
  ∀ (m : (ℓ : Loc Cert.MlpLastSIdeal.nD Cert.MlpLastSIdeal.τ Cert.MlpLastSIdeal.sig) → Buf (Elt Ideal) ℓ) (g : Dev Cert.MlpLastSIdeal.nD → PrngReg)
    (m' : (ℓ : Loc Cert.MlpLastSRefIdeal.nD Cert.MlpLastSRefIdeal.τ Cert.MlpLastSRefIdeal.sig) → Buf (Elt Ideal) ℓ) (g' : Dev Cert.MlpLastSRefIdeal.nD → PrngReg), Pre_MlpLastSIdeal m →
    (∀ c : Dev Cert.MlpLastSIdeal.nD,
      m' ((c.tc : Thread Cert.MlpLastSRefIdeal.nD Cert.MlpLastSRefIdeal.τ).loc Cert.MlpLastSRefIdeal.main_arg0) = m ((c.tc : Thread Cert.MlpLastSIdeal.nD Cert.MlpLastSIdeal.τ).loc Cert.MlpLastSIdeal.main_arg0)
      ∧ m' ((c.tc : Thread Cert.MlpLastSRefIdeal.nD Cert.MlpLastSRefIdeal.τ).loc Cert.MlpLastSRefIdeal.main_arg1) = m ((c.tc : Thread Cert.MlpLastSIdeal.nD Cert.MlpLastSIdeal.τ).loc Cert.MlpLastSIdeal.main_arg1)
      ∧ m' ((c.tc : Thread Cert.MlpLastSRefIdeal.nD Cert.MlpLastSRefIdeal.τ).loc Cert.MlpLastSRefIdeal.main_arg2) = m ((c.tc : Thread Cert.MlpLastSIdeal.nD Cert.MlpLastSIdeal.τ).loc Cert.MlpLastSIdeal.main_arg2)
      ∧ m' ((c.tc : Thread Cert.MlpLastSRefIdeal.nD Cert.MlpLastSRefIdeal.τ).loc Cert.MlpLastSRefIdeal.main_arg3) = m ((c.tc : Thread Cert.MlpLastSIdeal.nD Cert.MlpLastSIdeal.τ).loc Cert.MlpLastSIdeal.main_arg3)
      ∧ m' ((c.tc : Thread Cert.MlpLastSRefIdeal.nD Cert.MlpLastSRefIdeal.τ).loc Cert.MlpLastSRefIdeal.main_arg4) = m ((c.tc : Thread Cert.MlpLastSIdeal.nD Cert.MlpLastSIdeal.τ).loc Cert.MlpLastSIdeal.main_arg4)
      ∧ m' ((c.tc : Thread Cert.MlpLastSRefIdeal.nD Cert.MlpLastSRefIdeal.τ).loc Cert.MlpLastSRefIdeal.main_arg5) = m ((c.tc : Thread Cert.MlpLastSIdeal.nD Cert.MlpLastSIdeal.τ).loc Cert.MlpLastSIdeal.main_arg5)
      ∧ m' ((c.tc : Thread Cert.MlpLastSRefIdeal.nD Cert.MlpLastSRefIdeal.τ).loc Cert.MlpLastSRefIdeal.main_arg6) = m ((c.tc : Thread Cert.MlpLastSIdeal.nD Cert.MlpLastSIdeal.τ).loc Cert.MlpLastSIdeal.main_arg6)
      ∧ m' ((c.tc : Thread Cert.MlpLastSRefIdeal.nD Cert.MlpLastSRefIdeal.τ).loc Cert.MlpLastSRefIdeal.main_arg7) = m ((c.tc : Thread Cert.MlpLastSIdeal.nD Cert.MlpLastSIdeal.τ).loc Cert.MlpLastSIdeal.main_arg7)) →
    ∃ (v0 : (c : Dev Cert.MlpLastSIdeal.nD) → Buf (Elt Ideal) ((c.tc : Thread Cert.MlpLastSIdeal.nD Cert.MlpLastSIdeal.τ).loc Cert.MlpLastSIdeal.main_v11)),
      θ_run (Cert.MlpLastSIdeal.defs (F := Ideal)) (onTc (τ := Cert.MlpLastSIdeal.τ) (Cert.MlpLastSIdeal.main (F := Ideal))) ⟨m, fun _ => 0, g⟩ (fun r => ∀ c : Dev Cert.MlpLastSIdeal.nD,
          r.2.mem ((c.tc : Thread Cert.MlpLastSIdeal.nD Cert.MlpLastSIdeal.τ).loc Cert.MlpLastSIdeal.main_v11) = v0 c
          ∧ r.2.mem ((c.tc : Thread Cert.MlpLastSIdeal.nD Cert.MlpLastSIdeal.τ).loc Cert.MlpLastSIdeal.main_arg0) = m ((c.tc : Thread Cert.MlpLastSIdeal.nD Cert.MlpLastSIdeal.τ).loc Cert.MlpLastSIdeal.main_arg0)
          ∧ r.2.mem ((c.tc : Thread Cert.MlpLastSIdeal.nD Cert.MlpLastSIdeal.τ).loc Cert.MlpLastSIdeal.main_arg1) = m ((c.tc : Thread Cert.MlpLastSIdeal.nD Cert.MlpLastSIdeal.τ).loc Cert.MlpLastSIdeal.main_arg1)
          ∧ r.2.mem ((c.tc : Thread Cert.MlpLastSIdeal.nD Cert.MlpLastSIdeal.τ).loc Cert.MlpLastSIdeal.main_arg2) = m ((c.tc : Thread Cert.MlpLastSIdeal.nD Cert.MlpLastSIdeal.τ).loc Cert.MlpLastSIdeal.main_arg2)
          ∧ r.2.mem ((c.tc : Thread Cert.MlpLastSIdeal.nD Cert.MlpLastSIdeal.τ).loc Cert.MlpLastSIdeal.main_arg3) = m ((c.tc : Thread Cert.MlpLastSIdeal.nD Cert.MlpLastSIdeal.τ).loc Cert.MlpLastSIdeal.main_arg3)
          ∧ r.2.mem ((c.tc : Thread Cert.MlpLastSIdeal.nD Cert.MlpLastSIdeal.τ).loc Cert.MlpLastSIdeal.main_arg4) = m ((c.tc : Thread Cert.MlpLastSIdeal.nD Cert.MlpLastSIdeal.τ).loc Cert.MlpLastSIdeal.main_arg4)
          ∧ r.2.mem ((c.tc : Thread Cert.MlpLastSIdeal.nD Cert.MlpLastSIdeal.τ).loc Cert.MlpLastSIdeal.main_arg5) = m ((c.tc : Thread Cert.MlpLastSIdeal.nD Cert.MlpLastSIdeal.τ).loc Cert.MlpLastSIdeal.main_arg5)
          ∧ r.2.mem ((c.tc : Thread Cert.MlpLastSIdeal.nD Cert.MlpLastSIdeal.τ).loc Cert.MlpLastSIdeal.main_arg6) = m ((c.tc : Thread Cert.MlpLastSIdeal.nD Cert.MlpLastSIdeal.τ).loc Cert.MlpLastSIdeal.main_arg6)
          ∧ r.2.mem ((c.tc : Thread Cert.MlpLastSIdeal.nD Cert.MlpLastSIdeal.τ).loc Cert.MlpLastSIdeal.main_arg7) = m ((c.tc : Thread Cert.MlpLastSIdeal.nD Cert.MlpLastSIdeal.τ).loc Cert.MlpLastSIdeal.main_arg7))
      ∧ θ_run (Cert.MlpLastSRefIdeal.defs (F := Ideal)) (onTc (τ := Cert.MlpLastSRefIdeal.τ) (Cert.MlpLastSRefIdeal.main (F := Ideal))) ⟨m', fun _ => 0, g'⟩ (fun r => ∀ c : Dev Cert.MlpLastSRefIdeal.nD,
          r.2.mem ((c.tc : Thread Cert.MlpLastSRefIdeal.nD Cert.MlpLastSRefIdeal.τ).loc Cert.MlpLastSRefIdeal.main_v45) = v0 c
          ∧ r.2.mem ((c.tc : Thread Cert.MlpLastSRefIdeal.nD Cert.MlpLastSRefIdeal.τ).loc Cert.MlpLastSRefIdeal.main_arg0) = m' ((c.tc : Thread Cert.MlpLastSRefIdeal.nD Cert.MlpLastSRefIdeal.τ).loc Cert.MlpLastSRefIdeal.main_arg0)
          ∧ r.2.mem ((c.tc : Thread Cert.MlpLastSRefIdeal.nD Cert.MlpLastSRefIdeal.τ).loc Cert.MlpLastSRefIdeal.main_arg1) = m' ((c.tc : Thread Cert.MlpLastSRefIdeal.nD Cert.MlpLastSRefIdeal.τ).loc Cert.MlpLastSRefIdeal.main_arg1)
          ∧ r.2.mem ((c.tc : Thread Cert.MlpLastSRefIdeal.nD Cert.MlpLastSRefIdeal.τ).loc Cert.MlpLastSRefIdeal.main_arg2) = m' ((c.tc : Thread Cert.MlpLastSRefIdeal.nD Cert.MlpLastSRefIdeal.τ).loc Cert.MlpLastSRefIdeal.main_arg2)
          ∧ r.2.mem ((c.tc : Thread Cert.MlpLastSRefIdeal.nD Cert.MlpLastSRefIdeal.τ).loc Cert.MlpLastSRefIdeal.main_arg3) = m' ((c.tc : Thread Cert.MlpLastSRefIdeal.nD Cert.MlpLastSRefIdeal.τ).loc Cert.MlpLastSRefIdeal.main_arg3)
          ∧ r.2.mem ((c.tc : Thread Cert.MlpLastSRefIdeal.nD Cert.MlpLastSRefIdeal.τ).loc Cert.MlpLastSRefIdeal.main_arg4) = m' ((c.tc : Thread Cert.MlpLastSRefIdeal.nD Cert.MlpLastSRefIdeal.τ).loc Cert.MlpLastSRefIdeal.main_arg4)
          ∧ r.2.mem ((c.tc : Thread Cert.MlpLastSRefIdeal.nD Cert.MlpLastSRefIdeal.τ).loc Cert.MlpLastSRefIdeal.main_arg5) = m' ((c.tc : Thread Cert.MlpLastSRefIdeal.nD Cert.MlpLastSRefIdeal.τ).loc Cert.MlpLastSRefIdeal.main_arg5)
          ∧ r.2.mem ((c.tc : Thread Cert.MlpLastSRefIdeal.nD Cert.MlpLastSRefIdeal.τ).loc Cert.MlpLastSRefIdeal.main_arg6) = m' ((c.tc : Thread Cert.MlpLastSRefIdeal.nD Cert.MlpLastSRefIdeal.τ).loc Cert.MlpLastSRefIdeal.main_arg6)
          ∧ r.2.mem ((c.tc : Thread Cert.MlpLastSRefIdeal.nD Cert.MlpLastSRefIdeal.τ).loc Cert.MlpLastSRefIdeal.main_arg7) = m' ((c.tc : Thread Cert.MlpLastSRefIdeal.nD Cert.MlpLastSRefIdeal.τ).loc Cert.MlpLastSRefIdeal.main_arg7))

def preserves_MixS_MixSIdeal : Prop :=
  True

def algebraic_MixSIdeal_MixSRefIdeal [hMixSIdeal : Cert.MixSIdeal.Facts] [hMixSRefIdeal : Cert.MixSRefIdeal.Facts] : Prop :=
  ∀ (m : (ℓ : Loc Cert.MixSIdeal.nD Cert.MixSIdeal.τ Cert.MixSIdeal.sig) → Buf (Elt Ideal) ℓ) (g : Dev Cert.MixSIdeal.nD → PrngReg)
    (m' : (ℓ : Loc Cert.MixSRefIdeal.nD Cert.MixSRefIdeal.τ Cert.MixSRefIdeal.sig) → Buf (Elt Ideal) ℓ) (g' : Dev Cert.MixSRefIdeal.nD → PrngReg), Pre_MixSIdeal m →
    (∀ c : Dev Cert.MixSIdeal.nD,
      m' ((c.tc : Thread Cert.MixSRefIdeal.nD Cert.MixSRefIdeal.τ).loc Cert.MixSRefIdeal.main_arg0) = m ((c.tc : Thread Cert.MixSIdeal.nD Cert.MixSIdeal.τ).loc Cert.MixSIdeal.main_arg0)
      ∧ m' ((c.tc : Thread Cert.MixSRefIdeal.nD Cert.MixSRefIdeal.τ).loc Cert.MixSRefIdeal.main_arg1) = m ((c.tc : Thread Cert.MixSIdeal.nD Cert.MixSIdeal.τ).loc Cert.MixSIdeal.main_arg1)
      ∧ m' ((c.tc : Thread Cert.MixSRefIdeal.nD Cert.MixSRefIdeal.τ).loc Cert.MixSRefIdeal.main_arg2) = m ((c.tc : Thread Cert.MixSIdeal.nD Cert.MixSIdeal.τ).loc Cert.MixSIdeal.main_arg2)
      ∧ m' ((c.tc : Thread Cert.MixSRefIdeal.nD Cert.MixSRefIdeal.τ).loc Cert.MixSRefIdeal.main_arg3) = m ((c.tc : Thread Cert.MixSIdeal.nD Cert.MixSIdeal.τ).loc Cert.MixSIdeal.main_arg3)
      ∧ m' ((c.tc : Thread Cert.MixSRefIdeal.nD Cert.MixSRefIdeal.τ).loc Cert.MixSRefIdeal.main_arg4) = m ((c.tc : Thread Cert.MixSIdeal.nD Cert.MixSIdeal.τ).loc Cert.MixSIdeal.main_arg4)
      ∧ m' ((c.tc : Thread Cert.MixSRefIdeal.nD Cert.MixSRefIdeal.τ).loc Cert.MixSRefIdeal.main_arg5) = m ((c.tc : Thread Cert.MixSIdeal.nD Cert.MixSIdeal.τ).loc Cert.MixSIdeal.main_arg5)
      ∧ m' ((c.tc : Thread Cert.MixSRefIdeal.nD Cert.MixSRefIdeal.τ).loc Cert.MixSRefIdeal.main_arg6) = m ((c.tc : Thread Cert.MixSIdeal.nD Cert.MixSIdeal.τ).loc Cert.MixSIdeal.main_arg6)
      ∧ m' ((c.tc : Thread Cert.MixSRefIdeal.nD Cert.MixSRefIdeal.τ).loc Cert.MixSRefIdeal.main_arg7) = m ((c.tc : Thread Cert.MixSIdeal.nD Cert.MixSIdeal.τ).loc Cert.MixSIdeal.main_arg7)
      ∧ m' ((c.tc : Thread Cert.MixSRefIdeal.nD Cert.MixSRefIdeal.τ).loc Cert.MixSRefIdeal.main_arg8) = m ((c.tc : Thread Cert.MixSIdeal.nD Cert.MixSIdeal.τ).loc Cert.MixSIdeal.main_arg8)) →
    ∃ (v0 : (c : Dev Cert.MixSIdeal.nD) → Buf (Elt Ideal) ((c.tc : Thread Cert.MixSIdeal.nD Cert.MixSIdeal.τ).loc Cert.MixSIdeal.main_v0_1)),
      θ_run (Cert.MixSIdeal.defs (F := Ideal)) (onTc (τ := Cert.MixSIdeal.τ) (Cert.MixSIdeal.main (F := Ideal))) ⟨m, fun _ => 0, g⟩ (fun r => ∀ c : Dev Cert.MixSIdeal.nD,
          r.2.mem ((c.tc : Thread Cert.MixSIdeal.nD Cert.MixSIdeal.τ).loc Cert.MixSIdeal.main_v0_1) = v0 c
          ∧ r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
          ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
          ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
          ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
          ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
          ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5)
          ∧ r.2.mem ((c.tc : Thread Cert.MixSIdeal.nD Cert.MixSIdeal.τ).loc Cert.MixSIdeal.main_arg6) = m ((c.tc : Thread Cert.MixSIdeal.nD Cert.MixSIdeal.τ).loc Cert.MixSIdeal.main_arg6)
          ∧ r.2.mem ((c.tc : Thread Cert.MixSIdeal.nD Cert.MixSIdeal.τ).loc Cert.MixSIdeal.main_arg7) = m ((c.tc : Thread Cert.MixSIdeal.nD Cert.MixSIdeal.τ).loc Cert.MixSIdeal.main_arg7)
          ∧ r.2.mem ((c.tc : Thread Cert.MixSIdeal.nD Cert.MixSIdeal.τ).loc Cert.MixSIdeal.main_arg8) = m ((c.tc : Thread Cert.MixSIdeal.nD Cert.MixSIdeal.τ).loc Cert.MixSIdeal.main_arg8))
      ∧ θ_run (Cert.MixSRefIdeal.defs (F := Ideal)) (onTc (τ := Cert.MixSRefIdeal.τ) (Cert.MixSRefIdeal.main (F := Ideal))) ⟨m', fun _ => 0, g'⟩ (fun r => ∀ c : Dev Cert.MixSRefIdeal.nD,
          r.2.mem ((c.tc : Thread Cert.MixSRefIdeal.nD Cert.MixSRefIdeal.τ).loc Cert.MixSRefIdeal.main_v30) = v0 c
          ∧ r.2.mem ((c.tc : Thread Cert.MixSRefIdeal.nD Cert.MixSRefIdeal.τ).loc Cert.MixSRefIdeal.main_arg0) = m' ((c.tc : Thread Cert.MixSRefIdeal.nD Cert.MixSRefIdeal.τ).loc Cert.MixSRefIdeal.main_arg0)
          ∧ r.2.mem ((c.tc : Thread Cert.MixSRefIdeal.nD Cert.MixSRefIdeal.τ).loc Cert.MixSRefIdeal.main_arg1) = m' ((c.tc : Thread Cert.MixSRefIdeal.nD Cert.MixSRefIdeal.τ).loc Cert.MixSRefIdeal.main_arg1)
          ∧ r.2.mem ((c.tc : Thread Cert.MixSRefIdeal.nD Cert.MixSRefIdeal.τ).loc Cert.MixSRefIdeal.main_arg2) = m' ((c.tc : Thread Cert.MixSRefIdeal.nD Cert.MixSRefIdeal.τ).loc Cert.MixSRefIdeal.main_arg2)
          ∧ r.2.mem ((c.tc : Thread Cert.MixSRefIdeal.nD Cert.MixSRefIdeal.τ).loc Cert.MixSRefIdeal.main_arg3) = m' ((c.tc : Thread Cert.MixSRefIdeal.nD Cert.MixSRefIdeal.τ).loc Cert.MixSRefIdeal.main_arg3)
          ∧ r.2.mem ((c.tc : Thread Cert.MixSRefIdeal.nD Cert.MixSRefIdeal.τ).loc Cert.MixSRefIdeal.main_arg4) = m' ((c.tc : Thread Cert.MixSRefIdeal.nD Cert.MixSRefIdeal.τ).loc Cert.MixSRefIdeal.main_arg4)
          ∧ r.2.mem ((c.tc : Thread Cert.MixSRefIdeal.nD Cert.MixSRefIdeal.τ).loc Cert.MixSRefIdeal.main_arg5) = m' ((c.tc : Thread Cert.MixSRefIdeal.nD Cert.MixSRefIdeal.τ).loc Cert.MixSRefIdeal.main_arg5)
          ∧ r.2.mem ((c.tc : Thread Cert.MixSRefIdeal.nD Cert.MixSRefIdeal.τ).loc Cert.MixSRefIdeal.main_arg6) = m' ((c.tc : Thread Cert.MixSRefIdeal.nD Cert.MixSRefIdeal.τ).loc Cert.MixSRefIdeal.main_arg6)
          ∧ r.2.mem ((c.tc : Thread Cert.MixSRefIdeal.nD Cert.MixSRefIdeal.τ).loc Cert.MixSRefIdeal.main_arg7) = m' ((c.tc : Thread Cert.MixSRefIdeal.nD Cert.MixSRefIdeal.τ).loc Cert.MixSRefIdeal.main_arg7)
          ∧ r.2.mem ((c.tc : Thread Cert.MixSRefIdeal.nD Cert.MixSRefIdeal.τ).loc Cert.MixSRefIdeal.main_arg8) = m' ((c.tc : Thread Cert.MixSRefIdeal.nD Cert.MixSRefIdeal.τ).loc Cert.MixSRefIdeal.main_arg8))

def preserves_MixState_MixStateIdeal : Prop :=
  IdealRules.named_const.Statement Cert.MixStateIdeal.κ "mask" .f32 0xF149F2CA#32 ⊥

def algebraic_MixStateIdeal_MixStateRefIdeal_pre_gates_below_inf [hMixStateIdeal : Cert.MixStateIdeal.Facts] [hMixStateRefIdeal : Cert.MixStateRefIdeal.Facts] [hPre_gates_below_inf : Cert.Pre_gates_below_inf.Facts] : Prop :=
  ∀ (m : (ℓ : Loc Cert.MixStateIdeal.nD Cert.MixStateIdeal.τ Cert.MixStateIdeal.sig) → Buf (Elt Ideal) ℓ) (g : Dev Cert.MixStateIdeal.nD → PrngReg)
    (m' : (ℓ : Loc Cert.MixStateRefIdeal.nD Cert.MixStateRefIdeal.τ Cert.MixStateRefIdeal.sig) → Buf (Elt Ideal) ℓ) (g' : Dev Cert.MixStateRefIdeal.nD → PrngReg), Pre_MixStateIdeal_gates_below_inf m →
    (∀ c : Dev Cert.MixStateIdeal.nD,
      m' ((c.tc : Thread Cert.MixStateRefIdeal.nD Cert.MixStateRefIdeal.τ).loc Cert.MixStateRefIdeal.main_arg0) = m ((c.tc : Thread Cert.MixStateIdeal.nD Cert.MixStateIdeal.τ).loc Cert.MixStateIdeal.main_arg0)
      ∧ m' ((c.tc : Thread Cert.MixStateRefIdeal.nD Cert.MixStateRefIdeal.τ).loc Cert.MixStateRefIdeal.main_arg1) = m ((c.tc : Thread Cert.MixStateIdeal.nD Cert.MixStateIdeal.τ).loc Cert.MixStateIdeal.main_arg1)
      ∧ m' ((c.tc : Thread Cert.MixStateRefIdeal.nD Cert.MixStateRefIdeal.τ).loc Cert.MixStateRefIdeal.main_arg2) = m ((c.tc : Thread Cert.MixStateIdeal.nD Cert.MixStateIdeal.τ).loc Cert.MixStateIdeal.main_arg2)
      ∧ m' ((c.tc : Thread Cert.MixStateRefIdeal.nD Cert.MixStateRefIdeal.τ).loc Cert.MixStateRefIdeal.main_arg3) = m ((c.tc : Thread Cert.MixStateIdeal.nD Cert.MixStateIdeal.τ).loc Cert.MixStateIdeal.main_arg3)
      ∧ m' ((c.tc : Thread Cert.MixStateRefIdeal.nD Cert.MixStateRefIdeal.τ).loc Cert.MixStateRefIdeal.main_arg4) = m ((c.tc : Thread Cert.MixStateIdeal.nD Cert.MixStateIdeal.τ).loc Cert.MixStateIdeal.main_arg4)
      ∧ m' ((c.tc : Thread Cert.MixStateRefIdeal.nD Cert.MixStateRefIdeal.τ).loc Cert.MixStateRefIdeal.main_arg5) = m ((c.tc : Thread Cert.MixStateIdeal.nD Cert.MixStateIdeal.τ).loc Cert.MixStateIdeal.main_arg5)
      ∧ m' ((c.tc : Thread Cert.MixStateRefIdeal.nD Cert.MixStateRefIdeal.τ).loc Cert.MixStateRefIdeal.main_arg6) = m ((c.tc : Thread Cert.MixStateIdeal.nD Cert.MixStateIdeal.τ).loc Cert.MixStateIdeal.main_arg6)
      ∧ m' ((c.tc : Thread Cert.MixStateRefIdeal.nD Cert.MixStateRefIdeal.τ).loc Cert.MixStateRefIdeal.main_arg7) = m ((c.tc : Thread Cert.MixStateIdeal.nD Cert.MixStateIdeal.τ).loc Cert.MixStateIdeal.main_arg7)
      ∧ m' ((c.tc : Thread Cert.MixStateRefIdeal.nD Cert.MixStateRefIdeal.τ).loc Cert.MixStateRefIdeal.main_arg8) = m ((c.tc : Thread Cert.MixStateIdeal.nD Cert.MixStateIdeal.τ).loc Cert.MixStateIdeal.main_arg8)) →
    ∃ (v0 : (c : Dev Cert.MixStateIdeal.nD) → Buf (Elt Ideal) ((c.tc : Thread Cert.MixStateIdeal.nD Cert.MixStateIdeal.τ).loc Cert.MixStateIdeal.main_v0_2)) (v1 : (c : Dev Cert.MixStateIdeal.nD) → Buf (Elt Ideal) ((c.tc : Thread Cert.MixStateIdeal.nD Cert.MixStateIdeal.τ).loc Cert.MixStateIdeal.main_v0_3)),
      θ_run (Cert.MixStateIdeal.defs (F := Ideal)) (onTc (τ := Cert.MixStateIdeal.τ) (Cert.MixStateIdeal.main (F := Ideal))) ⟨m, fun _ => 0, g⟩ (fun r => ∀ c : Dev Cert.MixStateIdeal.nD,
          r.2.mem ((c.tc : Thread Cert.MixStateIdeal.nD Cert.MixStateIdeal.τ).loc Cert.MixStateIdeal.main_v0_2) = v0 c
          ∧ r.2.mem ((c.tc : Thread Cert.MixStateIdeal.nD Cert.MixStateIdeal.τ).loc Cert.MixStateIdeal.main_v0_3) = v1 c
          ∧ r.2.mem ((c.tc : Thread Cert.MixStateIdeal.nD Cert.MixStateIdeal.τ).loc Cert.MixStateIdeal.main_arg0) = m ((c.tc : Thread Cert.MixStateIdeal.nD Cert.MixStateIdeal.τ).loc Cert.MixStateIdeal.main_arg0)
          ∧ r.2.mem ((c.tc : Thread Cert.MixStateIdeal.nD Cert.MixStateIdeal.τ).loc Cert.MixStateIdeal.main_arg1) = m ((c.tc : Thread Cert.MixStateIdeal.nD Cert.MixStateIdeal.τ).loc Cert.MixStateIdeal.main_arg1)
          ∧ r.2.mem ((c.tc : Thread Cert.MixStateIdeal.nD Cert.MixStateIdeal.τ).loc Cert.MixStateIdeal.main_arg2) = m ((c.tc : Thread Cert.MixStateIdeal.nD Cert.MixStateIdeal.τ).loc Cert.MixStateIdeal.main_arg2)
          ∧ r.2.mem ((c.tc : Thread Cert.MixStateIdeal.nD Cert.MixStateIdeal.τ).loc Cert.MixStateIdeal.main_arg3) = m ((c.tc : Thread Cert.MixStateIdeal.nD Cert.MixStateIdeal.τ).loc Cert.MixStateIdeal.main_arg3)
          ∧ r.2.mem ((c.tc : Thread Cert.MixStateIdeal.nD Cert.MixStateIdeal.τ).loc Cert.MixStateIdeal.main_arg4) = m ((c.tc : Thread Cert.MixStateIdeal.nD Cert.MixStateIdeal.τ).loc Cert.MixStateIdeal.main_arg4)
          ∧ r.2.mem ((c.tc : Thread Cert.MixStateIdeal.nD Cert.MixStateIdeal.τ).loc Cert.MixStateIdeal.main_arg5) = m ((c.tc : Thread Cert.MixStateIdeal.nD Cert.MixStateIdeal.τ).loc Cert.MixStateIdeal.main_arg5)
          ∧ r.2.mem ((c.tc : Thread Cert.MixStateIdeal.nD Cert.MixStateIdeal.τ).loc Cert.MixStateIdeal.main_arg6) = m ((c.tc : Thread Cert.MixStateIdeal.nD Cert.MixStateIdeal.τ).loc Cert.MixStateIdeal.main_arg6)
          ∧ r.2.mem ((c.tc : Thread Cert.MixStateIdeal.nD Cert.MixStateIdeal.τ).loc Cert.MixStateIdeal.main_arg7) = m ((c.tc : Thread Cert.MixStateIdeal.nD Cert.MixStateIdeal.τ).loc Cert.MixStateIdeal.main_arg7)
          ∧ r.2.mem ((c.tc : Thread Cert.MixStateIdeal.nD Cert.MixStateIdeal.τ).loc Cert.MixStateIdeal.main_arg8) = m ((c.tc : Thread Cert.MixStateIdeal.nD Cert.MixStateIdeal.τ).loc Cert.MixStateIdeal.main_arg8))
      ∧ θ_run (Cert.MixStateRefIdeal.defs (F := Ideal)) (onTc (τ := Cert.MixStateRefIdeal.τ) (Cert.MixStateRefIdeal.main (F := Ideal))) ⟨m', fun _ => 0, g'⟩ (fun r => ∀ c : Dev Cert.MixStateRefIdeal.nD,
          r.2.mem ((c.tc : Thread Cert.MixStateRefIdeal.nD Cert.MixStateRefIdeal.τ).loc Cert.MixStateRefIdeal.main_v77) = v0 c
          ∧ r.2.mem ((c.tc : Thread Cert.MixStateRefIdeal.nD Cert.MixStateRefIdeal.τ).loc Cert.MixStateRefIdeal.main_v83) = v1 c
          ∧ r.2.mem ((c.tc : Thread Cert.MixStateRefIdeal.nD Cert.MixStateRefIdeal.τ).loc Cert.MixStateRefIdeal.main_arg0) = m' ((c.tc : Thread Cert.MixStateRefIdeal.nD Cert.MixStateRefIdeal.τ).loc Cert.MixStateRefIdeal.main_arg0)
          ∧ r.2.mem ((c.tc : Thread Cert.MixStateRefIdeal.nD Cert.MixStateRefIdeal.τ).loc Cert.MixStateRefIdeal.main_arg1) = m' ((c.tc : Thread Cert.MixStateRefIdeal.nD Cert.MixStateRefIdeal.τ).loc Cert.MixStateRefIdeal.main_arg1)
          ∧ r.2.mem ((c.tc : Thread Cert.MixStateRefIdeal.nD Cert.MixStateRefIdeal.τ).loc Cert.MixStateRefIdeal.main_arg2) = m' ((c.tc : Thread Cert.MixStateRefIdeal.nD Cert.MixStateRefIdeal.τ).loc Cert.MixStateRefIdeal.main_arg2)
          ∧ r.2.mem ((c.tc : Thread Cert.MixStateRefIdeal.nD Cert.MixStateRefIdeal.τ).loc Cert.MixStateRefIdeal.main_arg3) = m' ((c.tc : Thread Cert.MixStateRefIdeal.nD Cert.MixStateRefIdeal.τ).loc Cert.MixStateRefIdeal.main_arg3)
          ∧ r.2.mem ((c.tc : Thread Cert.MixStateRefIdeal.nD Cert.MixStateRefIdeal.τ).loc Cert.MixStateRefIdeal.main_arg4) = m' ((c.tc : Thread Cert.MixStateRefIdeal.nD Cert.MixStateRefIdeal.τ).loc Cert.MixStateRefIdeal.main_arg4)
          ∧ r.2.mem ((c.tc : Thread Cert.MixStateRefIdeal.nD Cert.MixStateRefIdeal.τ).loc Cert.MixStateRefIdeal.main_arg5) = m' ((c.tc : Thread Cert.MixStateRefIdeal.nD Cert.MixStateRefIdeal.τ).loc Cert.MixStateRefIdeal.main_arg5)
          ∧ r.2.mem ((c.tc : Thread Cert.MixStateRefIdeal.nD Cert.MixStateRefIdeal.τ).loc Cert.MixStateRefIdeal.main_arg6) = m' ((c.tc : Thread Cert.MixStateRefIdeal.nD Cert.MixStateRefIdeal.τ).loc Cert.MixStateRefIdeal.main_arg6)
          ∧ r.2.mem ((c.tc : Thread Cert.MixStateRefIdeal.nD Cert.MixStateRefIdeal.τ).loc Cert.MixStateRefIdeal.main_arg7) = m' ((c.tc : Thread Cert.MixStateRefIdeal.nD Cert.MixStateRefIdeal.τ).loc Cert.MixStateRefIdeal.main_arg7)
          ∧ r.2.mem ((c.tc : Thread Cert.MixStateRefIdeal.nD Cert.MixStateRefIdeal.τ).loc Cert.MixStateRefIdeal.main_arg8) = m' ((c.tc : Thread Cert.MixStateRefIdeal.nD Cert.MixStateRefIdeal.τ).loc Cert.MixStateRefIdeal.main_arg8))

def Claim : Prop :=
  ∃ (hAttention : Cert.Attention.Facts) (hAttentionIdeal : Cert.AttentionIdeal.Facts) (hAttentionRefIdeal : Cert.AttentionRefIdeal.Facts) (hMlp : Cert.Mlp.Facts) (hMlpIdeal : Cert.MlpIdeal.Facts) (hMlpRefIdeal : Cert.MlpRefIdeal.Facts) (hMlpLast : Cert.MlpLast.Facts) (hMlpLastIdeal : Cert.MlpLastIdeal.Facts) (hMlpLastRefIdeal : Cert.MlpLastRefIdeal.Facts) (hOutproj : Cert.Outproj.Facts) (hOutprojIdeal : Cert.OutprojIdeal.Facts) (hOutprojRefIdeal : Cert.OutprojRefIdeal.Facts) (hProjOdd : Cert.ProjOdd.Facts) (hProjOddIdeal : Cert.ProjOddIdeal.Facts) (hProjOddRefIdeal : Cert.ProjOddRefIdeal.Facts) (hProjEven : Cert.ProjEven.Facts) (hProjEvenIdeal : Cert.ProjEvenIdeal.Facts) (hProjEvenRefIdeal : Cert.ProjEvenRefIdeal.Facts) (hProjOddS : Cert.ProjOddS.Facts) (hProjOddSIdeal : Cert.ProjOddSIdeal.Facts) (hProjOddSRefIdeal : Cert.ProjOddSRefIdeal.Facts) (hMlpLastS : Cert.MlpLastS.Facts) (hMlpLastSIdeal : Cert.MlpLastSIdeal.Facts) (hMlpLastSRefIdeal : Cert.MlpLastSRefIdeal.Facts) (hMixS : Cert.MixS.Facts) (hMixSIdeal : Cert.MixSIdeal.Facts) (hMixSRefIdeal : Cert.MixSRefIdeal.Facts) (hMixState : Cert.MixState.Facts) (hMixStateIdeal : Cert.MixStateIdeal.Facts) (hMixStateRefIdeal : Cert.MixStateRefIdeal.Facts) (hPre_gates_below_inf : Cert.Pre_gates_below_inf.Facts),
    quiescent_Attention (hAttention := hAttention)
    ∧ quiescent_AttentionIdeal (hAttentionIdeal := hAttentionIdeal)
    ∧ quiescent_AttentionRefIdeal (hAttentionRefIdeal := hAttentionRefIdeal)
    ∧ quiescent_Mlp (hMlp := hMlp)
    ∧ quiescent_MlpIdeal (hMlpIdeal := hMlpIdeal)
    ∧ quiescent_MlpRefIdeal (hMlpRefIdeal := hMlpRefIdeal)
    ∧ quiescent_MlpLast (hMlpLast := hMlpLast)
    ∧ quiescent_MlpLastIdeal (hMlpLastIdeal := hMlpLastIdeal)
    ∧ quiescent_MlpLastRefIdeal (hMlpLastRefIdeal := hMlpLastRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_ProjOdd (hProjOdd := hProjOdd)
    ∧ quiescent_ProjOddIdeal (hProjOddIdeal := hProjOddIdeal)
    ∧ quiescent_ProjOddRefIdeal (hProjOddRefIdeal := hProjOddRefIdeal)
    ∧ quiescent_ProjEven (hProjEven := hProjEven)
    ∧ quiescent_ProjEvenIdeal (hProjEvenIdeal := hProjEvenIdeal)
    ∧ quiescent_ProjEvenRefIdeal (hProjEvenRefIdeal := hProjEvenRefIdeal)
    ∧ quiescent_ProjOddS (hProjOddS := hProjOddS)
    ∧ quiescent_ProjOddSIdeal (hProjOddSIdeal := hProjOddSIdeal)
    ∧ quiescent_ProjOddSRefIdeal (hProjOddSRefIdeal := hProjOddSRefIdeal)
    ∧ quiescent_MlpLastS (hMlpLastS := hMlpLastS)
    ∧ quiescent_MlpLastSIdeal (hMlpLastSIdeal := hMlpLastSIdeal)
    ∧ quiescent_MlpLastSRefIdeal (hMlpLastSRefIdeal := hMlpLastSRefIdeal)
    ∧ quiescent_MixS (hMixS := hMixS)
    ∧ quiescent_MixSIdeal (hMixSIdeal := hMixSIdeal)
    ∧ quiescent_MixSRefIdeal (hMixSRefIdeal := hMixSRefIdeal)
    ∧ quiescent_MixState (hMixState := hMixState)
    ∧ quiescent_MixStateIdeal (hMixStateIdeal := hMixStateIdeal)
    ∧ quiescent_MixStateIdeal_pre_gates_below_inf (hMixStateIdeal := hMixStateIdeal) (hPre_gates_below_inf := hPre_gates_below_inf)
    ∧ quiescent_MixStateRefIdeal (hMixStateRefIdeal := hMixStateRefIdeal)
    ∧ quiescent_MixStateRefIdeal_pre_gates_below_inf (hMixStateRefIdeal := hMixStateRefIdeal) (hPre_gates_below_inf := hPre_gates_below_inf)
    ∧ preserves_Attention_AttentionIdeal
    ∧ algebraic_AttentionIdeal_AttentionRefIdeal (hAttentionIdeal := hAttentionIdeal) (hAttentionRefIdeal := hAttentionRefIdeal)
    ∧ preserves_Mlp_MlpIdeal
    ∧ algebraic_MlpIdeal_MlpRefIdeal (hMlpIdeal := hMlpIdeal) (hMlpRefIdeal := hMlpRefIdeal)
    ∧ preserves_MlpLast_MlpLastIdeal
    ∧ algebraic_MlpLastIdeal_MlpLastRefIdeal (hMlpLastIdeal := hMlpLastIdeal) (hMlpLastRefIdeal := hMlpLastRefIdeal)
    ∧ preserves_Outproj_OutprojIdeal
    ∧ algebraic_OutprojIdeal_OutprojRefIdeal (hOutprojIdeal := hOutprojIdeal) (hOutprojRefIdeal := hOutprojRefIdeal)
    ∧ preserves_ProjOdd_ProjOddIdeal
    ∧ algebraic_ProjOddIdeal_ProjOddRefIdeal (hProjOddIdeal := hProjOddIdeal) (hProjOddRefIdeal := hProjOddRefIdeal)
    ∧ preserves_ProjEven_ProjEvenIdeal
    ∧ algebraic_ProjEvenIdeal_ProjEvenRefIdeal (hProjEvenIdeal := hProjEvenIdeal) (hProjEvenRefIdeal := hProjEvenRefIdeal)
    ∧ preserves_ProjOddS_ProjOddSIdeal
    ∧ algebraic_ProjOddSIdeal_ProjOddSRefIdeal (hProjOddSIdeal := hProjOddSIdeal) (hProjOddSRefIdeal := hProjOddSRefIdeal)
    ∧ preserves_MlpLastS_MlpLastSIdeal
    ∧ algebraic_MlpLastSIdeal_MlpLastSRefIdeal (hMlpLastSIdeal := hMlpLastSIdeal) (hMlpLastSRefIdeal := hMlpLastSRefIdeal)
    ∧ preserves_MixS_MixSIdeal
    ∧ algebraic_MixSIdeal_MixSRefIdeal (hMixSIdeal := hMixSIdeal) (hMixSRefIdeal := hMixSRefIdeal)
    ∧ preserves_MixState_MixStateIdeal
    ∧ algebraic_MixStateIdeal_MixStateRefIdeal_pre_gates_below_inf (hMixStateIdeal := hMixStateIdeal) (hMixStateRefIdeal := hMixStateRefIdeal) (hPre_gates_below_inf := hPre_gates_below_inf)
-- ==== Pre_gates_below_inf.lean ====
abbrev S256x2560 : Shape := ⟨2, ![256, 2560]⟩
abbrev S256x128 : Shape := ⟨2, ![256, 128]⟩
abbrev S1x128 : Shape := ⟨2, ![1, 128]⟩
abbrev S32x4x128x256 : Shape := ⟨4, ![32, 4, 128, 256]⟩
abbrev S32x1x128 : Shape := ⟨3, ![32, 1, 128]⟩
abbrev S1x512 : Shape := ⟨2, ![1, 512]⟩
abbrev S4x128x128 : Shape := ⟨3, ![4, 128, 128]⟩
abbrev S128x128 : Shape := ⟨2, ![128, 128]⟩
abbrev S32x8x128 : Shape := ⟨3, ![32, 8, 128]⟩
abbrev S32x4x4 : Shape := ⟨3, ![32, 4, 4]⟩
abbrev S1x4 : Shape := ⟨2, ![1, 4]⟩
abbrev S4 : Shape := ⟨1, ![4]⟩
abbrev S1x1x4 : Shape := ⟨3, ![1, 1, 4]⟩
abbrev S_ : Shape := ⟨0, ![]⟩

class Facts : Prop where
  shapeCasts_S256x128_S32x8x128 : S256x128.ShapeCasts S32x8x128
  slices_S32x8x128_S32x4x4_0_0_0 : S32x8x128.Slices ![0, 0, 0] S32x4x4
  slices_S1x128_S1x4_0_0 : S1x128.Slices ![0, 0] S1x4
  shapeCasts_S1x4_S4 : S1x4.ShapeCasts S4
  bcast_S4_S1x1x4_2 : S4.BroadcastsInDim S1x1x4 (![2] : Fin 1 → Fin S1x1x4.rank)
  bcast_S1x1x4_S32x4x4_0_1_2 : S1x1x4.BroadcastsInDim S32x4x4 (![0, 1, 2] : Fin 3 → Fin S32x4x4.rank)
  bcast_S_S32x4x4 : S_.BroadcastsInDim S32x4x4 (![] : Fin 0 → Fin S32x4x4.rank)
  reducesTo_S32x4x4_S_d0_1_2 : S32x4x4.ReducesTo [0, 1, 2] S_
  h_S_ : 0 < S_.numel

variable [Facts]

def fn {F : FTy → Type} [FloatOps F] (main_arg0 : FVec F S256x2560 .f32) (main_arg1 : FVec F S256x128 .f32) (main_arg2 : FVec F S1x128 .f32) (main_arg3 : FVec F S32x4x128x256 .f32) (main_arg4 : FVec F S32x1x128 .f32) (main_arg5 : FVec F S1x512 .f32) (main_arg6 : FVec F S1x512 .f32) (main_arg7 : FVec F S4x128x128 .bf16) (main_arg8 : FVec F S128x128 .f32) : IVec S_ 1 :=
  let main_v0 : FVec F S32x8x128 .f32 := shapeCast S32x8x128 main_arg1 shapeCasts_S256x128_S32x8x128
  let main_v1 : FVec F S32x4x4 .f32 := (extractStridedSlice S32x4x4 ![0, 0, 0] · slices_S32x8x128_S32x4x4_0_0_0) main_v0
  let main_v2 : FVec F S1x4 .f32 := (extractStridedSlice S1x4 ![0, 0] · slices_S1x128_S1x4_0_0) main_arg2
  let main_v3 : FVec F S4 .f32 := shapeCast S4 main_v2 shapeCasts_S1x4_S4
  let main_v4 : FVec F S1x1x4 .f32 := broadcastInDim S1x1x4 ![2] bcast_S4_S1x1x4_2 main_v3
  let main_v5 : FVec F S32x4x4 .f32 := broadcastInDim S32x4x4 ![0, 1, 2] bcast_S1x1x4_S32x4x4_0_1_2 main_v4
  let main_v6 : FVec F S32x4x4 .f32 := addf main_v1 main_v5
  let main_cst : FVec F S_ .f32 := constant S_ .f32 0x7F800000#32
  let main_v7 : FVec F S32x4x4 .f32 := broadcastInDim S32x4x4 ![] bcast_S_S32x4x4 main_cst
  let main_v8 : IVec S32x4x4 1 := cmpf .olt main_v6 main_v7
  let main_c : IVec S_ 1 := constantI S_ 1 1#1
  let main_v9 : IVec S_ 1 := (fun x v => Host.reduce IntOp.andi x v reducesTo_S32x4x4_S_d0_1_2 h_S_) main_v8 main_c
  main_v9
-- ==== Attention.lean ====
abbrev S16384x1024 : Shape := ⟨2, ![16384, 1024]⟩
abbrev S8 : Shape := ⟨1, ![8]⟩
abbrev S256x128 : Shape := ⟨2, ![256, 128]⟩
abbrev S4096x128 : Shape := ⟨2, ![4096, 128]⟩
abbrev S1 : Shape := ⟨1, ![1]⟩
abbrev S128x128 : Shape := ⟨2, ![128, 128]⟩
abbrev S256x1 : Shape := ⟨2, ![256, 1]⟩

abbrev nBuf : Space → Nat
  | .hbm => 5
  | .vmem => 9
  | .smem => 1
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S8, .f32⟩
  | .hbm, ⟨4, _⟩ => ⟨S16384x1024, .bf16⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S256x128, .bf16⟩
  | .local _ .vmem, ⟨8, _⟩ => ⟨S256x128, .f32⟩
  | .local _ .smem, ⟨0, _⟩ => ⟨S8, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 8, 16], ![false, false, false]⟩

def k0_off1 (i : grid0.Coords) : Fin 1 → Nat :=
  let arg1 : BitVec 32 := BitVec.ofNat 32 (i 1).val
  let v0 : Index := Scalar.indexCast arg1
  ![v0.toNat]
def k0_mult1 (i : grid0.Coords) : BitVec 32 :=
  let arg2 : BitVec 32 := BitVec.ofNat 32 (i 2).val
  let c2_i32 : BitVec 32 := 2#32
  let v17 : BitVec 32 := Scalar.muli arg2 c2_i32
  let c1_i32 : BitVec 32 := 1#32
  let v18 : BitVec 32 := Scalar.addi v17 c1_i32
  let c128_i32_6 : BitVec 32 := 128#32
  let v22 : BitVec 32 := Scalar.muli v18 c128_i32_6
  v22
def k0_off2 (i : grid0.Coords) (c1_i32 : BitVec 32) : Fin 2 → Nat :=
  let arg2 : BitVec 32 := BitVec.ofNat 32 (i 2).val
  let c2_i32 : BitVec 32 := 2#32
  let v17 : BitVec 32 := Scalar.muli arg2 c2_i32
  let v18 : BitVec 32 := Scalar.addi v17 c1_i32
  let c128_i32_6 : BitVec 32 := 128#32
  let v22 : BitVec 32 := Scalar.muli v18 c128_i32_6
  let v23 : BitVec 32 := v22
  let v24 : Index := Scalar.indexCast v23
  let c0_7 : Index := 0#32
  ![v24.toNat, 0]
def k0_mult2 (i : grid0.Coords) : BitVec 32 :=
  let arg2 : BitVec 32 := BitVec.ofNat 32 (i 2).val
  let c2_i32_21 : BitVec 32 := 2#32
  let v63 : BitVec 32 := Scalar.muli arg2 c2_i32_21
  let c0_i32 : BitVec 32 := 0#32
  let v64 : BitVec 32 := Scalar.addi v63 c0_i32
  let c128_i32_23 : BitVec 32 := 128#32
  let v68 : BitVec 32 := Scalar.muli v64 c128_i32_23
  v68
@[reducible] def k0_t1_loop (i : grid0.Coords) : Scf.Loop 32 :=
  let c0_i32_39 : BitVec 32 := 0#32
  let arg2 : BitVec 32 := BitVec.ofNat 32 (i 2).val
  let c2_i32_38 : BitVec 32 := 2#32
  let v109 : BitVec 32 := Scalar.muli arg2 c2_i32_38
  let v110 : BitVec 32 := Scalar.subi v109 c0_i32_39
  let c1_i32_40 : BitVec 32 := 1#32
  let v112 : BitVec 32 := Scalar.divsi v110 c1_i32_40
  let v113 : BitVec 32 := Scalar.muli v112 c1_i32_40
  let v114 : BitVec 32 := Scalar.addi c0_i32_39 v113
  let c1_i32_41 : BitVec 32 := 1#32
  ⟨c0_i32_39, v114, c1_i32_41⟩
def k0_mult3 (i : grid0.Coords) (k0_t1 : Fin (k0_t1_loop i).trips) : BitVec 32 :=
  let arg2 : BitVec 32 := BitVec.ofNat 32 (i 2).val
  let c2_i32_47 : BitVec 32 := 2#32
  let v120 : BitVec 32 := Scalar.muli arg2 c2_i32_47
  let c1_i32_48 : BitVec 32 := 1#32
  let v121 : BitVec 32 := Scalar.subi v120 c1_i32_48
  let c0_i32_39 : BitVec 32 := 0#32
  let c1_i32_41 : BitVec 32 := 1#32
  let arg9 : BitVec 32 := Scf.iv c0_i32_39 c1_i32_41 k0_t1
  let v122 : BitVec 32 := Scalar.subi v121 arg9
  let c128_i32_49 : BitVec 32 := 128#32
  let v123 : BitVec 32 := Scalar.muli v122 c128_i32_49
  v123
def k0_off3 (i : grid0.Coords) (k0_t1 : Fin (k0_t1_loop i).trips) : Fin 2 → Nat :=
  let arg2 : BitVec 32 := BitVec.ofNat 32 (i 2).val
  let c2_i32_47 : BitVec 32 := 2#32
  let v120 : BitVec 32 := Scalar.muli arg2 c2_i32_47
  let c1_i32_48 : BitVec 32 := 1#32
  let v121 : BitVec 32 := Scalar.subi v120 c1_i32_48
  let c0_i32_39 : BitVec 32 := 0#32
  let c1_i32_41 : BitVec 32 := 1#32
  let arg9 : BitVec 32 := Scf.iv c0_i32_39 c1_i32_41 k0_t1
  let v122 : BitVec 32 := Scalar.subi v121 arg9
  let c128_i32_49 : BitVec 32 := 128#32
  let v123 : BitVec 32 := Scalar.muli v122 c128_i32_49
  let v124 : BitVec 32 := v123
  let v125 : Index := Scalar.indexCast v124
  let c0_50 : Index := 0#32
  ![v125.toNat, 0]
@[reducible] def k0_t2_loop (i : grid0.Coords) : Scf.Loop 32 :=
  let c0_i32_39 : BitVec 32 := 0#32
  let arg2 : BitVec 32 := BitVec.ofNat 32 (i 2).val
  let c2_i32_38 : BitVec 32 := 2#32
  let v109 : BitVec 32 := Scalar.muli arg2 c2_i32_38
  let v110 : BitVec 32 := Scalar.subi v109 c0_i32_39
  let c1_i32_40 : BitVec 32 := 1#32
  let v112 : BitVec 32 := Scalar.divsi v110 c1_i32_40
  let v113 : BitVec 32 := Scalar.muli v112 c1_i32_40
  let v114 : BitVec 32 := Scalar.addi c0_i32_39 v113
  let v111 : BitVec 32 := Scalar.addi c0_i32_39 v110
  let c1_i32_42 : BitVec 32 := 1#32
  ⟨v114, v111, c1_i32_42⟩
def k0_mult4 (i : grid0.Coords) (k0_t2 : Fin (k0_t2_loop i).trips) : BitVec 32 :=
  let arg2 : BitVec 32 := BitVec.ofNat 32 (i 2).val
  let c2_i32_47 : BitVec 32 := 2#32
  let v120 : BitVec 32 := Scalar.muli arg2 c2_i32_47
  let c1_i32_48 : BitVec 32 := 1#32
  let v121 : BitVec 32 := Scalar.subi v120 c1_i32_48
  let c0_i32_39 : BitVec 32 := 0#32
  let c2_i32_38 : BitVec 32 := 2#32
  let v109 : BitVec 32 := Scalar.muli arg2 c2_i32_38
  let v110 : BitVec 32 := Scalar.subi v109 c0_i32_39
  let c1_i32_40 : BitVec 32 := 1#32
  let v112 : BitVec 32 := Scalar.divsi v110 c1_i32_40
  let v113 : BitVec 32 := Scalar.muli v112 c1_i32_40
  let v114 : BitVec 32 := Scalar.addi c0_i32_39 v113
  let c1_i32_42 : BitVec 32 := 1#32
  let arg9 : BitVec 32 := Scf.iv v114 c1_i32_42 k0_t2
  let v122 : BitVec 32 := Scalar.subi v121 arg9
  let c128_i32_49 : BitVec 32 := 128#32
  let v123 : BitVec 32 := Scalar.muli v122 c128_i32_49
  v123
def k0_off4 (i : grid0.Coords) (k0_t2 : Fin (k0_t2_loop i).trips) : Fin 2 → Nat :=
  let arg2 : BitVec 32 := BitVec.ofNat 32 (i 2).val
  let c2_i32_47 : BitVec 32 := 2#32
  let v120 : BitVec 32 := Scalar.muli arg2 c2_i32_47
  let c1_i32_48 : BitVec 32 := 1#32
  let v121 : BitVec 32 := Scalar.subi v120 c1_i32_48
  let c0_i32_39 : BitVec 32 := 0#32
  let c2_i32_38 : BitVec 32 := 2#32
  let v109 : BitVec 32 := Scalar.muli arg2 c2_i32_38
  let v110 : BitVec 32 := Scalar.subi v109 c0_i32_39
  let c1_i32_40 : BitVec 32 := 1#32
  let v112 : BitVec 32 := Scalar.divsi v110 c1_i32_40
  let v113 : BitVec 32 := Scalar.muli v112 c1_i32_40
  let v114 : BitVec 32 := Scalar.addi c0_i32_39 v113
  let c1_i32_42 : BitVec 32 := 1#32
  let arg9 : BitVec 32 := Scf.iv v114 c1_i32_42 k0_t2
  let v122 : BitVec 32 := Scalar.subi v121 arg9
  let c128_i32_49 : BitVec 32 := 128#32
  let v123 : BitVec 32 := Scalar.muli v122 c128_i32_49
  let v124 : BitVec 32 := v123
  let v125 : Index := Scalar.indexCast v124
  let c0_50 : Index := 0#32
  ![v125.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttentionRefIdeal.lean ====
abbrev S16384x1024 : Shape := ⟨2, ![16384, 1024]⟩
abbrev S8 : Shape := ⟨1, ![8]⟩
abbrev S4x4096x8x128 : Shape := ⟨4, ![4, 4096, 8, 128]⟩
abbrev S1x8x1x1 : Shape := ⟨4, ![1, 8, 1, 1]⟩
abbrev S4096 : Shape := ⟨1, ![4096]⟩
abbrev S4x8x4096x4096 : Shape := ⟨4, ![4, 8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S4x8x128x4096 : Shape := ⟨4, ![4, 8, 128, 4096]⟩

abbrev nBuf : Space → Nat
  | .hbm => 77
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S8, .f32⟩
  | .hbm, ⟨4, _⟩ => ⟨S16384x1024, .f32⟩
  | .hbm, ⟨5, _⟩ => ⟨S4x4096x8x128, .f32⟩
  | .hbm, ⟨6, _⟩ => ⟨S16384x1024, .f32⟩
  | .hbm, ⟨7, _⟩ => ⟨S4x4096x8x128, .f32⟩
  | .hbm, ⟨8, _⟩ => ⟨S16384x1024, .f32⟩
  | .hbm, ⟨9, _⟩ => ⟨S4x4096x8x128, .f32⟩
  | .hbm, ⟨10, _⟩ => ⟨S1x8x1x1, .f32⟩
  | .hbm, ⟨11, _⟩ => ⟨S4096, .i32⟩
  | .hbm, ⟨12, _⟩ => ⟨S4096, .i32⟩
  | .hbm, ⟨13, _⟩ => ⟨S4x8x4096x4096, .f32⟩
  | .hbm, ⟨14, _⟩ => ⟨S_, .f32⟩
  | .hbm, ⟨15, _⟩ => ⟨S4x8x4096x4096, .f32⟩
  | .hbm, ⟨16, _⟩ => ⟨S4x8x4096x4096, .f32⟩
  | .hbm, ⟨17, _⟩ => ⟨S4x8x4096x4096, .f32⟩
  | .hbm, ⟨18, _⟩ => ⟨S4x8x4096x4096, .f32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S4x8x4096x4096, .f32⟩
  | .hbm, ⟨25, _⟩ => ⟨S4x8x4096x4096, .f32⟩
  | .hbm, ⟨26, _⟩ => ⟨S_, .f32⟩
  | .hbm, ⟨27, _⟩ => ⟨S4x8x4096x4096, .f32⟩
  | .hbm, ⟨28, _⟩ => ⟨S4x8x4096x4096, .f32⟩
  | .hbm, ⟨29, _⟩ => ⟨S4x8x4096x4096, .f32⟩
  | .hbm, ⟨30, _⟩ => ⟨S4x8x4096x4096, .f32⟩
  | .hbm, ⟨31, _⟩ => ⟨S4x8x4096x4096, .i1⟩
  | .hbm, ⟨32, _⟩ => ⟨S4x8x4096x4096, .f32⟩
  | .hbm, ⟨33, _⟩ => ⟨S4x8x4096x4096, .f32⟩
  | .hbm, ⟨34, _⟩ => ⟨S4x8x4096x4096, .f32⟩
  | .hbm, ⟨35, _⟩ => ⟨S4x8x4096x4096, .f32⟩
  | .hbm, ⟨36, _⟩ => ⟨S4x8x4096x4096, .f32⟩
  | .hbm, ⟨37, _⟩ => ⟨S4x8x4096x4096, .f32⟩
  | .hbm, ⟨38, _⟩ => ⟨S4x8x4096x4096, .f32⟩
  | .hbm, ⟨39, _⟩ => ⟨S4x8x4096x4096, .f32⟩
  | .hbm, ⟨40, _⟩ => ⟨S4x8x4096x4096, .f32⟩
  | .hbm, ⟨41, _⟩ => ⟨S_, .f32⟩
  | .hbm, ⟨42, _⟩ => ⟨S_, .f32⟩
  | .hbm, ⟨43, _⟩ => ⟨S4x8x4096x4096, .i1⟩
  | .hbm, ⟨44, _⟩ => ⟨S4x8x4096x4096, .f32⟩
  | .hbm, ⟨45, _⟩ => ⟨S4x8x4096x4096, .f32⟩
  | .hbm, ⟨46, _⟩ => ⟨S_, .f32⟩
  | .hbm, ⟨47, _⟩ => ⟨S_, .f32⟩
  | .hbm, ⟨48, _⟩ => ⟨S4x8x4096x4096, .f32⟩
  | .hbm, ⟨49, _⟩ => ⟨S4x8x4096x4096, .f32⟩
  | .hbm, ⟨50, _⟩ => ⟨S4x8x4096x4096, .f32⟩
  | .hbm, ⟨51, _⟩ => ⟨S_, .f32⟩
  | .hbm, ⟨52, _⟩ => ⟨S4x8x4096x4096, .f32⟩
  | .hbm, ⟨53, _⟩ => ⟨S4x8x4096x4096, .f32⟩
  | .hbm, ⟨54, _⟩ => ⟨S4x8x4096x4096, .f32⟩
  | .hbm, ⟨55, _⟩ => ⟨S4x8x4096x4096, .f32⟩
  | .hbm, ⟨56, _⟩ => ⟨S4x8x4096x4096, .i1⟩
  | .hbm, ⟨57, _⟩ => ⟨S4x8x4096x4096, .f32⟩
  | .hbm, ⟨58, _⟩ => ⟨S4x8x4096x4096, .f32⟩
  | .hbm, ⟨59, _⟩ => ⟨S4x8x4096x4096, .f32⟩
  | .hbm, ⟨60, _⟩ => ⟨S4x8x4096x4096, .f32⟩
  | .hbm, ⟨61, _⟩ => ⟨S4x8x4096x4096, .f32⟩
  | .hbm, ⟨62, _⟩ => ⟨S4x8x4096x4096, .f32⟩
  | .hbm, ⟨63, _⟩ => ⟨S4x8x4096x4096, .f32⟩
  | .hbm, ⟨64, _⟩ => ⟨S4x8x4096x4096, .f32⟩
  | .hbm, ⟨65, _⟩ => ⟨S4x8x4096x4096, .f32⟩
  | .hbm, ⟨66, _⟩ => ⟨S4x8x4096x4096, .f32⟩
  | .hbm, ⟨67, _⟩ => ⟨S4x8x4096x4096, .f32⟩
  | .hbm, ⟨68, _⟩ => ⟨S_, .f32⟩
  | .hbm, ⟨69, _⟩ => ⟨S_, .f32⟩
  | .hbm, ⟨70, _⟩ => ⟨S4x8x4096x4096, .i1⟩
  | .hbm, ⟨71, _⟩ => ⟨S4x8x4096x4096, .f32⟩
  | .hbm, ⟨72, _⟩ => ⟨S4x8x4096x4096, .f32⟩
  | .hbm, ⟨73, _⟩ => ⟨S4x8x128x4096, .f32⟩
  | .hbm, ⟨74, _⟩ => ⟨S4x4096x8x128, .f32⟩
  | .hbm, ⟨75, _⟩ => ⟨S16384x1024, .f32⟩
  | .hbm, ⟨76, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v20 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v21 : Ref sig .tc := ⟨.hbm, 45, rfl⟩
abbrev main_call2_cst : Ref sig .tc := ⟨.hbm, 46, rfl⟩
abbrev main_call2_v0 : Ref sig .tc := ⟨.hbm, 47, rfl⟩
abbrev main_v22 : Ref sig .tc := ⟨.hbm, 48, rfl⟩
abbrev main_v23 : Ref sig .tc := ⟨.hbm, 49, rfl⟩
abbrev main_call3_v0 : Ref sig .tc := ⟨.hbm, 50, rfl⟩
abbrev main_call3_call0_cst : Ref sig .tc := ⟨.hbm, 51, rfl⟩
abbrev main_call3_call0_v0 : Ref sig .tc := ⟨.hbm, 52, rfl⟩
abbrev main_call3_call0_v1 : Ref sig .tc := ⟨.hbm, 53, rfl⟩
abbrev main_call3_call0_v2 : Ref sig .tc := ⟨.hbm, 54, rfl⟩
abbrev main_call3_call0_v3 : Ref sig .tc := ⟨.hbm, 55, rfl⟩
abbrev main_call3_call0_v4 : Ref sig .tc := ⟨.hbm, 56, rfl⟩
abbrev main_call3_call0_v5 : Ref sig .tc := ⟨.hbm, 57, rfl⟩
abbrev main_call3_call0_v6 : Ref sig .tc := ⟨.hbm, 58, rfl⟩
abbrev main_call3_call0_v7 : Ref sig .tc := ⟨.hbm, 59, rfl⟩
abbrev main_call3_call0_v8 : Ref sig .tc := ⟨.hbm, 60, rfl⟩
abbrev main_call3_call0_v9 : Ref sig .tc := ⟨.hbm, 61, rfl⟩
abbrev main_call3_call0_v10 : Ref sig .tc := ⟨.hbm, 62, rfl⟩
abbrev main_call3_call0_v11 : Ref sig .tc := ⟨.hbm, 63, rfl⟩
abbrev main_call3_v1 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_cst_1 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩

abbrev nD : Nat := 1
abbrev τ : Topo := Topo.v7x

variable {F : FTy → Type} [FloatOps F]
-- ==== Mlp.lean ====
abbrev S16384x1024 : Shape := ⟨2, ![16384, 1024]⟩
abbrev S1024 : Shape := ⟨1, ![1024]⟩
abbrev S4x1x1024 : Shape := ⟨3, ![4, 1, 1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S1x1x1024 : Shape := ⟨3, ![1, 1, 1024]⟩
abbrev S1024x512 : Shape := ⟨2, ![1024, 512]⟩
abbrev S512 : Shape := ⟨1, ![512]⟩
abbrev S512x1 : Shape := ⟨2, ![512, 1]⟩
abbrev S512x512 : Shape := ⟨2, ![512, 512]⟩

abbrev nBuf : Space → Nat
  | .hbm => 11
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S1024x4096, .bf16⟩
  | .hbm, ⟨6, _⟩ => ⟨S4096x1024, .bf16⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x512, .bf16⟩
  | .local _ .vmem, ⟨10, _⟩ => ⟨S1024x512, .bf16⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MlpRefIdeal.lean ====
abbrev S16384x1024 : Shape := ⟨2, ![16384, 1024]⟩
abbrev S1024 : Shape := ⟨1, ![1024]⟩
abbrev S4x1x1024 : Shape := ⟨3, ![4, 1, 1024]⟩
abbrev S1024x4096 : Shape := ⟨2, ![1024, 4096]⟩
abbrev S4096x1024 : Shape := ⟨2, ![4096, 1024]⟩
abbrev S4x4096x1024 : Shape := ⟨3, ![4, 4096, 1024]⟩
abbrev S4x1024 : Shape := ⟨2, ![4, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S1024x4096, .bf16⟩
  | .hbm, ⟨6, _⟩ => ⟨S4096x1024, .bf16⟩
  | .hbm, ⟨7, _⟩ => ⟨S1024, .f32⟩
  | .hbm, ⟨8, _⟩ => ⟨S4x4096x1024, .f32⟩
  | .hbm, ⟨9, _⟩ => ⟨S4x1024, .f32⟩
  | .hbm, ⟨10, _⟩ => ⟨S4x1024, .f32⟩
  | .hbm, ⟨11, _⟩ => ⟨S4x4096x1024, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x1024, .f32⟩
  | .hbm, ⟨23, _⟩ => ⟨S4x4096x1024, .f32⟩
  | .hbm, ⟨24, _⟩ => ⟨S1x1x1024, .f32⟩
  | .hbm, ⟨25, _⟩ => ⟨S4x4096x1024, .f32⟩
  | .hbm, ⟨26, _⟩ => ⟨S4x4096x1024, .f32⟩
  | .hbm, ⟨27, _⟩ => ⟨S4x1x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x4096x1024, .f32⟩
  | .hbm, ⟨32, _⟩ => ⟨S4x4096x1024, .f32⟩
  | .hbm, ⟨33, _⟩ => ⟨S4x1x1024, .f32⟩
  | .hbm, ⟨34, _⟩ => ⟨S4x4096x1024, .f32⟩
  | .hbm, ⟨35, _⟩ => ⟨S4x4096x1024, .f32⟩
  | .hbm, ⟨36, _⟩ => ⟨S4x1024, .f32⟩
  | .hbm, ⟨37, _⟩ => ⟨S4x1x1024, .f32⟩
  | .hbm, ⟨38, _⟩ => ⟨S1024x4096, .f32⟩
  | .hbm, ⟨39, _⟩ => ⟨S4096x1024, .f32⟩
  | .hbm, ⟨40, _⟩ => ⟨S4x4096x4096, .f32⟩
  | .hbm, ⟨41, _⟩ => ⟨S_, .f32⟩
  | .hbm, ⟨42, _⟩ => ⟨S4x4096x4096, .f32⟩
  | .hbm, ⟨43, _⟩ => ⟨S4x4096x4096, .f32⟩
  | .hbm, ⟨44, _⟩ => ⟨S4x4096x4096, .f32⟩
  | .hbm, ⟨45, _⟩ => ⟨S4x4096x1024, .f32⟩
  | .hbm, ⟨46, _⟩ => ⟨S4x4096x1024, .f32⟩
  | .hbm, ⟨47, _⟩ => ⟨S4x4096x1024, .f32⟩
  | .hbm, ⟨48, _⟩ => ⟨S4x4096x1024, .f32⟩
  | .hbm, ⟨49, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_cst : Ref sig .tc := ⟨.hbm, 41, rfl⟩
abbrev main_call0_v0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== MlpLast.lean ====
abbrev S16384x1024 : Shape := ⟨2, ![16384, 1024]⟩
abbrev S1024 : Shape := ⟨1, ![1024]⟩
abbrev S4x1x1024 : Shape := ⟨3, ![4, 1, 1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S1x1x1024 : Shape := ⟨3, ![1, 1, 1024]⟩
abbrev S1024x512 : Shape := ⟨2, ![1024, 512]⟩
abbrev S512 : Shape := ⟨1, ![512]⟩
abbrev S512x1 : Shape := ⟨2, ![512, 1]⟩
abbrev S512x512 : Shape := ⟨2, ![512, 512]⟩

abbrev nBuf : Space → Nat
  | .hbm => 11
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S1024x4096, .bf16⟩
  | .hbm, ⟨6, _⟩ => ⟨S4096x1024, .bf16⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x512, .bf16⟩
  | .local _ .vmem, ⟨10, _⟩ => ⟨S1024x512, .bf16⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MlpLastRefIdeal.lean ====
abbrev S16384x1024 : Shape := ⟨2, ![16384, 1024]⟩
abbrev S1024 : Shape := ⟨1, ![1024]⟩
abbrev S4x1x1024 : Shape := ⟨3, ![4, 1, 1024]⟩
abbrev S1024x4096 : Shape := ⟨2, ![1024, 4096]⟩
abbrev S4096x1024 : Shape := ⟨2, ![4096, 1024]⟩
abbrev S4x4096x1024 : Shape := ⟨3, ![4, 4096, 1024]⟩
abbrev S4x1024 : Shape := ⟨2, ![4, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S1024x4096, .bf16⟩
  | .hbm, ⟨6, _⟩ => ⟨S4096x1024, .bf16⟩
  | .hbm, ⟨7, _⟩ => ⟨S1024, .f32⟩
  | .hbm, ⟨8, _⟩ => ⟨S4x4096x1024, .f32⟩
  | .hbm, ⟨9, _⟩ => ⟨S4x1024, .f32⟩
  | .hbm, ⟨10, _⟩ => ⟨S4x1024, .f32⟩
  | .hbm, ⟨11, _⟩ => ⟨S4x4096x1024, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x1024, .f32⟩
  | .hbm, ⟨23, _⟩ => ⟨S4x4096x1024, .f32⟩
  | .hbm, ⟨24, _⟩ => ⟨S1x1x1024, .f32⟩
  | .hbm, ⟨25, _⟩ => ⟨S4x4096x1024, .f32⟩
  | .hbm, ⟨26, _⟩ => ⟨S4x4096x1024, .f32⟩
  | .hbm, ⟨27, _⟩ => ⟨S4x1x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x4096x1024, .f32⟩
  | .hbm, ⟨32, _⟩ => ⟨S4x4096x1024, .f32⟩
  | .hbm, ⟨33, _⟩ => ⟨S4x1x1024, .f32⟩
  | .hbm, ⟨34, _⟩ => ⟨S4x4096x1024, .f32⟩
  | .hbm, ⟨35, _⟩ => ⟨S4x4096x1024, .f32⟩
  | .hbm, ⟨36, _⟩ => ⟨S4x1024, .f32⟩
  | .hbm, ⟨37, _⟩ => ⟨S4x1x1024, .f32⟩
  | .hbm, ⟨38, _⟩ => ⟨S1024x4096, .f32⟩
  | .hbm, ⟨39, _⟩ => ⟨S4096x1024, .f32⟩
  | .hbm, ⟨40, _⟩ => ⟨S4x4096x4096, .f32⟩
  | .hbm, ⟨41, _⟩ => ⟨S_, .f32⟩
  | .hbm, ⟨42, _⟩ => ⟨S4x4096x4096, .f32⟩
  | .hbm, ⟨43, _⟩ => ⟨S4x4096x4096, .f32⟩
  | .hbm, ⟨44, _⟩ => ⟨S4x4096x4096, .f32⟩
  | .hbm, ⟨45, _⟩ => ⟨S4x4096x1024, .f32⟩
  | .hbm, ⟨46, _⟩ => ⟨S4x4096x1024, .f32⟩
  | .hbm, ⟨47, _⟩ => ⟨S4x4096x1024, .f32⟩
  | .hbm, ⟨48, _⟩ => ⟨S4x4096x1024, .f32⟩
  | .hbm, ⟨49, _⟩ => ⟨S4x4096x1024, .f32⟩
  | .hbm, ⟨50, _⟩ => ⟨S_, .f32⟩
  | .hbm, ⟨51, _⟩ => ⟨S4x4096, .f32⟩
  | .hbm, ⟨52, _⟩ => ⟨S4x4096x1, .f32⟩
  | .hbm, ⟨53, _⟩ => ⟨S_, .f32⟩
  | .hbm, ⟨54, _⟩ => ⟨S4x4096x1, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S4x4096x1, .f32⟩
  | .hbm, ⟨60, _⟩ => ⟨S4x4096x1024, .f32⟩
  | .hbm, ⟨61, _⟩ => ⟨S4x4096x1024, .f32⟩
  | .hbm, ⟨62, _⟩ => ⟨S1x1x1024, .f32⟩
  | .hbm, ⟨63, _⟩ => ⟨S4x4096x1024, .f32⟩
  | .hbm, ⟨64, _⟩ => ⟨S4x4096x1024, .f32⟩
  | .hbm, ⟨65, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_cst : Ref sig .tc := ⟨.hbm, 41, rfl⟩
abbrev main_call0_v0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Outproj.lean ====
abbrev S16384x1024 : Shape := ⟨2, ![16384, 1024]⟩
abbrev S1024x1024 : Shape := ⟨2, ![1024, 1024]⟩
abbrev S4x1x1024 : Shape := ⟨3, ![4, 1, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S4x1x1024, .f32⟩
  | .hbm, ⟨4, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutprojRefIdeal.lean ====
abbrev S16384x1024 : Shape := ⟨2, ![16384, 1024]⟩
abbrev S1024x1024 : Shape := ⟨2, ![1024, 1024]⟩
abbrev S4x1x1024 : Shape := ⟨3, ![4, 1, 1024]⟩
abbrev S4x4096x1024 : Shape := ⟨3, ![4, 4096, 1024]⟩
abbrev S4x1024 : Shape := ⟨2, ![4, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S4x1x1024, .f32⟩
  | .hbm, ⟨4, _⟩ => ⟨S16384x1024, .f32⟩
  | .hbm, ⟨5, _⟩ => ⟨S4x4096x1024, .f32⟩
  | .hbm, ⟨6, _⟩ => ⟨S4x4096x1024, .f32⟩
  | .hbm, ⟨7, _⟩ => ⟨S4x1024, .f32⟩
  | .hbm, ⟨8, _⟩ => ⟨S4x1x1024, .f32⟩
  | .hbm, ⟨9, _⟩ => ⟨S1024x1024, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== ProjOdd.lean ====
abbrev S16384x1024 : Shape := ⟨2, ![16384, 1024]⟩
abbrev S1024 : Shape := ⟨1, ![1024]⟩
abbrev S4x1x1024 : Shape := ⟨3, ![4, 1, 1024]⟩
abbrev S1024x3072 : Shape := ⟨2, ![1024, 3072]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 11
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x3072, .bf16⟩
  | .hbm, ⟨5, _⟩ => ⟨S1x1024, .f32⟩
  | .hbm, ⟨6, _⟩ => ⟨S16384x1024, .bf16⟩
  | .hbm, ⟨7, _⟩ => ⟨S16384x1024, .f32⟩
  | .hbm, ⟨8, _⟩ => ⟨S16384x1024, .f32⟩
  | .hbm, ⟨9, _⟩ => ⟨S16384x1024, .bf16⟩
  | .hbm, ⟨10, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjOddRefIdeal.lean ====
abbrev S16384x1024 : Shape := ⟨2, ![16384, 1024]⟩
abbrev S1024 : Shape := ⟨1, ![1024]⟩
abbrev S4x1x1024 : Shape := ⟨3, ![4, 1, 1024]⟩
abbrev S1024x3072 : Shape := ⟨2, ![1024, 3072]⟩
abbrev S4x4096x1024 : Shape := ⟨3, ![4, 4096, 1024]⟩
abbrev S4x1024 : Shape := ⟨2, ![4, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3072 : Shape := ⟨3, ![4, 4096, 3072]⟩
abbrev S16384x3072 : Shape := ⟨2, ![16384, 3072]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x3072, .bf16⟩
  | .hbm, ⟨5, _⟩ => ⟨S4x4096x1024, .f32⟩
  | .hbm, ⟨6, _⟩ => ⟨S4x1024, .f32⟩
  | .hbm, ⟨7, _⟩ => ⟨S4x1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S4x1x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x4096x1024, .f32⟩
  | .hbm, ⟨29, _⟩ => ⟨S4x4096x1024, .f32⟩
  | .hbm, ⟨30, _⟩ => ⟨S4x1x1024, .f32⟩
  | .hbm, ⟨31, _⟩ => ⟨S4x4096x1024, .f32⟩
  | .hbm, ⟨32, _⟩ => ⟨S4x4096x1024, .f32⟩
  | .hbm, ⟨33, _⟩ => ⟨S1024x3072, .f32⟩
  | .hbm, ⟨34, _⟩ => ⟨S4x4096x3072, .f32⟩
  | .hbm, ⟨35, _⟩ => ⟨S16384x3072, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .bf16⟩
  | .hbm, ⟨40, _⟩ => ⟨S16384x1024, .bf16⟩
  | .hbm, ⟨41, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== ProjEven.lean ====
abbrev S16384x1024 : Shape := ⟨2, ![16384, 1024]⟩
abbrev S1024 : Shape := ⟨1, ![1024]⟩
abbrev S4x1x1024 : Shape := ⟨3, ![4, 1, 1024]⟩
abbrev S1024x2688 : Shape := ⟨2, ![1024, 2688]⟩
abbrev S1x1024 : Shape := ⟨2, ![1, 1024]⟩
abbrev S16384x2560 : Shape := ⟨2, ![16384, 2560]⟩
abbrev S16384x128 : Shape := ⟨2, ![16384, 128]⟩
abbrev S512x1024 : Shape := ⟨2, ![512, 1024]⟩
abbrev S1x1x1024 : Shape := ⟨3, ![1, 1, 1024]⟩
abbrev S512x2560 : Shape := ⟨2, ![512, 2560]⟩
abbrev S512x128 : Shape := ⟨2, ![512, 128]⟩
abbrev S512 : Shape := ⟨1, ![512]⟩
abbrev S512x1 : Shape := ⟨2, ![512, 1]⟩
abbrev S1024x2560 : Shape := ⟨2, ![1024, 2560]⟩
abbrev S1024x128 : Shape := ⟨2, ![1024, 128]⟩

abbrev nBuf : Space → Nat
  | .hbm => 8
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x2688, .bf16⟩
  | .hbm, ⟨5, _⟩ => ⟨S1x1024, .f32⟩
  | .hbm, ⟨6, _⟩ => ⟨S16384x2560, .f32⟩
  | .hbm, ⟨7, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2688, .bf16⟩
  | .local _ .vmem, ⟨8, _⟩ => ⟨S512x2560, .f32⟩
  | .local _ .vmem, ⟨9, _⟩ => ⟨S512x2560, .f32⟩
  | .local _ .vmem, ⟨10, _⟩ => ⟨S512x128, .f32⟩
  | .local _ .vmem, ⟨11, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2688 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjEvenRefIdeal.lean ====
abbrev S16384x1024 : Shape := ⟨2, ![16384, 1024]⟩
abbrev S1024 : Shape := ⟨1, ![1024]⟩
abbrev S4x1x1024 : Shape := ⟨3, ![4, 1, 1024]⟩
abbrev S1024x2688 : Shape := ⟨2, ![1024, 2688]⟩
abbrev S4x4096x1024 : Shape := ⟨3, ![4, 4096, 1024]⟩
abbrev S4x1024 : Shape := ⟨2, ![4, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2688 : Shape := ⟨3, ![4, 4096, 2688]⟩
abbrev S16384x2688 : Shape := ⟨2, ![16384, 2688]⟩
abbrev S16384x2560 : Shape := ⟨2, ![16384, 2560]⟩
abbrev S16384x128 : Shape := ⟨2, ![16384, 128]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x2688, .bf16⟩
  | .hbm, ⟨5, _⟩ => ⟨S4x4096x1024, .f32⟩
  | .hbm, ⟨6, _⟩ => ⟨S4x1024, .f32⟩
  | .hbm, ⟨7, _⟩ => ⟨S4x1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S4x1x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x4096x1024, .f32⟩
  | .hbm, ⟨29, _⟩ => ⟨S4x4096x1024, .f32⟩
  | .hbm, ⟨30, _⟩ => ⟨S4x1x1024, .f32⟩
  | .hbm, ⟨31, _⟩ => ⟨S4x4096x1024, .f32⟩
  | .hbm, ⟨32, _⟩ => ⟨S4x4096x1024, .f32⟩
  | .hbm, ⟨33, _⟩ => ⟨S1024x2688, .f32⟩
  | .hbm, ⟨34, _⟩ => ⟨S4x4096x2688, .f32⟩
  | .hbm, ⟨35, _⟩ => ⟨S16384x2688, .f32⟩
  | .hbm, ⟨36, _⟩ => ⟨S16384x2560, .f32⟩
  | .hbm, ⟨37, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== ProjOddS.lean ====
abbrev S256x1024 : Shape := ⟨2, ![256, 1024]⟩
abbrev S1024 : Shape := ⟨1, ![1024]⟩
abbrev S32x1024 : Shape := ⟨2, ![32, 1024]⟩
abbrev S1024x3072 : Shape := ⟨2, ![1024, 3072]⟩
abbrev S32x8x1024 : Shape := ⟨3, ![32, 8, 1024]⟩
abbrev S1x256x1024 : Shape := ⟨3, ![1, 256, 1024]⟩
abbrev S1x1024 : Shape := ⟨2, ![1, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 15
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S1024x3072, .bf16⟩
  | .hbm, ⟨5, _⟩ => ⟨S32x8x1024, .f32⟩
  | .hbm, ⟨6, _⟩ => ⟨S256x1024, .f32⟩
  | .hbm, ⟨7, _⟩ => ⟨S1x256x1024, .f32⟩
  | .hbm, ⟨8, _⟩ => ⟨S32x8x1024, .f32⟩
  | .hbm, ⟨9, _⟩ => ⟨S256x1024, .f32⟩
  | .hbm, ⟨10, _⟩ => ⟨S1x256x1024, .f32⟩
  | .hbm, ⟨11, _⟩ => ⟨S1x1024, .f32⟩
  | .hbm, ⟨12, _⟩ => ⟨S256x1024, .f32⟩
  | .hbm, ⟨13, _⟩ => ⟨S256x1024, .f32⟩
  | .hbm, ⟨14, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1x256x1024, .f32⟩
  | .local _ .vmem, ⟨3, _⟩ => ⟨S1x256x1024, .f32⟩
  | .local _ .vmem, ⟨4, _⟩ => ⟨S1024x3072, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ProjOddSRefIdeal.lean ====
abbrev S256x1024 : Shape := ⟨2, ![256, 1024]⟩
abbrev S1024 : Shape := ⟨1, ![1024]⟩
abbrev S32x1024 : Shape := ⟨2, ![32, 1024]⟩
abbrev S1024x3072 : Shape := ⟨2, ![1024, 3072]⟩
abbrev S32x8x1024 : Shape := ⟨3, ![32, 8, 1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x1x1024 : Shape := ⟨3, ![32, 1, 1024]⟩
abbrev S32x8x3072 : Shape := ⟨3, ![32, 8, 3072]⟩
abbrev S256x3072 : Shape := ⟨2, ![256, 3072]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S1024x3072, .bf16⟩
  | .hbm, ⟨5, _⟩ => ⟨S32x8x1024, .f32⟩
  | .hbm, ⟨6, _⟩ => ⟨S32x8x1024, .f32⟩
  | .hbm, ⟨7, _⟩ => ⟨S_, .f32⟩
  | .hbm, ⟨8, _⟩ => ⟨S32x8, .f32⟩
  | .hbm, ⟨9, _⟩ => ⟨S32x8x1, .f32⟩
  | .hbm, ⟨10, _⟩ => ⟨S_, .f32⟩
  | .hbm, ⟨11, _⟩ => ⟨S32x8x1, .f32⟩
  | .hbm, ⟨12, _⟩ => ⟨S32x8x1, .f32⟩
  | .hbm, ⟨13, _⟩ => ⟨S_, .f32⟩
  | .hbm, ⟨14, _⟩ => ⟨S32x8x1, .f32⟩
  | .hbm, ⟨15, _⟩ => ⟨S32x8x1, .f32⟩
  | .hbm, ⟨16, _⟩ => ⟨S32x8x1, .f32⟩
  | .hbm, ⟨17, _⟩ => ⟨S32x8x1024, .f32⟩
  | .hbm, ⟨18, _⟩ => ⟨S32x8x1024, .f32⟩
  | .hbm, ⟨19, _⟩ => ⟨S1x1x1024, .f32⟩
  | .hbm, ⟨20, _⟩ => ⟨S32x8x1024, .f32⟩
  | .hbm, ⟨21, _⟩ => ⟨S32x8x1024, .f32⟩
  | .hbm, ⟨22, _⟩ => ⟨S32x1x1024, .f32⟩
  | .hbm, ⟨23, _⟩ => ⟨S_, .f32⟩
  | .hbm, ⟨24, _⟩ => ⟨S32x1x1024, .f32⟩
  | .hbm, ⟨25, _⟩ => ⟨S32x1x1024, .f32⟩
  | .hbm, ⟨26, _⟩ => ⟨S32x8x1024, .f32⟩
  | .hbm, ⟨27, _⟩ => ⟨S32x8x1024, .f32⟩
  | .hbm, ⟨28, _⟩ => ⟨S32x1x1024, .f32⟩
  | .hbm, ⟨29, _⟩ => ⟨S32x8x1024, .f32⟩
  | .hbm, ⟨30, _⟩ => ⟨S32x8x1024, .f32⟩
  | .hbm, ⟨31, _⟩ => ⟨S1024x3072, .f32⟩
  | .hbm, ⟨32, _⟩ => ⟨S32x8x3072, .f32⟩
  | .hbm, ⟨33, _⟩ => ⟨S256x3072, .f32⟩
  | .hbm, ⟨34, _⟩ => ⟨S256x1024, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== MlpLastS.lean ====
abbrev S256x1024 : Shape := ⟨2, ![256, 1024]⟩
abbrev S1024 : Shape := ⟨1, ![1024]⟩
abbrev S32x1024 : Shape := ⟨2, ![32, 1024]⟩
abbrev S1024x4096 : Shape := ⟨2, ![1024, 4096]⟩
abbrev S4096x1024 : Shape := ⟨2, ![4096, 1024]⟩
abbrev S32x8x1024 : Shape := ⟨3, ![32, 8, 1024]⟩
abbrev S1x256x1024 : Shape := ⟨3, ![1, 256, 1024]⟩
abbrev S1x1024 : Shape := ⟨2, ![1, 1024]⟩
abbrev S1024x512 : Shape := ⟨2, ![1024, 512]⟩
abbrev S512x1024 : Shape := ⟨2, ![512, 1024]⟩
abbrev S256 : Shape := ⟨1, ![256]⟩
abbrev S256x1 : Shape := ⟨2, ![256, 1]⟩
abbrev S256x512 : Shape := ⟨2, ![256, 512]⟩

abbrev nBuf : Space → Nat
  | .hbm => 20
  | .vmem => 13
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S32x1024, .f32⟩
  | .hbm, ⟨5, _⟩ => ⟨S1024x4096, .bf16⟩
  | .hbm, ⟨6, _⟩ => ⟨S4096x1024, .bf16⟩
  | .hbm, ⟨7, _⟩ => ⟨S1024, .f32⟩
  | .hbm, ⟨8, _⟩ => ⟨S32x8x1024, .f32⟩
  | .hbm, ⟨9, _⟩ => ⟨S256x1024, .f32⟩
  | .hbm, ⟨10, _⟩ => ⟨S1x256x1024, .f32⟩
  | .hbm, ⟨11, _⟩ => ⟨S32x8x1024, .f32⟩
  | .hbm, ⟨12, _⟩ => ⟨S256x1024, .f32⟩
  | .hbm, ⟨13, _⟩ => ⟨S1x256x1024, .f32⟩
  | .hbm, ⟨14, _⟩ => ⟨S32x8x1024, .f32⟩
  | .hbm, ⟨15, _⟩ => ⟨S256x1024, .f32⟩
  | .hbm, ⟨16, _⟩ => ⟨S1x256x1024, .f32⟩
  | .hbm, ⟨17, _⟩ => ⟨S1x1024, .f32⟩
  | .hbm, ⟨18, _⟩ => ⟨S1x1024, .f32⟩
  | .hbm, ⟨19, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1024x512, .bf16⟩
  | .local _ .vmem, ⟨6, _⟩ => ⟨S1024x512, .bf16⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== MlpLastSRefIdeal.lean ====
abbrev S256x1024 : Shape := ⟨2, ![256, 1024]⟩
abbrev S1024 : Shape := ⟨1, ![1024]⟩
abbrev S32x1024 : Shape := ⟨2, ![32, 1024]⟩
abbrev S1024x4096 : Shape := ⟨2, ![1024, 4096]⟩
abbrev S4096x1024 : Shape := ⟨2, ![4096, 1024]⟩
abbrev S32x8x1024 : Shape := ⟨3, ![32, 8, 1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x1x1024 : Shape := ⟨3, ![32, 1, 1024]⟩
abbrev S32x8x4096 : Shape := ⟨3, ![32, 8, 4096]⟩

abbrev nBuf : Space → Nat
  | .hbm => 63
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S32x1024, .f32⟩
  | .hbm, ⟨5, _⟩ => ⟨S1024x4096, .bf16⟩
  | .hbm, ⟨6, _⟩ => ⟨S4096x1024, .bf16⟩
  | .hbm, ⟨7, _⟩ => ⟨S1024, .f32⟩
  | .hbm, ⟨8, _⟩ => ⟨S32x8x1024, .f32⟩
  | .hbm, ⟨9, _⟩ => ⟨S32x8x1024, .f32⟩
  | .hbm, ⟨10, _⟩ => ⟨S_, .f32⟩
  | .hbm, ⟨11, _⟩ => ⟨S32x8, .f32⟩
  | .hbm, ⟨12, _⟩ => ⟨S32x8x1, .f32⟩
  | .hbm, ⟨13, _⟩ => ⟨S_, .f32⟩
  | .hbm, ⟨14, _⟩ => ⟨S32x8x1, .f32⟩
  | .hbm, ⟨15, _⟩ => ⟨S32x8x1, .f32⟩
  | .hbm, ⟨16, _⟩ => ⟨S_, .f32⟩
  | .hbm, ⟨17, _⟩ => ⟨S32x8x1, .f32⟩
  | .hbm, ⟨18, _⟩ => ⟨S32x8x1, .f32⟩
  | .hbm, ⟨19, _⟩ => ⟨S32x8x1, .f32⟩
  | .hbm, ⟨20, _⟩ => ⟨S32x8x1024, .f32⟩
  | .hbm, ⟨21, _⟩ => ⟨S32x8x1024, .f32⟩
  | .hbm, ⟨22, _⟩ => ⟨S1x1x1024, .f32⟩
  | .hbm, ⟨23, _⟩ => ⟨S32x8x1024, .f32⟩
  | .hbm, ⟨24, _⟩ => ⟨S32x8x1024, .f32⟩
  | .hbm, ⟨25, _⟩ => ⟨S32x1x1024, .f32⟩
  | .hbm, ⟨26, _⟩ => ⟨S_, .f32⟩
  | .hbm, ⟨27, _⟩ => ⟨S32x1x1024, .f32⟩
  | .hbm, ⟨28, _⟩ => ⟨S32x1x1024, .f32⟩
  | .hbm, ⟨29, _⟩ => ⟨S32x8x1024, .f32⟩
  | .hbm, ⟨30, _⟩ => ⟨S32x8x1024, .f32⟩
  | .hbm, ⟨31, _⟩ => ⟨S32x1x1024, .f32⟩
  | .hbm, ⟨32, _⟩ => ⟨S32x8x1024, .f32⟩
  | .hbm, ⟨33, _⟩ => ⟨S32x8x1024, .f32⟩
  | .hbm, ⟨34, _⟩ => ⟨S32x1x1024, .f32⟩
  | .hbm, ⟨35, _⟩ => ⟨S1024x4096, .f32⟩
  | .hbm, ⟨36, _⟩ => ⟨S4096x1024, .f32⟩
  | .hbm, ⟨37, _⟩ => ⟨S32x8x4096, .f32⟩
  | .hbm, ⟨38, _⟩ => ⟨S_, .f32⟩
  | .hbm, ⟨39, _⟩ => ⟨S32x8x4096, .f32⟩
  | .hbm, ⟨40, _⟩ => ⟨S32x8x4096, .f32⟩
  | .hbm, ⟨41, _⟩ => ⟨S32x8x4096, .f32⟩
  | .hbm, ⟨42, _⟩ => ⟨S32x8x1024, .f32⟩
  | .hbm, ⟨43, _⟩ => ⟨S32x8x1024, .f32⟩
  | .hbm, ⟨44, _⟩ => ⟨S32x8x1024, .f32⟩
  | .hbm, ⟨45, _⟩ => ⟨S32x8x1024, .f32⟩
  | .hbm, ⟨46, _⟩ => ⟨S32x8x1024, .f32⟩
  | .hbm, ⟨47, _⟩ => ⟨S_, .f32⟩
  | .hbm, ⟨48, _⟩ => ⟨S32x8, .f32⟩
  | .hbm, ⟨49, _⟩ => ⟨S32x8x1, .f32⟩
  | .hbm, ⟨50, _⟩ => ⟨S_, .f32⟩
  | .hbm, ⟨51, _⟩ => ⟨S32x8x1, .f32⟩
  | .hbm, ⟨52, _⟩ => ⟨S32x8x1, .f32⟩
  | .hbm, ⟨53, _⟩ => ⟨S_, .f32⟩
  | .hbm, ⟨54, _⟩ => ⟨S32x8x1, .f32⟩
  | .hbm, ⟨55, _⟩ => ⟨S32x8x1, .f32⟩
  | .hbm, ⟨56, _⟩ => ⟨S32x8x1, .f32⟩
  | .hbm, ⟨57, _⟩ => ⟨S32x8x1024, .f32⟩
  | .hbm, ⟨58, _⟩ => ⟨S32x8x1024, .f32⟩
  | .hbm, ⟨59, _⟩ => ⟨S1x1x1024, .f32⟩
  | .hbm, ⟨60, _⟩ => ⟨S32x8x1024, .f32⟩
  | .hbm, ⟨61, _⟩ => ⟨S32x8x1024, .f32⟩
  | .hbm, ⟨62, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_cst : Ref sig .tc := ⟨.hbm, 38, rfl⟩
abbrev main_call0_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== MixS.lean ====
abbrev S256x2560 : Shape := ⟨2, ![256, 2560]⟩
abbrev S256x128 : Shape := ⟨2, ![256, 128]⟩
abbrev S1x128 : Shape := ⟨2, ![1, 128]⟩
abbrev S32x4x128x256 : Shape := ⟨4, ![32, 4, 128, 256]⟩
abbrev S32x1x128 : Shape := ⟨3, ![32, 1, 128]⟩
abbrev S1x512 : Shape := ⟨2, ![1, 512]⟩
abbrev S4x128x128 : Shape := ⟨3, ![4, 128, 128]⟩
abbrev S128x128 : Shape := ⟨2, ![128, 128]⟩
abbrev S256x1024 : Shape := ⟨2, ![256, 1024]⟩
abbrev S256x512 : Shape := ⟨2, ![256, 512]⟩
abbrev S8x2560 : Shape := ⟨2, ![8, 2560]⟩
abbrev S8x128 : Shape := ⟨2, ![8, 128]⟩
abbrev S1x4x128x256 : Shape := ⟨4, ![1, 4, 128, 256]⟩
abbrev S1x1x128 : Shape := ⟨3, ![1, 1, 128]⟩
abbrev S8x1024 : Shape := ⟨2, ![8, 1024]⟩
abbrev S8x512 : Shape := ⟨2, ![8, 512]⟩
abbrev S4x128x256 : Shape := ⟨3, ![4, 128, 256]⟩
abbrev S120x2560 : Shape := ⟨2, ![120, 2560]⟩
abbrev S128x2560 : Shape := ⟨2, ![128, 2560]⟩
abbrev S120x128 : Shape := ⟨2, ![120, 128]⟩
abbrev S128x1 : Shape := ⟨2, ![128, 1]⟩
abbrev S1x1 : Shape := ⟨2, ![1, 1]⟩
abbrev S128 : Shape := ⟨1, ![128]⟩
abbrev S128x256 : Shape := ⟨2, ![128, 256]⟩
abbrev S1x128x256 : Shape := ⟨3, ![1, 128, 256]⟩
abbrev S1x128x128 : Shape := ⟨3, ![1, 128, 128]⟩
abbrev S128x1024 : Shape := ⟨2, ![128, 1024]⟩
abbrev S128x512 : Shape := ⟨2, ![128, 512]⟩

abbrev nBuf : Space → Nat
  | .hbm => 13
  | .vmem => 23
  | .smem => 0
  | _ => 0

abbrev bufTy : (tb : Table) → Fin (tcTables nBuf tb) → BufTy
  | .hbm, ⟨0, _⟩ => ⟨S256x2560, .f32⟩
  | .hbm, ⟨1, _⟩ => ⟨S256x128, .f32⟩
  | .hbm, ⟨2, _⟩ => ⟨S1x128, .f32⟩
  | .hbm, ⟨3, _⟩ => ⟨S32x4x128x256, .f32⟩
  | .hbm, ⟨4, _⟩ => ⟨S32x1x128, .f32⟩
  | .hbm, ⟨5, _⟩ => ⟨S1x512, .f32⟩
  | .hbm, ⟨6, _⟩ => ⟨S1x512, .f32⟩
  | .hbm, ⟨7, _⟩ => ⟨S4x128x128, .bf16⟩
  | .hbm, ⟨8, _⟩ => ⟨S128x128, .f32⟩
  | .hbm, ⟨9, _⟩ => ⟨S256x1024, .bf16⟩
  | .hbm, ⟨10, _⟩ => ⟨S256x512, .f32⟩
  | .hbm, ⟨11, _⟩ => ⟨S32x4x128x256, .f32⟩
  | .hbm, ⟨12, _⟩ => ⟨S32x1x128, .f32⟩
  | .local _ .vmem, ⟨0, _⟩ => ⟨S8x2560, .f32⟩
  | .local _ .vmem, ⟨1, _⟩ => ⟨S8x2560, .f32⟩
  | .local _ .vmem, ⟨2, _⟩ => ⟨S8x128, .f32⟩
  | .local _ .vmem, ⟨3, _⟩ => ⟨S8x128, .f32⟩
  | .local _ .vmem, ⟨4, _⟩ => ⟨S1x128, .f32⟩
  | .local _ .vmem, ⟨5, _⟩ => ⟨S1x4x128x256, .f32⟩
  | .local _ .vmem, ⟨6, _⟩ => ⟨S1x4x128x256, .f32⟩
  | .local _ .vmem, ⟨7, _⟩ => ⟨S1x1x128, .f32⟩
  | .local _ .vmem, ⟨8, _⟩ => ⟨S1x1x128, .f32⟩
  | .local _ .vmem, ⟨9, _⟩ => ⟨S1x512, .f32⟩
  | .local _ .vmem, ⟨10, _⟩ => ⟨S1x512, .f32⟩
  | .local _ .vmem, ⟨11, _⟩ => ⟨S4x128x128, .bf16⟩
  | .local _ .vmem, ⟨12, _⟩ => ⟨S128x128, .f32⟩
  | .local _ .vmem, ⟨13, _⟩ => ⟨S8x1024, .bf16⟩
  | .local _ .vmem, ⟨14, _⟩ => ⟨S8x1024, .bf16⟩
  | .local _ .vmem, ⟨15, _⟩ => ⟨S8x512, .f32⟩
  | .local _ .vmem, ⟨16, _⟩ => ⟨S8x512, .f32⟩
  | .local _ .vmem, ⟨17, _⟩ => ⟨S1x4x128x256, .f32⟩
  | .local _ .vmem, ⟨18, _⟩ => ⟨S1x4x128x256, .f32⟩
  | .local _ .vmem, ⟨19, _⟩ => ⟨S1x1x128, .f32⟩
  | .local _ .vmem, ⟨20, _⟩ => ⟨S1x1x128, .f32⟩
  | .local _ .vmem, ⟨21, _⟩ => ⟨S4x128x256, .f32⟩
  | .local _ .vmem, ⟨22, _⟩ => ⟨S1x128, .f32⟩
  | _, _ => ⟨S256x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_201 : BitVec 32 := 0#32
  let v707 : BitVec 1 := Scalar.cmpi .eq arg1 c0_i32_201
  let v708 : BitVec 32 := Scalar.extui v707
  let c0_i32_202 : BitVec 32 := 0#32
  let v709 : BitVec 1 := Scalar.cmpi .ne v708 c0_i32_202
  v709

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S8x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== MixSRefIdeal.lean ====
abbrev S256x2560 : Shape := ⟨2, ![256, 2560]⟩
abbrev S256x128 : Shape := ⟨2, ![256, 128]⟩
abbrev S1x128 : Shape := ⟨2, ![1, 128]⟩
abbrev S32x4x128x256 : Shape := ⟨4, ![32, 4, 128, 256]⟩
abbrev S32x1x128 : Shape := ⟨3, ![32, 1, 128]⟩
abbrev S1x512 : Shape := ⟨2, ![1, 512]⟩
abbrev S4x128x128 : Shape := ⟨3, ![4, 128, 128]⟩
abbrev S128x128 : Shape := ⟨2, ![128, 128]⟩
abbrev S256x512 : Shape := ⟨2, ![256, 512]⟩
abbrev S32x8x512 : Shape := ⟨3, ![32, 8, 512]⟩
abbrev S_ : Shape := ⟨0, ![]⟩
abbrev S32x8x4x128 : Shape := ⟨4, ![32, 8, 4, 128]⟩
abbrev S4x128 : Shape := ⟨2, ![4, 128]⟩
abbrev S32x8x4 : Shape := ⟨3, ![32, 8, 4]⟩
abbrev S32x8x4x1 : Shape := ⟨4, ![32, 8, 4, 1]⟩
abbrev S1x1x4x128 : Shape := ⟨4, ![1, 1, 4, 128]⟩

abbrev nBuf : Space → Nat
  | .hbm => 47
  | .vmem => 0
  | .smem => 0
  | _ => 0

abbrev bufTy : (tb : Table) → Fin (tcTables nBuf tb) → BufTy
  | .hbm, ⟨0, _⟩ => ⟨S256x2560, .f32⟩
  | .hbm, ⟨1, _⟩ => ⟨S256x128, .f32⟩
  | .hbm, ⟨2, _⟩ => ⟨S1x128, .f32⟩
  | .hbm, ⟨3, _⟩ => ⟨S32x4x128x256, .f32⟩
  | .hbm, ⟨4, _⟩ => ⟨S32x1x128, .f32⟩
  | .hbm, ⟨5, _⟩ => ⟨S1x512, .f32⟩
  | .hbm, ⟨6, _⟩ => ⟨S1x512, .f32⟩
  | .hbm, ⟨7, _⟩ => ⟨S4x128x128, .bf16⟩
  | .hbm, ⟨8, _⟩ => ⟨S128x128, .f32⟩
  | .hbm, ⟨9, _⟩ => ⟨S256x512, .f32⟩
  | .hbm, ⟨10, _⟩ => ⟨S32x8x512, .f32⟩
  | .hbm, ⟨11, _⟩ => ⟨S32x8x512, .f32⟩
  | .hbm, ⟨12, _⟩ => ⟨S32x8x512, .f32⟩
  | .hbm, ⟨13, _⟩ => ⟨S_, .f32⟩
  | .hbm, ⟨14, _⟩ => ⟨S32x8x512, .f32⟩
  | .hbm, ⟨15, _⟩ => ⟨S32x8x512, .f32⟩
  | .hbm, ⟨16, _⟩ => ⟨S32x8x512, .f32⟩
  | .hbm, ⟨17, _⟩ => ⟨S_, .f32⟩
  | .hbm, ⟨18, _⟩ => ⟨S32x8x512, .f32⟩
  | .hbm, ⟨19, _⟩ => ⟨S32x8x512, .f32⟩
  | .hbm, ⟨20, _⟩ => ⟨S32x8x512, .f32⟩
  | .hbm, ⟨21, _⟩ => ⟨S_, .f32⟩
  | .hbm, ⟨22, _⟩ => ⟨S32x8x512, .f32⟩
  | .hbm, ⟨23, _⟩ => ⟨S32x8x512, .f32⟩
  | .hbm, ⟨24, _⟩ => ⟨S_, .f32⟩
  | .hbm, ⟨25, _⟩ => ⟨S32x8x512, .f32⟩
  | .hbm, ⟨26, _⟩ => ⟨S32x8x512, .f32⟩
  | .hbm, ⟨27, _⟩ => ⟨S32x8x512, .f32⟩
  | .hbm, ⟨28, _⟩ => ⟨S32x8x4x128, .f32⟩
  | .hbm, ⟨29, _⟩ => ⟨S4x128, .f32⟩
  | .hbm, ⟨30, _⟩ => ⟨S32x8x4x128, .f32⟩
  | .hbm, ⟨31, _⟩ => ⟨S_, .f32⟩
  | .hbm, ⟨32, _⟩ => ⟨S32x8x4, .f32⟩
  | .hbm, ⟨33, _⟩ => ⟨S32x8x4x1, .f32⟩
  | .hbm, ⟨34, _⟩ => ⟨S_, .f32⟩
  | .hbm, ⟨35, _⟩ => ⟨S32x8x4x1, .f32⟩
  | .hbm, ⟨36, _⟩ => ⟨S32x8x4x1, .f32⟩
  | .hbm, ⟨37, _⟩ => ⟨S_, .f32⟩
  | .hbm, ⟨38, _⟩ => ⟨S32x8x4x1, .f32⟩
  | .hbm, ⟨39, _⟩ => ⟨S32x8x4x1, .f32⟩
  | .hbm, ⟨40, _⟩ => ⟨S32x8x4x1, .f32⟩
  | .hbm, ⟨41, _⟩ => ⟨S32x8x4x128, .f32⟩
  | .hbm, ⟨42, _⟩ => ⟨S32x8x4x128, .f32⟩
  | .hbm, ⟨43, _⟩ => ⟨S1x1x4x128, .f32⟩
  | .hbm, ⟨44, _⟩ => ⟨S32x8x4x128, .f32⟩
  | .hbm, ⟨45, _⟩ => ⟨S32x8x4x128, .f32⟩
  | .hbm, ⟨46, _⟩ => ⟨S256x512, .f32⟩
  | _, _ => ⟨S256x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== MixState.lean ====
abbrev S256x2560 : Shape := ⟨2, ![256, 2560]⟩
abbrev S256x128 : Shape := ⟨2, ![256, 128]⟩
abbrev S1x128 : Shape := ⟨2, ![1, 128]⟩
abbrev S32x4x128x256 : Shape := ⟨4, ![32, 4, 128, 256]⟩
abbrev S32x1x128 : Shape := ⟨3, ![32, 1, 128]⟩
abbrev S1x512 : Shape := ⟨2, ![1, 512]⟩
abbrev S4x128x128 : Shape := ⟨3, ![4, 128, 128]⟩
abbrev S128x128 : Shape := ⟨2, ![128, 128]⟩
abbrev S256x1024 : Shape := ⟨2, ![256, 1024]⟩
abbrev S256x512 : Shape := ⟨2, ![256, 512]⟩
abbrev S8x2560 : Shape := ⟨2, ![8, 2560]⟩
abbrev S8x128 : Shape := ⟨2, ![8, 128]⟩
abbrev S1x4x128x256 : Shape := ⟨4, ![1, 4, 128, 256]⟩
abbrev S1x1x128 : Shape := ⟨3, ![1, 1, 128]⟩
abbrev S8x1024 : Shape := ⟨2, ![8, 1024]⟩
abbrev S8x512 : Shape := ⟨2, ![8, 512]⟩
abbrev S4x128x256 : Shape := ⟨3, ![4, 128, 256]⟩
abbrev S120x2560 : Shape := ⟨2, ![120, 2560]⟩
abbrev S128x2560 : Shape := ⟨2, ![128, 2560]⟩
abbrev S120x128 : Shape := ⟨2, ![120, 128]⟩
abbrev S128x1 : Shape := ⟨2, ![128, 1]⟩
abbrev S1x1 : Shape := ⟨2, ![1, 1]⟩
abbrev S128 : Shape := ⟨1, ![128]⟩
abbrev S128x256 : Shape := ⟨2, ![128, 256]⟩
abbrev S1x128x256 : Shape := ⟨3, ![1, 128, 256]⟩
abbrev S1x128x128 : Shape := ⟨3, ![1, 128, 128]⟩
abbrev S128x1024 : Shape := ⟨2, ![128, 1024]⟩
abbrev S128x512 : Shape := ⟨2, ![128, 512]⟩

abbrev nBuf : Space → Nat
  | .hbm => 13
  | .vmem => 23
  | .smem => 0
  | _ => 0

abbrev bufTy : (tb : Table) → Fin (tcTables nBuf tb) → BufTy
  | .hbm, ⟨0, _⟩ => ⟨S256x2560, .f32⟩
  | .hbm, ⟨1, _⟩ => ⟨S256x128, .f32⟩
  | .hbm, ⟨2, _⟩ => ⟨S1x128, .f32⟩
  | .hbm, ⟨3, _⟩ => ⟨S32x4x128x256, .f32⟩
  | .hbm, ⟨4, _⟩ => ⟨S32x1x128, .f32⟩
  | .hbm, ⟨5, _⟩ => ⟨S1x512, .f32⟩
  | .hbm, ⟨6, _⟩ => ⟨S1x512, .f32⟩
  | .hbm, ⟨7, _⟩ => ⟨S4x128x128, .bf16⟩
  | .hbm, ⟨8, _⟩ => ⟨S128x128, .f32⟩
  | .hbm, ⟨9, _⟩ => ⟨S256x1024, .bf16⟩
  | .hbm, ⟨10, _⟩ => ⟨S256x512, .f32⟩
  | .hbm, ⟨11, _⟩ => ⟨S32x4x128x256, .f32⟩
  | .hbm, ⟨12, _⟩ => ⟨S32x1x128, .f32⟩
  | .local _ .vmem, ⟨0, _⟩ => ⟨S8x2560, .f32⟩
  | .local _ .vmem, ⟨1, _⟩ => ⟨S8x2560, .f32⟩
  | .local _ .vmem, ⟨2, _⟩ => ⟨S8x128, .f32⟩
  | .local _ .vmem, ⟨3, _⟩ => ⟨S8x128, .f32⟩
  | .local _ .vmem, ⟨4, _⟩ => ⟨S1x128, .f32⟩
  | .local _ .vmem, ⟨5, _⟩ => ⟨S1x4x128x256, .f32⟩
  | .local _ .vmem, ⟨6, _⟩ => ⟨S1x4x128x256, .f32⟩
  | .local _ .vmem, ⟨7, _⟩ => ⟨S1x1x128, .f32⟩
  | .local _ .vmem, ⟨8, _⟩ => ⟨S1x1x128, .f32⟩
  | .local _ .vmem, ⟨9, _⟩ => ⟨S1x512, .f32⟩
  | .local _ .vmem, ⟨10, _⟩ => ⟨S1x512, .f32⟩
  | .local _ .vmem, ⟨11, _⟩ => ⟨S4x128x128, .bf16⟩
  | .local _ .vmem, ⟨12, _⟩ => ⟨S128x128, .f32⟩
  | .local _ .vmem, ⟨13, _⟩ => ⟨S8x1024, .bf16⟩
  | .local _ .vmem, ⟨14, _⟩ => ⟨S8x1024, .bf16⟩
  | .local _ .vmem, ⟨15, _⟩ => ⟨S8x512, .f32⟩
  | .local _ .vmem, ⟨16, _⟩ => ⟨S8x512, .f32⟩
  | .local _ .vmem, ⟨17, _⟩ => ⟨S1x4x128x256, .f32⟩
  | .local _ .vmem, ⟨18, _⟩ => ⟨S1x4x128x256, .f32⟩
  | .local _ .vmem, ⟨19, _⟩ => ⟨S1x1x128, .f32⟩
  | .local _ .vmem, ⟨20, _⟩ => ⟨S1x1x128, .f32⟩
  | .local _ .vmem, ⟨21, _⟩ => ⟨S4x128x256, .f32⟩
  | .local _ .vmem, ⟨22, _⟩ => ⟨S1x128, .f32⟩
  | _, _ => ⟨S256x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_201 : BitVec 32 := 0#32
  let v707 : BitVec 1 := Scalar.cmpi .eq arg1 c0_i32_201
  let v708 : BitVec 32 := Scalar.extui v707
  let c0_i32_202 : BitVec 32 := 0#32
  let v709 : BitVec 1 := Scalar.cmpi .ne v708 c0_i32_202
  v709

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S8x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== MixStateIdeal.lean ====
variable {F : FTy → Type} [FloatOps F] [Named F]
def κ : String → Option EReal := fun
  | "mask" => some ⊥
  | _ => none
-- ==== MixStateRefIdeal.lean ====
abbrev S256x2560 : Shape := ⟨2, ![256, 2560]⟩
abbrev S256x128 : Shape := ⟨2, ![256, 128]⟩
abbrev S1x128 : Shape := ⟨2, ![1, 128]⟩
abbrev S32x4x128x256 : Shape := ⟨4, ![32, 4, 128, 256]⟩
abbrev S32x1x128 : Shape := ⟨3, ![32, 1, 128]⟩
abbrev S1x512 : Shape := ⟨2, ![1, 512]⟩
abbrev S4x128x128 : Shape := ⟨3, ![4, 128, 128]⟩
abbrev S128x128 : Shape := ⟨2, ![128, 128]⟩
abbrev S32x8x2560 : Shape := ⟨3, ![32, 8, 2560]⟩
abbrev S32x4x2560 : Shape := ⟨3, ![32, 4, 2560]⟩
abbrev S32x8x128 : Shape := ⟨3, ![32, 8, 128]⟩
abbrev S32x4x8 : Shape := ⟨3, ![32, 4, 8]⟩
abbrev S1x8 : Shape := ⟨2, ![1, 8]⟩
abbrev S8 : Shape := ⟨1, ![8]⟩
abbrev S1x1x8 : Shape := ⟨3, ![1, 1, 8]⟩
abbrev S32x4x256 : Shape := ⟨3, ![32, 4, 256]⟩
abbrev S32x4x4x64 : Shape := ⟨4, ![32, 4, 4, 64]⟩
abbrev S_ : Shape := ⟨0, ![]⟩
abbrev S32x4x512 : Shape := ⟨3, ![32, 4, 512]⟩
abbrev S32x4x4x128 : Shape := ⟨4, ![32, 4, 4, 128]⟩
abbrev S32x4x4 : Shape := ⟨3, ![32, 4, 4]⟩
abbrev S32x1x4 : Shape := ⟨3, ![32, 1, 4]⟩
abbrev S32x4 : Shape := ⟨2, ![32, 4]⟩
abbrev S4x4 : Shape := ⟨2, ![4, 4]⟩
abbrev S32x4x4x1 : Shape := ⟨4, ![32, 4, 4, 1]⟩
abbrev S32x4x1x4 : Shape := ⟨4, ![32, 4, 1, 4]⟩
abbrev S32x4x4x4 : Shape := ⟨4, ![32, 4, 4, 4]⟩
abbrev S32x4x1 : Shape := ⟨3, ![32, 4, 1]⟩
abbrev S32x4x64x128 : Shape := ⟨4, ![32, 4, 64, 128]⟩
abbrev S32x4x64 : Shape := ⟨3, ![32, 4, 64]⟩
abbrev S32x4x64x1 : Shape := ⟨4, ![32, 4, 64, 1]⟩
abbrev S32x4x64x127 : Shape := ⟨4, ![32, 4, 64, 127]⟩
abbrev S32x4x64x256 : Shape := ⟨4, ![32, 4, 64, 256]⟩
abbrev S2 : Shape := ⟨1, ![2]⟩
abbrev S2x1 : Shape := ⟨2, ![2, 1]⟩
abbrev S1x2 : Shape := ⟨2, ![1, 2]⟩
abbrev S2x2 : Shape := ⟨2, ![2, 2]⟩
abbrev S2x2x1x1 : Shape := ⟨4, ![2, 2, 1, 1]⟩
abbrev S64x2x1x64x256 : Shape := ⟨5, ![64, 2, 1, 64, 256]⟩
abbrev S64x2x2x64x256 : Shape := ⟨5, ![64, 2, 2, 64, 256]⟩
abbrev S32x4x1x1 : Shape := ⟨4, ![32, 4, 1, 1]⟩
abbrev S32x1x120 : Shape := ⟨3, ![32, 1, 120]⟩
abbrev S32x120 : Shape := ⟨2, ![32, 120]⟩
abbrev S32x128 : Shape := ⟨2, ![32, 128]⟩

abbrev nBuf : Space → Nat
  | .hbm => 132
  | .vmem => 0
  | .smem => 0
  | _ => 0

abbrev hbmTy0_0 (i : Nat) : BufTy := match i % 128 with
  | 0 => ⟨S256x2560, .f32⟩
  | 1 => ⟨S256x128, .f32⟩
  | 2 => ⟨S1x128, .f32⟩
  | 3 => ⟨S32x4x128x256, .f32⟩
  | 4 => ⟨S32x1x128, .f32⟩
  | 5 => ⟨S1x512, .f32⟩
  | 6 => ⟨S1x512, .f32⟩
  | 7 => ⟨S4x128x128, .bf16⟩
  | 8 => ⟨S128x128, .f32⟩
  | 9 => ⟨S32x8x2560, .f32⟩
  | 10 => ⟨S32x4x2560, .f32⟩
  | 11 => ⟨S32x8x128, .f32⟩
  | 12 => ⟨S32x4x8, .f32⟩
  | 13 => ⟨S1x8, .f32⟩
  | 14 => ⟨S8, .f32⟩
  | 15 => ⟨S1x1x8, .f32⟩
  | 16 => ⟨S32x4x8, .f32⟩
  | 17 => ⟨S32x4x8, .f32⟩
  | 18 => ⟨S32x4x256, .f32⟩
  | 19 => ⟨S32x4x4x64, .f32⟩
  | 20 => ⟨S_, .f32⟩
  | 21 => ⟨S32x4x4x64, .f32⟩
  | 22 => ⟨S32x4x4x64, .f32⟩
  | 23 => ⟨S32x4x4x64, .f32⟩
  | 24 => ⟨S32x4x512, .f32⟩
  | 25 => ⟨S32x4x4x128, .f32⟩
  | 26 => ⟨S32x4x4x128, .f32⟩
  | 27 => ⟨S32x4x4, .f32⟩
  | 28 => ⟨S32x4x4, .f32⟩
  | 29 => ⟨S32x4x4, .f32⟩
  | 30 => ⟨S32x4x4, .f32⟩
  | 31 => ⟨S_, .f32⟩
  | 32 => ⟨S32x4x4, .f32⟩
  | 33 => ⟨S32x4x4, .f32⟩
  | 34 => ⟨S32x4x4, .f32⟩
  | 35 => ⟨S32x4x4, .f32⟩
  | 36 => ⟨S32x4x4, .i1⟩
  | 37 => ⟨S32x4x4, .f32⟩
  | 38 => ⟨S32x4x4, .f32⟩
  | 39 => ⟨S32x4x4, .f32⟩
  | 40 => ⟨S32x4x4, .f32⟩
  | 41 => ⟨S32x4x4, .f32⟩
  | 42 => ⟨S32x4x4, .f32⟩
  | 43 => ⟨S32x4x4, .f32⟩
  | 44 => ⟨S32x4x4, .f32⟩
  | 45 => ⟨S32x4x4, .f32⟩
  | 46 => ⟨S32x4x4, .f32⟩
  | 47 => ⟨S32x1x4, .f32⟩
  | 48 => ⟨S32x4, .f32⟩
  | 49 => ⟨S_, .i1⟩
  | 50 => ⟨S4x4, .i1⟩
  | 51 => ⟨S4x4, .i32⟩
  | 52 => ⟨S_, .i32⟩
  | 53 => ⟨S4x4, .i32⟩
  | 54 => ⟨S4x4, .i32⟩
  | 55 => ⟨S4x4, .i32⟩
  | 56 => ⟨S4x4, .i1⟩
  | 57 => ⟨S_, .i1⟩
  | 58 => ⟨S4x4, .i1⟩
  | 59 => ⟨S4x4, .i1⟩
  | 60 => ⟨S_, .f32⟩
  | 61 => ⟨S_, .f32⟩
  | 62 => ⟨S32x4x4, .f32⟩
  | 63 => ⟨S32x4x4x1, .f32⟩
  | 64 => ⟨S32x4x1x4, .f32⟩
  | 65 => ⟨S32x4x4x4, .f32⟩
  | 66 => ⟨S32x4x4x4, .f32⟩
  | 67 => ⟨S32x4x4x4, .f32⟩
  | 68 => ⟨S32x4x1x4, .f32⟩
  | 69 => ⟨S32x4x4x4, .f32⟩
  | 70 => ⟨S32x4x4x4, .f32⟩
  | 71 => ⟨S_, .f32⟩
  | 72 => ⟨S_, .f32⟩
  | 73 => ⟨S32x4x4x4, .i1⟩
  | 74 => ⟨S32x4x4x4, .f32⟩
  | 75 => ⟨S32x4x4x4, .f32⟩
  | 76 => ⟨S32x4x1, .f32⟩
  | 77 => ⟨S32x4x4, .f32⟩
  | 78 => ⟨S32x4x4, .f32⟩
  | 79 => ⟨S_, .f32⟩
  | 80 => ⟨S32x4x4, .f32⟩
  | 81 => ⟨S32x4x4, .f32⟩
  | 82 => ⟨S32x4x1, .f32⟩
  | 83 => ⟨S32x4x1, .f32⟩
  | 84 => ⟨S32x4, .f32⟩
  | 85 => ⟨S32x4x4, .f32⟩
  | 86 => ⟨S32x4x4, .f32⟩
  | 87 => ⟨S32x4x4, .f32⟩
  | 88 => ⟨S32x4x1, .f32⟩
  | 89 => ⟨S32x4x4, .f32⟩
  | 90 => ⟨S32x4x4, .f32⟩
  | 91 => ⟨S32x4x4, .f32⟩
  | 92 => ⟨S32x4, .f32⟩
  | 93 => ⟨S32x4, .f32⟩
  | 94 => ⟨S32x4, .f32⟩
  | 95 => ⟨S32x4, .f32⟩
  | 96 => ⟨S32x4x4x1, .f32⟩
  | 97 => ⟨S32x4x4x64, .f32⟩
  | 98 => ⟨S32x4x4x64, .f32⟩
  | 99 => ⟨S32x4x64x128, .f32⟩
  | 100 => ⟨S_, .f32⟩
  | 101 => ⟨S32x4x64, .f32⟩
  | 102 => ⟨S32x4x64x1, .f32⟩
  | 103 => ⟨S_, .f32⟩
  | 104 => ⟨S32x4x64x127, .f32⟩
  | 105 => ⟨S32x4x64x256, .f32⟩
  | 106 => ⟨S2, .i32⟩
  | 107 => ⟨S2x1, .i32⟩
  | 108 => ⟨S2, .i32⟩
  | 109 => ⟨S1x2, .i32⟩
  | 110 => ⟨S2x2, .i32⟩
  | 111 => ⟨S2x2, .i32⟩
  | 112 => ⟨S2x2, .i1⟩
  | 113 => ⟨S2x2x1x1, .i1⟩
  | 114 => ⟨S64x2x1x64x256, .f32⟩
  | 115 => ⟨S_, .f32⟩
  | 116 => ⟨S_, .f32⟩
  | 117 => ⟨S64x2x2x64x256, .i1⟩
  | 118 => ⟨S64x2x2x64x256, .f32⟩
  | 119 => ⟨S64x2x2x64x256, .f32⟩
  | 120 => ⟨S64x2x2x64x256, .f32⟩
  | 121 => ⟨S32x4x1x1, .f32⟩
  | 122 => ⟨S32x4x128x256, .f32⟩
  | 123 => ⟨S32x4x128x256, .f32⟩
  | 124 => ⟨S32x4x128x256, .f32⟩
  | 125 => ⟨S32x4x128x256, .f32⟩
  | 126 => ⟨S32x1x4, .f32⟩
  | 127 => ⟨S32x4, .f32⟩
  | _ => ⟨S256x2560, .f32⟩

abbrev hbmTy0_1 (i : Nat) : BufTy := match i % 128 with
  | 0 => ⟨S32x1x120, .f32⟩
  | 1 => ⟨S32x120, .f32⟩
  | 2 => ⟨S32x128, .f32⟩
  | 3 => ⟨S32x1x128, .f32⟩
  | _ => ⟨S256x2560, .f32⟩

abbrev hbmTy (i : Nat) : BufTy := match i / 128 with
  | 0 => hbmTy0_0 i
  | 1 => hbmTy0_1 i
  | _ => ⟨S256x2560, .f32⟩

abbrev bufTy : (tb : Table) → Fin (tcTables nBuf tb) → BufTy
  | .hbm, ⟨i, _⟩ => hbmTy i
  | _, _ => ⟨S256x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_call0_cst : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_v1 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c : Ref sig .tc := ⟨.hbm, 49, rfl⟩
abbrev main_v24 : Ref sig .tc := ⟨.hbm, 50, rfl⟩
abbrev main_call1_v0 : Ref sig .tc := ⟨.hbm, 51, rfl⟩
abbrev main_call1_c : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_c_0 : Ref sig .tc := ⟨.hbm, 57, rfl⟩
abbrev main_call1_v5 : Ref sig .tc := ⟨.hbm, 58, rfl⟩
abbrev main_v25 : Ref sig .tc := ⟨.hbm, 59, rfl⟩
abbrev main_call2_call0_cst : Ref sig .tc := ⟨.hbm, 60, rfl⟩
abbrev main_call2_call0_v0 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_0 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_cst_1 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_2 : Ref sig .tc := ⟨.hbm, 100, rfl⟩
abbrev main_v59 : Ref sig .tc := ⟨.hbm, 101, rfl⟩
abbrev main_v60 : Ref sig .tc := ⟨.hbm, 102, rfl⟩
abbrev main_cst_3 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_4 : Ref sig .tc := ⟨.hbm, 115, rfl⟩
abbrev main_call4_v0 : Ref sig .tc := ⟨.hbm, 116, rfl⟩
abbrev main_call4_v1 : Ref sig .tc := ⟨.hbm, 117, rfl⟩
abbrev main_call4_v2 : Ref sig .tc := ⟨.hbm, 118, rfl⟩
abbrev main_call4_v3 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩

abbrev nD : Nat := 1
abbrev τ : Topo := Topo.v7x

variable {F : FTy → Type} [FloatOps F]
-- ==== Proof.Attn.Weights.lean ====
/- The arithmetic of stick-breaking attention over the extended reals, with no program in sight: one query position `t`,
   the scores `z s` of the keys `s = 0 … 4095` (only those before `t` count), and the sums of softplus that turn a score
   into a weight. The kernel walks the keys in blocks of 128 from the right and keeps a running sum ("the carry"); the
   reference takes one cumulative sum from the right. The lemmas here say that both give the same weights and the same
   weighted sum of values. Nothing is assumed finite: an infinite score, or an infinite sum, gives both sides the weight 0. -/
module

public import Idealize.ShloMosaic.PureOps.Ideal.Laws
public import Mathlib.Data.EReal.Operations
public import Mathlib.Algebra.BigOperators.Intervals

@[expose] public section

noncomputable section

namespace Cert.Attn

open Idealize.ShloMosaic

/-- Softplus, `log (1 + exp z)`, as both programs compute it: `max z 0 + log1p (exp (-|z|))`. -/
def sp (z : EReal) : EReal := max z 0 + Ideal.log1p (Ideal.exp (-max z (-z)))

/-- Softplus of a real number is a real number. -/
theorem sp_coe (x : ℝ) : sp (x : EReal) = ((max x 0 + Real.log (1 + Real.exp (-|x|)) : ℝ) : EReal) := by
  have h1 : max (x : EReal) (-(x : EReal)) = ((|x| : ℝ) : EReal) := by
    rw [← EReal.coe_neg, abs_eq_max_neg]; exact (EReal.coe_strictMono.monotone.map_max).symm
  have h2 : max (x : EReal) 0 = ((max x 0 : ℝ) : EReal) := by
    rw [← EReal.coe_zero]; exact (EReal.coe_strictMono.monotone.map_max).symm
  have h3 : ¬ (1 + Real.exp (-|x|) ≤ 0) := by have := Real.exp_pos (-|x|); linarith
  unfold sp
  rw [h1, h2, ← EReal.coe_neg]
  have h4 : Ideal.log1p (Ideal.exp ((-|x| : ℝ) : EReal)) = ((Real.log (1 + Real.exp (-|x|)) : ℝ) : EReal) := by
    show Ideal.log (1 + ((Real.exp (-|x|) : ℝ) : EReal)) = _
    rw [← EReal.coe_one, ← EReal.coe_add]
    show (if 1 + Real.exp (-|x|) ≤ 0 then (⊥ : EReal) else ((Real.log (1 + Real.exp (-|x|)) : ℝ) : EReal)) = _
    rw [if_neg h3]
  rw [h4, ← EReal.coe_add]

theorem log1p_exp_bot : Ideal.log1p (Ideal.exp (⊥ : EReal)) = 0 := by
  show Ideal.log (1 + 0) = 0
  rw [add_zero, ← EReal.coe_one]
  show (if (1 : ℝ) ≤ 0 then (⊥ : EReal) else ((Real.log 1 : ℝ) : EReal)) = 0
  rw [if_neg (by norm_num), Real.log_one, EReal.coe_zero]

theorem sp_top : sp ⊤ = ⊤ := by
  unfold sp
  rw [show max (⊤ : EReal) (-⊤) = ⊤ by simp, EReal.neg_top, log1p_exp_bot]; simp

theorem sp_bot : sp ⊥ = 0 := by
  unfold sp
  rw [show max (⊥ : EReal) (-⊥) = ⊤ by simp, EReal.neg_top, log1p_exp_bot]; simp

/-- Softplus is never negative. -/
theorem sp_nonneg (z : EReal) : 0 ≤ sp z := by
  induction z using EReal.rec with
  | bot => rw [sp_bot]
  | top => rw [sp_top]; exact le_top
  | coe x =>
    rw [sp_coe]
    have h1 : 0 ≤ Real.log (1 + Real.exp (-|x|)) := Real.log_nonneg (by have := Real.exp_pos (-|x|); linarith)
    exact_mod_cast add_nonneg (le_max_right x 0) h1

/-- For a real score, `-softplus (-x) = x - softplus x`. -/
theorem sp_neg_coe (x : ℝ) : -sp (-(x : EReal)) = (x : EReal) - sp x := by
  rw [← EReal.coe_neg, sp_coe, sp_coe, ← EReal.coe_neg, ← EReal.coe_sub, abs_neg]
  congr 1
  rcases le_total 0 x with h | h
  · rw [max_eq_left h, max_eq_right (by linarith)]; ring
  · rw [max_eq_right h, max_eq_left (by linarith)]; ring

/-- The two spellings of a weight agree: the kernel subtracts from the score its softplus, the later softpluses `A` of its
    own block and those `C` of the blocks to the right; the reference adds to the log-sigmoid `-softplus (-z)` the
    exclusive sum from the right, written as the inclusive one minus the term itself. -/
theorem weight_eq (z A C : EReal) (hA : 0 ≤ A) (hC : 0 ≤ C) :
    Ideal.exp (z - sp z - A - C) = Ideal.exp (-sp (-z) + (-(sp z + (A + C)) - -sp z)) := by
  have nA : A ≠ ⊥ := fun h => by rw [h] at hA; exact absurd hA (by simp)
  have nC : C ≠ ⊥ := fun h => by rw [h] at hC; exact absurd hC (by simp)
  congr 1
  induction z using EReal.rec with
  | bot => simp [sp_bot, sp_top, sub_eq_add_neg]
  | top =>
    have : (⊤ : EReal) + (A + C) = ⊤ := EReal.top_add_of_ne_bot (by
      intro h; rcases EReal.add_eq_bot_iff.1 h with h | h <;> contradiction)
    simp [sp_bot, sp_top, sub_eq_add_neg, this]
  | coe x =>
    rw [sp_neg_coe, sp_coe, ← EReal.coe_sub]
    generalize max x 0 + Real.log (1 + Real.exp (-|x|)) = p
    induction A using EReal.rec with
    | bot => exact absurd rfl nA
    | top => simp [sub_eq_add_neg, nC]
    | coe a =>
      induction C using EReal.rec with
      | bot => exact absurd rfl nC
      | top => simp [sub_eq_add_neg]
      | coe c => norm_cast; ring

/-- The negative of a sum of nonnegative terms is the sum of their negatives. -/
theorem neg_sum_of_nonneg {ι : Type} (S : Finset ι) (f : ι → EReal) (hf : ∀ i, 0 ≤ f i) :
    ∑ i ∈ S, -f i = -∑ i ∈ S, f i := by
  classical
  induction S using Finset.induction_on with
  | empty => simp
  | insert a S ha ih =>
    rw [Finset.sum_insert ha, Finset.sum_insert ha, ih, EReal.neg_add, sub_eq_add_neg]
    · left; intro h; have := hf a; rw [h] at this; exact absurd this (by simp)
    · right; intro h; have := Finset.sum_nonneg (s := S) fun i _ => hf i; rw [h] at this; exact absurd this (by simp)

section Row

variable (t : ℕ) (z v : ℕ → EReal)

/-- The softplus of key `s`'s score where the key lies before the query, 0 elsewhere. -/
def gap (s : ℕ) : EReal := if s < t then sp (z s) else 0

/-- The sum of `gap` over the keys from `s` on. -/
def from' (s : ℕ) : EReal := ∑ i ∈ Finset.Ico s 4096, gap t z i

/-- The weight of key `s`, in the reference's spelling. -/
def wt (s : ℕ) : EReal := if s < t then Ideal.exp (-sp (-z s) + (-from' t z s - -sp (z s))) else 0

/-- The weighted sum of the values of the keys from `o` on. -/
def out (o : ℕ) : EReal := ∑ s ∈ Finset.Ico o 4096, wt t z s * v s

theorem gap_nonneg (s : ℕ) : 0 ≤ gap t z s := by
  unfold gap; split
  · exact sp_nonneg _
  · exact le_rfl

theorem from'_nonneg (s : ℕ) : 0 ≤ from' t z s := Finset.sum_nonneg fun i _ => gap_nonneg t z i

/-- A sum over 128 consecutive keys and the keys after them. -/
theorem sum_block (f : ℕ → EReal) (o : ℕ) (ho : o + 128 ≤ 4096) :
    ∑ s ∈ Finset.Ico o 4096, f s = ∑ s ∈ Finset.Ico (o + 128) 4096, f s + ∑ j : Fin 128, f (o + j.val) := by
  rw [← Finset.sum_Ico_consecutive f (show o ≤ o + 128 by omega) ho, add_comm, Finset.sum_Ico_eq_sum_range f o (o + 128),
    show o + 128 - o = 128 by omega, Finset.sum_range]

/-- The keys after key `j` of a block: the later keys of the block, and the blocks to the right. -/
theorem from'_split (o : ℕ) (ho : o + 128 ≤ 4096) (j : Fin 128) :
    from' t z (o + j.val) = gap t z (o + j.val) +
      ((∑ i : Fin 128, if j.val < i.val then gap t z (o + i.val) else 0) + from' t z (o + 128)) := by
  have hj := j.isLt
  unfold from'
  rw [Finset.sum_eq_sum_Ico_succ_bot (show o + j.val < 4096 by omega),
    ← Finset.sum_Ico_consecutive _ (show o + j.val + 1 ≤ o + 128 by omega) ho]
  congr 2
  rw [Fin.sum_univ_eq_sum_range (fun i => if j.val < i then gap t z (o + i) else 0) 128, ← Finset.sum_filter]
  rw [show (Finset.range 128).filter (fun i => j.val < i) = Finset.Ico (j.val + 1) 128 by
    ext i; simp only [Finset.mem_filter, Finset.mem_range, Finset.mem_Ico]; omega]
  rw [Finset.sum_Ico_add (fun i => gap t z i) (j.val + 1) 128 o, show j.val + 1 + o = o + j.val + 1 by omega,
    show 128 + o = o + 128 by omega]

/-- One key of a block: the kernel's weight, from the block's own softpluses and the carry, is the reference's. -/
theorem wt_block (o : ℕ) (ho : o + 128 ≤ 4096) (j : Fin 128) (h : o + j.val < t) :
    Ideal.exp (z (o + j.val) - gap t z (o + j.val) - (∑ i : Fin 128, if j.val < i.val then gap t z (o + i.val) else 0)
      - from' t z (o + 128)) = wt t z (o + j.val) := by
  unfold wt
  rw [if_pos h, from'_split t z o ho j, show gap t z (o + j.val) = sp (z (o + j.val)) from if_pos h]
  exact weight_eq _ _ _ (Finset.sum_nonneg fun i _ => by split; exact gap_nonneg t z _; exact le_rfl) (from'_nonneg t z _)

/-- The carry after a block. -/
theorem carry_block (o : ℕ) (ho : o + 128 ≤ 4096) :
    from' t z (o + 128) + (∑ i : Fin 128, if 0 < i.val then gap t z (o + i.val) else 0) + gap t z o = from' t z o := by
  have := from'_split t z o ho 0
  simp only [Fin.val_zero, add_zero] at this
  rw [this, add_comm, add_comm (from' t z (o + 128))]

/-- The weighted sum after a block. -/
theorem out_block (o : ℕ) (ho : o + 128 ≤ 4096) :
    out t z v (o + 128) + ∑ j : Fin 128, wt t z (o + j.val) * v (o + j.val) = out t z v o :=
  (sum_block (fun s => wt t z s * v s) o ho).symm

/-- Past the query there is nothing to carry. -/
theorem from'_past (o : ℕ) (h : t ≤ o) : from' t z o = 0 :=
  Finset.sum_eq_zero fun i hi => if_neg (by have := (Finset.mem_Ico.1 hi).1; omega)

/-- Past the query there is nothing to add. -/
theorem out_past (o : ℕ) (h : t ≤ o) : out t z v o = 0 :=
  Finset.sum_eq_zero fun i hi => by
    unfold wt; rw [if_neg (by have := (Finset.mem_Ico.1 hi).1; omega), zero_mul]

end Row

end Cert.Attn

end
-- ==== Proof.Attn.Rows.lean ====
/- What the attention's arguments hold, as one query's row of scores and one column of values: functions of the key's
   position. Both programs' results are stated with them. -/
module

public import proofs.«01_k».proof.Proof.Attn.Weights
public import Idealize.ShloMosaic.Lib.Pointwise
public import Idealize.ShloMosaic.Lib.WordCmp

@[expose] public section

noncomputable section

namespace Cert.Attn

open Idealize.ShloMosaic

/-- A 16384 × 1024 array: four batches of 4096 tokens, eight heads of 128 columns. -/
abbrev Mat : Type := (⟨2, ![16384, 1024]⟩ : Shape).Idx → EReal

/-- Row `t` of batch `b`. -/
def tok (b : Fin 4) (t : Fin 4096) : Fin 16384 := ⟨b.val * 4096 + t.val, by omega⟩

/-- Column `x` of head `h`. -/
def col (h : Fin 8) (x : Fin 128) : Fin 1024 := ⟨h.val * 128 + x.val, by omega⟩

/-- The score of query `t` against key `s` in head `h` of batch `b`: the scaled inner product plus the head's bias. -/
def score (q k : Mat) (bias : (⟨1, ![8]⟩ : Shape).Idx → EReal) (b : Fin 4) (h : Fin 8) (t s : Fin 4096) : EReal :=
  (∑ x : Fin 128, q (ix2 (tok b t) (col h x)) * k (ix2 (tok b s) (col h x))) * Ideal.ofBits FTy.f32 1035273459#32
    + bias (ix1 h)

/-- The scores of one query, as a function of the key's position. -/
def zrow (q k : Mat) (bias : (⟨1, ![8]⟩ : Shape).Idx → EReal) (b : Fin 4) (h : Fin 8) (t : Fin 4096) (s : ℕ) : EReal :=
  if hs : s < 4096 then score q k bias b h t ⟨s, hs⟩ else 0

/-- One column of a batch's values, as a function of the key's position. -/
def vrow (v : Mat) (b : Fin 4) (j : Fin 1024) (s : ℕ) : EReal :=
  if hs : s < 4096 then v (ix2 (tok b ⟨s, hs⟩) j) else 0

/-- The attention's result: row `r`, column `j`. -/
def attn (q k v : Mat) (bias : (⟨1, ![8]⟩ : Shape).Idx → EReal) (b : Fin 4) (t : Fin 4096) (h : Fin 8) (x : Fin 128) : EReal :=
  out t.val (zrow q k bias b h t) (vrow v b (col h x)) 0

/-- The attention's whole result. -/
def attnArr (q k v : Mat) (bias : (⟨1, ![8]⟩ : Shape).Idx → EReal) : Mat := fun i =>
  have h0 : (i 0).val < 16384 := (i 0).isLt
  have h1 : (i 1).val < 1024 := (i 1).isLt
  attn q k v bias ⟨(i 0).val / 4096, by omega⟩ ⟨(i 0).val % 4096, by omega⟩ ⟨(i 1).val / 128, by omega⟩ ⟨(i 1).val % 128, by omega⟩

/-- Every row is some token's. -/
theorem tok_div_mod (r : Fin 16384) : tok ⟨r.val / 4096, by omega⟩ ⟨r.val % 4096, by omega⟩ = r :=
  Fin.ext (by show r.val / 4096 * 4096 + r.val % 4096 = r.val; omega)

/-- Every column is some head's. -/
theorem col_div_mod (j : Fin 1024) : col ⟨j.val / 128, by omega⟩ ⟨j.val % 128, by omega⟩ = j :=
  Fin.ext (by show j.val / 128 * 128 + j.val % 128 = j.val; omega)

/-- The whole result at a token's row and a head's column. -/
theorem attnArr_apply (q k v : Mat) (bias : (⟨1, ![8]⟩ : Shape).Idx → EReal) (b : Fin 4) (t : Fin 4096) (h : Fin 8) (x : Fin 128) :
    attnArr q k v bias (ix2 (tok b t) (col h x)) = attn q k v bias b t h x := by
  have e0 : (⟨(tok b t).val / 4096, by omega⟩ : Fin 4) = b := Fin.ext (by show (b.val * 4096 + t.val) / 4096 = b.val; omega)
  have e1 : (⟨(tok b t).val % 4096, by omega⟩ : Fin 4096) = t := Fin.ext (by show (b.val * 4096 + t.val) % 4096 = t.val; omega)
  have e2 : (⟨(col h x).val / 128, by omega⟩ : Fin 8) = h := Fin.ext (by show (h.val * 128 + x.val) / 128 = h.val; omega)
  have e3 : (⟨(col h x).val % 128, by omega⟩ : Fin 128) = x := Fin.ext (by show (h.val * 128 + x.val) % 128 = x.val; omega)
  show attn q k v bias ⟨(tok b t).val / 4096, _⟩ ⟨(tok b t).val % 4096, _⟩ ⟨(col h x).val / 128, _⟩ ⟨(col h x).val % 128, _⟩ = _
  rw [e0, e1, e2, e3]

/-- Choosing by a signed comparison of two small positions. -/
theorem select_slt {α : Type} (a b : ℕ) (ha : a < 2147483648) (hb : b < 2147483648) (x y : α) :
    Scalar.select (IntOp.cmpi .slt (BitVec.ofNat 32 a) (BitVec.ofNat 32 b)) x y = if a < b then x else y := by
  rw [WordCmp.cmpi_slt_ofNat (w := 32) ha hb]
  unfold Scalar.select
  by_cases h : a < b <;> simp [h]

end Cert.Attn

end
-- ==== Proof.Attn.Block.lean ====
/- What one block of 128 keys does to a block of 256 queries, row by row: from the scores `z`, the carry and the running
   sum at the block's right edge, the kernel's step gives the carry and the running sum at its left edge. The two blocks on
   the diagonal are masked, the others are not. -/
module

public import proofs.«01_k».proof.Proof.Gen.AttentionIdeal.Value
public import proofs.«01_k».proof.Proof.Attn.Rows

@[expose] public section

set_option maxRecDepth 16384

noncomputable section

namespace Cert.Attn

open Cert.AttentionIdeal Cert.AttentionIdeal.Gen Idealize.ShloMosaic Idealize.ShloMosaic.TcCoe Idealize.SL.Sem

variable (t o : ℕ) (z v : ℕ → EReal) (r : Fin 256)

/-- Choosing by a signed comparison of two small positions, the other way round. -/
theorem select_sgt {α : Type} (a b : ℕ) (ha : a < 2147483648) (hb : b < 2147483648) (x y : α) :
    Scalar.select (IntOp.cmpi .sgt (BitVec.ofNat 32 a) (BitVec.ofNat 32 b)) x y = if b < a then x else y := by
  rw [WordCmp.cmpi_sgt_ofNat (w := 32) ha hb]
  unfold Scalar.select
  by_cases h : b < a <;> simp [h]

/-- Choosing by a signed comparison of a shifted position with another. -/
theorem select_slt_add {α : Type} (a c b : ℕ) (ha : a + c < 2147483648) (hb : b < 2147483648) (x y : α) :
    Scalar.select (IntOp.cmpi .slt (IntOp.addi (BitVec.ofNat 32 a) (BitVec.ofNat 32 c)) (BitVec.ofNat 32 b)) x y
      = if a + c < b then x else y := by
  rw [show IntOp.addi (BitVec.ofNat 32 a) (BitVec.ofNat 32 c) = BitVec.ofNat 32 (a + c) from (BitVec.ofNat_add a c).symm,
    select_slt _ _ ha hb]

/-- Softplus as the kernel writes it. -/
theorem sp_kernel (x : EReal) : max x 0 + Ideal.log1p (Ideal.exp (0 - FloatOps.absf (F := Ideal) (φ := .f32) x)) = sp x := by
  rw [zero_sub]; rfl

section Right

variable (b : Elt Ideal .f32) (q : Vec Ideal S256x128 .bf16) (k w : Vec Ideal S128x128 .bf16)
  (hz : ∀ j : Fin 128, k0_pay5 (F := Ideal) b q k (ix2 r j) = z (o + j.val))
  (ht : ∀ j : Fin 128, j.val + 128 < r.val ↔ o + j.val < t)

include hz ht

/-- The right diagonal block's masked softpluses. -/
theorem right_gap (j : Fin 128) :
    k0_pay8 (F := Ideal) k0_pay4 (k0_pay6 b q k) (k0_pay7 b q k) (ix2 r j) = gap t z (o + j.val) := by
  have hj := j.isLt
  have hzj := hz j
  pointwise [k0_pay8, k0_pay4, k0_pay6, k0_pay7]
  rw [sp_kernel, hzj, select_slt_add _ _ _ (by omega) (by omega)]
  unfold gap; simp only [ht j]

/-- The sums of the softpluses to the right of each key within the right diagonal block. -/
theorem right_later (j : Fin 128) :
    k0_pay9 (F := Ideal) k0_pay1 k0_pay4 (k0_pay6 b q k) (k0_pay7 b q k) (ix2 r j)
      = ∑ i : Fin 128, if j.val < i.val then gap t z (o + i.val) else 0 := by
  pointwise [k0_pay9, k0_pay1]
  refine Finset.sum_congr rfl fun x _ => ?_
  rw [right_gap t o z r b q k hz ht, select_sgt _ _ (by omega) (by omega)]

/-- The carry after the right diagonal block. -/
theorem right_carry (ho : o + 128 ≤ 4096) (hr : t ≤ o + 128) :
    k0_pay10 (F := Ideal) k0_pay1 k0_pay3 k0_pay4 (k0_pay6 b q k) (k0_pay7 b q k) (ix2 r 0) = from' t z o := by
  rw [← carry_block t z o ho, from'_past t z _ hr]
  pointwise [k0_pay10, k0_pay3]
  rw [right_later t o z r b q k hz ht, right_gap t o z r b q k hz ht]; rfl

/-- The running sum after the right diagonal block. -/
theorem right_out (ho : o + 128 ≤ 4096) (hr : t ≤ o + 128) (d : Fin 128) (hw : ∀ j : Fin 128, w (ix2 j d) = v (o + j.val)) :
    k0_pay11 (F := Ideal) k0_pay1 k0_pay3 k0_pay4 w (k0_pay5 b q k) (k0_pay6 b q k) (k0_pay7 b q k) (k0_pay2 (F := Ideal)) (ix2 r d)
      = out t z v o := by
  rw [← out_block t z v o ho, out_past t z v _ hr]
  pointwise [k0_pay11, k0_pay3, k0_pay2]
  refine Finset.sum_congr rfl fun j _ => ?_
  have hj := j.isLt
  rw [right_later t o z r b q k hz ht, right_gap t o z r b q k hz ht, hw, hz]
  pointwise [k0_pay4]
  rw [select_slt_add _ _ _ (by omega) (by omega)]
  congr 1
  by_cases h : o + j.val < t
  · rw [if_pos ((ht j).2 h), ← wt_block t z o ho j h, from'_past t z _ hr, sub_zero]
  · rw [if_neg (by rw [ht j]; exact h)]; unfold wt; rw [if_neg h, zero_mul]

end Right

section Left

variable (C : FVec Ideal S256x1 .f32) (Z : FVec Ideal S256x128 .f32) (w : Vec Ideal S128x128 .bf16) (A : Vec Ideal S256x128 .f32)
  (hz : ∀ j : Fin 128, Z (ix2 r j) = z (o + j.val))
  (ht : ∀ j : Fin 128, j.val < r.val ↔ o + j.val < t)

/-- The left diagonal block's mask. -/
abbrev leftMask : IVec S256x128 1 :=
  k0_pay12 (iota .tc S256x128 32 [0] iota_S256x128_d0_w32) (iota .tc S256x128 32 [1] iota_S256x128_d1_w32)

include hz ht

/-- The left diagonal block's masked softpluses. -/
theorem left_gap (j : Fin 128) : k0_pay15 (F := Ideal) leftMask Z k0_pay14 (ix2 r j) = gap t z (o + j.val) := by
  have hzj := hz j
  pointwise [k0_pay15, leftMask, k0_pay12, k0_pay14]
  rw [sp_kernel, hzj, select_slt_add _ _ _ (by omega) (by omega)]
  unfold gap; simp only [add_zero, ht j]

/-- The sums of the softpluses to the right of each key within the left diagonal block. -/
theorem left_later (j : Fin 128) :
    k0_pay16 (F := Ideal) k0_pay1 leftMask Z k0_pay14 (ix2 r j)
      = ∑ i : Fin 128, if j.val < i.val then gap t z (o + i.val) else 0 := by
  pointwise [k0_pay16, k0_pay1]
  refine Finset.sum_congr rfl fun x _ => ?_
  rw [left_gap t o z r Z hz ht, select_sgt _ _ (by omega) (by omega)]

/-- The carry after the left diagonal block. -/
theorem left_carry (ho : o + 128 ≤ 4096) (hC : C (ix2 r 0) = from' t z (o + 128)) :
    k0_pay17 (F := Ideal) k0_pay1 C leftMask Z k0_pay14 (ix2 r 0) = from' t z o := by
  rw [← carry_block t z o ho]
  pointwise [k0_pay17]
  rw [left_later t o z r Z hz ht, left_gap t o z r Z hz ht, hC]; rfl

/-- The running sum after the left diagonal block. -/
theorem left_out (ho : o + 128 ≤ 4096) (hC : C (ix2 r 0) = from' t z (o + 128)) (d : Fin 128)
    (hA : A (ix2 r d) = out t z v (o + 128)) (hw : ∀ j : Fin 128, w (ix2 j d) = v (o + j.val)) :
    k0_pay18 (F := Ideal) k0_pay1 C leftMask w Z k0_pay14 A (ix2 r d) = out t z v o := by
  rw [← out_block t z v o ho, ← hA]
  pointwise [k0_pay18]
  refine congrArg _ (Finset.sum_congr rfl fun j _ => ?_)
  have hj := j.isLt
  rw [left_later t o z r Z hz ht, left_gap t o z r Z hz ht, hw, hz, hC]
  pointwise [leftMask, k0_pay12]
  rw [select_slt_add _ _ _ (by omega) (by omega)]
  congr 1
  by_cases h : o + j.val < t
  · rw [if_pos (by have := (ht j).2 h; omega), wt_block t z o ho j h]
  · rw [if_neg (by rw [add_zero, ht j]; exact h)]; unfold wt; rw [if_neg h, zero_mul]

end Left

section Far

variable (b : Elt Ideal .f32) (q : Vec Ideal S256x128 .bf16) (k w : Vec Ideal S128x128 .bf16)
  (C : FVec Ideal S256x1 .f32) (A : Vec Ideal S256x128 .f32)
  (hz : ∀ j : Fin 128, k0_pay19 (F := Ideal) b q k (ix2 r j) = z (o + j.val)) (ht : o + 128 ≤ t)

include hz ht

/-- A block left of the diagonal: its softpluses. -/
theorem far_gap (j : Fin 128) : k0_pay20 (F := Ideal) b q k (ix2 r j) = gap t z (o + j.val) := by
  have hzj := hz j
  unfold gap; rw [if_pos (by omega)]
  pointwise [k0_pay20]
  rw [sp_kernel, hzj]

/-- The sums of the softpluses to the right of each key within the block. -/
theorem far_later (j : Fin 128) :
    k0_pay21 (F := Ideal) b q k0_pay1 k (ix2 r j) = ∑ i : Fin 128, if j.val < i.val then gap t z (o + i.val) else 0 := by
  pointwise [k0_pay21, k0_pay1]
  refine Finset.sum_congr rfl fun x _ => ?_
  rw [far_gap t o z r b q k hz ht, select_sgt _ _ (by omega) (by omega)]

/-- The carry after the block. -/
theorem far_carry (ho : o + 128 ≤ 4096) (hC : C (ix2 r 0) = from' t z (o + 128)) :
    k0_pay22 (F := Ideal) b q k0_pay1 C k (ix2 r 0) = from' t z o := by
  rw [← carry_block t z o ho]
  pointwise [k0_pay22]
  rw [far_later t o z r b q k hz ht, far_gap t o z r b q k hz ht, hC]; rfl

/-- The running sum after the block. -/
theorem far_out (ho : o + 128 ≤ 4096) (hC : C (ix2 r 0) = from' t z (o + 128)) (d : Fin 128)
    (hA : A (ix2 r d) = out t z v (o + 128)) (hw : ∀ j : Fin 128, w (ix2 j d) = v (o + j.val)) :
    k0_pay23 (F := Ideal) b q k0_pay1 C k w A (ix2 r d) = out t z v o := by
  rw [← out_block t z v o ho, ← hA]
  pointwise [k0_pay23]
  refine congrArg _ (Finset.sum_congr rfl fun j _ => ?_)
  rw [far_later t o z r b q k hz ht, far_gap t o z r b q k hz ht, hw, hz, hC, wt_block t z o ho j (by omega)]

end Far

end Cert.Attn

end
-- ==== Proof.Attn.Offsets.lean ====
/- Where the attention's loads and loops are, read off the program's index arithmetic at every grid point. -/
module

public import proofs.«01_k».proof.Proof.Gen.AttentionIdeal.Value

@[expose] public section

set_option maxRecDepth 16384

namespace Cert.Attn

open Cert.AttentionIdeal Cert.AttentionIdeal.Gen Idealize.ShloMosaic Idealize.ShloMosaic.TcCoe Idealize.SL.Sem

/-- The loop's block at trip `k` of query block `i`: it walks left from the diagonal. -/
theorem off3 : ∀ (i : grid0.Coords) (k : Fin (k0_t1_loop i).trips), k0_off3 i k = ![128 * (2 * (i 2).val - 1 - k.val), 0] := by
  decide +kernel

/-- The two blocks on the diagonal. -/
theorem off2 : ∀ (i : grid0.Coords) (k : Fin 2), k0_off2 i (BitVec.ofNat 32 k.val) = ![256 * (i 2).val + 128 * k.val, 0] := by
  decide +kernel

/-- The head's place in the bias array. -/
theorem off1 : ∀ i : grid0.Coords, k0_off1 i = ![(i 1).val] := by
  decide +kernel

/-- The loop runs over every block left of the diagonal. -/
theorem trips1 : ∀ i : grid0.Coords, (k0_t1_loop i).trips = 2 * (i 2).val := by
  decide +kernel

/-- The loop for the remainder never runs. -/
theorem trips2 : ∀ i : grid0.Coords, (k0_t2_loop i).trips = 0 := by
  decide +kernel

theorem coord2_lt (i : grid0.Coords) : (i 2).val < 16 := (i 2).isLt

end Cert.Attn
-- ==== Proof.Attn.Walk.lean ====
/- One grid point of the attention: the two blocks on the diagonal, then the loop over the blocks left of it. At every row
   the walk ends with the weighted sum over all keys, and that is what the point's output block holds. -/
module

public import proofs.«01_k».proof.Proof.Attn.Block
public import proofs.«01_k».proof.Proof.Attn.Offsets
public import Idealize.ShloMosaic.Lib.VecWindow
public import Idealize.ShloMosaic.Lib.Pipeline.ValueKit
public import Idealize.ShloMosaic.Lib.WholeRead

@[expose] public section

set_option maxRecDepth 16384

noncomputable section

namespace Cert.Attn

open Cert.AttentionIdeal Cert.AttentionIdeal.Gen Idealize.ShloMosaic Idealize.ShloMosaic.TcCoe Idealize.SL.Sem
open Idealize.ShloMosaic.Pipeline (Dat)

/-- The whole accumulator. -/
abbrev full : LoadRect S256x128 := (Rect.unit (s := S256x128) ![0, 0] S256x128.size inb_S256x128_S256x128_0_0).toLoadRect

section Loop

variable (c : Dev nD) (i : grid0.Coords) (arg3 : Memref sig .tc .smem S8 .f32) (harg3 : arg3.IsWhole)
  (arg4 : Memref sig .tc .vmem S256x128 .bf16) (harg4 : arg4.IsWhole) (arg5 : Memref sig .tc .vmem S4096x128 .bf16) (harg5 : arg5.IsWhole)
  (arg6 : Memref sig .tc .vmem S4096x128 .bf16) (harg6 : arg6.IsWhole) (arg7 : Memref sig .tc .vmem S256x128 .bf16) (harg7 : arg7.IsWhole)
  (arg8 : Memref sig .tc .vmem S256x128 .f32) (harg8 : arg8.IsWhole) (arg2 : BitVec 32) (v1 : Elt Ideal .f32)
  (v2 : Vec Ideal S256x128 .bf16) (v57 : FVec Ideal S256x1 .f32) (v67 : IVec S256x128 1)
  (v73 : Vec Ideal S128x128 .bf16) (v78 v79 : FVec Ideal S256x128 .f32)
  (X5 : BufTy.Contents (Elt Ideal) arg5.view.ty) (X6 : BufTy.Contents (Elt Ideal) arg6.view.ty)
  (G : BufTy.Contents (Elt Ideal) arg8.view.ty) (init : FVec Ideal S256x1 .f32)

/-- What trip `k` loads of the keys. -/
abbrev keysAt (k : Fin (k0_t1_loop i).trips) : Vec Ideal S128x128 .bf16 :=
  View.readAt (Elt Ideal) arg5.view (Rect.unit (s := S4096x128) (k0_off3 i k) S128x128.size (k0_off3_inb i k)).toLoadRect X5

/-- The state after one more trip: the carried column, and the pieces written. -/
theorem trip_eq (k : Fin (k0_t1_loop i).trips) :
    st_k0_t1 (F := Ideal) Variants.none c none i arg3 harg3 arg4 harg4 arg5 harg5 arg6 harg6 arg7 harg7 arg8 harg8 arg2 v1 v2 k0_pay1 v57 v67 v73 v78 v79 X5 X6 G init (k.val + 1)
      = let s := st_k0_t1 (F := Ideal) Variants.none c none i arg3 harg3 arg4 harg4 arg5 harg5 arg6 harg6 arg7 harg7 arg8 harg8 arg2 v1 v2 k0_pay1 v57 v67 v73 v78 v79 X5 X6 G init k.val
        (k0_pay22 v1 v2 k0_pay1 s.1 (keysAt i arg5 X5 k),
          [⟨Rect.unit ![0, 0] S256x128.size inb_S256x128_S256x128_0_0,
            k0_pay23 v1 v2 k0_pay1 s.1 (keysAt i arg5 X5 k) (keysAt i arg6 X6 k)
              (View.readAt (Elt Ideal) arg8.view full (arg8.view.writes (Elt Ideal) G s.2))⟩] ++ s.2) := by
  rw [st_k0_t1_succ]
  unfold tripR_k0_t1 tripL_k0_t1 trip_k0_t1
  rfl

variable (r : Fin 256) (d : Fin 128) (t : ℕ) (z v : ℕ → EReal)

/-- The loop's invariant: before trip `k` the carry and the running sum of the row are those at the block's right edge. -/
theorem loop_row (ht : 256 * (i 2).val ≤ t)
    (hz : ∀ (k : Fin (k0_t1_loop i).trips) (j : Fin 128),
      k0_pay19 (F := Ideal) v1 v2 (keysAt i arg5 X5 k) (ix2 r j) = z (128 * (2 * (i 2).val - 1 - k.val) + j.val))
    (hv : ∀ (k : Fin (k0_t1_loop i).trips) (j : Fin 128),
      keysAt i arg6 X6 k (ix2 j d) = v (128 * (2 * (i 2).val - 1 - k.val) + j.val))
    (hinit : init (ix2 r 0) = from' t z (256 * (i 2).val))
    (hG : View.readAt (Elt Ideal) arg8.view full G (ix2 r d) = out t z v (256 * (i 2).val)) (k : ℕ) (hk : k ≤ 2 * (i 2).val) :
    let s := st_k0_t1 (F := Ideal) Variants.none c none i arg3 harg3 arg4 harg4 arg5 harg5 arg6 harg6 arg7 harg7 arg8 harg8 arg2 v1 v2 k0_pay1 v57 v67 v73 v78 v79 X5 X6 G init k
    s.1 (ix2 r 0) = from' t z (128 * (2 * (i 2).val - k)) ∧
      View.readAt (Elt Ideal) arg8.view full (arg8.view.writes (Elt Ideal) G s.2) (ix2 r d) = out t z v (128 * (2 * (i 2).val - k)) := by
  have hi := coord2_lt i
  induction k with
  | zero =>
    rw [Nat.sub_zero, show 128 * (2 * (i 2).val) = 256 * (i 2).val by omega]
    exact ⟨hinit, hG⟩
  | succ k ih =>
    have ih := ih (by omega)
    have hlt : k < (k0_t1_loop i).trips := by rw [trips1]; omega
    have e := trip_eq c i arg3 harg3 arg4 harg4 arg5 harg5 arg6 harg6 arg7 harg7 arg8 harg8 arg2 v1 v2 v57 v67 v73 v78 v79 X5 X6 G init ⟨k, hlt⟩
    dsimp only at e ih ⊢
    rw [e]
    generalize st_k0_t1 (F := Ideal) Variants.none c none i arg3 harg3 arg4 harg4 arg5 harg5 arg6 harg6 arg7 harg7 arg8 harg8 arg2 v1 v2 k0_pay1 v57 v67 v73 v78 v79 X5 X6 G init k = s at ih ⊢
    have ho : 128 * (2 * (i 2).val - k) = 128 * (2 * (i 2).val - 1 - k) + 128 := by omega
    rw [ho] at ih
    rw [show 2 * (i 2).val - (k + 1) = 2 * (i 2).val - 1 - k by omega]
    refine ⟨far_carry t _ z r v1 v2 _ s.1 (hz ⟨k, hlt⟩) (by omega) (by omega) ih.1, ?_⟩
    rw [List.cons_append, List.nil_append, View.readAt_writes_full]
    exact far_out t _ z v r v1 v2 _ _ s.1 _ (hz ⟨k, hlt⟩) (by omega) (by omega) ih.1 d ih.2 (hv ⟨k, hlt⟩)

/-- The whole walk: what the accumulator holds when the block is written out. -/
theorem walk (ht : 256 * (i 2).val ≤ t)
    (hz : ∀ (k : Fin (k0_t1_loop i).trips) (j : Fin 128),
      k0_pay19 (F := Ideal) v1 v2 (keysAt i arg5 X5 k) (ix2 r j) = z (128 * (2 * (i 2).val - 1 - k.val) + j.val))
    (hv : ∀ (k : Fin (k0_t1_loop i).trips) (j : Fin 128),
      keysAt i arg6 X6 k (ix2 j d) = v (128 * (2 * (i 2).val - 1 - k.val) + j.val))
    (hinit : init (ix2 r 0) = from' t z (256 * (i 2).val))
    (A : (Rect.unit (s := S256x128) ![0, 0] S256x128.size inb_S256x128_S256x128_0_0).shape.Idx → Elt Ideal .f32)
    (L : List (View.Piece (Elt Ideal) S256x128 .f32))
    (hA : A (ix2 r d) = out t z v (256 * (i 2).val)) (G2 : BufTy.Contents (Elt Ideal) arg8.view.ty) (init2 : FVec Ideal S256x1 .f32)
    (T1 T2 : ℕ) (h1 : T1 = (k0_t1_loop i).trips) (h2 : T2 = (k0_t2_loop i).trips) :
    arg8.view.readCov
      ((st_k0_t2 (F := Ideal) Variants.none c none i arg3 harg3 arg4 harg4 arg5 harg5 arg6 harg6 arg7 harg7 arg8 harg8 arg2 v1 v2 k0_pay1 v57 v67 v73 v78 v79 X5 X6 G2 init2 T2).2 ++
        ((st_k0_t1 (F := Ideal) Variants.none c none i arg3 harg3 arg4 harg4 arg5 harg5 arg6 harg6 arg7 harg7 arg8 harg8 arg2 v1 v2 k0_pay1 v57 v67 v73 v78 v79 X5 X6
            (arg8.view.writes (Elt Ideal) arg8.view.junk (⟨Rect.unit ![0, 0] S256x128.size inb_S256x128_S256x128_0_0, A⟩ :: L)) init T1).2 ++
          ⟨Rect.unit ![0, 0] S256x128.size inb_S256x128_S256x128_0_0, A⟩ :: L)) full (ix2 r d)
      = out t z v 0 := by
  rw [h2, trips2, h1, trips1]
  have e0 : (st_k0_t2 (F := Ideal) Variants.none c none i arg3 harg3 arg4 harg4 arg5 harg5 arg6 harg6 arg7 harg7 arg8 harg8 arg2 v1 v2 k0_pay1 v57 v67 v73 v78 v79 X5 X6 G2 init2 0).2 = [] := rfl
  have l := loop_row c i arg3 harg3 arg4 harg4 arg5 harg5 arg6 harg6 arg7 harg7 arg8 harg8 arg2 v1 v2 v57 v67 v73 v78 v79 X5 X6
    (arg8.view.writes (Elt Ideal) arg8.view.junk (⟨Rect.unit ![0, 0] S256x128.size inb_S256x128_S256x128_0_0, A⟩ :: L)) init r d t z v ht hz hv hinit
    (by rw [View.readAt_writes_full]; exact hA) _ le_rfl
  rw [e0, List.nil_append]
  unfold View.readCov
  rw [View.writes_append, l.2, Nat.sub_self]

end Loop

variable (m : (ℓ : Loc nD τ sig) → Buf (Elt Ideal) ℓ)

/-- The point's input blocks: the bias array, 256 queries, and the batch's keys and values. -/
abbrev biasB (c : Dev nD) (p : Fin cfg0.N) : Vec Ideal S8 .f32 := iblk m c 0 p
abbrev queryB (c : Dev nD) (p : Fin cfg0.N) : Vec Ideal S256x128 .bf16 := iblk m c 1 p
abbrev keyB (c : Dev nD) (p : Fin cfg0.N) : Vec Ideal S4096x128 .bf16 := iblk m c 2 p
abbrev valueB (c : Dev nD) (p : Fin cfg0.N) : Vec Ideal S4096x128 .bf16 := iblk m c 3 p

/-- What one grid point leaves in its output block, at row `r` and column `d`. -/
theorem point_value (c : Dev nD) (p : Fin cfg0.N) (r : Fin 256) (d : Fin 128) (z v : ℕ → EReal)
    (hz : ∀ s : Fin 4096, ((∑ x : Fin 128, (queryB m c p (ix2 r x) * keyB m c p (ix2 s x) : EReal))
      * Ideal.ofBits FTy.f32 1035273459#32 + biasB m c p (ix1 (grid0.coords p 1)) : EReal) = z s.val)
    (hv : ∀ s : Fin 4096, valueB m c p (ix2 s d) = v s.val) :
    outsAt0 m c p (ix2 r d) = out (256 * (grid0.coords p 2).val + r.val) z v 0 := by
  have hi := coord2_lt (grid0.coords p)
  have hr := r.isLt
  have hB : ∀ h, biasB m c p (ix1 ⟨k0_off1 (grid0.coords p) 0, h⟩) = biasB m c p (ix1 (grid0.coords p 1)) := by
    intro h; congr 2; apply Fin.ext; show k0_off1 (grid0.coords p) 0 = _; rw [off1]; rfl
  have ld2 : ∀ (X : Vec Ideal S4096x128 .bf16) (off : Fin 2 → ℕ) (inb) (o : ℕ) (ho : off = ![o, 0]) (j x : Fin 128) (hj : o + j.val < 4096),
      View.ld X (Rect.unit (s := S4096x128) off ![128, 128] inb) (ix2 j x) = X (ix2 ⟨o + j.val, hj⟩ x) := by
    intro X off inb o ho j x hj
    subst ho
    exact View.ld_unit_apply_of X _ _ inb _ _ fun a => match a with
      | ⟨0, _⟩ => rfl
      | ⟨1, _⟩ => (Nat.zero_add _).symm
  have score : ∀ (B : Elt Ideal .f32) (_ : B = biasB m c p (ix1 (grid0.coords p 1))) (K : Vec Ideal S128x128 .bf16) (o : ℕ) (ho : o + 128 ≤ 4096)
      (_ : ∀ (j x : Fin 128) (hj : o + j.val < 4096), K (ix2 j x) = keyB m c p (ix2 ⟨o + j.val, hj⟩ x)) (j : Fin 128),
      k0_pay19 (F := Ideal) B (queryB m c p) K (ix2 r j) = z (o + j.val) := by
    intro B eB K o ho eK j
    have hj := j.isLt
    pointwise [k0_pay19]
    refine Eq.trans ?_ (hz ⟨o + j.val, by omega⟩)
    rw [eB]
    refine congrArg (fun a : EReal => a * Ideal.ofBits FTy.f32 1035273459#32 + biasB m c p (ix1 (grid0.coords p 1))) (Finset.sum_congr rfl fun x _ => ?_)
    rw [eK j x (by omega)]
  have at2 : ∀ (mem : Memref sig .tc .vmem S4096x128 .bf16) (hm : mem.IsWhole) (X : Vec Ideal S4096x128 .bf16)
      (k : Fin (k0_t1_loop (grid0.coords p)).trips) (j x : Fin 128) (hj : 128 * (2 * (grid0.coords p 2).val - 1 - k.val) + j.val < 4096),
      keysAt (grid0.coords p) mem (hm.unread X) k (ix2 j x) = X (ix2 ⟨128 * (2 * (grid0.coords p 2).val - 1 - k.val) + j.val, hj⟩ x) := by
    intro mem hm X k j x hj
    unfold keysAt
    rw [View.readAt_eq_ld, hm.read_unread]
    exact ld2 X _ _ _ (off3 _ k) j x hj
  have hmid := fun (hk) => score _ (hB hk) (View.ld (keyB m c p) (Rect.unit (s := S4096x128) (k0_off2 (grid0.coords p) 1#32) ![128, 128] (k0_off2_inb (grid0.coords p) 1)))
    (256 * (grid0.coords p 2).val + 128) (by omega) (fun j x hj => ld2 _ _ _ _ (off2 _ 1) j x hj)
  have hleft := fun (hk) => score _ (hB hk) (View.ld (keyB m c p) (Rect.unit (s := S4096x128) (k0_off2 (grid0.coords p) 0#32) ![128, 128] (k0_off2_inb (grid0.coords p) 0)))
    (256 * (grid0.coords p 2).val) (by omega) (fun j x hj => ld2 _ _ _ _ (off2 _ 0) j x hj)
  have mt : ∀ j : Fin 128, j.val + 128 < r.val ↔ 256 * (grid0.coords p 2).val + 128 + j.val < 256 * (grid0.coords p 2).val + r.val := fun j => by omega
  have lt : ∀ j : Fin 128, j.val < r.val ↔ 256 * (grid0.coords p 2).val + j.val < 256 * (grid0.coords p 2).val + r.val := fun j => by omega
  have v1 : ∀ j : Fin 128, View.ld (valueB m c p) (Rect.unit (s := S4096x128) (k0_off2 (grid0.coords p) 1#32) ![128, 128] (k0_off2_inb (grid0.coords p) 1)) (ix2 j d)
      = v (256 * (grid0.coords p 2).val + 128 + j.val) := fun j => (ld2 _ _ _ _ (off2 _ 1) j d (by have := j.isLt; show 256 * _ + 128 * 1 + j.val < 4096; omega)).trans (hv _)
  have v0 : ∀ j : Fin 128, View.ld (valueB m c p) (Rect.unit (s := S4096x128) (k0_off2 (grid0.coords p) 0#32) ![128, 128] (k0_off2_inb (grid0.coords p) 0)) (ix2 j d)
      = v (256 * (grid0.coords p 2).val + j.val) := fun j => (ld2 _ _ _ _ (off2 _ 0) j d (by have := j.isLt; show 256 * _ + 128 * 0 + j.val < 4096; omega)).trans (hv _)
  unfold outsAt0
  frame_out
  pointwise [k0_pay29]
  refine walk c (grid0.coords p) _ _ _ _ _ _ _ _ _ _ scM0_0 _ _ _ _ _ _ _ _ _ _ _ _ r d _ z v (Nat.le_add_right _ _) ?_ ?_ ?_ _ _ ?_ _ _ _ _ rfl rfl
  · intro k j
    have hk : k.val < 2 * (grid0.coords p 2).val := by rw [← trips1]; exact k.isLt
    exact score _ (hB _) _ _ (by omega) (fun j x hj => at2 _ _ _ k j x hj) j
  · intro k j
    have hj := j.isLt
    have hk : k.val < 2 * (grid0.coords p 2).val := by rw [← trips1]; exact k.isLt
    exact (at2 _ _ _ k j d (by omega)).trans (hv _)
  · exact left_carry _ _ z r _ _ (hleft _) lt (by omega) (right_carry _ _ z r _ _ _ (hmid _) mt (by omega) (by omega))
  · exact left_out _ _ z v r _ _ _ _ (hleft _) lt (by omega) (right_carry _ _ z r _ _ _ (hmid _) mt (by omega) (by omega)) d
      (right_out _ _ z v r _ _ _ _ (hmid _) mt (by omega) (by omega) d v1) v0

end Cert.Attn

end
-- ==== Proof.Attn.Array.lean ====
/- What the attention kernel's output array holds after the run: the blocks of all grid points put together. -/
module

public import proofs.«01_k».proof.Proof.Attn.Walk
public import Idealize.ShloMosaic.Lib.Pipeline.Covers

@[expose] public section

set_option maxRecDepth 16384

noncomputable section

namespace Cert.Attn

open Cert.AttentionIdeal Cert.AttentionIdeal.Gen Idealize.ShloMosaic Idealize.ShloMosaic.TcCoe Idealize.SL.Sem
open Idealize.ShloMosaic.Pipeline (Dat)

variable (m : (ℓ : Loc nD τ sig) → Buf (Elt Ideal) ℓ)

/-- Where each point's blocks are: a batch, a head, and one of the batch's sixteen blocks of queries. -/
theorem idx : ∀ t : Fin cfg0.N,
    (cfg0.win 0).index t = ![0] ∧
    (cfg0.win 1).index t = ![(grid0.coords t 0).val * 16 + (grid0.coords t 2).val, (grid0.coords t 1).val] ∧
    (cfg0.win 2).index t = ![(grid0.coords t 0).val, (grid0.coords t 1).val] ∧
    (cfg0.win 3).index t = ![(grid0.coords t 0).val, (grid0.coords t 1).val] ∧
    (cfg0.win 4).index t = ![(grid0.coords t 0).val * 16 + (grid0.coords t 2).val, (grid0.coords t 1).val] := by
  decide +kernel

/-- The four arguments as the run finds them. -/
abbrev argQ (c : Dev nD) : Mat := m ((c : Thread nD τ).loc main_arg0)
abbrev argK (c : Dev nD) : Mat := m ((c : Thread nD τ).loc main_arg1)
abbrev argV (c : Dev nD) : Mat := m ((c : Thread nD τ).loc main_arg2)
abbrev argB (c : Dev nD) : (⟨1, ![8]⟩ : Shape).Idx → EReal := m ((c : Thread nD τ).loc main_arg3)

/-- The batch, the head and the block of queries of a point. -/
abbrev batch (t : Fin cfg0.N) : Fin 4 := grid0.coords t 0
abbrev head (t : Fin cfg0.N) : Fin 8 := grid0.coords t 1
abbrev qblock (t : Fin cfg0.N) : Fin 16 := grid0.coords t 2

theorem place (a b r : ℕ) : (a * 16 + b) * 256 + r = a * 4096 + (256 * b + r) := by omega

/-- The output's blocks by batch, head and block of queries. -/
theorem out_map : ∀ i : grid0.Coords, (cfg0.win 4).indexMap i = ![(i 0).val * 16 + (i 2).val, (i 1).val] := by
  decide +kernel

/-- A point's queries, in the array. -/
theorem query_read (c : Dev nD) (t : Fin cfg0.N) (r : Fin 256) (x : Fin 128) :
    queryB m c t (ix2 r x) = argQ m c (ix2 (tok (batch t) ⟨256 * (qblock t).val + r.val, by omega⟩) (col (head t) x)) := by
  have := (idx t).2.1
  unfold queryB argQ tok col
  blk_ext [iblk, V, this]
  exact place _ _ _

/-- A point's keys, in the array. -/
theorem key_read (c : Dev nD) (t : Fin cfg0.N) (s : Fin 4096) (x : Fin 128) :
    keyB m c t (ix2 s x) = argK m c (ix2 (tok (batch t) s) (col (head t) x)) := by
  have := (idx t).2.2.1
  unfold keyB argK tok col
  blk_ext [iblk, V, this]

/-- A point's values, in the array. -/
theorem value_read (c : Dev nD) (t : Fin cfg0.N) (s : Fin 4096) (x : Fin 128) :
    valueB m c t (ix2 s x) = argV m c (ix2 (tok (batch t) s) (col (head t) x)) := by
  have := (idx t).2.2.2.1
  unfold valueB argV tok col
  blk_ext [iblk, V, this]

/-- A point's bias array is the whole one. -/
theorem bias_read (c : Dev nD) (t : Fin cfg0.N) (h : Fin 8) : biasB m c t (ix1 h) = argB m c (ix1 h) := by
  have := (idx t).1
  unfold biasB argB
  blk_ext [iblk, V, this]

/-- The output array after the run. -/
theorem kernel_array (c : Dev nD) : (dats m 0 c).arrAt 4 cfg0.N = attnArr (argQ m c) (argK m c) (argV m c) (argB m c) := by
  refine (dats m 0 c).arrAt_eq_of_covers 4 _ ((cfg0.win 4).covers_of_indexMap_surj rfl (by decide) fun β =>
    have h0 : (β 0).val < 64 := (β 0).isLt
    ⟨fun a => match a with
      | ⟨0, _⟩ => (⟨(β 0).val / 16, by omega⟩ : Fin 4)
      | ⟨1, _⟩ => (β 1 : Fin 8)
      | ⟨2, _⟩ => (⟨(β 0).val % 16, by omega⟩ : Fin 16), fun a => ?_⟩) fun t hf y => ?_
  · rw [out_map]
    match a with
    | ⟨0, _⟩ => show (β 0).val / 16 * 16 + (β 0).val % 16 = (β 0).val; omega
    | ⟨1, _⟩ => rfl
  · blk_simp
    rw [after0_4]
    idx_vars y
    have e : ((View.whole main_v0).slice (win0_4.rect t)).emb (ix2 y0 y1)
        = ix2 (tok (batch t) ⟨256 * (qblock t).val + y0.val, by omega⟩) (col (head t) y1) := by
      have := (idx t).2.2.2.2
      unfold tok col
      blk_ext [this]
      exact place _ _ _
    rw [e, attnArr_apply]
    unfold attn
    refine point_value m c t y0 y1 _ _ (fun s => ?_) fun s => ?_
    · unfold zrow; rw [dif_pos s.isLt]
      unfold score
      refine congrArg₂ (fun a b : EReal => a * Ideal.ofBits FTy.f32 1035273459#32 + b) (Finset.sum_congr rfl fun x _ => ?_) (bias_read m c t (head t))
      rw [query_read, key_read]
    · unfold vrow; rw [dif_pos s.isLt]
      exact value_read m c t s y1

end Cert.Attn

end
-- ==== Proof.Attn.Ref.lean ====
/- What the attention's reference computes: its result at row `r`, column `j` is `Cert.Attn.attn` there. -/
module

public import proofs.«01_k».proof.Proof.Gen.AttentionRefIdeal.Read
public import proofs.«01_k».proof.Proof.Attn.Rows

@[expose] public section

set_option maxRecDepth 16384

noncomputable section

namespace Cert.Attn

open Cert.AttentionRefIdeal Cert.AttentionRefIdeal.Gen Idealize.ShloMosaic Idealize.ShloMosaic.TcCoe Idealize.SL.Sem
open Cert.AttentionRefIdeal.Read

/-- A fold that adds one term per index is the start plus the sum of the terms. -/
theorem foldl_add_eq_sum (S : Shape) (g : S.Idx → EReal) (a : EReal) :
    (List.finRange S.numel).foldl (fun r n => r + g (S.rowMajor.symm n)) a = a + ∑ i : S.Idx, g i := by
  rw [sum_idx_eq_foldl]
  generalize List.finRange S.numel = l
  have : ∀ (l : List (Fin S.numel)) (a b : EReal),
      l.foldl (fun r n => r + g (S.rowMajor.symm n)) (a + b) = a + l.foldl (fun r n => r + g (S.rowMajor.symm n)) b := by
    intro l
    induction l with
    | nil => intros; rfl
    | cons n l ih => intro a b; rw [List.foldl_cons, List.foldl_cons, add_assoc, ih]
  conv_lhs => rw [← add_zero a]
  exact this l a 0

/-- A window sum is the start plus the sum over the window's positions. -/
theorem window_eq_sum {s t : Shape} (window strides lo hi : Fin s.rank → Nat) (h : s.ReduceWindows window strides lo hi t)
    (x : s.Idx → EReal) (init : EReal) (j : t.Idx) :
    Ideal.hostReduceWindowAdd window strides lo hi h x init j = init + ∑ w : (⟨s.rank, window⟩ : Shape).Idx,
      let p : Fin s.rank → Nat := fun a => (j (a.cast h.1.symm)).val * strides a + (w a).val
      if hin : ∀ a, lo a ≤ p a ∧ p a - lo a < s.size a then x (fun a => ⟨p a - lo a, (hin a).2⟩) else init :=
  by
  unfold Ideal.hostReduceWindowAdd Host.reduceWindow
  refine Eq.trans (congrArg (fun g => List.foldl g init (List.finRange (⟨s.rank, window⟩ : Shape).numel))
    (funext fun r => funext fun n => congrArg (r + ·) ?_)) (foldl_add_eq_sum ⟨s.rank, window⟩ (fun w =>
      let p : Fin s.rank → Nat := fun a => (j (a.cast h.1.symm)).val * strides a + (w a).val
      if hin : ∀ a, lo a ≤ p a ∧ p a - lo a < s.size a then x (fun a => ⟨p a - lo a, (hin a).2⟩) else init) init)
  congr

/-- A sum over a window of extent 1 along three axes is a sum over the fourth. -/
theorem sum_window (g : (⟨4, ![1, 1, 1, 4096]⟩ : Shape).Idx → EReal) :
    ∑ i, g i = ∑ p : Fin 4096, g (ix4 0 0 0 p) := by
  symm
  refine Fintype.sum_bijective (fun p : Fin 4096 => (ix4 0 0 0 p : (⟨4, ![1, 1, 1, 4096]⟩ : Shape).Idx)) ⟨?_, ?_⟩ _ _ fun _ => rfl
  · intro p p' h; exact congrFun h 3
  · intro i; refine ⟨i 3, funext fun a => ?_⟩
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- The cumulative sum from the right: at key `s` it is the sum over the keys from `s` on. -/
theorem window_sum (x : S4x8x4096x4096.Idx → EReal) (f : ℕ → EReal) (b : Fin 4) (h : Fin 8) (t s : Fin 4096)
    (hf : ∀ i : Fin 4096, x (ix4 b h t i) = f i.val) (hw) :
    Ideal.hostReduceWindowAdd (s := S4x8x4096x4096) (t := S4x8x4096x4096) ![1, 1, 1, 4096] ![1, 1, 1, 1] ![0, 0, 0, 0] ![0, 0, 0, 4095]
      hw x 0 (ix4 b h t s) = ∑ i ∈ Finset.Ico s.val 4096, f i := by
  refine (window_eq_sum _ _ _ _ hw x 0 _).trans ?_
  refine (zero_add _).trans ((sum_window _).trans ?_)
  refine (Finset.sum_congr (s₁ := Finset.univ) (g := fun p : Fin 4096 => if s.val + p.val < 4096 then f (s.val + p.val) else 0) rfl fun p _ => ?_).trans ?_
  · dsimp only
    by_cases hp : s.val + p.val < 4096
    · rw [if_pos hp, dif_pos, ← hf ⟨s.val + p.val, hp⟩]
      · congr 1; funext a
        match a with
        | ⟨0, _⟩ => exact Fin.ext (by show b.val * 1 + 0 - 0 = b.val; omega)
        | ⟨1, _⟩ => exact Fin.ext (by show h.val * 1 + 0 - 0 = h.val; omega)
        | ⟨2, _⟩ => exact Fin.ext (by show t.val * 1 + 0 - 0 = t.val; omega)
        | ⟨3, _⟩ => exact Fin.ext (by show s.val * 1 + p.val - 0 = s.val + p.val; omega)
      · intro a
        match a with
        | ⟨0, _⟩ => exact ⟨Nat.zero_le _, by show b.val * 1 + 0 - 0 < 4; omega⟩
        | ⟨1, _⟩ => exact ⟨Nat.zero_le _, by show h.val * 1 + 0 - 0 < 8; omega⟩
        | ⟨2, _⟩ => exact ⟨Nat.zero_le _, by show t.val * 1 + 0 - 0 < 4096; omega⟩
        | ⟨3, _⟩ => exact ⟨Nat.zero_le _, by show s.val * 1 + p.val - 0 < 4096; omega⟩
    · rw [if_neg hp, dif_neg]
      intro hin
      have := (hin 3).2
      have h3 : s.val * 1 + p.val - 0 < 4096 := this
      omega
  rw [Fin.sum_univ_eq_sum_range (fun p => if s.val + p < 4096 then f (s.val + p) else 0) 4096,
    ← Finset.sum_filter, show (Finset.range 4096).filter (fun p => s.val + p < 4096) = Finset.range (4096 - s.val) by
      ext p; simp only [Finset.mem_filter, Finset.mem_range]; omega,
    Finset.sum_Ico_eq_sum_range]

variable (q k v : (⟨S16384x1024, .bf16⟩ : BufTy).Contents (Elt Ideal)) (bias : (⟨S8, .f32⟩ : BufTy).Contents (Elt Ideal))

/-- The word of all zeros is the number 0. -/
theorem zero_word : Ideal.ofBits FTy.f32 0#32 = 0 := by pointwise []

/-- The reference's scores. -/
theorem ref_score (b : Fin 4) (h : Fin 8) (t s : Fin 4096) :
    val_main_v13 (F := Ideal) q k bias (ix4 b h t s) = zrow q k bias b h t s.val := by
  unfold zrow; rw [dif_pos s.isLt]
  pointwise [val_main_v13, val_main_v12, val_main_v11, val_main_v10, val_main_v9, val_main_v6, val_main_v3, val_main_v2, val_main_v1, val_main_v0, val_main_cst]
  rfl

/-- The reference's negated softpluses. -/
theorem ref_gap (b : Fin 4) (h : Fin 8) (t s : Fin 4096) :
    val_main_v21 (F := Ideal) q k bias (ix4 b h t s) = -gap t.val (zrow q k bias b h t) s.val := by
  have hz := ref_score q k bias b h t s
  pointwise [val_main_v21, val_main_call1_v1, val_main_call1_v2, val_main_call1_v0, val_main_v18, val_main_v17, val_main_v16, val_main_v15, val_main_v14, val_main_v7,val_main_v8,val_main_cst_0, val_main_v20, val_main_call0_v1, val_main_call0_call0_v4, val_main_call0_call0_v6, val_main_call0_call0_v11, val_main_call0_call0_v1, val_main_call0_call0_v10, val_main_call0_call0_v9, val_main_call0_call0_v8, val_main_call0_call0_v7, val_main_call0_call0_v3, val_main_call0_call0_v2, val_main_call0_call0_v0, val_main_call0_call0_v5, val_main_call0_call0_cst, val_main_call0_v0, val_main_v19]
  rw [hz, select_slt _ _ (by omega) (by omega)]
  unfold gap
  split
  · rw [if_neg (not_not.2 rfl), neg_neg]; rfl
  · exact zero_word.trans neg_zero.symm

/-- The reference's cumulative sums, negated. -/
theorem ref_from (b : Fin 4) (h : Fin 8) (t s : Fin 4096) :
    val_main_v22 (F := Ideal) q k bias (ix4 b h t s) = -from' t.val (zrow q k bias b h t) s.val := by
  unfold from' val_main_v22
  rw [← neg_sum_of_nonneg _ _ fun i => gap_nonneg t.val _ i]
  refine Eq.trans ?_ (window_sum (val_main_v21 (F := Ideal) q k bias) (fun i => -gap t.val (zrow q k bias b h t) i) b h t s
    (fun i => ref_gap q k bias b h t i) reduceWindows_S4x8x4096x4096_S4x8x4096x4096_w1s1p0_0_w1s1p0_0_w1s1p0_0_w4096s1p0_4095)
  unfold Host.reduceWindowAdd
  rw [Ideal.hostReduceWindowAdd_def]
  congr 1
  pointwise [val_main_call2_v0, val_main_call2_cst]

/-- The reference's weights. -/
theorem ref_wt (b : Fin 4) (h : Fin 8) (t s : Fin 4096) :
    val_main_v27 (F := Ideal) q k bias (ix4 b h t s) = wt t.val (zrow q k bias b h t) s.val := by
  have hz := ref_score q k bias b h t s
  have hg := ref_gap q k bias b h t s
  have hf := ref_from q k bias b h t s
  pointwise [val_main_v27, val_main_call4_v1, val_main_call4_v2, val_main_call4_v0, val_main_cst_1, val_main_v26,val_main_v25,val_main_v24,val_main_v23,val_main_v18, val_main_v17, val_main_v16, val_main_v15, val_main_v14, val_main_v7,val_main_v8,val_main_cst_0, val_main_v20, val_main_call3_v1, val_main_call3_call0_v4, val_main_call3_call0_v6, val_main_call3_call0_v11, val_main_call3_call0_v1, val_main_call3_call0_v10, val_main_call3_call0_v9, val_main_call3_call0_v8, val_main_call3_call0_v7, val_main_call3_call0_v3, val_main_call3_call0_v2, val_main_call3_call0_v0, val_main_call3_call0_v5, val_main_call3_call0_cst, val_main_call3_v0, val_main_v19]
  rw [hz, hg, hf, select_slt _ _ (by omega) (by omega)]
  unfold wt
  split
  · rename_i hlt
    rw [if_neg (not_not.2 rfl), show gap t.val (zrow q k bias b h t) s.val = sp (zrow q k bias b h t s.val) from if_pos hlt]; rfl
  · exact zero_word

/-- The reference's result. -/
theorem ref_value (b : Fin 4) (t : Fin 4096) (h : Fin 8) (x : Fin 128) :
    val_main_v31 (F := Ideal) q k v bias (ix2 (tok b t) (col h x)) = attn q k v bias b t h x := by
  have hv : val_main_v31 (F := Ideal) q k v bias (ix2 (tok b t) (col h x)) = (∑ s : Fin 4096, vrow v b (col h x) s.val * wt t.val (zrow q k bias b h t) s.val : EReal) := by
    pointwise [val_main_v31, val_main_v30, val_main_v29, val_main_v28, val_main_v5, val_main_v4]
    have h1 : (tok b t).val / 4096 = b.val := by unfold tok; dsimp only; omega
    have h2 : (tok b t).val % 4096 = t.val := by unfold tok; dsimp only; omega
    have h3 : (col h x).val / 128 = h.val := by unfold col; dsimp only; omega
    simp only [h1, h2, h3]
    refine Finset.sum_congr rfl fun s _ => ?_
    rw [← ref_wt q k bias b h t s]
    unfold vrow; rw [dif_pos s.isLt]; rfl
  rw [hv]
  unfold attn out
  rw [Finset.sum_range (fun s => vrow v b (col h x) s * wt t.val (zrow q k bias b h t) s) |>.symm, ← Finset.range_eq_Ico]
  exact Finset.sum_congr rfl fun s _ => mul_comm _ _

/-- The reference's whole result. -/
theorem ref_array : (val_main_v31 (F := Ideal) q k v bias : Mat) = attnArr q k v bias := by
  funext i
  idx_vars i
  rw [← tok_div_mod i0, ← col_div_mod i1, ref_value]
  exact (attnArr_apply ..).symm

end Cert.Attn

end
-- ==== Proof.Attn.Equation.lean ====
/- The attention kernel and its reference compute the same array, over the extended reals, from any arguments. -/
module

public import proofs.«01_k».proof.Defs
public import proofs.«01_k».proof.Proof.Attn.Array
public import proofs.«01_k».proof.Proof.Attn.Ref

@[expose] public section

noncomputable section

namespace Cert.Attn

open Idealize.ShloMosaic Idealize.SL.Sem

/-- The value claim of the attention, at the generated witnesses: from equal arguments the kernel and the reference end with
    equal results, both being `attnArr` of the arguments. -/
theorem algebraic :
    algebraic_AttentionIdeal_AttentionRefIdeal (hAttentionIdeal := Cert.AttentionIdeal.Gen.facts) (hAttentionRefIdeal := Cert.AttentionRefIdeal.Gen.facts) := by
  intro m g m' g' _ hin
  refine ⟨fun c => attnArr (argQ m c) (argK m c) (argV m c) (argB m c), ?_, ?_⟩
  · refine (θ_run _ _ _).mono (fun r h c => ?_) (Cert.AttentionIdeal.Value.run_blocks m g)
    obtain ⟨h0, h1⟩ := h c
    exact ⟨h0.trans (kernel_array m c), h1⟩
  · refine (θ_run _ _ _).mono (fun r h c => ?_) (Cert.AttentionRefIdeal.Value.run m' g')
    obtain ⟨h0, h1⟩ := h c
    obtain ⟨e0, e1, e2, e3⟩ := hin c
    refine ⟨h0.trans ?_, h1⟩
    rw [Cert.AttentionRefIdeal.Read.val_main_v31_eq, e0, e1, e2, e3]
    exact ref_array _ _ _ _

/-- The attention's reference runs, leaves its arguments unchanged, and ends with every counter at zero: it declares no
    semaphore. -/
theorem reference_frame : quiescent_AttentionRefIdeal (hAttentionRefIdeal := Cert.AttentionRefIdeal.Gen.facts) := by
  intro m g _
  exact (θ_run _ _ _).mono (fun r h => ⟨fun c => (h c).2, sem_eq_zero_of_no_sems (by decide) r.2⟩) (Cert.AttentionRefIdeal.Value.run m g)

end Cert.Attn

end
-- ==== Proof.Layer.Rows.lean ====
/- The arithmetic that the layer's calls share, one row at a time: the root-mean-square norm of a row, its modulation by a
   scale and a shift, and the row of a product. -/
module

public import proofs.«01_k».proof.Proof.Attn.Rows

@[expose] public section

noncomputable section

namespace Cert.Layer

open Idealize.ShloMosaic
open Cert.Attn (Mat tok tok_div_mod)

/-- A 4 × 1 × 1024 array: one row of modulation for each batch. -/
abbrev Mods : Type := (⟨3, ![4, 1, 1024]⟩ : Shape).Idx → EReal

/-- A vector of 1024. -/
abbrev Vec1024 : Type := (⟨1, ![1024]⟩ : Shape).Idx → EReal

/-- A matrix of `a` rows and `b` columns. -/
abbrev Mat2 (a b : ℕ) : Type := (⟨2, ![a, b]⟩ : Shape).Idx → EReal

/-- A row over the root of its mean square: `x · rsqrt(mean(x²) + ε) · w`, at column `j`. -/
def rms (x w : Fin 1024 → EReal) (j : Fin 1024) : EReal :=
  x j * Ideal.rsqrt (Ideal.div (∑ k : Fin 1024, x k * x k) (Ideal.ofBits FTy.f32 0x44800000#32) + Ideal.ofBits FTy.f32 0x358637BD#32) * w j

/-- That row, scaled by one plus `scale` and shifted by `shift`. -/
def modulated (x w shift scale : Fin 1024 → EReal) (j : Fin 1024) : EReal :=
  rms x w j * (1 + scale j) + shift j

/-- Token `t` of batch `b`, as a row of an array of tokens. -/
def row (x : Mat) (b : Fin 4) (t : Fin 4096) (j : Fin 1024) : EReal := x (ix2 (tok b t) j)

/-- The normed and modulated row of a token. -/
def hidden (x : Mat) (nw : Vec1024) (shift scale : Mods) (b : Fin 4) (t : Fin 4096) : Fin 1024 → EReal :=
  modulated (row x b t) (fun k => nw (ix1 k)) (fun k => shift (ix3 b 0 k)) (fun k => scale (ix3 b 0 k))

/-- An array of tokens given by what each token's row holds. -/
def ofRows {w : ℕ} (f : Fin 4 → Fin 4096 → Fin w → EReal) : Mat2 16384 w := fun i =>
  have h0 : (i 0).val < 16384 := (i 0).isLt
  f ⟨(i 0).val / 4096, by omega⟩ ⟨(i 0).val % 4096, by omega⟩ (i 1)

/-- Such an array at a token's row. -/
theorem ofRows_apply {w : ℕ} (f : Fin 4 → Fin 4096 → Fin w → EReal) (b : Fin 4) (t : Fin 4096) (j : Fin w) :
    ofRows f (ix2 (tok b t) j) = f b t j := by
  have e0 : (⟨(tok b t).val / 4096, by omega⟩ : Fin 4) = b := Fin.ext (by show (b.val * 4096 + t.val) / 4096 = b.val; omega)
  have e1 : (⟨(tok b t).val % 4096, by omega⟩ : Fin 4096) = t := Fin.ext (by show (b.val * 4096 + t.val) % 4096 = t.val; omega)
  show f ⟨(tok b t).val / 4096, _⟩ ⟨(tok b t).val % 4096, _⟩ j = _
  rw [e0, e1]

/-- Two arrays of tokens are equal when every token's rows are. -/
theorem eq_ofRows {w : ℕ} (x : Mat2 16384 w) (f : Fin 4 → Fin 4096 → Fin w → EReal)
    (h : ∀ b t j, x (ix2 (tok b t) j) = f b t j) : x = ofRows f := by
  funext i
  have key : ∀ (r : Fin 16384) (j : Fin w), x (ix2 r j) = ofRows f (ix2 r j) := fun r j => by
    rw [← tok_div_mod r, h]
    exact (ofRows_apply ..).symm
  rw [eq_ix2 i]
  exact key _ _

end Cert.Layer

end
-- ==== Proof.Layer.Feed.lean ====
/- A layer's feed-forward block, one token's row at a time: the squared positive part of each hidden unit, and the
   sum over the hidden units, whole and by blocks of 512. -/
module

public import proofs.«01_k».proof.Proof.Layer.Rows

@[expose] public section

noncomputable section

namespace Cert.Layer

open Idealize.ShloMosaic Idealize.ShloMosaic.TcCoe
open Cert.Attn (Mat tok)

/-- What hidden unit `u` adds to column `j` of a row `h`: the square of its positive part, times its output weight. -/
def unit (h : Fin 1024 → EReal) (wu : Mat2 1024 4096) (wd : Mat2 4096 1024) (j : Fin 1024) (u : Fin 4096) : EReal :=
  max (∑ k : Fin 1024, h k * wu (ix2 k u)) 0 * max (∑ k : Fin 1024, h k * wu (ix2 k u)) 0
    * wd (ix2 u j)

/-- Hidden unit `v` of block `f` of 512 units. -/
def unitOf (f : ℕ) (v : Fin 512) : Fin 4096 := ⟨f % 8 * 512 + v.val, by omega⟩

/-- What block `f` of the hidden units adds. -/
def block (h : Fin 1024 → EReal) (wu : Mat2 1024 4096) (wd : Mat2 4096 1024) (j : Fin 1024) (f : ℕ) : EReal :=
  ∑ v : Fin 512, unit h wu wd j (unitOf f v)

/-- Blocks are counted modulo eight. -/
theorem block_mod (h : Fin 1024 → EReal) (wu : Mat2 1024 4096) (wd : Mat2 4096 1024) (j : Fin 1024) (f : ℕ) :
    block h wu wd j (f % 8) = block h wu wd j f := by
  have e : ∀ v, unitOf (f % 8) v = unitOf f v := fun v => Fin.ext (by show f % 8 % 8 * 512 + v.val = f % 8 * 512 + v.val; omega)
  unfold block
  simp only [e]

/-- The eight blocks together are all hidden units. -/
theorem sum_blocks (h : Fin 1024 → EReal) (wu : Mat2 1024 4096) (wd : Mat2 4096 1024) (j : Fin 1024) :
    ∑ f ∈ Finset.range 8, block h wu wd j f = ∑ u : Fin 4096, unit h wu wd j u := by
  rw [Finset.sum_range]
  unfold block
  rw [← Fintype.sum_prod_type' (f := fun (f : Fin 8) (v : Fin 512) => unit h wu wd j (unitOf f.val v))]
  refine Fintype.sum_equiv (finProdFinEquiv (m := 8) (n := 512)) _ _ fun p => ?_
  refine congrArg (unit h wu wd j) (Fin.ext ?_)
  obtain ⟨⟨f, hf⟩, ⟨v, hv⟩⟩ := p
  show f % 8 * 512 + v = v + 512 * f
  omega

/-- The feed-forward block's row of a token: its row of the residual stream, plus the gate times the sum over the hidden units. -/
def feed (x : Mat) (nw : Vec1024) (shift scale gate : Mods) (wu : Mat2 1024 4096) (wd : Mat2 4096 1024)
    (b : Fin 4) (t : Fin 4096) (j : Fin 1024) : EReal :=
  x (ix2 (tok b t) j) + gate (ix3 b 0 j) * ∑ u : Fin 4096, unit (hidden x nw shift scale b t) wu wd j u

/-- The last feed-forward block's row of a token: that row, normed once more with the model's last weights. -/
def feedLast (x : Mat) (nw : Vec1024) (shift scale gate : Mods) (wu : Mat2 1024 4096) (wd : Mat2 4096 1024) (fw : Vec1024)
    (b : Fin 4) (t : Fin 4096) (j : Fin 1024) : EReal :=
  rms (feed x nw shift scale gate wu wd b t) (fun k => fw (ix1 k)) j

end Cert.Layer

end
-- ==== Proof.Mlp.Kernel.lean ====
/- The feed-forward block: what one grid point of its kernel computes. -/
module

public import proofs.«01_k».proof.Proof.Layer.Feed
public import proofs.«01_k».proof.Proof.Gen.MlpIdeal.Value
public import Idealize.ShloMosaic.Lib.Pipeline.Covers
public import Idealize.ShloMosaic.Lib.Pipeline.ValueKit
public import Idealize.ShloMosaic.Lib.WholeRead
public import Idealize.ShloMosaic.Lib.Pipeline.ReadBack
public import Idealize.ShloMosaic.Lib.VecWindow
public import Idealize.ShloMosaic.Lib.StableHlo.ReadAt

@[expose] public section

set_option maxRecDepth 16384
set_option maxHeartbeats 400000

noncomputable section

namespace Cert.Mlp

open Cert.MlpIdeal Cert.MlpIdeal.Gen Idealize.ShloMosaic Idealize.ShloMosaic.TcCoe Idealize.SL.Sem
open Idealize.ShloMosaic.Pipeline (Dat)
open Cert.Attn (Mat tok)
open Cert.Layer

variable (m : (ℓ : Loc nD τ sig) → Buf (Elt Ideal) ℓ)

/-- Where each point's blocks are: 512 rows of tokens, the batch's modulation, and one of eight blocks of hidden units. -/
theorem idx : ∀ t : Fin cfg0.N,
    (cfg0.win 0).index t = ![t.val / 8, 0] ∧
    (cfg0.win 1).index t = ![0, 0] ∧
    (cfg0.win 2).index t = ![t.val / 64, 0, 0] ∧
    (cfg0.win 3).index t = ![t.val / 64, 0, 0] ∧
    (cfg0.win 4).index t = ![t.val / 64, 0, 0] ∧
    (cfg0.win 5).index t = ![0, t.val % 8] ∧
    (cfg0.win 6).index t = ![t.val % 8, 0] ∧
    (cfg0.win 7).index t = ![0, 0] ∧
    (cfg0.win 8).index t = ![t.val / 8, 0] := by
  decide +kernel

/-- The arguments as the run finds them. -/
abbrev argX (c : Dev nD) : Mat := m ((c : Thread nD τ).loc main_arg0)
abbrev argN (c : Dev nD) : Vec1024 := m ((c : Thread nD τ).loc main_arg1)
abbrev argShift (c : Dev nD) : Mods := m ((c : Thread nD τ).loc main_arg2)
abbrev argScale (c : Dev nD) : Mods := m ((c : Thread nD τ).loc main_arg3)
abbrev argGate (c : Dev nD) : Mods := m ((c : Thread nD τ).loc main_arg4)
abbrev argUp (c : Dev nD) : Mat2 1024 4096 := m ((c : Thread nD τ).loc main_arg5)
abbrev argDown (c : Dev nD) : Mat2 4096 1024 := m ((c : Thread nD τ).loc main_arg6)

/-- A point's blocks of the arguments. -/
abbrev xB (c : Dev nD) (p : Fin cfg0.N) : Vec Ideal S512x1024 .f32 := iblk m c 0 p
abbrev nB (c : Dev nD) (p : Fin cfg0.N) : Vec Ideal S1x1024 .f32 := iblk m c 1 p
abbrev shiftB (c : Dev nD) (p : Fin cfg0.N) : Vec Ideal S1x1x1024 .f32 := iblk m c 2 p
abbrev scaleB (c : Dev nD) (p : Fin cfg0.N) : Vec Ideal S1x1x1024 .f32 := iblk m c 3 p
abbrev gateB (c : Dev nD) (p : Fin cfg0.N) : Vec Ideal S1x1x1024 .f32 := iblk m c 4 p
abbrev upB (c : Dev nD) (p : Fin cfg0.N) : Vec Ideal S1024x512 .bf16 := iblk m c 5 p
abbrev downB (c : Dev nD) (p : Fin cfg0.N) : Vec Ideal S512x1024 .bf16 := iblk m c 6 p

theorem lt_points (t : Fin cfg0.N) : t.val < 256 := t.isLt

/-- The batch of point `n`, and the token of its row `r`. -/
abbrev batch (n : ℕ) (h : n < 256) : Fin 4 := ⟨n / 64, by omega⟩
abbrev token (n : ℕ) (r : Fin 512) : Fin 4096 := ⟨n / 8 % 8 * 512 + r.val, by omega⟩

theorem x_read (c : Dev nD) (t : Fin cfg0.N) (r : Fin 512) (k : Fin 1024) :
    xB m c t (ix2 r k) = argX m c (ix2 (tok (batch t.val (lt_points t)) (token t.val r)) k) := by
  have := (idx t).1
  have hV : V m c (Pipeline.arrRef spec0 0) = argX m c := V_main_arg0 m c
  unfold xB iblk
  rw [hV]
  unfold argX tok
  blk_ext [this]

theorem n_read (c : Dev nD) (t : Fin cfg0.N) (k : Fin 1024) : nB m c t (ix2 0 k) = argN m c (ix1 k) := by
  have := (idx t).2.1
  have hV : ∀ k : Fin 1024, V m c (Pipeline.arrRef spec0 1) (ix2 0 k) = argN m c (ix1 k) := fun k => by
    show V m c main_v0 (ix2 0 k) = _
    unfold V
    after_reads_at
  refine Eq.trans ?_ (hV k)
  unfold nB
  blk_ext [iblk, this]

theorem shift_read (c : Dev nD) (t : Fin cfg0.N) (k : Fin 1024) : shiftB m c t (ix3 0 0 k) = argShift m c (ix3 (batch t.val (lt_points t)) 0 k) := by
  have := (idx t).2.2.1
  have hV : V m c (Pipeline.arrRef spec0 2) = argShift m c := V_main_arg2 m c
  unfold shiftB iblk
  rw [hV]
  unfold argShift
  blk_ext [this]

theorem scale_read (c : Dev nD) (t : Fin cfg0.N) (k : Fin 1024) : scaleB m c t (ix3 0 0 k) = argScale m c (ix3 (batch t.val (lt_points t)) 0 k) := by
  have := (idx t).2.2.2.1
  have hV : V m c (Pipeline.arrRef spec0 3) = argScale m c := V_main_arg3 m c
  unfold scaleB iblk
  rw [hV]
  unfold argScale
  blk_ext [this]

theorem gate_read (c : Dev nD) (t : Fin cfg0.N) (k : Fin 1024) : gateB m c t (ix3 0 0 k) = argGate m c (ix3 (batch t.val (lt_points t)) 0 k) := by
  have := (idx t).2.2.2.2.1
  have hV : V m c (Pipeline.arrRef spec0 4) = argGate m c := V_main_arg4 m c
  unfold gateB iblk
  rw [hV]
  unfold argGate
  blk_ext [this]

theorem up_read (c : Dev nD) (t : Fin cfg0.N) (k : Fin 1024) (v : Fin 512) : upB m c t (ix2 k v) = argUp m c (ix2 k (unitOf t.val v)) := by
  have := (idx t).2.2.2.2.2.1
  have hV : V m c (Pipeline.arrRef spec0 5) = argUp m c := V_main_arg5 m c
  unfold upB iblk
  rw [hV]
  unfold argUp unitOf
  blk_ext [this]

theorem down_read (c : Dev nD) (t : Fin cfg0.N) (v : Fin 512) (j : Fin 1024) : downB m c t (ix2 v j) = argDown m c (ix2 (unitOf t.val v) j) := by
  have := (idx t).2.2.2.2.2.2.1
  have hV : V m c (Pipeline.arrRef spec0 6) = argDown m c := V_main_arg6 m c
  unfold downB iblk
  rw [hV]
  unfold argDown unitOf
  blk_ext [this]

/-- The normed and modulated row that row `r` of point `n` works on. -/
abbrev hid (c : Dev nD) (n : ℕ) (h : n < 256) (r : Fin 512) : Fin 1024 → EReal :=
  hidden (argX m c) (argN m c) (argShift m c) (argScale m c) (batch n h) (token n r)

/-- The first step's normed and modulated rows. -/
theorem pay1_at (c : Dev nD) (t : Fin cfg0.N) (r : Fin 512) (j : Fin 1024) :
    k0_pay1 (xB m c t) (nB m c t) (shiftB m c t) (scaleB m c t) (ix2 r j) = hid m c t.val (lt_points t) r j := by
  pointwise [k0_pay1]
  simp only [x_read, n_read, shift_read, scale_read]
  rfl

/-- One step's sum, over rows `h` and what the steps before it left. -/
theorem pay3_at (c : Dev nD) (t : Fin cfg0.N) (h : Vec Ideal S512x1024 .bf16) (acc : Vec Ideal S512x1024 .f32) (hr : Fin 1024 → EReal)
    (r : Fin 512) (j : Fin 1024) (hh : ∀ k : Fin 1024, h (ix2 r k) = hr k) :
    k0_pay3 h (upB m c t) acc (downB m c t) (ix2 r j) = acc (ix2 r j) + block hr (argUp m c) (argDown m c) j t.val := by
  pointwise [k0_pay3]
  simp only [hh, up_read, down_read]
  rfl

/-- The sum starts at zero. -/
theorem pay2_at (r : Fin 512) (j : Fin 1024) : (k0_pay2 (F := Ideal)) (ix2 r j) = (0 : EReal) := by
  pointwise [k0_pay2]

/-- The last step's output: the residual stream plus the gate times the sum. -/
theorem pay4_at (c : Dev nD) (t : Fin cfg0.N) (acc : Vec Ideal S512x1024 .f32) (r : Fin 512) (j : Fin 1024) :
    k0_pay4 (xB m c t) (gateB m c t) acc (ix2 r j)
      = argX m c (ix2 (tok (batch t.val (lt_points t)) (token t.val r)) j) + argGate m c (ix3 (batch t.val (lt_points t)) 0 j) * acc (ix2 r j) := by
  pointwise [k0_pay4]
  simp only [x_read, gate_read]

/-- The first step of a run of eight leaves the normed and modulated rows. -/
theorem rows_A (c : Dev nD) (t : Fin cfg0.N) (h0 : t.val % 8 = 0) (h1 : ¬t.val % 8 = 7) (r : Fin 512) (j : Fin 1024) :
    (outsAt0 m c t.val t.isLt).2.1 (ix2 r j) = hid m c t.val (lt_points t) r j := by
  rw [outsAt0_A m c t h0 h1]
  dsimp only
  unfold sout0_A_0
  frame_out
  exact pay1_at m c t r j

/-- … and the first block's sum. -/
theorem sum_A (c : Dev nD) (t : Fin cfg0.N) (h0 : t.val % 8 = 0) (h1 : ¬t.val % 8 = 7) (r : Fin 512) (j : Fin 1024) :
    (outsAt0 m c t.val t.isLt).2.2 (ix2 r j) = block (hid m c t.val (lt_points t) r) (argUp m c) (argDown m c) j t.val := by
  rw [outsAt0_A m c t h0 h1]
  dsimp only
  unfold sout0_A_1
  frame_out
  rw [pay3_at m c t _ _ (hid m c t.val (lt_points t) r) r j fun k => pay1_at m c t r k, pay2_at, zero_add]

/-- The point before a point of a later step. -/
abbrev pred (t : Fin cfg0.N) : t.val - 1 < cfg0.N := Nat.lt_of_le_of_lt (Nat.sub_le _ _) t.isLt

/-- A later step leaves the rows as they are … -/
theorem rows_B (c : Dev nD) (t : Fin cfg0.N) (h0 : ¬t.val % 8 = 0) (r : Fin 512) (j : Fin 1024) :
    (outsAt0 m c t.val t.isLt).2.1 (ix2 r j) = (outsAt0 m c (t.val - 1) (pred t)).2.1 (ix2 r j) := by
  by_cases h1 : t.val % 8 = 7
  · rw [outsAt0_C m c t h0 h1]
    dsimp only
    unfold sout0_C_0
    frame_out
  · rw [outsAt0_B m c t h0 h1]
    dsimp only
    unfold sout0_B_0
    frame_out

/-- … and adds its block to the sum. -/
theorem sum_B (c : Dev nD) (t : Fin cfg0.N) (h0 : ¬t.val % 8 = 0) (hr : Fin 1024 → EReal) (r : Fin 512) (j : Fin 1024)
    (hh : ∀ k : Fin 1024, (outsAt0 m c (t.val - 1) (pred t)).2.1 (ix2 r k) = hr k) :
    (outsAt0 m c t.val t.isLt).2.2 (ix2 r j)
      = (outsAt0 m c (t.val - 1) (pred t)).2.2 (ix2 r j) + block hr (argUp m c) (argDown m c) j t.val := by
  by_cases h1 : t.val % 8 = 7
  · rw [outsAt0_C m c t h0 h1]
    dsimp only
    unfold sout0_C_1
    frame_out
    simp only [read_unread_whole]
    exact pay3_at m c t _ _ hr r j hh
  · rw [outsAt0_B m c t h0 h1]
    dsimp only
    unfold sout0_B_1
    frame_out
    simp only [read_unread_whole]
    exact pay3_at m c t _ _ hr r j hh

/-- After each point: the normed and modulated rows, and the sum of the blocks of hidden units so far. -/
theorem carried (c : Dev nD) : ∀ (n : ℕ) (hn : n < cfg0.N) (hN : n < 256) (r : Fin 512),
    (∀ j : Fin 1024, (outsAt0 m c n hn).2.1 (ix2 r j) = hid m c n hN r j) ∧
    (∀ j : Fin 1024, (outsAt0 m c n hn).2.2 (ix2 r j) = ∑ f ∈ Finset.range (n % 8 + 1), block (hid m c n hN r) (argUp m c) (argDown m c) j f) := by
  intro n
  induction n with
  | zero =>
    intro hn hN r
    refine ⟨fun j => rows_A m c ⟨0, hn⟩ (Nat.zero_mod _) (by dsimp only; omega) r j, fun j => ?_⟩
    refine (sum_A m c ⟨0, hn⟩ (Nat.zero_mod _) (by dsimp only; omega) r j).trans ?_
    exact (Finset.sum_range_one _).symm
  | succ n ih =>
    intro hn hN r
    by_cases h0 : (n + 1) % 8 = 0
    · refine ⟨fun j => rows_A m c ⟨n + 1, hn⟩ h0 (by dsimp only; omega) r j, fun j => ?_⟩
      refine (sum_A m c ⟨n + 1, hn⟩ h0 (by dsimp only; omega) r j).trans ?_
      rw [h0, ← block_mod]
      simp only [h0, zero_add, Finset.sum_range_one]
    · obtain ⟨ih1, ih2⟩ := ih (Nat.lt_of_succ_lt hn) (by omega) r
      have eb : batch n (by omega) = batch (n + 1) hN := Fin.ext (by show n / 64 = (n + 1) / 64; omega)
      have et : token n r = token (n + 1) r := Fin.ext (by show n / 8 % 8 * 512 + r.val = (n + 1) / 8 % 8 * 512 + r.val; omega)
      have eh : hid m c n (by omega) r = hid m c (n + 1) hN r := by
        unfold hid
        rw [eb, et]
      refine ⟨fun j => (rows_B m c ⟨n + 1, hn⟩ h0 r j).trans ((ih1 j).trans (congrFun eh j)), fun j => ?_⟩
      refine (sum_B m c ⟨n + 1, hn⟩ h0 (hid m c n (by omega) r) r j ih1).trans ?_
      refine (congrArg (· + block (hid m c n (by omega) r) (argUp m c) (argDown m c) j (n + 1)) (ih2 j)).trans ?_
      have e8 : (n + 1) % 8 = n % 8 + 1 := by omega
      rw [eh, ← block_mod _ _ _ _ (n + 1), e8]
      exact (Finset.sum_range_succ _ _).symm

/-- What the last step of a run of eight leaves in its output block. -/
theorem point_value (c : Dev nD) (t : Fin cfg0.N) (h1 : t.val % 8 = 7) (r : Fin 512) (j : Fin 1024) :
    (outsAt0 m c t.val t.isLt).1 (ix2 r j)
      = feed (argX m c) (argN m c) (argShift m c) (argScale m c) (argGate m c) (argUp m c) (argDown m c) (batch t.val (lt_points t)) (token t.val r) j := by
  have h0 : ¬t.val % 8 = 0 := by omega
  have hs : (outsAt0 m c t.val t.isLt).2.2 (ix2 r j) = ∑ u : Fin 4096, unit (hid m c t.val (lt_points t) r) (argUp m c) (argDown m c) j u := by
    rw [(carried m c t.val t.isLt (lt_points t) r).2 j, h1]
    exact sum_blocks _ _ _ _
  unfold feed
  rw [← hs, outsAt0_C m c t h0 h1]
  dsimp only
  unfold out0_C_8 sout0_C_1
  frame_out
  exact pay4_at m c t _ r j

/-- The output array after the run. -/
theorem kernel_array (c : Dev nD) : (dats m 0 c).arrAt 8 cfg0.N
    = ofRows (feed (argX m c) (argN m c) (argShift m c) (argScale m c) (argGate m c) (argUp m c) (argDown m c)) := by
  refine (dats m 0 c).arrAt_eq_of_covers 8 _ (by decide +kernel) fun t hf y => ?_
  have hm : t.val % 8 = 7 := (flush0_8 t).mp hf
  blk_simp
  rw [after0_8]
  idx_vars y
  have e : ((View.whole main_v2).slice (win0_8.rect t)).emb (ix2 y0 y1) = ix2 (tok (batch t.val (lt_points t)) (token t.val y0)) y1 := by
    have := (idx t).2.2.2.2.2.2.2.2
    unfold tok
    blk_ext [this]
  rw [e]
  exact (point_value m c t hm y0 y1).trans (ofRows_apply _ _ _ _).symm

end Cert.Mlp

end
-- ==== Proof.Mlp.Ref.lean ====
/- What the feed-forward block's reference computes, and the equation of the two programs. -/
module

public import proofs.«01_k».proof.Defs
public import proofs.«01_k».proof.Proof.Mlp.Kernel
public import proofs.«01_k».proof.Proof.Gen.MlpIdeal
public import proofs.«01_k».proof.Proof.Gen.MlpRefIdeal
public import proofs.«01_k».proof.Proof.Gen.MlpRefIdeal.Run
public import proofs.«01_k».proof.Proof.Gen.MlpRefIdeal.Read

@[expose] public section

set_option maxRecDepth 16384

noncomputable section

namespace Cert.Mlp

open Idealize.ShloMosaic Idealize.ShloMosaic.TcCoe Idealize.SL.Sem
open Cert.Attn (Mat tok)
open Cert.Layer

section

open Cert.MlpRefIdeal Cert.MlpRefIdeal.Gen Cert.MlpRefIdeal.Read

/-- The reference's normed and modulated rows. -/
theorem ref_hidden (x : (⟨S16384x1024, .f32⟩ : BufTy).Contents (Elt Ideal)) (nw : (⟨S1024, .f32⟩ : BufTy).Contents (Elt Ideal))
    (shift scale : (⟨S4x1x1024, .f32⟩ : BufTy).Contents (Elt Ideal)) (b : Fin 4) (t : Fin 4096) (j : Fin 1024) :
    val_main_v23 (F := Ideal) x nw shift scale (ix3 b t j) = hidden x nw shift scale b t j := by
  pointwise [val_main_cst, val_main_cst_0, val_main_cst_1, val_main_cst_2, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  rfl

/-- What a hidden unit holds in the reference: the square of its positive part. -/
theorem ref_unit (x : (⟨S16384x1024, .f32⟩ : BufTy).Contents (Elt Ideal)) (nw : (⟨S1024, .f32⟩ : BufTy).Contents (Elt Ideal))
    (shift scale : (⟨S4x1x1024, .f32⟩ : BufTy).Contents (Elt Ideal)) (wu : (⟨S1024x4096, .bf16⟩ : BufTy).Contents (Elt Ideal))
    (b : Fin 4) (t : Fin 4096) (u : Fin 4096) :
    val_main_v30 (F := Ideal) x nw shift scale wu (ix3 b t u)
      = max (∑ k : Fin 1024, hidden x nw shift scale b t k * (wu (ix2 k u) : EReal)) 0 * max (∑ k : Fin 1024, hidden x nw shift scale b t k * (wu (ix2 k u) : EReal)) 0 := by
  pointwise [val_main_v30, val_main_v29, val_main_v28, val_main_v26, val_main_call0_v0, val_main_call0_cst]
  simp only [ref_hidden]

/-- The reference's rows: the residual stream plus the gate times the sum over the hidden units. -/
theorem ref_feed (x : (⟨S16384x1024, .f32⟩ : BufTy).Contents (Elt Ideal)) (nw : (⟨S1024, .f32⟩ : BufTy).Contents (Elt Ideal))
    (shift scale gate : (⟨S4x1x1024, .f32⟩ : BufTy).Contents (Elt Ideal)) (wu : (⟨S1024x4096, .bf16⟩ : BufTy).Contents (Elt Ideal))
    (wd : (⟨S4096x1024, .bf16⟩ : BufTy).Contents (Elt Ideal)) (b : Fin 4) (t : Fin 4096) (j : Fin 1024) :
    val_main_v34 (F := Ideal) x nw shift scale gate wu wd (ix3 b t j) = feed x nw shift scale gate wu wd b t j := by
  pointwise [val_main_v34, val_main_v33, val_main_v32, val_main_v31, val_main_v27, val_main_v25, val_main_v24, val_main_v0]
  simp only [ref_unit]
  rfl

/-- The reference's result. -/
theorem ref_array (x : (⟨S16384x1024, .f32⟩ : BufTy).Contents (Elt Ideal)) (nw : (⟨S1024, .f32⟩ : BufTy).Contents (Elt Ideal))
    (shift scale gate : (⟨S4x1x1024, .f32⟩ : BufTy).Contents (Elt Ideal)) (wu : (⟨S1024x4096, .bf16⟩ : BufTy).Contents (Elt Ideal))
    (wd : (⟨S4096x1024, .bf16⟩ : BufTy).Contents (Elt Ideal)) :
    val_main_v35 (F := Ideal) x nw shift scale gate wu wd = ofRows (feed x nw shift scale gate wu wd) := by
  refine eq_ofRows _ _ fun b t j => ?_
  have h1 : (tok b t).val / 4096 = b.val := by unfold tok; dsimp only; omega
  have h2 : (tok b t).val % 4096 = t.val := by unfold tok; dsimp only; omega
  pointwise [val_main_v35]
  simp only [h1, h2]
  exact ref_feed x nw shift scale gate wu wd b t j

end

/-- The value claim of the feed-forward block: from equal arguments the kernel and the reference end with equal results. -/
theorem algebraic :
    algebraic_MlpIdeal_MlpRefIdeal (hMlpIdeal := Cert.MlpIdeal.Gen.facts) (hMlpRefIdeal := Cert.MlpRefIdeal.Gen.facts) := by
  intro m g m' g' _ hin
  refine ⟨fun c => ofRows (feed (argX m c) (argN m c) (argShift m c) (argScale m c) (argGate m c) (argUp m c) (argDown m c)), ?_, ?_⟩
  · refine (θ_run _ _ _).mono (fun r h c => ?_) (Cert.MlpIdeal.Value.run_blocks m g)
    obtain ⟨h0, h1⟩ := h c
    exact ⟨h0.trans (kernel_array m c), h1⟩
  · refine (θ_run _ _ _).mono (fun r h c => ?_) (Cert.MlpRefIdeal.Value.run m' g')
    obtain ⟨h0, h1⟩ := h c
    obtain ⟨e0, e1, e2, e3, e4, e5, e6, e7⟩ := hin c
    refine ⟨h0.trans ?_, h1⟩
    rw [Cert.MlpRefIdeal.Read.val_main_v35_eq, e0, e1, e2, e3, e4, e5, e6]
    exact ref_array _ _ _ _ _ _ _

/-- The reference runs, leaves its arguments unchanged, and ends with every counter at zero: it declares no semaphore. -/
theorem reference_frame : quiescent_MlpRefIdeal (hMlpRefIdeal := Cert.MlpRefIdeal.Gen.facts) := by
  intro m g _
  exact (θ_run _ _ _).mono (fun r h => ⟨fun c => (h c).2, sem_eq_zero_of_no_sems (by decide) r.2⟩) (Cert.MlpRefIdeal.Value.run m g)

end Cert.Mlp

end
-- ==== Proof.MlpLast.Kernel.lean ====
/- The last feed-forward block: what one grid point of its kernel computes. -/
module

public import proofs.«01_k».proof.Proof.Layer.Feed
public import proofs.«01_k».proof.Proof.Gen.MlpLastIdeal.Value
public import Idealize.ShloMosaic.Lib.Pipeline.Covers
public import Idealize.ShloMosaic.Lib.Pipeline.ValueKit
public import Idealize.ShloMosaic.Lib.WholeRead
public import Idealize.ShloMosaic.Lib.Pipeline.ReadBack
public import Idealize.ShloMosaic.Lib.VecWindow
public import Idealize.ShloMosaic.Lib.StableHlo.ReadAt

@[expose] public section

set_option maxRecDepth 16384
set_option maxHeartbeats 400000

noncomputable section

namespace Cert.MlpLast

open Cert.MlpLastIdeal Cert.MlpLastIdeal.Gen Idealize.ShloMosaic Idealize.ShloMosaic.TcCoe Idealize.SL.Sem
open Idealize.ShloMosaic.Pipeline (Dat)
open Cert.Attn (Mat tok)
open Cert.Layer

variable (m : (ℓ : Loc nD τ sig) → Buf (Elt Ideal) ℓ)

/-- Where each point's blocks are: 512 rows of tokens, the batch's modulation, and one of eight blocks of hidden units. -/
theorem idx : ∀ t : Fin cfg0.N,
    (cfg0.win 0).index t = ![t.val / 8, 0] ∧
    (cfg0.win 1).index t = ![0, 0] ∧
    (cfg0.win 2).index t = ![t.val / 64, 0, 0] ∧
    (cfg0.win 3).index t = ![t.val / 64, 0, 0] ∧
    (cfg0.win 4).index t = ![t.val / 64, 0, 0] ∧
    (cfg0.win 5).index t = ![0, t.val % 8] ∧
    (cfg0.win 6).index t = ![t.val % 8, 0] ∧
    (cfg0.win 7).index t = ![0, 0] ∧
    (cfg0.win 8).index t = ![t.val / 8, 0] := by
  decide +kernel

/-- The arguments as the run finds them. -/
abbrev argX (c : Dev nD) : Mat := m ((c : Thread nD τ).loc main_arg0)
abbrev argN (c : Dev nD) : Vec1024 := m ((c : Thread nD τ).loc main_arg1)
abbrev argShift (c : Dev nD) : Mods := m ((c : Thread nD τ).loc main_arg2)
abbrev argScale (c : Dev nD) : Mods := m ((c : Thread nD τ).loc main_arg3)
abbrev argGate (c : Dev nD) : Mods := m ((c : Thread nD τ).loc main_arg4)
abbrev argUp (c : Dev nD) : Mat2 1024 4096 := m ((c : Thread nD τ).loc main_arg5)
abbrev argDown (c : Dev nD) : Mat2 4096 1024 := m ((c : Thread nD τ).loc main_arg6)
abbrev argF (c : Dev nD) : Vec1024 := m ((c : Thread nD τ).loc main_arg7)

/-- A point's blocks of the arguments. -/
abbrev xB (c : Dev nD) (p : Fin cfg0.N) : Vec Ideal S512x1024 .f32 := iblk m c 0 p
abbrev nB (c : Dev nD) (p : Fin cfg0.N) : Vec Ideal S1x1024 .f32 := iblk m c 1 p
abbrev shiftB (c : Dev nD) (p : Fin cfg0.N) : Vec Ideal S1x1x1024 .f32 := iblk m c 2 p
abbrev scaleB (c : Dev nD) (p : Fin cfg0.N) : Vec Ideal S1x1x1024 .f32 := iblk m c 3 p
abbrev gateB (c : Dev nD) (p : Fin cfg0.N) : Vec Ideal S1x1x1024 .f32 := iblk m c 4 p
abbrev upB (c : Dev nD) (p : Fin cfg0.N) : Vec Ideal S1024x512 .bf16 := iblk m c 5 p
abbrev downB (c : Dev nD) (p : Fin cfg0.N) : Vec Ideal S512x1024 .bf16 := iblk m c 6 p
abbrev fB (c : Dev nD) (p : Fin cfg0.N) : Vec Ideal S1x1024 .f32 := iblk m c 7 p

theorem lt_points (t : Fin cfg0.N) : t.val < 256 := t.isLt

/-- The batch of point `n`, and the token of its row `r`. -/
abbrev batch (n : ℕ) (h : n < 256) : Fin 4 := ⟨n / 64, by omega⟩
abbrev token (n : ℕ) (r : Fin 512) : Fin 4096 := ⟨n / 8 % 8 * 512 + r.val, by omega⟩

theorem x_read (c : Dev nD) (t : Fin cfg0.N) (r : Fin 512) (k : Fin 1024) :
    xB m c t (ix2 r k) = argX m c (ix2 (tok (batch t.val (lt_points t)) (token t.val r)) k) := by
  have := (idx t).1
  have hV : V m c (Pipeline.arrRef spec0 0) = argX m c := V_main_arg0 m c
  unfold xB iblk
  rw [hV]
  unfold argX tok
  blk_ext [this]

theorem n_read (c : Dev nD) (t : Fin cfg0.N) (k : Fin 1024) : nB m c t (ix2 0 k) = argN m c (ix1 k) := by
  have := (idx t).2.1
  have hV : ∀ k : Fin 1024, V m c (Pipeline.arrRef spec0 1) (ix2 0 k) = argN m c (ix1 k) := fun k => by
    show V m c main_v0 (ix2 0 k) = _
    unfold V
    after_reads_at
  refine Eq.trans ?_ (hV k)
  unfold nB
  blk_ext [iblk, this]

theorem f_read (c : Dev nD) (t : Fin cfg0.N) (k : Fin 1024) : fB m c t (ix2 0 k) = argF m c (ix1 k) := by
  have := (idx t).2.2.2.2.2.2.2.1
  have hV : ∀ k : Fin 1024, V m c (Pipeline.arrRef spec0 7) (ix2 0 k) = argF m c (ix1 k) := fun k => by
    show V m c main_v1 (ix2 0 k) = _
    unfold V
    after_reads_at
  refine Eq.trans ?_ (hV k)
  unfold fB
  blk_ext [iblk, this]

theorem shift_read (c : Dev nD) (t : Fin cfg0.N) (k : Fin 1024) : shiftB m c t (ix3 0 0 k) = argShift m c (ix3 (batch t.val (lt_points t)) 0 k) := by
  have := (idx t).2.2.1
  have hV : V m c (Pipeline.arrRef spec0 2) = argShift m c := V_main_arg2 m c
  unfold shiftB iblk
  rw [hV]
  unfold argShift
  blk_ext [this]

theorem scale_read (c : Dev nD) (t : Fin cfg0.N) (k : Fin 1024) : scaleB m c t (ix3 0 0 k) = argScale m c (ix3 (batch t.val (lt_points t)) 0 k) := by
  have := (idx t).2.2.2.1
  have hV : V m c (Pipeline.arrRef spec0 3) = argScale m c := V_main_arg3 m c
  unfold scaleB iblk
  rw [hV]
  unfold argScale
  blk_ext [this]

theorem gate_read (c : Dev nD) (t : Fin cfg0.N) (k : Fin 1024) : gateB m c t (ix3 0 0 k) = argGate m c (ix3 (batch t.val (lt_points t)) 0 k) := by
  have := (idx t).2.2.2.2.1
  have hV : V m c (Pipeline.arrRef spec0 4) = argGate m c := V_main_arg4 m c
  unfold gateB iblk
  rw [hV]
  unfold argGate
  blk_ext [this]

theorem up_read (c : Dev nD) (t : Fin cfg0.N) (k : Fin 1024) (v : Fin 512) : upB m c t (ix2 k v) = argUp m c (ix2 k (unitOf t.val v)) := by
  have := (idx t).2.2.2.2.2.1
  have hV : V m c (Pipeline.arrRef spec0 5) = argUp m c := V_main_arg5 m c
  unfold upB iblk
  rw [hV]
  unfold argUp unitOf
  blk_ext [this]

theorem down_read (c : Dev nD) (t : Fin cfg0.N) (v : Fin 512) (j : Fin 1024) : downB m c t (ix2 v j) = argDown m c (ix2 (unitOf t.val v) j) := by
  have := (idx t).2.2.2.2.2.2.1
  have hV : V m c (Pipeline.arrRef spec0 6) = argDown m c := V_main_arg6 m c
  unfold downB iblk
  rw [hV]
  unfold argDown unitOf
  blk_ext [this]

/-- The normed and modulated row that row `r` of point `n` works on. -/
abbrev hid (c : Dev nD) (n : ℕ) (h : n < 256) (r : Fin 512) : Fin 1024 → EReal :=
  hidden (argX m c) (argN m c) (argShift m c) (argScale m c) (batch n h) (token n r)

/-- The first step's normed and modulated rows. -/
theorem pay1_at (c : Dev nD) (t : Fin cfg0.N) (r : Fin 512) (j : Fin 1024) :
    k0_pay1 (xB m c t) (nB m c t) (shiftB m c t) (scaleB m c t) (ix2 r j) = hid m c t.val (lt_points t) r j := by
  pointwise [k0_pay1]
  simp only [x_read, n_read, shift_read, scale_read]
  rfl

/-- One step's sum, over rows `h` and what the steps before it left. -/
theorem pay3_at (c : Dev nD) (t : Fin cfg0.N) (h : Vec Ideal S512x1024 .bf16) (acc : Vec Ideal S512x1024 .f32) (hr : Fin 1024 → EReal)
    (r : Fin 512) (j : Fin 1024) (hh : ∀ k : Fin 1024, h (ix2 r k) = hr k) :
    k0_pay3 h (upB m c t) acc (downB m c t) (ix2 r j) = acc (ix2 r j) + block hr (argUp m c) (argDown m c) j t.val := by
  pointwise [k0_pay3]
  simp only [hh, up_read, down_read]
  rfl

/-- The sum starts at zero. -/
theorem pay2_at (r : Fin 512) (j : Fin 1024) : (k0_pay2 (F := Ideal)) (ix2 r j) = (0 : EReal) := by
  pointwise [k0_pay2]

/-- The last step's output: the residual stream plus the gate times the sum, normed with the last weights. -/
theorem pay4_at (c : Dev nD) (t : Fin cfg0.N) (acc : Vec Ideal S512x1024 .f32) (r : Fin 512) (j : Fin 1024) :
    k0_pay4 (xB m c t) (gateB m c t) acc (fB m c t) (ix2 r j)
      = rms (fun k => argX m c (ix2 (tok (batch t.val (lt_points t)) (token t.val r)) k) + argGate m c (ix3 (batch t.val (lt_points t)) 0 k) * acc (ix2 r k))
          (fun k => argF m c (ix1 k)) j := by
  pointwise [k0_pay4]
  simp only [x_read, gate_read, f_read]
  rfl

/-- The first step of a run of eight leaves the normed and modulated rows. -/
theorem rows_A (c : Dev nD) (t : Fin cfg0.N) (h0 : t.val % 8 = 0) (h1 : ¬t.val % 8 = 7) (r : Fin 512) (j : Fin 1024) :
    (outsAt0 m c t.val t.isLt).2.1 (ix2 r j) = hid m c t.val (lt_points t) r j := by
  rw [outsAt0_A m c t h0 h1]
  dsimp only
  unfold sout0_A_0
  frame_out
  exact pay1_at m c t r j

/-- … and the first block's sum. -/
theorem sum_A (c : Dev nD) (t : Fin cfg0.N) (h0 : t.val % 8 = 0) (h1 : ¬t.val % 8 = 7) (r : Fin 512) (j : Fin 1024) :
    (outsAt0 m c t.val t.isLt).2.2 (ix2 r j) = block (hid m c t.val (lt_points t) r) (argUp m c) (argDown m c) j t.val := by
  rw [outsAt0_A m c t h0 h1]
  dsimp only
  unfold sout0_A_1
  frame_out
  rw [pay3_at m c t _ _ (hid m c t.val (lt_points t) r) r j fun k => pay1_at m c t r k, pay2_at, zero_add]

/-- The point before a point of a later step. -/
abbrev pred (t : Fin cfg0.N) : t.val - 1 < cfg0.N := Nat.lt_of_le_of_lt (Nat.sub_le _ _) t.isLt

/-- A later step leaves the rows as they are … -/
theorem rows_B (c : Dev nD) (t : Fin cfg0.N) (h0 : ¬t.val % 8 = 0) (r : Fin 512) (j : Fin 1024) :
    (outsAt0 m c t.val t.isLt).2.1 (ix2 r j) = (outsAt0 m c (t.val - 1) (pred t)).2.1 (ix2 r j) := by
  by_cases h1 : t.val % 8 = 7
  · rw [outsAt0_C m c t h0 h1]
    dsimp only
    unfold sout0_C_0
    frame_out
  · rw [outsAt0_B m c t h0 h1]
    dsimp only
    unfold sout0_B_0
    frame_out

/-- … and adds its block to the sum. -/
theorem sum_B (c : Dev nD) (t : Fin cfg0.N) (h0 : ¬t.val % 8 = 0) (hr : Fin 1024 → EReal) (r : Fin 512) (j : Fin 1024)
    (hh : ∀ k : Fin 1024, (outsAt0 m c (t.val - 1) (pred t)).2.1 (ix2 r k) = hr k) :
    (outsAt0 m c t.val t.isLt).2.2 (ix2 r j)
      = (outsAt0 m c (t.val - 1) (pred t)).2.2 (ix2 r j) + block hr (argUp m c) (argDown m c) j t.val := by
  by_cases h1 : t.val % 8 = 7
  · rw [outsAt0_C m c t h0 h1]
    dsimp only
    unfold sout0_C_1
    frame_out
    simp only [read_unread_whole]
    exact pay3_at m c t _ _ hr r j hh
  · rw [outsAt0_B m c t h0 h1]
    dsimp only
    unfold sout0_B_1
    frame_out
    simp only [read_unread_whole]
    exact pay3_at m c t _ _ hr r j hh

/-- After each point: the normed and modulated rows, and the sum of the blocks of hidden units so far. -/
theorem carried (c : Dev nD) : ∀ (n : ℕ) (hn : n < cfg0.N) (hN : n < 256) (r : Fin 512),
    (∀ j : Fin 1024, (outsAt0 m c n hn).2.1 (ix2 r j) = hid m c n hN r j) ∧
    (∀ j : Fin 1024, (outsAt0 m c n hn).2.2 (ix2 r j) = ∑ f ∈ Finset.range (n % 8 + 1), block (hid m c n hN r) (argUp m c) (argDown m c) j f) := by
  intro n
  induction n with
  | zero =>
    intro hn hN r
    refine ⟨fun j => rows_A m c ⟨0, hn⟩ (Nat.zero_mod _) (by dsimp only; omega) r j, fun j => ?_⟩
    refine (sum_A m c ⟨0, hn⟩ (Nat.zero_mod _) (by dsimp only; omega) r j).trans ?_
    exact (Finset.sum_range_one _).symm
  | succ n ih =>
    intro hn hN r
    by_cases h0 : (n + 1) % 8 = 0
    · refine ⟨fun j => rows_A m c ⟨n + 1, hn⟩ h0 (by dsimp only; omega) r j, fun j => ?_⟩
      refine (sum_A m c ⟨n + 1, hn⟩ h0 (by dsimp only; omega) r j).trans ?_
      rw [h0, ← block_mod]
      simp only [h0, zero_add, Finset.sum_range_one]
    · obtain ⟨ih1, ih2⟩ := ih (Nat.lt_of_succ_lt hn) (by omega) r
      have eb : batch n (by omega) = batch (n + 1) hN := Fin.ext (by show n / 64 = (n + 1) / 64; omega)
      have et : token n r = token (n + 1) r := Fin.ext (by show n / 8 % 8 * 512 + r.val = (n + 1) / 8 % 8 * 512 + r.val; omega)
      have eh : hid m c n (by omega) r = hid m c (n + 1) hN r := by
        unfold hid
        rw [eb, et]
      refine ⟨fun j => (rows_B m c ⟨n + 1, hn⟩ h0 r j).trans ((ih1 j).trans (congrFun eh j)), fun j => ?_⟩
      refine (sum_B m c ⟨n + 1, hn⟩ h0 (hid m c n (by omega) r) r j ih1).trans ?_
      refine (congrArg (· + block (hid m c n (by omega) r) (argUp m c) (argDown m c) j (n + 1)) (ih2 j)).trans ?_
      have e8 : (n + 1) % 8 = n % 8 + 1 := by omega
      rw [eh, ← block_mod _ _ _ _ (n + 1), e8]
      exact (Finset.sum_range_succ _ _).symm

/-- What the last step of a run of eight leaves in its output block. -/
theorem point_value (c : Dev nD) (t : Fin cfg0.N) (h1 : t.val % 8 = 7) (r : Fin 512) (j : Fin 1024) :
    (outsAt0 m c t.val t.isLt).1 (ix2 r j)
      = feedLast (argX m c) (argN m c) (argShift m c) (argScale m c) (argGate m c) (argUp m c) (argDown m c) (argF m c)
          (batch t.val (lt_points t)) (token t.val r) j := by
  have h0 : ¬t.val % 8 = 0 := by omega
  have hs : ∀ j : Fin 1024, (outsAt0 m c t.val t.isLt).2.2 (ix2 r j) = ∑ u : Fin 4096, unit (hid m c t.val (lt_points t) r) (argUp m c) (argDown m c) j u := fun j => by
    rw [(carried m c t.val t.isLt (lt_points t) r).2 j, h1]
    exact sum_blocks _ _ _ _
  unfold feedLast feed
  simp only [← hs]
  rw [outsAt0_C m c t h0 h1]
  dsimp only
  unfold out0_C_8 sout0_C_1
  frame_out
  exact pay4_at m c t _ r j

/-- The output array after the run. -/
theorem kernel_array (c : Dev nD) : (dats m 0 c).arrAt 8 cfg0.N
    = ofRows (feedLast (argX m c) (argN m c) (argShift m c) (argScale m c) (argGate m c) (argUp m c) (argDown m c) (argF m c)) := by
  refine (dats m 0 c).arrAt_eq_of_covers 8 _ (by decide +kernel) fun t hf y => ?_
  have hm : t.val % 8 = 7 := (flush0_8 t).mp hf
  blk_simp
  rw [after0_8]
  idx_vars y
  have e : ((View.whole main_v2).slice (win0_8.rect t)).emb (ix2 y0 y1) = ix2 (tok (batch t.val (lt_points t)) (token t.val y0)) y1 := by
    have := (idx t).2.2.2.2.2.2.2.2
    unfold tok
    blk_ext [this]
  rw [e]
  exact (point_value m c t hm y0 y1).trans (ofRows_apply _ _ _ _).symm

end Cert.MlpLast

end
-- ==== Proof.MlpLast.Ref.lean ====
/- What the last feed-forward block's reference computes, and the equation of the two programs. -/
module

public import proofs.«01_k».proof.Defs
public import proofs.«01_k».proof.Proof.MlpLast.Kernel
public import proofs.«01_k».proof.Proof.Gen.MlpLastIdeal
public import proofs.«01_k».proof.Proof.Gen.MlpLastRefIdeal
public import proofs.«01_k».proof.Proof.Gen.MlpLastRefIdeal.Run
public import proofs.«01_k».proof.Proof.Gen.MlpLastRefIdeal.Read

@[expose] public section

set_option maxRecDepth 16384

noncomputable section

namespace Cert.MlpLast

open Idealize.ShloMosaic Idealize.ShloMosaic.TcCoe Idealize.SL.Sem
open Cert.Attn (Mat tok)
open Cert.Layer

section

open Cert.MlpLastRefIdeal Cert.MlpLastRefIdeal.Gen Cert.MlpLastRefIdeal.Read

/-- The reference's normed and modulated rows. -/
theorem ref_hidden (x : (⟨S16384x1024, .f32⟩ : BufTy).Contents (Elt Ideal)) (nw : (⟨S1024, .f32⟩ : BufTy).Contents (Elt Ideal))
    (shift scale : (⟨S4x1x1024, .f32⟩ : BufTy).Contents (Elt Ideal)) (b : Fin 4) (t : Fin 4096) (j : Fin 1024) :
    val_main_v23 (F := Ideal) x nw shift scale (ix3 b t j) = hidden x nw shift scale b t j := by
  pointwise [val_main_cst, val_main_cst_0, val_main_cst_1, val_main_cst_2, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  rfl

/-- What a hidden unit holds in the reference: the square of its positive part. -/
theorem ref_unit (x : (⟨S16384x1024, .f32⟩ : BufTy).Contents (Elt Ideal)) (nw : (⟨S1024, .f32⟩ : BufTy).Contents (Elt Ideal))
    (shift scale : (⟨S4x1x1024, .f32⟩ : BufTy).Contents (Elt Ideal)) (wu : (⟨S1024x4096, .bf16⟩ : BufTy).Contents (Elt Ideal))
    (b : Fin 4) (t : Fin 4096) (u : Fin 4096) :
    val_main_v30 (F := Ideal) x nw shift scale wu (ix3 b t u)
      = max (∑ k : Fin 1024, hidden x nw shift scale b t k * (wu (ix2 k u) : EReal)) 0 * max (∑ k : Fin 1024, hidden x nw shift scale b t k * (wu (ix2 k u) : EReal)) 0 := by
  pointwise [val_main_v30, val_main_v29, val_main_v28, val_main_v26, val_main_call0_v0, val_main_call0_cst]
  simp only [ref_hidden]

/-- The reference's rows: the residual stream plus the gate times the sum over the hidden units. -/
theorem ref_feed (x : (⟨S16384x1024, .f32⟩ : BufTy).Contents (Elt Ideal)) (nw : (⟨S1024, .f32⟩ : BufTy).Contents (Elt Ideal))
    (shift scale gate : (⟨S4x1x1024, .f32⟩ : BufTy).Contents (Elt Ideal)) (wu : (⟨S1024x4096, .bf16⟩ : BufTy).Contents (Elt Ideal))
    (wd : (⟨S4096x1024, .bf16⟩ : BufTy).Contents (Elt Ideal)) (b : Fin 4) (t : Fin 4096) (j : Fin 1024) :
    val_main_v34 (F := Ideal) x nw shift scale gate wu wd (ix3 b t j) = feed x nw shift scale gate wu wd b t j := by
  pointwise [val_main_v34, val_main_v33, val_main_v32, val_main_v31, val_main_v27, val_main_v25, val_main_v24, val_main_v0]
  simp only [ref_unit]
  rfl

/-- The reference's result. -/
theorem ref_array (x : (⟨S16384x1024, .f32⟩ : BufTy).Contents (Elt Ideal)) (nw : (⟨S1024, .f32⟩ : BufTy).Contents (Elt Ideal))
    (shift scale gate : (⟨S4x1x1024, .f32⟩ : BufTy).Contents (Elt Ideal)) (wu : (⟨S1024x4096, .bf16⟩ : BufTy).Contents (Elt Ideal))
    (wd : (⟨S4096x1024, .bf16⟩ : BufTy).Contents (Elt Ideal)) (fw : (⟨S1024, .f32⟩ : BufTy).Contents (Elt Ideal)) :
    val_main_v48 (F := Ideal) x nw shift scale gate wu wd fw = ofRows (feedLast x nw shift scale gate wu wd fw) := by
  refine eq_ofRows _ _ fun b t j => ?_
  have h1 : (tok b t).val / 4096 = b.val := by unfold tok; dsimp only; omega
  have h2 : (tok b t).val % 4096 = t.val := by unfold tok; dsimp only; omega
  pointwise [val_main_cst_3, val_main_cst_4, val_main_cst_5, val_main_v48, val_main_v47, val_main_v46, val_main_v45, val_main_v44, val_main_v43, val_main_v42, val_main_v41, val_main_v40, val_main_v39, val_main_v38, val_main_v37, val_main_v36, val_main_v35]
  simp only [h1, h2, ref_feed]
  rfl

end

/-- The value claim of the last feed-forward block: from equal arguments the kernel and the reference end with equal results. -/
theorem algebraic :
    algebraic_MlpLastIdeal_MlpLastRefIdeal (hMlpLastIdeal := Cert.MlpLastIdeal.Gen.facts) (hMlpLastRefIdeal := Cert.MlpLastRefIdeal.Gen.facts) := by
  intro m g m' g' _ hin
  refine ⟨fun c => ofRows (feedLast (argX m c) (argN m c) (argShift m c) (argScale m c) (argGate m c) (argUp m c) (argDown m c) (argF m c)), ?_, ?_⟩
  · refine (θ_run _ _ _).mono (fun r h c => ?_) (Cert.MlpLastIdeal.Value.run_blocks m g)
    obtain ⟨h0, h1⟩ := h c
    exact ⟨h0.trans (kernel_array m c), h1⟩
  · refine (θ_run _ _ _).mono (fun r h c => ?_) (Cert.MlpLastRefIdeal.Value.run m' g')
    obtain ⟨h0, h1⟩ := h c
    obtain ⟨e0, e1, e2, e3, e4, e5, e6, e7⟩ := hin c
    refine ⟨h0.trans ?_, h1⟩
    rw [Cert.MlpLastRefIdeal.Read.val_main_v48_eq, e0, e1, e2, e3, e4, e5, e6, e7]
    exact ref_array _ _ _ _ _ _ _ _

/-- The reference runs, leaves its arguments unchanged, and ends with every counter at zero: it declares no semaphore. -/
theorem reference_frame : quiescent_MlpLastRefIdeal (hMlpLastRefIdeal := Cert.MlpLastRefIdeal.Gen.facts) := by
  intro m g _
  exact (θ_run _ _ _).mono (fun r h => ⟨fun c => (h c).2, sem_eq_zero_of_no_sems (by decide) r.2⟩) (Cert.MlpLastRefIdeal.Value.run m g)

end Cert.MlpLast

end
-- ==== Proof.Outproj.Kernel.lean ====
/- The output projection: what its kernel's output array holds after the run. -/
module

public import proofs.«01_k».proof.Proof.Layer.Rows
public import proofs.«01_k».proof.Proof.Gen.OutprojIdeal.Value
public import Idealize.ShloMosaic.Lib.Pipeline.Covers
public import Idealize.ShloMosaic.Lib.Pipeline.ValueKit
public import Idealize.ShloMosaic.Lib.WholeRead

@[expose] public section

set_option maxRecDepth 16384

noncomputable section

namespace Cert.Outproj

open Cert.OutprojIdeal Cert.OutprojIdeal.Gen Idealize.ShloMosaic Idealize.ShloMosaic.TcCoe Idealize.SL.Sem
open Idealize.ShloMosaic.Pipeline (Dat)
open Cert.Attn (Mat tok)
open Cert.Layer

/-- A token's row after the projection: its row of the residual stream, plus the gate times its row of the product. -/
def value (a : Mat) (w : Mat2 1024 1024) (x : Mat) (g : Mods) (b : Fin 4) (t : Fin 4096) (j : Fin 1024) : EReal :=
  x (ix2 (tok b t) j) + g (ix3 b 0 j) * ∑ k : Fin 1024, a (ix2 (tok b t) k) * w (ix2 k j)

variable (m : (ℓ : Loc nD τ sig) → Buf (Elt Ideal) ℓ)

/-- Where each point's blocks are: 512 rows, the whole weights, and the batch's gate. -/
theorem idx : ∀ t : Fin cfg0.N,
    (cfg0.win 0).index t = ![(grid0.coords t 0).val, 0] ∧
    (cfg0.win 1).index t = ![0, 0] ∧
    (cfg0.win 2).index t = ![(grid0.coords t 0).val, 0] ∧
    (cfg0.win 3).index t = ![(grid0.coords t 0).val / 8, 0, 0] ∧
    (cfg0.win 4).index t = ![(grid0.coords t 0).val, 0] := by
  decide +kernel

/-- The output's blocks: 32 blocks of rows. -/
theorem out_map : ∀ i : grid0.Coords, (cfg0.win 4).indexMap i = ![(i 0).val, 0] := by
  decide +kernel

/-- The four arguments as the run finds them. -/
abbrev argA (c : Dev nD) : Mat := m ((c : Thread nD τ).loc main_arg0)
abbrev argW (c : Dev nD) : Mat2 1024 1024 := m ((c : Thread nD τ).loc main_arg1)
abbrev argX (c : Dev nD) : Mat := m ((c : Thread nD τ).loc main_arg2)
abbrev argG (c : Dev nD) : Mods := m ((c : Thread nD τ).loc main_arg3)

/-- A point's blocks of the four. -/
abbrev aB (c : Dev nD) (p : Fin cfg0.N) : Vec Ideal S512x1024 .bf16 := iblk m c 0 p
abbrev wB (c : Dev nD) (p : Fin cfg0.N) : Vec Ideal S1024x1024 .bf16 := iblk m c 1 p
abbrev xB (c : Dev nD) (p : Fin cfg0.N) : Vec Ideal S512x1024 .f32 := iblk m c 2 p
abbrev gB (c : Dev nD) (p : Fin cfg0.N) : Vec Ideal S1x1x1024 .f32 := iblk m c 3 p

/-- The batch of a point, and the token of its row `r`. -/
abbrev batch (t : Fin cfg0.N) : Fin 4 := ⟨(grid0.coords t 0).val / 8, by have h : (grid0.coords t 0).val < 32 := (grid0.coords t 0).isLt; omega⟩
abbrev token (t : Fin cfg0.N) (r : Fin 512) : Fin 4096 := ⟨(grid0.coords t 0).val % 8 * 512 + r.val, by omega⟩

theorem a_read (c : Dev nD) (t : Fin cfg0.N) (r : Fin 512) (k : Fin 1024) : aB m c t (ix2 r k) = argA m c (ix2 (tok (batch t) (token t r)) k) := by
  have := (idx t).1
  unfold aB argA tok
  blk_ext [iblk, V, this]

theorem w_read (c : Dev nD) (t : Fin cfg0.N) (k j : Fin 1024) : wB m c t (ix2 k j) = argW m c (ix2 k j) := by
  have := (idx t).2.1
  unfold wB argW
  blk_ext [iblk, V, this]

theorem x_read (c : Dev nD) (t : Fin cfg0.N) (r : Fin 512) (k : Fin 1024) : xB m c t (ix2 r k) = argX m c (ix2 (tok (batch t) (token t r)) k) := by
  have := (idx t).2.2.1
  unfold xB argX tok
  blk_ext [iblk, V, this]

theorem g_read (c : Dev nD) (t : Fin cfg0.N) (k : Fin 1024) : gB m c t (ix3 0 0 k) = argG m c (ix3 (batch t) 0 k) := by
  have := (idx t).2.2.2.1
  unfold gB argG
  blk_ext [iblk, V, this]

/-- What one grid point leaves in its output block. -/
theorem point_value (c : Dev nD) (t : Fin cfg0.N) (r : Fin 512) (j : Fin 1024) :
    out0_4 (aB m c t) (wB m c t) (xB m c t) (gB m c t) (ix2 r j)
      = value (argA m c) (argW m c) (argX m c) (argG m c) (batch t) (token t r) j := by
  unfold out0_4
  frame_out
  pointwise [k0_pay1]
  unfold value
  rw [x_read, g_read]
  simp only [a_read, w_read]

/-- The output array after the run. -/
theorem kernel_array (c : Dev nD) : (dats m 0 c).arrAt 4 cfg0.N = ofRows (value (argA m c) (argW m c) (argX m c) (argG m c)) := by
  refine (dats m 0 c).arrAt_eq_of_covers 4 _ ((cfg0.win 4).covers_of_indexMap_surj rfl (by decide) fun β =>
    ⟨fun a => match a with
      | ⟨0, _⟩ => (β 0 : Fin 32), fun a => ?_⟩) fun t hf y => ?_
  · rw [out_map]
    match a with
    | ⟨0, _⟩ => rfl
    | ⟨1, _⟩ => have h : (β 1).val < 1 := (β 1).isLt; show 0 = (β 1).val; omega
  · blk_simp
    rw [after0_4]
    idx_vars y
    have e : ((View.whole main_v0).slice (win0_4.rect t)).emb (ix2 y0 y1) = ix2 (tok (batch t) (token t y0)) y1 := by
      have := (idx t).2.2.2.2
      unfold tok
      blk_ext [this]
    rw [e]
    exact (point_value m c t y0 y1).trans (ofRows_apply _ _ _ _).symm

end Cert.Outproj

end
-- ==== Proof.Outproj.Ref.lean ====
/- What the output projection's reference computes, and the equation of the two programs. -/
module

public import proofs.«01_k».proof.Defs
public import proofs.«01_k».proof.Proof.Outproj.Kernel
public import proofs.«01_k».proof.Proof.Gen.OutprojIdeal
public import proofs.«01_k».proof.Proof.Gen.OutprojRefIdeal
public import proofs.«01_k».proof.Proof.Gen.OutprojRefIdeal.Run
public import proofs.«01_k».proof.Proof.Gen.OutprojRefIdeal.Read

@[expose] public section

set_option maxRecDepth 16384

noncomputable section

namespace Cert.Outproj

open Idealize.ShloMosaic Idealize.ShloMosaic.TcCoe Idealize.SL.Sem
open Cert.Attn (Mat tok)
open Cert.Layer

section

open Cert.OutprojRefIdeal Cert.OutprojRefIdeal.Gen Cert.OutprojRefIdeal.Read

/-- The reference's result. -/
theorem ref_array (a : (⟨S16384x1024, .bf16⟩ : BufTy).Contents (Elt Ideal)) (w : (⟨S1024x1024, .bf16⟩ : BufTy).Contents (Elt Ideal))
    (x : (⟨S16384x1024, .f32⟩ : BufTy).Contents (Elt Ideal)) (g : (⟨S4x1x1024, .f32⟩ : BufTy).Contents (Elt Ideal)) :
    val_main_v10 (F := Ideal) a w x g = ofRows (value a w x g) := by
  refine eq_ofRows _ _ fun b t j => ?_
  have h1 : (tok b t).val / 4096 = b.val := by unfold tok; dsimp only; omega
  have h2 : (tok b t).val % 4096 = t.val := by unfold tok; dsimp only; omega
  pointwise [val_main_v10, val_main_v9, val_main_v8, val_main_v7, val_main_v6, val_main_v5, val_main_v4, val_main_v3, val_main_v2, val_main_v1, val_main_v0]
  simp only [h1, h2]
  rfl

end

/-- The value claim of the output projection: from equal arguments the kernel and the reference end with equal results. -/
theorem algebraic :
    algebraic_OutprojIdeal_OutprojRefIdeal (hOutprojIdeal := Cert.OutprojIdeal.Gen.facts) (hOutprojRefIdeal := Cert.OutprojRefIdeal.Gen.facts) := by
  intro m g m' g' _ hin
  refine ⟨fun c => ofRows (value (argA m c) (argW m c) (argX m c) (argG m c)), ?_, ?_⟩
  · refine (θ_run _ _ _).mono (fun r h c => ?_) (Cert.OutprojIdeal.Value.run_blocks m g)
    obtain ⟨h0, h1⟩ := h c
    exact ⟨h0.trans (kernel_array m c), h1⟩
  · refine (θ_run _ _ _).mono (fun r h c => ?_) (Cert.OutprojRefIdeal.Value.run m' g')
    obtain ⟨h0, h1⟩ := h c
    obtain ⟨e0, e1, e2, e3⟩ := hin c
    refine ⟨h0.trans ?_, h1⟩
    rw [Cert.OutprojRefIdeal.Read.val_main_v10_eq, e0, e1, e2, e3]
    exact ref_array _ _ _ _

/-- The reference runs, leaves its arguments unchanged, and ends with every counter at zero: it declares no semaphore. -/
theorem reference_frame : quiescent_OutprojRefIdeal (hOutprojRefIdeal := Cert.OutprojRefIdeal.Gen.facts) := by
  intro m g _
  exact (θ_run _ _ _).mono (fun r h => ⟨fun c => (h c).2, sem_eq_zero_of_no_sems (by decide) r.2⟩) (Cert.OutprojRefIdeal.Value.run m g)

end Cert.Outproj

end
-- ==== Proof.Layer.Project.lean ====
/- A layer's input projection, one token's row at a time. -/
module

public import proofs.«01_k».proof.Proof.Layer.Rows

@[expose] public section

noncomputable section

namespace Cert.Layer

open Idealize.ShloMosaic Idealize.ShloMosaic.TcCoe
open Cert.Attn (Mat tok)

/-- Column `j` of the `w` columns from `o` on, of `n`. -/
def colFrom (n o w : ℕ) (h : o + w ≤ n) (j : Fin w) : Fin n := ⟨o + j.val, by omega⟩

/-- A token's normed and modulated row times the columns of the weights from `o` on. -/
def project {n : ℕ} (o w : ℕ) (h : o + w ≤ n) (x : Mat) (nw : Vec1024) (shift scale : Mods) (wt : Mat2 1024 n)
    (b : Fin 4) (t : Fin 4096) (j : Fin w) : EReal :=
  ∑ k : Fin 1024, hidden x nw shift scale b t k * wt (ix2 k (colFrom n o w h j))

end Cert.Layer

end
-- ==== Proof.ProjOdd.Kernel.lean ====
/- The projection to queries, keys and values: what its kernel's output arrays hold after the run. -/
module

public import proofs.«01_k».proof.Proof.Layer.Project
public import proofs.«01_k».proof.Proof.Gen.ProjOddIdeal.Value
public import Idealize.ShloMosaic.Lib.Pipeline.Covers
public import Idealize.ShloMosaic.Lib.Pipeline.ValueKit
public import Idealize.ShloMosaic.Lib.WholeRead
public import Idealize.ShloMosaic.Lib.StableHlo.ReadAt

@[expose] public section

set_option maxRecDepth 16384
set_option maxHeartbeats 400000

noncomputable section

namespace Cert.ProjOdd

open Cert.ProjOddIdeal Cert.ProjOddIdeal.Gen Idealize.ShloMosaic Idealize.ShloMosaic.TcCoe Idealize.SL.Sem
open Idealize.ShloMosaic.Pipeline (Dat)
open Cert.Attn (Mat tok)
open Cert.Layer

variable (m : (ℓ : Loc nD τ sig) → Buf (Elt Ideal) ℓ)

/-- Where each point's blocks are: 512 rows of tokens, the batch's modulation, and the whole weights. -/
theorem idx : ∀ t : Fin cfg0.N,
    (cfg0.win 0).index t = ![t.val, 0] ∧
    (cfg0.win 1).index t = ![0, 0] ∧
    (cfg0.win 2).index t = ![t.val / 8, 0, 0] ∧
    (cfg0.win 3).index t = ![t.val / 8, 0, 0] ∧
    (cfg0.win 4).index t = ![0, 0] := by
  decide +kernel

/-- The arguments as the run finds them. -/
abbrev argX (c : Dev nD) : Mat := m ((c : Thread nD τ).loc main_arg0)
abbrev argN (c : Dev nD) : Vec1024 := m ((c : Thread nD τ).loc main_arg1)
abbrev argShift (c : Dev nD) : Mods := m ((c : Thread nD τ).loc main_arg2)
abbrev argScale (c : Dev nD) : Mods := m ((c : Thread nD τ).loc main_arg3)
abbrev argW (c : Dev nD) : Mat2 1024 3072 := m ((c : Thread nD τ).loc main_arg4)

/-- A point's blocks of the arguments. -/
abbrev xB (c : Dev nD) (p : Fin cfg0.N) : Vec Ideal S512x1024 .f32 := iblk m c 0 p
abbrev nB (c : Dev nD) (p : Fin cfg0.N) : Vec Ideal S1x1024 .f32 := iblk m c 1 p
abbrev shiftB (c : Dev nD) (p : Fin cfg0.N) : Vec Ideal S1x1x1024 .f32 := iblk m c 2 p
abbrev scaleB (c : Dev nD) (p : Fin cfg0.N) : Vec Ideal S1x1x1024 .f32 := iblk m c 3 p
abbrev wB (c : Dev nD) (p : Fin cfg0.N) : Vec Ideal S1024x3072 .bf16 := iblk m c 4 p

theorem lt_points (t : Fin cfg0.N) : t.val < 32 := t.isLt

/-- The batch of point `n`, and the token of its row `r`. -/
abbrev batch (n : ℕ) (h : n < 32) : Fin 4 := ⟨n / 8, by omega⟩
abbrev token (n : ℕ) (r : Fin 512) : Fin 4096 := ⟨n % 8 * 512 + r.val, by omega⟩

theorem x_read (c : Dev nD) (t : Fin cfg0.N) (r : Fin 512) (k : Fin 1024) :
    xB m c t (ix2 r k) = argX m c (ix2 (tok (batch t.val (lt_points t)) (token t.val r)) k) := by
  have := (idx t).1
  have hV : V m c (Pipeline.arrRef spec0 0) = argX m c := V_main_arg0 m c
  unfold xB iblk
  rw [hV]
  unfold argX tok
  blk_ext [this]

theorem n_read (c : Dev nD) (t : Fin cfg0.N) (k : Fin 1024) : nB m c t (ix2 0 k) = argN m c (ix1 k) := by
  have := (idx t).2.1
  have hV : ∀ k : Fin 1024, V m c (Pipeline.arrRef spec0 1) (ix2 0 k) = argN m c (ix1 k) := fun k => by
    show V m c main_v0 (ix2 0 k) = _
    unfold V
    after_reads_at
  refine Eq.trans ?_ (hV k)
  unfold nB
  blk_ext [iblk, this]

theorem shift_read (c : Dev nD) (t : Fin cfg0.N) (k : Fin 1024) : shiftB m c t (ix3 0 0 k) = argShift m c (ix3 (batch t.val (lt_points t)) 0 k) := by
  have := (idx t).2.2.1
  have hV : V m c (Pipeline.arrRef spec0 2) = argShift m c := V_main_arg2 m c
  unfold shiftB iblk
  rw [hV]
  unfold argShift
  blk_ext [this]

theorem scale_read (c : Dev nD) (t : Fin cfg0.N) (k : Fin 1024) : scaleB m c t (ix3 0 0 k) = argScale m c (ix3 (batch t.val (lt_points t)) 0 k) := by
  have := (idx t).2.2.2.1
  have hV : V m c (Pipeline.arrRef spec0 3) = argScale m c := V_main_arg3 m c
  unfold scaleB iblk
  rw [hV]
  unfold argScale
  blk_ext [this]

theorem w_read (c : Dev nD) (t : Fin cfg0.N) (k : Fin 1024) (j : Fin 3072) : wB m c t (ix2 k j) = argW m c (ix2 k j) := by
  have := (idx t).2.2.2.2
  have hV : V m c (Pipeline.arrRef spec0 4) = argW m c := V_main_arg4 m c
  unfold wB iblk
  rw [hV]
  unfold argW
  blk_ext [this]

/-- The normed and modulated row that row `r` of point `n` works on. -/
abbrev hid (c : Dev nD) (n : ℕ) (h : n < 32) (r : Fin 512) : Fin 1024 → EReal :=
  hidden (argX m c) (argN m c) (argShift m c) (argScale m c) (batch n h) (token n r)

/-- A point's normed and modulated rows. -/
theorem rows_at (c : Dev nD) (t : Fin cfg0.N) (r : Fin 512) (j : Fin 1024) :
    k0_pay4 (xB m c t) (nB m c t) (shiftB m c t) (scaleB m c t) (ix2 r j) = hid m c t.val (lt_points t) r j := by
  pointwise [k0_pay4]
  simp only [x_read, n_read, shift_read, scale_read]
  rfl

/-- Where each point's output blocks are: its 512 rows of tokens. -/
theorem outputs : ∀ t : Fin cfg0.N, (cfg0.win 5).index t = ![t.val, 0] ∧ (cfg0.win 6).index t = ![t.val, 0] ∧ (cfg0.win 7).index t = ![t.val, 0] ∧ (cfg0.win 8).index t = ![t.val, 0] ∧ (cfg0.win 9).index t = ![t.val, 0] := by
  decide +kernel

/-- What one grid point leaves in the block of output 1: the queries. -/
theorem point_value5 (c : Dev nD) (t : Fin cfg0.N) (r : Fin 512) (j : Fin 1024) :
    out0_5 (xB m c t) (nB m c t) (shiftB m c t) (scaleB m c t) (wB m c t) (ix2 r j)
      = project 0 1024 (by decide) (argX m c) (argN m c) (argShift m c) (argScale m c) (argW m c) (batch t.val (lt_points t)) (token t.val r) j := by
  unfold out0_5
  frame_out
  pointwise [k0_pay5]
  simp only [rows_at, w_read, project, colFrom, Nat.zero_add]

/-- The array of output 1 after the run: the queries. -/
theorem kernel_array5 (c : Dev nD) : (dats m 0 c).arrAt 5 cfg0.N
    = ofRows (project 0 1024 (by decide) (argX m c) (argN m c) (argShift m c) (argScale m c) (argW m c)) := by
  refine (dats m 0 c).arrAt_eq_of_covers 5 _ (by decide +kernel) fun t hf y => ?_
  blk_simp
  rw [after0_5]
  idx_vars y
  have e : ((View.whole main_v1_0).slice (win0_5.rect t)).emb (ix2 y0 y1) = ix2 (tok (batch t.val (lt_points t)) (token t.val y0)) y1 := by
    have := (outputs t).1
    unfold tok
    blk_ext [this]
  rw [e]
  exact (point_value5 m c t y0 y1).trans (ofRows_apply _ _ _ _).symm

/-- What one grid point leaves in the block of output 2: the keys. -/
theorem point_value6 (c : Dev nD) (t : Fin cfg0.N) (r : Fin 512) (j : Fin 1024) :
    out0_6 (xB m c t) (nB m c t) (shiftB m c t) (scaleB m c t) (wB m c t) (ix2 r j)
      = project 1024 1024 (by decide) (argX m c) (argN m c) (argShift m c) (argScale m c) (argW m c) (batch t.val (lt_points t)) (token t.val r) j := by
  unfold out0_6
  frame_out
  pointwise [k0_pay6]
  simp only [rows_at, w_read]
  rfl

/-- The array of output 2 after the run: the keys. -/
theorem kernel_array6 (c : Dev nD) : (dats m 0 c).arrAt 6 cfg0.N
    = ofRows (project 1024 1024 (by decide) (argX m c) (argN m c) (argShift m c) (argScale m c) (argW m c)) := by
  refine (dats m 0 c).arrAt_eq_of_covers 6 _ (by decide +kernel) fun t hf y => ?_
  blk_simp
  rw [after0_6]
  idx_vars y
  have e : ((View.whole main_v1_1).slice (win0_6.rect t)).emb (ix2 y0 y1) = ix2 (tok (batch t.val (lt_points t)) (token t.val y0)) y1 := by
    have := (outputs t).2.1
    unfold tok
    blk_ext [this]
  rw [e]
  exact (point_value6 m c t y0 y1).trans (ofRows_apply _ _ _ _).symm

/-- What one grid point leaves in the block of output 3: the values. -/
theorem point_value7 (c : Dev nD) (t : Fin cfg0.N) (r : Fin 512) (j : Fin 1024) :
    out0_7 (xB m c t) (nB m c t) (shiftB m c t) (scaleB m c t) (wB m c t) (ix2 r j)
      = project 2048 1024 (by decide) (argX m c) (argN m c) (argShift m c) (argScale m c) (argW m c) (batch t.val (lt_points t)) (token t.val r) j := by
  unfold out0_7 k0_pay7
  frame_out
  pointwise [k0_pay1]
  simp only [rows_at, w_read]
  rfl

/-- The array of output 3 after the run: the values. -/
theorem kernel_array7 (c : Dev nD) : (dats m 0 c).arrAt 7 cfg0.N
    = ofRows (project 2048 1024 (by decide) (argX m c) (argN m c) (argShift m c) (argScale m c) (argW m c)) := by
  refine (dats m 0 c).arrAt_eq_of_covers 7 _ (by decide +kernel) fun t hf y => ?_
  blk_simp
  rw [after0_7]
  idx_vars y
  have e : ((View.whole main_v1_2).slice (win0_7.rect t)).emb (ix2 y0 y1) = ix2 (tok (batch t.val (lt_points t)) (token t.val y0)) y1 := by
    have := (outputs t).2.2.1
    unfold tok
    blk_ext [this]
  rw [e]
  exact (point_value7 m c t y0 y1).trans (ofRows_apply _ _ _ _).symm

/-- What one grid point leaves in the block of output 4: the keys once more, for the attention. -/
theorem point_value8 (c : Dev nD) (t : Fin cfg0.N) (r : Fin 512) (j : Fin 1024) :
    out0_8 (xB m c t) (nB m c t) (shiftB m c t) (scaleB m c t) (wB m c t) (ix2 r j)
      = project 1024 1024 (by decide) (argX m c) (argN m c) (argShift m c) (argScale m c) (argW m c) (batch t.val (lt_points t)) (token t.val r) j := by
  unfold out0_8 k0_pay7
  frame_out
  pointwise [k0_pay2]
  simp only [rows_at, w_read]
  rfl

/-- The array of output 4 after the run: the keys once more, for the attention. -/
theorem kernel_array8 (c : Dev nD) : (dats m 0 c).arrAt 8 cfg0.N
    = ofRows (project 1024 1024 (by decide) (argX m c) (argN m c) (argShift m c) (argScale m c) (argW m c)) := by
  refine (dats m 0 c).arrAt_eq_of_covers 8 _ (by decide +kernel) fun t hf y => ?_
  blk_simp
  rw [after0_8]
  idx_vars y
  have e : ((View.whole main_v1_3).slice (win0_8.rect t)).emb (ix2 y0 y1) = ix2 (tok (batch t.val (lt_points t)) (token t.val y0)) y1 := by
    have := (outputs t).2.2.2.1
    unfold tok
    blk_ext [this]
  rw [e]
  exact (point_value8 m c t y0 y1).trans (ofRows_apply _ _ _ _).symm

/-- What one grid point leaves in the block of output 5: the values once more, for the attention. -/
theorem point_value9 (c : Dev nD) (t : Fin cfg0.N) (r : Fin 512) (j : Fin 1024) :
    out0_9 (xB m c t) (nB m c t) (shiftB m c t) (scaleB m c t) (wB m c t) (ix2 r j)
      = project 2048 1024 (by decide) (argX m c) (argN m c) (argShift m c) (argScale m c) (argW m c) (batch t.val (lt_points t)) (token t.val r) j := by
  unfold out0_9 k0_pay7
  frame_out
  pointwise [k0_pay3]
  simp only [rows_at, w_read]
  rfl

/-- The array of output 5 after the run: the values once more, for the attention. -/
theorem kernel_array9 (c : Dev nD) : (dats m 0 c).arrAt 9 cfg0.N
    = ofRows (project 2048 1024 (by decide) (argX m c) (argN m c) (argShift m c) (argScale m c) (argW m c)) := by
  refine (dats m 0 c).arrAt_eq_of_covers 9 _ (by decide +kernel) fun t hf y => ?_
  blk_simp
  rw [after0_9]
  idx_vars y
  have e : ((View.whole main_v1_4).slice (win0_9.rect t)).emb (ix2 y0 y1) = ix2 (tok (batch t.val (lt_points t)) (token t.val y0)) y1 := by
    have := (outputs t).2.2.2.2
    unfold tok
    blk_ext [this]
  rw [e]
  exact (point_value9 m c t y0 y1).trans (ofRows_apply _ _ _ _).symm

end Cert.ProjOdd

end
-- ==== Proof.ProjOdd.Ref.lean ====
/- What the reference of the projection to queries, keys and values computes, and the equation of the two programs. -/
module

public import proofs.«01_k».proof.Defs
public import proofs.«01_k».proof.Proof.ProjOdd.Kernel
public import proofs.«01_k».proof.Proof.Gen.ProjOddIdeal
public import proofs.«01_k».proof.Proof.Gen.ProjOddRefIdeal
public import proofs.«01_k».proof.Proof.Gen.ProjOddRefIdeal.Run
public import proofs.«01_k».proof.Proof.Gen.ProjOddRefIdeal.Read

@[expose] public section

set_option maxRecDepth 16384

noncomputable section

namespace Cert.ProjOdd

open Idealize.ShloMosaic Idealize.ShloMosaic.TcCoe Idealize.SL.Sem
open Cert.Attn (Mat tok)
open Cert.Layer

section

open Cert.ProjOddRefIdeal Cert.ProjOddRefIdeal.Gen Cert.ProjOddRefIdeal.Read

/-- The reference's normed and modulated rows. -/
theorem ref_hidden (x : (⟨S16384x1024, .f32⟩ : BufTy).Contents (Elt Ideal)) (nw : (⟨S1024, .f32⟩ : BufTy).Contents (Elt Ideal))
    (shift scale : (⟨S4x1x1024, .f32⟩ : BufTy).Contents (Elt Ideal)) (b : Fin 4) (t : Fin 4096) (j : Fin 1024) :
    val_main_v23 (F := Ideal) x nw shift scale (ix3 b t j) = hidden x nw shift scale b t j := by
  pointwise [val_main_cst, val_main_cst_0, val_main_cst_1, val_main_cst_2, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  rfl

/-- An entry of the reference's product: a token's normed and modulated row times a column of the weights. -/
theorem ref_product (x : (⟨S16384x1024, .f32⟩ : BufTy).Contents (Elt Ideal)) (nw : (⟨S1024, .f32⟩ : BufTy).Contents (Elt Ideal))
    (shift scale : (⟨S4x1x1024, .f32⟩ : BufTy).Contents (Elt Ideal)) (wt : (⟨S1024x3072, .bf16⟩ : BufTy).Contents (Elt Ideal))
    (b : Fin 4) (t : Fin 4096) (j : Fin 3072) :
    val_main_v26 (F := Ideal) x nw shift scale wt (ix2 (tok b t) j)
      = ∑ k : Fin 1024, hidden x nw shift scale b t k * (wt (ix2 k j) : EReal) := by
  have h1 : (tok b t).val / 4096 = b.val := by unfold tok; dsimp only; omega
  have h2 : (tok b t).val % 4096 = t.val := by unfold tok; dsimp only; omega
  pointwise [val_main_v26, val_main_v25, val_main_v24]
  simp only [h1, h2, ref_hidden]

/-- The reference's result 1: the queries. -/
theorem ref_array5 (x : (⟨S16384x1024, .f32⟩ : BufTy).Contents (Elt Ideal)) (nw : (⟨S1024, .f32⟩ : BufTy).Contents (Elt Ideal))
    (shift scale : (⟨S4x1x1024, .f32⟩ : BufTy).Contents (Elt Ideal)) (wt : (⟨S1024x3072, .bf16⟩ : BufTy).Contents (Elt Ideal)) :
    val_main_v30 (F := Ideal) x nw shift scale wt = ofRows (project 0 1024 (by decide) x nw shift scale wt) := by
  refine eq_ofRows _ _ fun b t j => ?_
  pointwise [val_main_v30, val_main_v27]
  simp only [ref_product, project, colFrom, Nat.zero_add]

/-- The reference's result 2: the keys. -/
theorem ref_array6 (x : (⟨S16384x1024, .f32⟩ : BufTy).Contents (Elt Ideal)) (nw : (⟨S1024, .f32⟩ : BufTy).Contents (Elt Ideal))
    (shift scale : (⟨S4x1x1024, .f32⟩ : BufTy).Contents (Elt Ideal)) (wt : (⟨S1024x3072, .bf16⟩ : BufTy).Contents (Elt Ideal)) :
    val_main_v28 (F := Ideal) x nw shift scale wt = ofRows (project 1024 1024 (by decide) x nw shift scale wt) := by
  refine eq_ofRows _ _ fun b t j => ?_
  pointwise [val_main_v28]
  simp only [ref_product]
  rfl

/-- The reference's result 3: the values. -/
theorem ref_array7 (x : (⟨S16384x1024, .f32⟩ : BufTy).Contents (Elt Ideal)) (nw : (⟨S1024, .f32⟩ : BufTy).Contents (Elt Ideal))
    (shift scale : (⟨S4x1x1024, .f32⟩ : BufTy).Contents (Elt Ideal)) (wt : (⟨S1024x3072, .bf16⟩ : BufTy).Contents (Elt Ideal)) :
    val_main_v29 (F := Ideal) x nw shift scale wt = ofRows (project 2048 1024 (by decide) x nw shift scale wt) := by
  refine eq_ofRows _ _ fun b t j => ?_
  pointwise [val_main_v29]
  simp only [ref_product]
  rfl

/-- The reference's result 4: the keys once more, for the attention. -/
theorem ref_array8 (x : (⟨S16384x1024, .f32⟩ : BufTy).Contents (Elt Ideal)) (nw : (⟨S1024, .f32⟩ : BufTy).Contents (Elt Ideal))
    (shift scale : (⟨S4x1x1024, .f32⟩ : BufTy).Contents (Elt Ideal)) (wt : (⟨S1024x3072, .bf16⟩ : BufTy).Contents (Elt Ideal)) :
    val_main_v31 (F := Ideal) x nw shift scale wt = ofRows (project 1024 1024 (by decide) x nw shift scale wt) := by
  refine eq_ofRows _ _ fun b t j => ?_
  pointwise [val_main_v31, val_main_v28]
  simp only [ref_product]
  rfl

/-- The reference's result 5: the values once more, for the attention. -/
theorem ref_array9 (x : (⟨S16384x1024, .f32⟩ : BufTy).Contents (Elt Ideal)) (nw : (⟨S1024, .f32⟩ : BufTy).Contents (Elt Ideal))
    (shift scale : (⟨S4x1x1024, .f32⟩ : BufTy).Contents (Elt Ideal)) (wt : (⟨S1024x3072, .bf16⟩ : BufTy).Contents (Elt Ideal)) :
    val_main_v32 (F := Ideal) x nw shift scale wt = ofRows (project 2048 1024 (by decide) x nw shift scale wt) := by
  refine eq_ofRows _ _ fun b t j => ?_
  pointwise [val_main_v32, val_main_v29]
  simp only [ref_product]
  rfl

end

/-- The value claim of the projection to queries, keys and values: from equal arguments the kernel and the reference end with equal results. -/
theorem algebraic :
    algebraic_ProjOddIdeal_ProjOddRefIdeal (hProjOddIdeal := Cert.ProjOddIdeal.Gen.facts) (hProjOddRefIdeal := Cert.ProjOddRefIdeal.Gen.facts) := by
  intro m g m' g' _ hin
  refine ⟨fun c => ofRows (project 0 1024 (by decide) (argX m c) (argN m c) (argShift m c) (argScale m c) (argW m c)),
    fun c => ofRows (project 1024 1024 (by decide) (argX m c) (argN m c) (argShift m c) (argScale m c) (argW m c)),
    fun c => ofRows (project 2048 1024 (by decide) (argX m c) (argN m c) (argShift m c) (argScale m c) (argW m c)),
    fun c => ofRows (project 1024 1024 (by decide) (argX m c) (argN m c) (argShift m c) (argScale m c) (argW m c)),
    fun c => ofRows (project 2048 1024 (by decide) (argX m c) (argN m c) (argShift m c) (argScale m c) (argW m c)), ?_, ?_⟩
  · refine (θ_run _ _ _).mono (fun r h c => ?_) (Cert.ProjOddIdeal.Value.run_blocks m g)
    obtain ⟨h0, h1, h2, h3, h4, h⟩ := h c
    exact ⟨h0.trans (kernel_array5 m c), h1.trans (kernel_array6 m c), h2.trans (kernel_array7 m c), h3.trans (kernel_array8 m c), h4.trans (kernel_array9 m c), h⟩
  · refine (θ_run _ _ _).mono (fun r h c => ?_) (Cert.ProjOddRefIdeal.Value.run m' g')
    obtain ⟨h0, h1, h2, h3, h4, h⟩ := h c
    obtain ⟨e0, e1, e2, e3, e4⟩ := hin c
    refine ⟨h0.trans ?_, h1.trans ?_, h2.trans ?_, h3.trans ?_, h4.trans ?_, h⟩
    · rw [Cert.ProjOddRefIdeal.Read.val_main_v30_eq, e0, e1, e2, e3, e4]
      exact ref_array5 _ _ _ _ _
    · rw [Cert.ProjOddRefIdeal.Read.val_main_v28_eq, e0, e1, e2, e3, e4]
      exact ref_array6 _ _ _ _ _
    · rw [Cert.ProjOddRefIdeal.Read.val_main_v29_eq, e0, e1, e2, e3, e4]
      exact ref_array7 _ _ _ _ _
    · rw [Cert.ProjOddRefIdeal.Read.val_main_v31_eq, e0, e1, e2, e3, e4]
      exact ref_array8 _ _ _ _ _
    · rw [Cert.ProjOddRefIdeal.Read.val_main_v32_eq, e0, e1, e2, e3, e4]
      exact ref_array9 _ _ _ _ _

/-- The reference runs, leaves its arguments unchanged, and ends with every counter at zero: it declares no semaphore. -/
theorem reference_frame : quiescent_ProjOddRefIdeal (hProjOddRefIdeal := Cert.ProjOddRefIdeal.Gen.facts) := by
  intro m g _
  exact (θ_run _ _ _).mono (fun r h => ⟨fun c => (h c).2.2.2.2.2, sem_eq_zero_of_no_sems (by decide) r.2⟩) (Cert.ProjOddRefIdeal.Value.run m g)

end Cert.ProjOdd

end
-- ==== Proof.ProjEven.Kernel.lean ====
/- The projection to the values and the gates: what its kernel's output arrays hold after the run. -/
module

public import proofs.«01_k».proof.Proof.Layer.Project
public import proofs.«01_k».proof.Proof.Gen.ProjEvenIdeal.Value
public import Idealize.ShloMosaic.Lib.Pipeline.Covers
public import Idealize.ShloMosaic.Lib.Pipeline.ValueKit
public import Idealize.ShloMosaic.Lib.WholeRead
public import Idealize.ShloMosaic.Lib.StableHlo.ReadAt

@[expose] public section

set_option maxRecDepth 16384
set_option maxHeartbeats 400000

noncomputable section

namespace Cert.ProjEven

open Cert.ProjEvenIdeal Cert.ProjEvenIdeal.Gen Idealize.ShloMosaic Idealize.ShloMosaic.TcCoe Idealize.SL.Sem
open Idealize.ShloMosaic.Pipeline (Dat)
open Cert.Attn (Mat tok)
open Cert.Layer

variable (m : (ℓ : Loc nD τ sig) → Buf (Elt Ideal) ℓ)

/-- Where each point's blocks are: 512 rows of tokens, the batch's modulation, and the whole weights. -/
theorem idx : ∀ t : Fin cfg0.N,
    (cfg0.win 0).index t = ![t.val, 0] ∧
    (cfg0.win 1).index t = ![0, 0] ∧
    (cfg0.win 2).index t = ![t.val / 8, 0, 0] ∧
    (cfg0.win 3).index t = ![t.val / 8, 0, 0] ∧
    (cfg0.win 4).index t = ![0, 0] := by
  decide +kernel

/-- The arguments as the run finds them. -/
abbrev argX (c : Dev nD) : Mat := m ((c : Thread nD τ).loc main_arg0)
abbrev argN (c : Dev nD) : Vec1024 := m ((c : Thread nD τ).loc main_arg1)
abbrev argShift (c : Dev nD) : Mods := m ((c : Thread nD τ).loc main_arg2)
abbrev argScale (c : Dev nD) : Mods := m ((c : Thread nD τ).loc main_arg3)
abbrev argW (c : Dev nD) : Mat2 1024 2688 := m ((c : Thread nD τ).loc main_arg4)

/-- A point's blocks of the arguments. -/
abbrev xB (c : Dev nD) (p : Fin cfg0.N) : Vec Ideal S512x1024 .f32 := iblk m c 0 p
abbrev nB (c : Dev nD) (p : Fin cfg0.N) : Vec Ideal S1x1024 .f32 := iblk m c 1 p
abbrev shiftB (c : Dev nD) (p : Fin cfg0.N) : Vec Ideal S1x1x1024 .f32 := iblk m c 2 p
abbrev scaleB (c : Dev nD) (p : Fin cfg0.N) : Vec Ideal S1x1x1024 .f32 := iblk m c 3 p
abbrev wB (c : Dev nD) (p : Fin cfg0.N) : Vec Ideal S1024x2688 .bf16 := iblk m c 4 p

theorem lt_points (t : Fin cfg0.N) : t.val < 32 := t.isLt

/-- The batch of point `n`, and the token of its row `r`. -/
abbrev batch (n : ℕ) (h : n < 32) : Fin 4 := ⟨n / 8, by omega⟩
abbrev token (n : ℕ) (r : Fin 512) : Fin 4096 := ⟨n % 8 * 512 + r.val, by omega⟩

theorem x_read (c : Dev nD) (t : Fin cfg0.N) (r : Fin 512) (k : Fin 1024) :
    xB m c t (ix2 r k) = argX m c (ix2 (tok (batch t.val (lt_points t)) (token t.val r)) k) := by
  have := (idx t).1
  have hV : V m c (Pipeline.arrRef spec0 0) = argX m c := V_main_arg0 m c
  unfold xB iblk
  rw [hV]
  unfold argX tok
  blk_ext [this]

theorem n_read (c : Dev nD) (t : Fin cfg0.N) (k : Fin 1024) : nB m c t (ix2 0 k) = argN m c (ix1 k) := by
  have := (idx t).2.1
  have hV : ∀ k : Fin 1024, V m c (Pipeline.arrRef spec0 1) (ix2 0 k) = argN m c (ix1 k) := fun k => by
    show V m c main_v0 (ix2 0 k) = _
    unfold V
    after_reads_at
  refine Eq.trans ?_ (hV k)
  unfold nB
  blk_ext [iblk, this]

theorem shift_read (c : Dev nD) (t : Fin cfg0.N) (k : Fin 1024) : shiftB m c t (ix3 0 0 k) = argShift m c (ix3 (batch t.val (lt_points t)) 0 k) := by
  have := (idx t).2.2.1
  have hV : V m c (Pipeline.arrRef spec0 2) = argShift m c := V_main_arg2 m c
  unfold shiftB iblk
  rw [hV]
  unfold argShift
  blk_ext [this]

theorem scale_read (c : Dev nD) (t : Fin cfg0.N) (k : Fin 1024) : scaleB m c t (ix3 0 0 k) = argScale m c (ix3 (batch t.val (lt_points t)) 0 k) := by
  have := (idx t).2.2.2.1
  have hV : V m c (Pipeline.arrRef spec0 3) = argScale m c := V_main_arg3 m c
  unfold scaleB iblk
  rw [hV]
  unfold argScale
  blk_ext [this]

theorem w_read (c : Dev nD) (t : Fin cfg0.N) (k : Fin 1024) (j : Fin 2688) : wB m c t (ix2 k j) = argW m c (ix2 k j) := by
  have := (idx t).2.2.2.2
  have hV : V m c (Pipeline.arrRef spec0 4) = argW m c := V_main_arg4 m c
  unfold wB iblk
  rw [hV]
  unfold argW
  blk_ext [this]

/-- The normed and modulated row that row `r` of point `n` works on. -/
abbrev hid (c : Dev nD) (n : ℕ) (h : n < 32) (r : Fin 512) : Fin 1024 → EReal :=
  hidden (argX m c) (argN m c) (argShift m c) (argScale m c) (batch n h) (token n r)

/-- A point's normed and modulated rows. -/
theorem rows_at (c : Dev nD) (t : Fin cfg0.N) (r : Fin 512) (j : Fin 1024) :
    k0_pay1 (xB m c t) (nB m c t) (shiftB m c t) (scaleB m c t) (ix2 r j) = hid m c t.val (lt_points t) r j := by
  pointwise [k0_pay1]
  simp only [x_read, n_read, shift_read, scale_read]
  rfl

/-- Where each point's output blocks are: its 512 rows of tokens. -/
theorem outputs : ∀ t : Fin cfg0.N, (cfg0.win 5).index t = ![t.val, 0] ∧ (cfg0.win 6).index t = ![t.val, 0] := by
  decide +kernel

/-- What one grid point leaves in the block of output 1: the mixers' columns. -/
theorem point_value5 (c : Dev nD) (t : Fin cfg0.N) (r : Fin 512) (j : Fin 2560) :
    out0_5 (xB m c t) (nB m c t) (shiftB m c t) (scaleB m c t) (wB m c t) (ix2 r j)
      = project 0 2560 (by decide) (argX m c) (argN m c) (argShift m c) (argScale m c) (argW m c) (batch t.val (lt_points t)) (token t.val r) j := by
  unfold out0_5
  frame_out
  pointwise [k0_pay2]
  simp only [rows_at, w_read, project, colFrom, Nat.zero_add]

/-- The array of output 1 after the run: the mixers' columns. -/
theorem kernel_array5 (c : Dev nD) : (dats m 0 c).arrAt 5 cfg0.N
    = ofRows (project 0 2560 (by decide) (argX m c) (argN m c) (argShift m c) (argScale m c) (argW m c)) := by
  refine (dats m 0 c).arrAt_eq_of_covers 5 _ (by decide +kernel) fun t hf y => ?_
  blk_simp
  rw [after0_5]
  idx_vars y
  have e : ((View.whole main_v1_0).slice (win0_5.rect t)).emb (ix2 y0 y1) = ix2 (tok (batch t.val (lt_points t)) (token t.val y0)) y1 := by
    have := (outputs t).1
    unfold tok
    blk_ext [this]
  rw [e]
  exact (point_value5 m c t y0 y1).trans (ofRows_apply _ _ _ _).symm

/-- What one grid point leaves in the block of output 2: the gates' columns. -/
theorem point_value6 (c : Dev nD) (t : Fin cfg0.N) (r : Fin 512) (j : Fin 128) :
    out0_6 (xB m c t) (nB m c t) (shiftB m c t) (scaleB m c t) (wB m c t) (ix2 r j)
      = project 2560 128 (by decide) (argX m c) (argN m c) (argShift m c) (argScale m c) (argW m c) (batch t.val (lt_points t)) (token t.val r) j := by
  unfold out0_6
  frame_out
  pointwise [k0_pay3]
  simp only [rows_at, w_read]
  rfl

/-- The array of output 2 after the run: the gates' columns. -/
theorem kernel_array6 (c : Dev nD) : (dats m 0 c).arrAt 6 cfg0.N
    = ofRows (project 2560 128 (by decide) (argX m c) (argN m c) (argShift m c) (argScale m c) (argW m c)) := by
  refine (dats m 0 c).arrAt_eq_of_covers 6 _ (by decide +kernel) fun t hf y => ?_
  blk_simp
  rw [after0_6]
  idx_vars y
  have e : ((View.whole main_v1_1).slice (win0_6.rect t)).emb (ix2 y0 y1) = ix2 (tok (batch t.val (lt_points t)) (token t.val y0)) y1 := by
    have := (outputs t).2
    unfold tok
    blk_ext [this]
  rw [e]
  exact (point_value6 m c t y0 y1).trans (ofRows_apply _ _ _ _).symm

end Cert.ProjEven

end
-- ==== Proof.ProjEven.Ref.lean ====
/- What the reference of the projection to the values and the gates computes, and the equation of the two programs. -/
module

public import proofs.«01_k».proof.Defs
public import proofs.«01_k».proof.Proof.ProjEven.Kernel
public import proofs.«01_k».proof.Proof.Gen.ProjEvenIdeal
public import proofs.«01_k».proof.Proof.Gen.ProjEvenRefIdeal
public import proofs.«01_k».proof.Proof.Gen.ProjEvenRefIdeal.Run
public import proofs.«01_k».proof.Proof.Gen.ProjEvenRefIdeal.Read

@[expose] public section

set_option maxRecDepth 16384

noncomputable section

namespace Cert.ProjEven

open Idealize.ShloMosaic Idealize.ShloMosaic.TcCoe Idealize.SL.Sem
open Cert.Attn (Mat tok)
open Cert.Layer

section

open Cert.ProjEvenRefIdeal Cert.ProjEvenRefIdeal.Gen Cert.ProjEvenRefIdeal.Read

/-- The reference's normed and modulated rows. -/
theorem ref_hidden (x : (⟨S16384x1024, .f32⟩ : BufTy).Contents (Elt Ideal)) (nw : (⟨S1024, .f32⟩ : BufTy).Contents (Elt Ideal))
    (shift scale : (⟨S4x1x1024, .f32⟩ : BufTy).Contents (Elt Ideal)) (b : Fin 4) (t : Fin 4096) (j : Fin 1024) :
    val_main_v23 (F := Ideal) x nw shift scale (ix3 b t j) = hidden x nw shift scale b t j := by
  pointwise [val_main_cst, val_main_cst_0, val_main_cst_1, val_main_cst_2, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  rfl

/-- An entry of the reference's product: a token's normed and modulated row times a column of the weights. -/
theorem ref_product (x : (⟨S16384x1024, .f32⟩ : BufTy).Contents (Elt Ideal)) (nw : (⟨S1024, .f32⟩ : BufTy).Contents (Elt Ideal))
    (shift scale : (⟨S4x1x1024, .f32⟩ : BufTy).Contents (Elt Ideal)) (wt : (⟨S1024x2688, .bf16⟩ : BufTy).Contents (Elt Ideal))
    (b : Fin 4) (t : Fin 4096) (j : Fin 2688) :
    val_main_v26 (F := Ideal) x nw shift scale wt (ix2 (tok b t) j)
      = ∑ k : Fin 1024, hidden x nw shift scale b t k * (wt (ix2 k j) : EReal) := by
  have h1 : (tok b t).val / 4096 = b.val := by unfold tok; dsimp only; omega
  have h2 : (tok b t).val % 4096 = t.val := by unfold tok; dsimp only; omega
  pointwise [val_main_v26, val_main_v25, val_main_v24]
  simp only [h1, h2, ref_hidden]

/-- The reference's result 1: the mixers' columns. -/
theorem ref_array5 (x : (⟨S16384x1024, .f32⟩ : BufTy).Contents (Elt Ideal)) (nw : (⟨S1024, .f32⟩ : BufTy).Contents (Elt Ideal))
    (shift scale : (⟨S4x1x1024, .f32⟩ : BufTy).Contents (Elt Ideal)) (wt : (⟨S1024x2688, .bf16⟩ : BufTy).Contents (Elt Ideal)) :
    val_main_v27 (F := Ideal) x nw shift scale wt = ofRows (project 0 2560 (by decide) x nw shift scale wt) := by
  refine eq_ofRows _ _ fun b t j => ?_
  pointwise [val_main_v27]
  simp only [ref_product, project, colFrom, Nat.zero_add]

/-- The reference's result 2: the gates' columns. -/
theorem ref_array6 (x : (⟨S16384x1024, .f32⟩ : BufTy).Contents (Elt Ideal)) (nw : (⟨S1024, .f32⟩ : BufTy).Contents (Elt Ideal))
    (shift scale : (⟨S4x1x1024, .f32⟩ : BufTy).Contents (Elt Ideal)) (wt : (⟨S1024x2688, .bf16⟩ : BufTy).Contents (Elt Ideal)) :
    val_main_v28 (F := Ideal) x nw shift scale wt = ofRows (project 2560 128 (by decide) x nw shift scale wt) := by
  refine eq_ofRows _ _ fun b t j => ?_
  pointwise [val_main_v28]
  simp only [ref_product]
  rfl

end

/-- The value claim of the projection to the values and the gates: from equal arguments the kernel and the reference end with equal results. -/
theorem algebraic :
    algebraic_ProjEvenIdeal_ProjEvenRefIdeal (hProjEvenIdeal := Cert.ProjEvenIdeal.Gen.facts) (hProjEvenRefIdeal := Cert.ProjEvenRefIdeal.Gen.facts) := by
  intro m g m' g' _ hin
  refine ⟨fun c => ofRows (project 0 2560 (by decide) (argX m c) (argN m c) (argShift m c) (argScale m c) (argW m c)),
    fun c => ofRows (project 2560 128 (by decide) (argX m c) (argN m c) (argShift m c) (argScale m c) (argW m c)), ?_, ?_⟩
  · refine (θ_run _ _ _).mono (fun r h c => ?_) (Cert.ProjEvenIdeal.Value.run_blocks m g)
    obtain ⟨h0, h1, h⟩ := h c
    exact ⟨h0.trans (kernel_array5 m c), h1.trans (kernel_array6 m c), h⟩
  · refine (θ_run _ _ _).mono (fun r h c => ?_) (Cert.ProjEvenRefIdeal.Value.run m' g')
    obtain ⟨h0, h1, h⟩ := h c
    obtain ⟨e0, e1, e2, e3, e4⟩ := hin c
    refine ⟨h0.trans ?_, h1.trans ?_, h⟩
    · rw [Cert.ProjEvenRefIdeal.Read.val_main_v27_eq, e0, e1, e2, e3, e4]
      exact ref_array5 _ _ _ _ _
    · rw [Cert.ProjEvenRefIdeal.Read.val_main_v28_eq, e0, e1, e2, e3, e4]
      exact ref_array6 _ _ _ _ _

/-- The reference runs, leaves its arguments unchanged, and ends with every counter at zero: it declares no semaphore. -/
theorem reference_frame : quiescent_ProjEvenRefIdeal (hProjEvenRefIdeal := Cert.ProjEvenRefIdeal.Gen.facts) := by
  intro m g _
  exact (θ_run _ _ _).mono (fun r h => ⟨fun c => (h c).2.2, sem_eq_zero_of_no_sems (by decide) r.2⟩) (Cert.ProjEvenRefIdeal.Value.run m g)

end Cert.ProjEven

end
-- ==== Proof.Layer.Sample.lean ====
/- The sample batch's rows: 32 sequences of eight rows each, and the same arithmetic on them as on the prompt's tokens. -/
module

public import proofs.«01_k».proof.Proof.Layer.Feed
public import proofs.«01_k».proof.Proof.Layer.Project

@[expose] public section

noncomputable section

namespace Cert.Layer

open Idealize.ShloMosaic

/-- Row `t` of sequence `b`. -/
def samp (b : Fin 32) (t : Fin 8) : Fin 256 := ⟨b.val * 8 + t.val, by omega⟩

/-- The sequence of a row, and its place in it. -/
def seqOf (r : Fin 256) : Fin 32 := ⟨r.val / 8, by omega⟩
def posOf (r : Fin 256) : Fin 8 := ⟨r.val % 8, by omega⟩

/-- Every row is some sequence's. -/
theorem samp_seq_pos (r : Fin 256) : samp (seqOf r) (posOf r) = r :=
  Fin.ext (by show r.val / 8 * 8 + r.val % 8 = r.val; omega)

/-- An array of the sample's rows given by what each sequence's row holds. -/
def ofSamples {w : ℕ} (f : Fin 32 → Fin 8 → Fin w → EReal) : Mat2 256 w := fun i => f (seqOf (i 0)) (posOf (i 0)) (i 1)

/-- Such an array at a sequence's row. -/
theorem ofSamples_apply {w : ℕ} (f : Fin 32 → Fin 8 → Fin w → EReal) (b : Fin 32) (t : Fin 8) (j : Fin w) :
    ofSamples f (ix2 (samp b t) j) = f b t j := by
  have e0 : seqOf (samp b t) = b := Fin.ext (by show (b.val * 8 + t.val) / 8 = b.val; omega)
  have e1 : posOf (samp b t) = t := Fin.ext (by show (b.val * 8 + t.val) % 8 = t.val; omega)
  show f (seqOf (samp b t)) (posOf (samp b t)) j = _
  rw [e0, e1]

/-- Two arrays of the sample's rows are equal when every row is. -/
theorem eq_ofSamples {w : ℕ} (x : Mat2 256 w) (f : Fin 32 → Fin 8 → Fin w → EReal)
    (h : ∀ r j, x (ix2 r j) = f (seqOf r) (posOf r) j) : x = ofSamples f := by
  funext i
  rw [eq_ix2 i]
  exact h _ _

/-- The normed and modulated row of a sequence's row: its sequence's scale and shift. -/
def hiddenS (x : Mat2 256 1024) (nw : Vec1024) (shift scale : Mat2 32 1024) (b : Fin 32) (t : Fin 8) : Fin 1024 → EReal :=
  modulated (fun k => x (ix2 (samp b t) k)) (fun k => nw (ix1 k)) (fun k => shift (ix2 b k)) (fun k => scale (ix2 b k))

/-- A normed and modulated row times the columns of the weights from `o` on. -/
def projectS {n : ℕ} (o w : ℕ) (h : o + w ≤ n) (x : Mat2 256 1024) (nw : Vec1024) (shift scale : Mat2 32 1024) (wt : Mat2 1024 n)
    (b : Fin 32) (t : Fin 8) (j : Fin w) : EReal :=
  ∑ k : Fin 1024, hiddenS x nw shift scale b t k * wt (ix2 k (colFrom n o w h j))

/-- The feed-forward block's row: the row of the residual stream, plus the gate times the sum over the hidden units. -/
def feedS (x : Mat2 256 1024) (nw : Vec1024) (shift scale gate : Mat2 32 1024) (wu : Mat2 1024 4096) (wd : Mat2 4096 1024)
    (b : Fin 32) (t : Fin 8) (j : Fin 1024) : EReal :=
  x (ix2 (samp b t) j) + gate (ix2 b j) * ∑ u : Fin 4096, unit (hiddenS x nw shift scale b t) wu wd j u

/-- The last feed-forward block's row: that row, normed once more with the model's last weights. -/
def feedLastS (x : Mat2 256 1024) (nw : Vec1024) (shift scale gate : Mat2 32 1024) (wu : Mat2 1024 4096) (wd : Mat2 4096 1024) (fw : Vec1024)
    (b : Fin 32) (t : Fin 8) (j : Fin 1024) : EReal :=
  rms (feedS x nw shift scale gate wu wd b t) (fun k => fw (ix1 k)) j

end Cert.Layer

end
-- ==== Proof.ProjOddS.Kernel.lean ====
/- The projection to queries, keys and values, for the sample batch: what its kernel's output arrays hold after the run. -/
module

public import proofs.«01_k».proof.Proof.Layer.Sample
public import proofs.«01_k».proof.Proof.Gen.ProjOddSIdeal.Value
public import Idealize.ShloMosaic.Lib.Pipeline.Covers
public import Idealize.ShloMosaic.Lib.Pipeline.ValueKit
public import Idealize.ShloMosaic.Lib.WholeRead
public import Idealize.ShloMosaic.Lib.StableHlo.ReadAt

@[expose] public section

set_option maxRecDepth 16384
set_option maxHeartbeats 400000

noncomputable section

namespace Cert.ProjOddS

open Cert.ProjOddSIdeal Cert.ProjOddSIdeal.Gen Idealize.ShloMosaic Idealize.ShloMosaic.TcCoe Idealize.SL.Sem
open Idealize.ShloMosaic.Pipeline (Dat)
open Cert.Layer

variable (m : (ℓ : Loc nD τ sig) → Buf (Elt Ideal) ℓ)

/-- Where the one point's blocks are: the arguments whole. -/
theorem idx : ∀ t : Fin cfg0.N,
    (cfg0.win 0).index t = ![0, 0] ∧
    (cfg0.win 1).index t = ![0, 0] ∧
    (cfg0.win 2).index t = ![0, 0, 0] ∧
    (cfg0.win 3).index t = ![0, 0, 0] ∧
    (cfg0.win 4).index t = ![0, 0] := by
  decide +kernel

/-- The arguments as the run finds them. -/
abbrev argX (c : Dev nD) : Mat2 256 1024 := m ((c : Thread nD τ).loc main_arg0)
abbrev argN (c : Dev nD) : Vec1024 := m ((c : Thread nD τ).loc main_arg1)
abbrev argShift (c : Dev nD) : Mat2 32 1024 := m ((c : Thread nD τ).loc main_arg2)
abbrev argScale (c : Dev nD) : Mat2 32 1024 := m ((c : Thread nD τ).loc main_arg3)
abbrev argW (c : Dev nD) : Mat2 1024 3072 := m ((c : Thread nD τ).loc main_arg4)

/-- The point's blocks of the arguments; the scale and the shift come one row for each row of the block. -/
abbrev xB (c : Dev nD) (p : Fin cfg0.N) : Vec Ideal S256x1024 .f32 := iblk m c 0 p
abbrev nB (c : Dev nD) (p : Fin cfg0.N) : Vec Ideal S1x1024 .f32 := iblk m c 1 p
abbrev shiftB (c : Dev nD) (p : Fin cfg0.N) : Vec Ideal S1x256x1024 .f32 := iblk m c 2 p
abbrev scaleB (c : Dev nD) (p : Fin cfg0.N) : Vec Ideal S1x256x1024 .f32 := iblk m c 3 p
abbrev wB (c : Dev nD) (p : Fin cfg0.N) : Vec Ideal S1024x3072 .bf16 := iblk m c 4 p

theorem x_read (c : Dev nD) (t : Fin cfg0.N) (r : Fin 256) (k : Fin 1024) :
    xB m c t (ix2 r k) = argX m c (ix2 (samp (seqOf r) (posOf r)) k) := by
  have := (idx t).1
  have hV : V m c (Pipeline.arrRef spec0 0) = argX m c := V_main_arg0 m c
  rw [samp_seq_pos]
  unfold xB iblk
  rw [hV]
  unfold argX
  blk_ext [this]

theorem n_read (c : Dev nD) (t : Fin cfg0.N) (k : Fin 1024) : nB m c t (ix2 0 k) = argN m c (ix1 k) := by
  have := (idx t).2.1
  have hV : ∀ k : Fin 1024, V m c (Pipeline.arrRef spec0 1) (ix2 0 k) = argN m c (ix1 k) := fun k => by
    show V m c main_v6 (ix2 0 k) = _
    unfold V
    after_reads_at
  refine Eq.trans ?_ (hV k)
  unfold nB
  blk_ext [iblk, this]

theorem shift_read (c : Dev nD) (t : Fin cfg0.N) (r : Fin 256) (k : Fin 1024) : shiftB m c t (ix3 0 r k) = argShift m c (ix2 (seqOf r) k) := by
  have := (idx t).2.2.1
  have hV : ∀ (r : Fin 256) (k : Fin 1024), V m c (Pipeline.arrRef spec0 2) (ix3 0 r k) = argShift m c (ix2 (seqOf r) k) := fun r k => by
    show V m c main_v2 (ix3 0 r k) = _
    unfold V
    after_reads_at
    rfl
  refine Eq.trans ?_ (hV r k)
  unfold shiftB
  blk_ext [iblk, this]

theorem scale_read (c : Dev nD) (t : Fin cfg0.N) (r : Fin 256) (k : Fin 1024) : scaleB m c t (ix3 0 r k) = argScale m c (ix2 (seqOf r) k) := by
  have := (idx t).2.2.2.1
  have hV : ∀ (r : Fin 256) (k : Fin 1024), V m c (Pipeline.arrRef spec0 3) (ix3 0 r k) = argScale m c (ix2 (seqOf r) k) := fun r k => by
    show V m c main_v5 (ix3 0 r k) = _
    unfold V
    after_reads_at
    rfl
  refine Eq.trans ?_ (hV r k)
  unfold scaleB
  blk_ext [iblk, this]

theorem w_read (c : Dev nD) (t : Fin cfg0.N) (k : Fin 1024) (j : Fin 3072) : wB m c t (ix2 k j) = argW m c (ix2 k j) := by
  have := (idx t).2.2.2.2
  have hV : V m c (Pipeline.arrRef spec0 4) = argW m c := V_main_arg4 m c
  unfold wB iblk
  rw [hV]
  unfold argW
  blk_ext [this]

/-- The point's normed and modulated rows. -/
theorem rows_at (c : Dev nD) (t : Fin cfg0.N) (r : Fin 256) (j : Fin 1024) :
    k0_pay2 (xB m c t) (nB m c t) (shiftB m c t) (scaleB m c t) (ix2 r j)
      = hiddenS (argX m c) (argN m c) (argShift m c) (argScale m c) (seqOf r) (posOf r) j := by
  pointwise [k0_pay2]
  simp only [x_read, n_read, shift_read, scale_read]
  rfl

/-- Where the point's output blocks are: the outputs whole. -/
theorem outputs : ∀ t : Fin cfg0.N, (cfg0.win 5).index t = ![0, 0] ∧ (cfg0.win 6).index t = ![0, 0] ∧ (cfg0.win 7).index t = ![0, 0] := by
  decide +kernel

/-- What the point leaves in the block of output 1: the queries. -/
theorem point_value5 (c : Dev nD) (t : Fin cfg0.N) (r : Fin 256) (j : Fin 1024) :
    out0_5 (xB m c t) (nB m c t) (shiftB m c t) (scaleB m c t) (wB m c t) (ix2 r j)
      = projectS 0 1024 (by decide) (argX m c) (argN m c) (argShift m c) (argScale m c) (argW m c) (seqOf r) (posOf r) j := by
  unfold out0_5
  frame_out
  pointwise [k0_pay3]
  simp only [rows_at, w_read, projectS, colFrom, Nat.zero_add]

/-- The array of output 1 after the run: the queries. -/
theorem kernel_array5 (c : Dev nD) : (dats m 0 c).arrAt 5 cfg0.N
    = ofSamples (projectS 0 1024 (by decide) (argX m c) (argN m c) (argShift m c) (argScale m c) (argW m c)) := by
  refine (dats m 0 c).arrAt_eq_of_covers 5 _ (by decide +kernel) fun t hf y => ?_
  blk_simp
  rw [after0_5]
  idx_vars y
  have e : ((View.whole main_v7_0).slice (win0_5.rect t)).emb (ix2 y0 y1) = ix2 y0 y1 := by
    have := (outputs t).1
    blk_ext [this]
  rw [e]
  exact point_value5 m c t y0 y1

/-- What the point leaves in the block of output 2: the keys. -/
theorem point_value6 (c : Dev nD) (t : Fin cfg0.N) (r : Fin 256) (j : Fin 1024) :
    out0_6 (xB m c t) (nB m c t) (shiftB m c t) (scaleB m c t) (wB m c t) (ix2 r j)
      = projectS 1024 1024 (by decide) (argX m c) (argN m c) (argShift m c) (argScale m c) (argW m c) (seqOf r) (posOf r) j := by
  unfold out0_6
  frame_out
  pointwise [k0_pay4]
  simp only [rows_at, w_read]
  rfl

/-- The array of output 2 after the run: the keys. -/
theorem kernel_array6 (c : Dev nD) : (dats m 0 c).arrAt 6 cfg0.N
    = ofSamples (projectS 1024 1024 (by decide) (argX m c) (argN m c) (argShift m c) (argScale m c) (argW m c)) := by
  refine (dats m 0 c).arrAt_eq_of_covers 6 _ (by decide +kernel) fun t hf y => ?_
  blk_simp
  rw [after0_6]
  idx_vars y
  have e : ((View.whole main_v7_1).slice (win0_6.rect t)).emb (ix2 y0 y1) = ix2 y0 y1 := by
    have := (outputs t).2.1
    blk_ext [this]
  rw [e]
  exact point_value6 m c t y0 y1

/-- What the point leaves in the block of output 3: the values. -/
theorem point_value7 (c : Dev nD) (t : Fin cfg0.N) (r : Fin 256) (j : Fin 1024) :
    out0_7 (xB m c t) (nB m c t) (shiftB m c t) (scaleB m c t) (wB m c t) (ix2 r j)
      = projectS 2048 1024 (by decide) (argX m c) (argN m c) (argShift m c) (argScale m c) (argW m c) (seqOf r) (posOf r) j := by
  unfold out0_7
  frame_out
  pointwise [k0_pay1]
  simp only [rows_at, w_read]
  rfl

/-- The array of output 3 after the run: the values. -/
theorem kernel_array7 (c : Dev nD) : (dats m 0 c).arrAt 7 cfg0.N
    = ofSamples (projectS 2048 1024 (by decide) (argX m c) (argN m c) (argShift m c) (argScale m c) (argW m c)) := by
  refine (dats m 0 c).arrAt_eq_of_covers 7 _ (by decide +kernel) fun t hf y => ?_
  blk_simp
  rw [after0_7]
  idx_vars y
  have e : ((View.whole main_v7_2).slice (win0_7.rect t)).emb (ix2 y0 y1) = ix2 y0 y1 := by
    have := (outputs t).2.2
    blk_ext [this]
  rw [e]
  exact point_value7 m c t y0 y1

end Cert.ProjOddS

end
-- ==== Proof.ProjOddS.Ref.lean ====
/- What the reference of the projection to queries, keys and values computes for the sample batch, and the equation of the two programs. -/
module

public import proofs.«01_k».proof.Defs
public import proofs.«01_k».proof.Proof.ProjOddS.Kernel
public import proofs.«01_k».proof.Proof.Gen.ProjOddSIdeal
public import proofs.«01_k».proof.Proof.Gen.ProjOddSRefIdeal
public import proofs.«01_k».proof.Proof.Gen.ProjOddSRefIdeal.Run
public import proofs.«01_k».proof.Proof.Gen.ProjOddSRefIdeal.Read

@[expose] public section

set_option maxRecDepth 16384

noncomputable section

namespace Cert.ProjOddS

open Idealize.ShloMosaic Idealize.ShloMosaic.TcCoe Idealize.SL.Sem
open Cert.Layer

section

open Cert.ProjOddSRefIdeal Cert.ProjOddSRefIdeal.Gen Cert.ProjOddSRefIdeal.Read

/-- The reference's normed and modulated rows. -/
theorem ref_hidden (x : (⟨S256x1024, .f32⟩ : BufTy).Contents (Elt Ideal)) (nw : (⟨S1024, .f32⟩ : BufTy).Contents (Elt Ideal))
    (shift scale : (⟨S32x1024, .f32⟩ : BufTy).Contents (Elt Ideal)) (b : Fin 32) (t : Fin 8) (j : Fin 1024) :
    val_main_v21 (F := Ideal) x nw shift scale (ix3 b t j) = hiddenS x nw shift scale b t j := by
  pointwise [val_main_cst, val_main_cst_0, val_main_cst_1, val_main_cst_2, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  rfl

/-- An entry of the reference's product: a normed and modulated row times a column of the weights. -/
theorem ref_product (x : (⟨S256x1024, .f32⟩ : BufTy).Contents (Elt Ideal)) (nw : (⟨S1024, .f32⟩ : BufTy).Contents (Elt Ideal))
    (shift scale : (⟨S32x1024, .f32⟩ : BufTy).Contents (Elt Ideal)) (wt : (⟨S1024x3072, .bf16⟩ : BufTy).Contents (Elt Ideal))
    (r : Fin 256) (j : Fin 3072) :
    val_main_v24 (F := Ideal) x nw shift scale wt (ix2 r j)
      = ∑ k : Fin 1024, hiddenS x nw shift scale (seqOf r) (posOf r) k * (wt (ix2 k j) : EReal) := by
  pointwise [val_main_v24, val_main_v23, val_main_v22]
  simp only [ref_hidden]
  rfl

/-- The reference's result 1: the queries. -/
theorem ref_array5 (x : (⟨S256x1024, .f32⟩ : BufTy).Contents (Elt Ideal)) (nw : (⟨S1024, .f32⟩ : BufTy).Contents (Elt Ideal))
    (shift scale : (⟨S32x1024, .f32⟩ : BufTy).Contents (Elt Ideal)) (wt : (⟨S1024x3072, .bf16⟩ : BufTy).Contents (Elt Ideal)) :
    val_main_v25 (F := Ideal) x nw shift scale wt = ofSamples (projectS 0 1024 (by decide) x nw shift scale wt) := by
  refine eq_ofSamples _ _ fun r j => ?_
  pointwise [val_main_v25]
  simp only [ref_product, projectS, colFrom, Nat.zero_add]

/-- The reference's result 2: the keys. -/
theorem ref_array6 (x : (⟨S256x1024, .f32⟩ : BufTy).Contents (Elt Ideal)) (nw : (⟨S1024, .f32⟩ : BufTy).Contents (Elt Ideal))
    (shift scale : (⟨S32x1024, .f32⟩ : BufTy).Contents (Elt Ideal)) (wt : (⟨S1024x3072, .bf16⟩ : BufTy).Contents (Elt Ideal)) :
    val_main_v26 (F := Ideal) x nw shift scale wt = ofSamples (projectS 1024 1024 (by decide) x nw shift scale wt) := by
  refine eq_ofSamples _ _ fun r j => ?_
  pointwise [val_main_v26]
  simp only [ref_product]
  rfl

/-- The reference's result 3: the values. -/
theorem ref_array7 (x : (⟨S256x1024, .f32⟩ : BufTy).Contents (Elt Ideal)) (nw : (⟨S1024, .f32⟩ : BufTy).Contents (Elt Ideal))
    (shift scale : (⟨S32x1024, .f32⟩ : BufTy).Contents (Elt Ideal)) (wt : (⟨S1024x3072, .bf16⟩ : BufTy).Contents (Elt Ideal)) :
    val_main_v27 (F := Ideal) x nw shift scale wt = ofSamples (projectS 2048 1024 (by decide) x nw shift scale wt) := by
  refine eq_ofSamples _ _ fun r j => ?_
  pointwise [val_main_v27]
  simp only [ref_product]
  rfl

end

/-- The value claim of the projection to queries, keys and values, for the sample batch: from equal arguments the kernel and the
    reference end with equal results. -/
theorem algebraic :
    algebraic_ProjOddSIdeal_ProjOddSRefIdeal (hProjOddSIdeal := Cert.ProjOddSIdeal.Gen.facts) (hProjOddSRefIdeal := Cert.ProjOddSRefIdeal.Gen.facts) := by
  intro m g m' g' _ hin
  refine ⟨fun c => ofSamples (projectS 0 1024 (by decide) (argX m c) (argN m c) (argShift m c) (argScale m c) (argW m c)),
    fun c => ofSamples (projectS 1024 1024 (by decide) (argX m c) (argN m c) (argShift m c) (argScale m c) (argW m c)),
    fun c => ofSamples (projectS 2048 1024 (by decide) (argX m c) (argN m c) (argShift m c) (argScale m c) (argW m c)), ?_, ?_⟩
  · refine (θ_run _ _ _).mono (fun r h c => ?_) (Cert.ProjOddSIdeal.Value.run_blocks m g)
    obtain ⟨h0, h1, h2, h⟩ := h c
    exact ⟨h0.trans (kernel_array5 m c), h1.trans (kernel_array6 m c), h2.trans (kernel_array7 m c), h⟩
  · refine (θ_run _ _ _).mono (fun r h c => ?_) (Cert.ProjOddSRefIdeal.Value.run m' g')
    obtain ⟨h0, h1, h2, h⟩ := h c
    obtain ⟨e0, e1, e2, e3, e4⟩ := hin c
    refine ⟨h0.trans ?_, h1.trans ?_, h2.trans ?_, h⟩
    · rw [Cert.ProjOddSRefIdeal.Read.val_main_v25_eq, e0, e1, e2, e3, e4]
      exact ref_array5 _ _ _ _ _
    · rw [Cert.ProjOddSRefIdeal.Read.val_main_v26_eq, e0, e1, e2, e3, e4]
      exact ref_array6 _ _ _ _ _
    · rw [Cert.ProjOddSRefIdeal.Read.val_main_v27_eq, e0, e1, e2, e3, e4]
      exact ref_array7 _ _ _ _ _

/-- The reference runs, leaves its arguments unchanged, and ends with every counter at zero: it declares no semaphore. -/
theorem reference_frame : quiescent_ProjOddSRefIdeal (hProjOddSRefIdeal := Cert.ProjOddSRefIdeal.Gen.facts) := by
  intro m g _
  exact (θ_run _ _ _).mono (fun r h => ⟨fun c => (h c).2.2.2, sem_eq_zero_of_no_sems (by decide) r.2⟩) (Cert.ProjOddSRefIdeal.Value.run m g)

end Cert.ProjOddS

end
-- ==== Proof.MlpLastS.Kernel.lean ====
/- The last feed-forward block, for the sample batch: what one grid point of its kernel computes. -/
module

public import proofs.«01_k».proof.Proof.Layer.Sample
public import proofs.«01_k».proof.Proof.Gen.MlpLastSIdeal.Value
public import Idealize.ShloMosaic.Lib.Pipeline.Covers
public import Idealize.ShloMosaic.Lib.Pipeline.ValueKit
public import Idealize.ShloMosaic.Lib.WholeRead
public import Idealize.ShloMosaic.Lib.Pipeline.ReadBack
public import Idealize.ShloMosaic.Lib.VecWindow
public import Idealize.ShloMosaic.Lib.StableHlo.ReadAt

@[expose] public section

set_option maxRecDepth 16384
set_option maxHeartbeats 400000

noncomputable section

namespace Cert.MlpLastS

open Cert.MlpLastSIdeal Cert.MlpLastSIdeal.Gen Idealize.ShloMosaic Idealize.ShloMosaic.TcCoe Idealize.SL.Sem
open Idealize.ShloMosaic.Pipeline (Dat)
open Cert.Layer

variable (m : (ℓ : Loc nD τ sig) → Buf (Elt Ideal) ℓ)

/-- Where each point's blocks are: the rows and the modulation whole, and one of eight blocks of hidden units. -/
theorem idx : ∀ t : Fin cfg0.N,
    (cfg0.win 0).index t = ![0, 0] ∧
    (cfg0.win 1).index t = ![0, 0] ∧
    (cfg0.win 2).index t = ![0, 0, 0] ∧
    (cfg0.win 3).index t = ![0, 0, 0] ∧
    (cfg0.win 4).index t = ![0, 0, 0] ∧
    (cfg0.win 5).index t = ![0, t.val % 8] ∧
    (cfg0.win 6).index t = ![t.val % 8, 0] ∧
    (cfg0.win 7).index t = ![0, 0] ∧
    (cfg0.win 8).index t = ![0, 0] := by
  decide +kernel

/-- The arguments as the run finds them. -/
abbrev argX (c : Dev nD) : Mat2 256 1024 := m ((c : Thread nD τ).loc main_arg0)
abbrev argN (c : Dev nD) : Vec1024 := m ((c : Thread nD τ).loc main_arg1)
abbrev argShift (c : Dev nD) : Mat2 32 1024 := m ((c : Thread nD τ).loc main_arg2)
abbrev argScale (c : Dev nD) : Mat2 32 1024 := m ((c : Thread nD τ).loc main_arg3)
abbrev argGate (c : Dev nD) : Mat2 32 1024 := m ((c : Thread nD τ).loc main_arg4)
abbrev argUp (c : Dev nD) : Mat2 1024 4096 := m ((c : Thread nD τ).loc main_arg5)
abbrev argDown (c : Dev nD) : Mat2 4096 1024 := m ((c : Thread nD τ).loc main_arg6)
abbrev argF (c : Dev nD) : Vec1024 := m ((c : Thread nD τ).loc main_arg7)

/-- A point's blocks of the arguments. -/
abbrev xB (c : Dev nD) (p : Fin cfg0.N) : Vec Ideal S256x1024 .f32 := iblk m c 0 p
abbrev nB (c : Dev nD) (p : Fin cfg0.N) : Vec Ideal S1x1024 .f32 := iblk m c 1 p
abbrev shiftB (c : Dev nD) (p : Fin cfg0.N) : Vec Ideal S1x256x1024 .f32 := iblk m c 2 p
abbrev scaleB (c : Dev nD) (p : Fin cfg0.N) : Vec Ideal S1x256x1024 .f32 := iblk m c 3 p
abbrev gateB (c : Dev nD) (p : Fin cfg0.N) : Vec Ideal S1x256x1024 .f32 := iblk m c 4 p
abbrev upB (c : Dev nD) (p : Fin cfg0.N) : Vec Ideal S1024x512 .bf16 := iblk m c 5 p
abbrev downB (c : Dev nD) (p : Fin cfg0.N) : Vec Ideal S512x1024 .bf16 := iblk m c 6 p
abbrev fB (c : Dev nD) (p : Fin cfg0.N) : Vec Ideal S1x1024 .f32 := iblk m c 7 p

theorem x_read (c : Dev nD) (t : Fin cfg0.N) (r : Fin 256) (k : Fin 1024) :
    xB m c t (ix2 r k) = argX m c (ix2 (samp (seqOf r) (posOf r)) k) := by
  have := (idx t).1
  have hV : V m c (Pipeline.arrRef spec0 0) = argX m c := V_main_arg0 m c
  rw [samp_seq_pos]
  unfold xB iblk
  rw [hV]
  unfold argX
  blk_ext [this]

theorem n_read (c : Dev nD) (t : Fin cfg0.N) (k : Fin 1024) : nB m c t (ix2 0 k) = argN m c (ix1 k) := by
  have := (idx t).2.1
  have hV : ∀ k : Fin 1024, V m c (Pipeline.arrRef spec0 1) (ix2 0 k) = argN m c (ix1 k) := fun k => by
    show V m c main_v9 (ix2 0 k) = _
    unfold V
    after_reads_at
  refine Eq.trans ?_ (hV k)
  unfold nB
  blk_ext [iblk, this]

theorem f_read (c : Dev nD) (t : Fin cfg0.N) (k : Fin 1024) : fB m c t (ix2 0 k) = argF m c (ix1 k) := by
  have := (idx t).2.2.2.2.2.2.2.1
  have hV : ∀ k : Fin 1024, V m c (Pipeline.arrRef spec0 7) (ix2 0 k) = argF m c (ix1 k) := fun k => by
    show V m c main_v10 (ix2 0 k) = _
    unfold V
    after_reads_at
  refine Eq.trans ?_ (hV k)
  unfold fB
  blk_ext [iblk, this]

theorem shift_read (c : Dev nD) (t : Fin cfg0.N) (r : Fin 256) (k : Fin 1024) : shiftB m c t (ix3 0 r k) = argShift m c (ix2 (seqOf r) k) := by
  have := (idx t).2.2.1
  have hV : ∀ (r : Fin 256) (k : Fin 1024), V m c (Pipeline.arrRef spec0 2) (ix3 0 r k) = argShift m c (ix2 (seqOf r) k) := fun r k => by
    show V m c main_v2 (ix3 0 r k) = _
    unfold V
    after_reads_at
    rfl
  refine Eq.trans ?_ (hV r k)
  unfold shiftB
  blk_ext [iblk, this]

theorem scale_read (c : Dev nD) (t : Fin cfg0.N) (r : Fin 256) (k : Fin 1024) : scaleB m c t (ix3 0 r k) = argScale m c (ix2 (seqOf r) k) := by
  have := (idx t).2.2.2.1
  have hV : ∀ (r : Fin 256) (k : Fin 1024), V m c (Pipeline.arrRef spec0 3) (ix3 0 r k) = argScale m c (ix2 (seqOf r) k) := fun r k => by
    show V m c main_v5 (ix3 0 r k) = _
    unfold V
    after_reads_at
    rfl
  refine Eq.trans ?_ (hV r k)
  unfold scaleB
  blk_ext [iblk, this]

theorem gate_read (c : Dev nD) (t : Fin cfg0.N) (r : Fin 256) (k : Fin 1024) : gateB m c t (ix3 0 r k) = argGate m c (ix2 (seqOf r) k) := by
  have := (idx t).2.2.2.2.1
  have hV : ∀ (r : Fin 256) (k : Fin 1024), V m c (Pipeline.arrRef spec0 4) (ix3 0 r k) = argGate m c (ix2 (seqOf r) k) := fun r k => by
    show V m c main_v8 (ix3 0 r k) = _
    unfold V
    after_reads_at
    rfl
  refine Eq.trans ?_ (hV r k)
  unfold gateB
  blk_ext [iblk, this]

theorem up_read (c : Dev nD) (t : Fin cfg0.N) (k : Fin 1024) (v : Fin 512) : upB m c t (ix2 k v) = argUp m c (ix2 k (unitOf t.val v)) := by
  have := (idx t).2.2.2.2.2.1
  have hV : V m c (Pipeline.arrRef spec0 5) = argUp m c := V_main_arg5 m c
  unfold upB iblk
  rw [hV]
  unfold argUp unitOf
  blk_ext [this]

theorem down_read (c : Dev nD) (t : Fin cfg0.N) (v : Fin 512) (j : Fin 1024) : downB m c t (ix2 v j) = argDown m c (ix2 (unitOf t.val v) j) := by
  have := (idx t).2.2.2.2.2.2.1
  have hV : V m c (Pipeline.arrRef spec0 6) = argDown m c := V_main_arg6 m c
  unfold downB iblk
  rw [hV]
  unfold argDown unitOf
  blk_ext [this]

/-- The normed and modulated row that row `r` works on. -/
abbrev hid (c : Dev nD) (r : Fin 256) : Fin 1024 → EReal :=
  hiddenS (argX m c) (argN m c) (argShift m c) (argScale m c) (seqOf r) (posOf r)

/-- The first step's normed and modulated rows. -/
theorem pay1_at (c : Dev nD) (t : Fin cfg0.N) (r : Fin 256) (j : Fin 1024) :
    k0_pay1 (xB m c t) (nB m c t) (shiftB m c t) (scaleB m c t) (ix2 r j) = hid m c r j := by
  pointwise [k0_pay1]
  simp only [x_read, n_read, shift_read, scale_read]
  rfl

/-- One step's sum, over rows `h` and what the steps before it left. -/
theorem pay3_at (c : Dev nD) (t : Fin cfg0.N) (h : Vec Ideal S256x1024 .bf16) (acc : Vec Ideal S256x1024 .f32) (hr : Fin 1024 → EReal)
    (r : Fin 256) (j : Fin 1024) (hh : ∀ k : Fin 1024, h (ix2 r k) = hr k) :
    k0_pay3 h (upB m c t) acc (downB m c t) (ix2 r j) = acc (ix2 r j) + block hr (argUp m c) (argDown m c) j t.val := by
  pointwise [k0_pay3]
  simp only [hh, up_read, down_read]
  rfl

/-- The sum starts at zero. -/
theorem pay2_at (r : Fin 256) (j : Fin 1024) : (k0_pay2 (F := Ideal)) (ix2 r j) = (0 : EReal) := by
  pointwise [k0_pay2]

/-- The last step's output: the residual stream plus the gate times the sum, normed with the last weights. -/
theorem pay4_at (c : Dev nD) (t : Fin cfg0.N) (acc : Vec Ideal S256x1024 .f32) (r : Fin 256) (j : Fin 1024) :
    k0_pay4 (xB m c t) (gateB m c t) acc (fB m c t) (ix2 r j)
      = rms (fun k => argX m c (ix2 (samp (seqOf r) (posOf r)) k) + argGate m c (ix2 (seqOf r) k) * acc (ix2 r k))
          (fun k => argF m c (ix1 k)) j := by
  pointwise [k0_pay4]
  simp only [x_read, gate_read, f_read]
  rfl

/-- The first step of a run of eight leaves the normed and modulated rows. -/
theorem rows_A (c : Dev nD) (t : Fin cfg0.N) (h0 : t.val % 8 = 0) (h1 : ¬t.val % 8 = 7) (r : Fin 256) (j : Fin 1024) :
    (outsAt0 m c t.val t.isLt).2.1 (ix2 r j) = hid m c r j := by
  rw [outsAt0_A m c t h0 h1]
  dsimp only
  unfold sout0_A_0
  frame_out
  exact pay1_at m c t r j

/-- … and the first block's sum. -/
theorem sum_A (c : Dev nD) (t : Fin cfg0.N) (h0 : t.val % 8 = 0) (h1 : ¬t.val % 8 = 7) (r : Fin 256) (j : Fin 1024) :
    (outsAt0 m c t.val t.isLt).2.2 (ix2 r j) = block (hid m c r) (argUp m c) (argDown m c) j t.val := by
  rw [outsAt0_A m c t h0 h1]
  dsimp only
  unfold sout0_A_1
  frame_out
  rw [pay3_at m c t _ _ (hid m c r) r j fun k => pay1_at m c t r k, pay2_at, zero_add]

/-- The point before a point of a later step. -/
abbrev pred (t : Fin cfg0.N) : t.val - 1 < cfg0.N := Nat.lt_of_le_of_lt (Nat.sub_le _ _) t.isLt

/-- A later step leaves the rows as they are … -/
theorem rows_B (c : Dev nD) (t : Fin cfg0.N) (h0 : ¬t.val % 8 = 0) (r : Fin 256) (j : Fin 1024) :
    (outsAt0 m c t.val t.isLt).2.1 (ix2 r j) = (outsAt0 m c (t.val - 1) (pred t)).2.1 (ix2 r j) := by
  by_cases h1 : t.val % 8 = 7
  · rw [outsAt0_C m c t h0 h1]
    dsimp only
    unfold sout0_C_0
    frame_out
  · rw [outsAt0_B m c t h0 h1]
    dsimp only
    unfold sout0_B_0
    frame_out

/-- … and adds its block to the sum. -/
theorem sum_B (c : Dev nD) (t : Fin cfg0.N) (h0 : ¬t.val % 8 = 0) (hr : Fin 1024 → EReal) (r : Fin 256) (j : Fin 1024)
    (hh : ∀ k : Fin 1024, (outsAt0 m c (t.val - 1) (pred t)).2.1 (ix2 r k) = hr k) :
    (outsAt0 m c t.val t.isLt).2.2 (ix2 r j)
      = (outsAt0 m c (t.val - 1) (pred t)).2.2 (ix2 r j) + block hr (argUp m c) (argDown m c) j t.val := by
  by_cases h1 : t.val % 8 = 7
  · rw [outsAt0_C m c t h0 h1]
    dsimp only
    unfold sout0_C_1
    frame_out
    simp only [read_unread_whole]
    exact pay3_at m c t _ _ hr r j hh
  · rw [outsAt0_B m c t h0 h1]
    dsimp only
    unfold sout0_B_1
    frame_out
    simp only [read_unread_whole]
    exact pay3_at m c t _ _ hr r j hh

/-- After each point: the normed and modulated rows, and the sum of the blocks of hidden units so far. -/
theorem carried (c : Dev nD) : ∀ (n : ℕ) (hn : n < cfg0.N) (r : Fin 256),
    (∀ j : Fin 1024, (outsAt0 m c n hn).2.1 (ix2 r j) = hid m c r j) ∧
    (∀ j : Fin 1024, (outsAt0 m c n hn).2.2 (ix2 r j) = ∑ f ∈ Finset.range (n + 1), block (hid m c r) (argUp m c) (argDown m c) j f) := by
  intro n
  induction n with
  | zero =>
    intro hn r
    refine ⟨fun j => rows_A m c ⟨0, hn⟩ (Nat.zero_mod _) (by dsimp only; omega) r j, fun j => ?_⟩
    refine (sum_A m c ⟨0, hn⟩ (Nat.zero_mod _) (by dsimp only; omega) r j).trans ?_
    exact (Finset.sum_range_one _).symm
  | succ n ih =>
    intro hn r
    have h8 : n + 1 < 8 := hn
    have h0 : ¬(n + 1) % 8 = 0 := by omega
    obtain ⟨ih1, ih2⟩ := ih (Nat.lt_of_succ_lt hn) r
    refine ⟨fun j => (rows_B m c ⟨n + 1, hn⟩ h0 r j).trans (ih1 j), fun j => ?_⟩
    refine (sum_B m c ⟨n + 1, hn⟩ h0 (hid m c r) r j ih1).trans ?_
    refine (congrArg (· + block (hid m c r) (argUp m c) (argDown m c) j (n + 1)) (ih2 j)).trans ?_
    exact (Finset.sum_range_succ _ _).symm

/-- What the last step of a run of eight leaves in its output block. -/
theorem point_value (c : Dev nD) (t : Fin cfg0.N) (h1 : t.val % 8 = 7) (r : Fin 256) (j : Fin 1024) :
    (outsAt0 m c t.val t.isLt).1 (ix2 r j)
      = feedLastS (argX m c) (argN m c) (argShift m c) (argScale m c) (argGate m c) (argUp m c) (argDown m c) (argF m c)
          (seqOf r) (posOf r) j := by
  have h0 : ¬t.val % 8 = 0 := by omega
  have hs : ∀ j : Fin 1024, (outsAt0 m c t.val t.isLt).2.2 (ix2 r j) = ∑ u : Fin 4096, unit (hid m c r) (argUp m c) (argDown m c) j u := fun j => by
    have h8 : t.val < 8 := t.isLt
    have h7 : t.val = 7 := by omega
    rw [(carried m c t.val t.isLt r).2 j, h7]
    exact sum_blocks _ _ _ _
  unfold feedLastS feedS
  simp only [← hs]
  rw [outsAt0_C m c t h0 h1]
  dsimp only
  unfold out0_C_8 sout0_C_1
  frame_out
  exact pay4_at m c t _ r j

/-- The output array after the run. -/
theorem kernel_array (c : Dev nD) : (dats m 0 c).arrAt 8 cfg0.N
    = ofSamples (feedLastS (argX m c) (argN m c) (argShift m c) (argScale m c) (argGate m c) (argUp m c) (argDown m c) (argF m c)) := by
  refine (dats m 0 c).arrAt_eq_of_covers 8 _ (by decide +kernel) fun t hf y => ?_
  have hm : t.val % 8 = 7 := (flush0_8 t).mp hf
  blk_simp
  rw [after0_8]
  idx_vars y
  have e : ((View.whole main_v11).slice (win0_8.rect t)).emb (ix2 y0 y1) = ix2 y0 y1 := by
    have := (idx t).2.2.2.2.2.2.2.2
    blk_ext [this]
  rw [e]
  exact point_value m c t hm y0 y1

end Cert.MlpLastS

end
-- ==== Proof.MlpLastS.Ref.lean ====
/- What the last feed-forward block's reference computes for the sample batch, and the equation of the two programs. -/
module

public import proofs.«01_k».proof.Defs
public import proofs.«01_k».proof.Proof.MlpLastS.Kernel
public import proofs.«01_k».proof.Proof.Gen.MlpLastSIdeal
public import proofs.«01_k».proof.Proof.Gen.MlpLastSRefIdeal
public import proofs.«01_k».proof.Proof.Gen.MlpLastSRefIdeal.Run
public import proofs.«01_k».proof.Proof.Gen.MlpLastSRefIdeal.Read

@[expose] public section

set_option maxRecDepth 16384

noncomputable section

namespace Cert.MlpLastS

open Idealize.ShloMosaic Idealize.ShloMosaic.TcCoe Idealize.SL.Sem
open Cert.Layer

section

open Cert.MlpLastSRefIdeal Cert.MlpLastSRefIdeal.Gen Cert.MlpLastSRefIdeal.Read

/-- The reference's normed and modulated rows. -/
theorem ref_hidden (x : (⟨S256x1024, .f32⟩ : BufTy).Contents (Elt Ideal)) (nw : (⟨S1024, .f32⟩ : BufTy).Contents (Elt Ideal))
    (shift scale : (⟨S32x1024, .f32⟩ : BufTy).Contents (Elt Ideal)) (b : Fin 32) (t : Fin 8) (j : Fin 1024) :
    val_main_v21 (F := Ideal) x nw shift scale (ix3 b t j) = hiddenS x nw shift scale b t j := by
  pointwise [val_main_cst, val_main_cst_0, val_main_cst_1, val_main_cst_2, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  rfl

/-- What a hidden unit holds in the reference: the square of its positive part. -/
theorem ref_unit (x : (⟨S256x1024, .f32⟩ : BufTy).Contents (Elt Ideal)) (nw : (⟨S1024, .f32⟩ : BufTy).Contents (Elt Ideal))
    (shift scale : (⟨S32x1024, .f32⟩ : BufTy).Contents (Elt Ideal)) (wu : (⟨S1024x4096, .bf16⟩ : BufTy).Contents (Elt Ideal))
    (b : Fin 32) (t : Fin 8) (u : Fin 4096) :
    val_main_v27 (F := Ideal) x nw shift scale wu (ix3 b t u)
      = max (∑ k : Fin 1024, hiddenS x nw shift scale b t k * (wu (ix2 k u) : EReal)) 0 * max (∑ k : Fin 1024, hiddenS x nw shift scale b t k * (wu (ix2 k u) : EReal)) 0 := by
  pointwise [val_main_v27, val_main_v26, val_main_v25, val_main_v23, val_main_call0_v0, val_main_call0_cst]
  simp only [ref_hidden]

/-- The reference's rows: the residual stream plus the gate times the sum over the hidden units. -/
theorem ref_feed (x : (⟨S256x1024, .f32⟩ : BufTy).Contents (Elt Ideal)) (nw : (⟨S1024, .f32⟩ : BufTy).Contents (Elt Ideal))
    (shift scale gate : (⟨S32x1024, .f32⟩ : BufTy).Contents (Elt Ideal)) (wu : (⟨S1024x4096, .bf16⟩ : BufTy).Contents (Elt Ideal))
    (wd : (⟨S4096x1024, .bf16⟩ : BufTy).Contents (Elt Ideal)) (b : Fin 32) (t : Fin 8) (j : Fin 1024) :
    val_main_v31 (F := Ideal) x nw shift scale gate wu wd (ix3 b t j) = feedS x nw shift scale gate wu wd b t j := by
  pointwise [val_main_v31, val_main_v30, val_main_v29, val_main_v28, val_main_v24, val_main_v22, val_main_v0]
  simp only [ref_unit]
  rfl

/-- The reference's result. -/
theorem ref_array (x : (⟨S256x1024, .f32⟩ : BufTy).Contents (Elt Ideal)) (nw : (⟨S1024, .f32⟩ : BufTy).Contents (Elt Ideal))
    (shift scale gate : (⟨S32x1024, .f32⟩ : BufTy).Contents (Elt Ideal)) (wu : (⟨S1024x4096, .bf16⟩ : BufTy).Contents (Elt Ideal))
    (wd : (⟨S4096x1024, .bf16⟩ : BufTy).Contents (Elt Ideal)) (fw : (⟨S1024, .f32⟩ : BufTy).Contents (Elt Ideal)) :
    val_main_v45 (F := Ideal) x nw shift scale gate wu wd fw = ofSamples (feedLastS x nw shift scale gate wu wd fw) := by
  refine eq_ofSamples _ _ fun r j => ?_
  pointwise [val_main_cst_3, val_main_cst_4, val_main_cst_5, val_main_v45, val_main_v44, val_main_v43, val_main_v42, val_main_v41, val_main_v40, val_main_v39, val_main_v38, val_main_v37, val_main_v36, val_main_v35, val_main_v34, val_main_v33, val_main_v32]
  simp only [ref_feed]
  rfl

end

/-- The value claim of the last feed-forward block, for the sample batch: from equal arguments the kernel and the reference end with equal results. -/
theorem algebraic :
    algebraic_MlpLastSIdeal_MlpLastSRefIdeal (hMlpLastSIdeal := Cert.MlpLastSIdeal.Gen.facts) (hMlpLastSRefIdeal := Cert.MlpLastSRefIdeal.Gen.facts) := by
  intro m g m' g' _ hin
  refine ⟨fun c => ofSamples (feedLastS (argX m c) (argN m c) (argShift m c) (argScale m c) (argGate m c) (argUp m c) (argDown m c) (argF m c)), ?_, ?_⟩
  · refine (θ_run _ _ _).mono (fun r h c => ?_) (Cert.MlpLastSIdeal.Value.run_blocks m g)
    obtain ⟨h0, h1⟩ := h c
    exact ⟨h0.trans (kernel_array m c), h1⟩
  · refine (θ_run _ _ _).mono (fun r h c => ?_) (Cert.MlpLastSRefIdeal.Value.run m' g')
    obtain ⟨h0, h1⟩ := h c
    obtain ⟨e0, e1, e2, e3, e4, e5, e6, e7⟩ := hin c
    refine ⟨h0.trans ?_, h1⟩
    rw [Cert.MlpLastSRefIdeal.Read.val_main_v45_eq, e0, e1, e2, e3, e4, e5, e6, e7]
    exact ref_array _ _ _ _ _ _ _ _

/-- The reference runs, leaves its arguments unchanged, and ends with every counter at zero: it declares no semaphore. -/
theorem reference_frame : quiescent_MlpLastSRefIdeal (hMlpLastSRefIdeal := Cert.MlpLastSRefIdeal.Gen.facts) := by
  intro m g _
  exact (θ_run _ _ _).mono (fun r h => ⟨fun c => (h c).2, sem_eq_zero_of_no_sems (by decide) r.2⟩) (Cert.MlpLastSRefIdeal.Value.run m g)

end Cert.MlpLastS

end
-- ==== Proof.Layer.Gate.lean ====
/- The gated rows of the sample batch's mixer: GELU of the gating columns, each of four groups of 128 columns normed by itself. -/
module

public import proofs.«01_k».proof.Proof.Layer.Sample

@[expose] public section

noncomputable section

namespace Cert.Layer

open Idealize.ShloMosaic

/-- GELU in its tanh form: `x · ½(1 + tanh(√(2/π)(x + 0.044715 x³)))`. -/
def gelu (x : EReal) : EReal :=
  x * (Ideal.ofBits FTy.f32 0x3F000000#32 * (1 + Ideal.tanh (Ideal.ofBits FTy.f32 0x3F4C422A#32 * (x + Ideal.ofBits FTy.f32 0x3D372713#32 * (x * (x * x))))))

/-- GELU of a group of 128 entries, over the root of its mean square: `g · rsqrt(mean(g²) + ε) · w`, at column `j`. -/
def gated (x w : Fin 128 → EReal) (j : Fin 128) : EReal :=
  gelu (x j) * Ideal.rsqrt (Ideal.div (∑ k : Fin 128, gelu (x k) * gelu (x k)) (Ideal.ofBits FTy.f32 0x43000000#32) + Ideal.ofBits FTy.f32 0x358637BD#32) * w j

/-- Column `k` of group `g` of the gating columns, and of their weights. -/
def gateCol (g : Fin 4) (k : Fin 128) : Fin 2560 := ⟨2048 + (g.val * 128 + k.val), by omega⟩
def weightCol (g : Fin 4) (k : Fin 128) : Fin 512 := ⟨g.val * 128 + k.val, by omega⟩

/-- The group of a column, and its place in the group. -/
def groupOf (j : Fin 512) : Fin 4 := ⟨j.val / 128, by omega⟩
def placeOf (j : Fin 512) : Fin 128 := ⟨j.val % 128, by omega⟩

/-- Every column is some group's. -/
theorem weightCol_group_place (j : Fin 512) : weightCol (groupOf j) (placeOf j) = j :=
  Fin.ext (by show j.val / 128 * 128 + j.val % 128 = j.val; omega)

/-- The gated row of a sequence's row. -/
def gatedRow (p : Mat2 256 2560) (w : Mat2 1 512) (b : Fin 32) (t : Fin 8) (j : Fin 512) : EReal :=
  gated (fun k => p (ix2 (samp b t) (gateCol (groupOf j) k))) (fun k => w (ix2 0 (weightCol (groupOf j) k))) (placeOf j)

end Cert.Layer

end
-- ==== Proof.MixS.Kernel.lean ====
/- The sample batch's mixer: what its kernel's array of gated rows holds after the run. -/
module

public import proofs.«01_k».proof.Proof.Layer.Gate
public import proofs.«01_k».proof.Proof.Gen.MixSIdeal.Value
public import Idealize.ShloMosaic.Lib.Pipeline.Covers
public import Idealize.ShloMosaic.Lib.Pipeline.ValueKit
public import Idealize.ShloMosaic.Lib.WholeRead

@[expose] public section

set_option maxRecDepth 16384
set_option maxHeartbeats 400000

noncomputable section

namespace Cert.MixS

open Cert.MixSIdeal Cert.MixSIdeal.Gen Idealize.ShloMosaic Idealize.ShloMosaic.TcCoe Idealize.SL.Sem
open Idealize.ShloMosaic.Pipeline (Dat)
open Cert.Layer

variable (m : (ℓ : Loc nD τ sig) → Buf (Elt Ideal) ℓ)

/-- Where each point's blocks are, of those the gated rows need: one sequence's eight rows, and the weights whole. -/
theorem idx : ∀ t : Fin cfg0.N,
    (cfg0.win 0).index t = ![t.val, 0] ∧
    (cfg0.win 6).index t = ![0, 0] ∧
    (cfg0.win 10).index t = ![t.val, 0] := by
  decide +kernel

/-- The arguments the gated rows need, as the run finds them. -/
abbrev argP (c : Dev nD) : Mat2 256 2560 := m ((c : Thread nD τ).loc main_arg0)
abbrev argG (c : Dev nD) : Mat2 1 512 := m ((c : Thread nD τ).loc main_arg6)

/-- The point's blocks of them. -/
abbrev pB (c : Dev nD) (p : Fin cfg0.N) : Vec Ideal S8x2560 .f32 := iblk m c 0 p
abbrev gB (c : Dev nD) (p : Fin cfg0.N) : Vec Ideal S1x512 .f32 := iblk m c 6 p

theorem p_read (c : Dev nD) (t : Fin cfg0.N) (r : Fin 8) (k : Fin 2560) : pB m c t (ix2 r k) = argP m c (ix2 (samp t r) k) := by
  have := (idx t).1
  have hV : V m c (Pipeline.arrRef spec0 0) = argP m c := V_main_arg0 m c
  unfold pB iblk
  rw [hV]
  unfold argP samp
  blk_ext [this]

theorem g_read (c : Dev nD) (t : Fin cfg0.N) (k : Fin 512) : gB m c t (ix2 0 k) = argG m c (ix2 0 k) := by
  have := (idx t).2.1
  have hV : V m c (Pipeline.arrRef spec0 6) = argG m c := V_main_arg6 m c
  unfold gB iblk
  rw [hV]
  unfold argG
  blk_ext [this]

/-- The kernel works on 128 rows, of which the sequence's eight are the top ones. -/
def top (r : Fin 8) : Fin 128 := ⟨r.val, by omega⟩

theorem top_at (v : Vec Ideal S8x2560 .f32) (r : Fin 8) (k : Fin 2560) : k0_pay8 v (ix2 (top r) k) = v (ix2 r k) := by
  pointwise [k0_pay8]
  exact dif_pos r.isLt

/-- A group's columns, in the kernel: 128 columns from `o` on. -/
def from128 (o : ℕ) (h : o + 128 ≤ 2560) (k : Fin 128) : Fin 2560 := ⟨o + k.val, by omega⟩

/-- The four groups of the kernel's gated rows. -/
theorem group0 (v : Vec Ideal S128x2560 .f32) (w : Vec Ideal S1x128 .f32) (r : Fin 128) (j : Fin 128) :
    k0_pay107 v w (ix2 r j) = gated (fun k => v (ix2 r (from128 2048 (by decide) k))) (fun k => w (ix2 0 k)) j := by
  pointwise [k0_pay107]
  rfl

theorem group1 (v : Vec Ideal S128x2560 .f32) (w : Vec Ideal S1x128 .f32) (r : Fin 128) (j : Fin 128) :
    k0_pay112 v w (ix2 r j) = gated (fun k => v (ix2 r (from128 2176 (by decide) k))) (fun k => w (ix2 0 k)) j := by
  pointwise [k0_pay112]
  rfl

theorem group2 (v : Vec Ideal S128x2560 .f32) (w : Vec Ideal S1x128 .f32) (r : Fin 128) (j : Fin 128) :
    k0_pay116 v w (ix2 r j) = gated (fun k => v (ix2 r (from128 2304 (by decide) k))) (fun k => w (ix2 0 k)) j := by
  pointwise [k0_pay116]
  rfl

theorem group3 (v : Vec Ideal S128x2560 .f32) (w : Vec Ideal S1x128 .f32) (r : Fin 128) (j : Fin 128) :
    k0_pay1 (k0_pay119 v) w (k0_pay120 v) (Scalar.ofBits .f32 0x358637BD#32) (ix2 r j)
      = gated (fun k => v (ix2 r (from128 2432 (by decide) k))) (fun k => w (ix2 0 k)) j := by
  pointwise [k0_pay1, k0_pay119, k0_pay120]
  rfl

/-- A group's weights, in the kernel: 128 entries from the group's first on. -/
theorem weights_at (c : Dev nD) (t : Fin cfg0.N) (g : Fin 4) (o : ℕ) (ho : o = g.val * 128) (h : ∀ a : Fin 2, ![0, o] a + ![1, 128] a ≤ S1x512.size a)
    (k : Fin 128) : View.ld (gB m c t) (Rect.unit (s := S1x512) ![0, o] ![1, 128] h) (ix2 0 k) = argG m c (ix2 0 (weightCol g k)) := by
  subst ho
  rw [← g_read m c t]
  unfold weightCol
  unfold View.ld
  refine congrArg (gB m c t) (funext fun a => ?_)
  match a with
  | 0 => rfl
  | 1 => exact Fin.ext (Rect.idx_unit_val _ _ _ _ _)

/-- The four groups side by side. -/
theorem groups_at (a b d v : Vec Ideal S128x128 .f32) (w : Vec Ideal S1x128 .f32) (u : Vec Ideal S128x1 .f32) (q : Ideal .f32) (r : Fin 8) (j : Fin 512)
    (f : Fin 4 → Fin 128 → EReal) (h0 : ∀ p : Fin 128, a (ix2 (top r) p) = f 0 p) (h1 : ∀ p : Fin 128, b (ix2 (top r) p) = f 1 p)
    (h2 : ∀ p : Fin 128, d (ix2 (top r) p) = f 2 p) (h3 : ∀ p : Fin 128, k0_pay1 v w u q (ix2 (top r) p) = f 3 p) :
    k0_pay3 a b d v w u q (ix2 r j) = f (groupOf j) (placeOf j) := by
  have at_ : ∀ (g : Fin 4) (p : Fin 128), j.val = g.val * 128 + p.val → f g p = f (groupOf j) (placeOf j) := fun g p h => by
    have eg : groupOf j = g := Fin.ext (by show j.val / 128 = g.val; omega)
    have ep : placeOf j = p := Fin.ext (by show j.val % 128 = p.val; omega)
    rw [eg, ep]
  pointwise [k0_pay3]
  by_cases c0 : j.val < 128
  · exact (dif_pos c0).trans ((h0 ⟨j.val, c0⟩).trans (at_ 0 _ (by show j.val = 0 * 128 + j.val; omega)))
  refine (dif_neg c0).trans ?_
  by_cases c1 : j.val - 128 < 128
  · exact (dif_pos c1).trans ((h1 ⟨j.val - 128, c1⟩).trans (at_ 1 _ (by show j.val = 1 * 128 + (j.val - 128); omega)))
  refine (dif_neg c1).trans ?_
  by_cases c2 : j.val - 128 - 128 < 128
  · exact (dif_pos c2).trans ((h2 ⟨j.val - 128 - 128, c2⟩).trans (at_ 2 _ (by show j.val = 2 * 128 + (j.val - 128 - 128); omega)))
  refine (dif_neg c2).trans ?_
  exact (h3 ⟨j.val - 128 - 128 - 128, by omega⟩).trans (at_ 3 _ (by show j.val = 3 * 128 + (j.val - 128 - 128 - 128); omega))

/-- A group of the kernel's rows is that group of the gated row, given where its columns start and its weights. -/
theorem group_row (c : Dev nD) (t : Fin cfg0.N) (r : Fin 8) (g : Fin 4) (o : ℕ) (h : o + 128 ≤ 2560) (ho : o = 2048 + g.val * 128)
    (w : Vec Ideal S1x128 .f32) (hw : ∀ k : Fin 128, w (ix2 0 k) = argG m c (ix2 0 (weightCol g k))) (p : Fin 128) :
    gated (fun k => k0_pay8 (pB m c t) (ix2 (top r) (from128 o h k))) (fun k => w (ix2 0 k)) p
      = gated (fun k => argP m c (ix2 (samp t r) (gateCol g k))) (fun k => argG m c (ix2 0 (weightCol g k))) p := by
  have hc : ∀ k : Fin 128, from128 o h k = gateCol g k := fun k => Fin.ext (by
    show o + k.val = 2048 + (g.val * 128 + k.val)
    omega)
  simp only [top_at, p_read, hc, hw]

/-- What point `t` leaves in its block of gated rows. -/
theorem point_value (c : Dev nD) (t : Fin cfg0.N) (r : Fin 8) (j : Fin 512) :
    (outsAt0 m c t).2.1 (ix2 r j) = gatedRow (argP m c) (argG m c) t r j := by
  unfold outsAt0
  dsimp only
  unfold out0_A_10
  frame_out
  exact groups_at _ _ _ _ _ _ _ r j (fun g p => gated (fun k => argP m c (ix2 (samp t r) (gateCol g k))) (fun k => argG m c (ix2 0 (weightCol g k))) p)
    (fun p => (group0 _ _ _ p).trans (group_row m c t r 0 _ _ rfl _ (weights_at m c t 0 0 rfl _) p))
    (fun p => (group1 _ _ _ p).trans (group_row m c t r 1 _ _ rfl _ (weights_at m c t 1 128 rfl _) p))
    (fun p => (group2 _ _ _ p).trans (group_row m c t r 2 _ _ rfl _ (weights_at m c t 2 256 rfl _) p))
    (fun p => (group3 _ _ _ p).trans (group_row m c t r 3 _ _ rfl _ (weights_at m c t 3 384 rfl _) p))

/-- The array of gated rows after the run. -/
theorem kernel_array (c : Dev nD) : (dats m 0 c).arrAt 10 cfg0.N = ofSamples (gatedRow (argP m c) (argG m c)) := by
  refine (dats m 0 c).arrAt_eq_of_covers 10 _ (by decide +kernel) fun t hf y => ?_
  blk_simp
  rw [after0_10]
  idx_vars y
  have e : ((View.whole main_v0_1).slice (win0_10.rect t)).emb (ix2 y0 y1) = ix2 (samp t y0) y1 := by
    have := (idx t).2.2
    unfold samp
    blk_ext [this]
  rw [e]
  exact (point_value m c t y0 y1).trans (ofSamples_apply _ _ _ _).symm

end Cert.MixS

end
-- ==== Proof.MixS.Ref.lean ====
/- What the reference of the sample batch's mixer computes for the gated rows, and the equation of the two programs. -/
module

public import proofs.«01_k».proof.Defs
public import proofs.«01_k».proof.Proof.MixS.Kernel
public import proofs.«01_k».proof.Proof.Gen.MixSIdeal
public import proofs.«01_k».proof.Proof.Gen.MixSRefIdeal
public import proofs.«01_k».proof.Proof.Gen.MixSRefIdeal.Run
public import proofs.«01_k».proof.Proof.Gen.MixSRefIdeal.Read

@[expose] public section

set_option maxRecDepth 16384

noncomputable section

namespace Cert.MixS

open Idealize.ShloMosaic Idealize.ShloMosaic.TcCoe Idealize.SL.Sem
open Cert.Layer

section

open Cert.MixSRefIdeal Cert.MixSRefIdeal.Gen Cert.MixSRefIdeal.Read

/-- The reference's GELU of the gating columns. -/
theorem ref_gelu (p : (⟨S256x2560, .f32⟩ : BufTy).Contents (Elt Ideal)) (b : Fin 32) (t : Fin 8) (g : Fin 4) (k : Fin 128) :
    val_main_v15 (F := Ideal) p (ix4 b t g k) = gelu (p (ix2 (samp b t) (gateCol g k))) := by
  pointwise [val_main_cst, val_main_cst_0, val_main_cst_1, val_main_cst_2, val_main_v15, val_main_v14, val_main_v13, val_main_v12, val_main_v11, val_main_v10, val_main_v9, val_main_v8, val_main_v7, val_main_v6, val_main_v5, val_main_v4, val_main_v3, val_main_v2, val_main_v1, val_main_v0]
  simp only [gelu, mul_assoc]
  rfl

/-- The reference's result: the gated rows. -/
theorem ref_array (p : (⟨S256x2560, .f32⟩ : BufTy).Contents (Elt Ideal)) (w : (⟨S1x512, .f32⟩ : BufTy).Contents (Elt Ideal)) :
    val_main_v30 (F := Ideal) p w = ofSamples (gatedRow p w) := by
  refine eq_ofSamples _ _ fun r j => ?_
  pointwise [val_main_cst_3, val_main_cst_4, val_main_cst_5, val_main_v30, val_main_v29, val_main_v28, val_main_v27, val_main_v26, val_main_v25, val_main_v24, val_main_v23, val_main_v22, val_main_v21, val_main_v20, val_main_v19, val_main_v18, val_main_v17, val_main_v16]
  simp only [ref_gelu]
  have hw : (w (ix2 0 j) : EReal) = w (ix2 0 (weightCol (groupOf j) (placeOf j))) := by rw [weightCol_group_place]
  exact congrArg₂ (· * ·) rfl hw

end

/-- The value claim of the sample batch's mixer: from equal arguments the kernel and the reference end with equal gated rows. -/
theorem algebraic :
    algebraic_MixSIdeal_MixSRefIdeal (hMixSIdeal := Cert.MixSIdeal.Gen.facts) (hMixSRefIdeal := Cert.MixSRefIdeal.Gen.facts) := by
  intro m g m' g' _ hin
  refine ⟨fun c => ofSamples (gatedRow (argP m c) (argG m c)), ?_, ?_⟩
  · refine (θ_run _ _ _).mono (fun r h c => ?_) (Cert.MixSIdeal.Value.run_blocks m g)
    obtain ⟨_, h1, _, _, h⟩ := h c
    exact ⟨h1.trans (kernel_array m c), h⟩
  · refine (θ_run _ _ _).mono (fun r h c => ?_) (Cert.MixSRefIdeal.Value.run m' g')
    obtain ⟨h0, h⟩ := h c
    obtain ⟨e0, e1, e2, e3, e4, e5, e6, e7, e8⟩ := hin c
    refine ⟨h0.trans ?_, h⟩
    rw [Cert.MixSRefIdeal.Read.val_main_v30_eq, e0, e6]
    exact ref_array _ _

/-- The reference runs, leaves its arguments unchanged, and ends with every counter at zero: it declares no semaphore. -/
theorem reference_frame : quiescent_MixSRefIdeal (hMixSRefIdeal := Cert.MixSRefIdeal.Gen.facts) := by
  intro m g _
  exact (θ_run _ _ _).mono (fun r h => ⟨fun c => (h c).2, sem_eq_zero_of_no_sems (by decide) r.2⟩) (Cert.MixSRefIdeal.Value.run m g)

end Cert.MixS

end
-- ==== Proof.MixState.State.lean ====
/- The arithmetic of one head's recurrent state over the extended reals, with no program in sight: from the forget gates'
   logarithms `f s`, the input gates `i s`, the keys and the values of a chunk's rows, the state's new running maximum and
   its new entries. The kernel works on 128 rows, of which the first four are the chunk's; the reference has just these
   four. The lemmas here say that the rest changes nothing, and that the kernel's splitting of a number into three parts
   that are summed again gives the number back, unless it is `+∞`. -/
module

public import proofs.«01_k».proof.Proof.Attn.Weights

@[expose] public section

noncomputable section

namespace Cert.State

open Idealize.ShloMosaic

section Any

variable {n : ℕ} (f i : Fin n → EReal) (m : EReal)

/-- The sum of the forget gates' logarithms up to row `t`, and of all of them. -/
def upto (t : Fin n) : EReal := ∑ s : Fin n, if s.val ≤ t.val then f s else 0
def total : EReal := ∑ s : Fin n, f s

/-- The new running maximum: of the old one decayed, and of what each row brings. -/
def newMax : EReal := max (total f + m) (Finset.univ.fold max ⊥ fun s => total f - upto f s + i s)

/-- The weight of row `s` in the new state, and that of the old state. -/
def weight (s : Fin n) : EReal := Ideal.exp (total f - upto f s + i s - newMax f i m)
def decay : EReal := Ideal.exp (total f + m - newMax f i m)

/-- What the rows add to an entry of the state, of the keys' entries `k` and the values' entries `v`. -/
def added (k v : Fin n → EReal) : EReal := ∑ s : Fin n, (k s * weight f i m s) * v s

end Any

/-- The logarithm of the logistic function, of a forget gate's input. -/
def logSig (x : EReal) : EReal := -Cert.Attn.sp (-x)

theorem logSig_ne_top (x : EReal) : logSig x ≠ ⊤ := fun h => by
  have h0 : logSig x ≤ 0 := by
    unfold logSig
    rw [← neg_zero]
    exact EReal.neg_le_neg_iff.2 (Cert.Attn.sp_nonneg _)
  rw [h] at h0
  exact absurd h0 (by simp)

/-- A row of the chunk, among the kernel's 128. -/
def first (s : Fin 4) : Fin 128 := ⟨s.val, by omega⟩

/-- A sum over 128 rows of which all but the first four are zero. -/
theorem sum_first (g : Fin 128 → EReal) (h : ∀ s : Fin 128, 4 ≤ s.val → g s = 0) : ∑ s, g s = ∑ s : Fin 4, g (first s) := by
  have e := Fin.sum_univ_add (a := 4) (b := 124) (f := g)
  refine e.trans ?_
  have z : ∑ s : Fin 124, g (Fin.natAdd 4 s) = 0 := Finset.sum_eq_zero fun s _ => h _ (by simp [Fin.natAdd])
  rw [z, add_zero]
  exact Finset.sum_congr rfl fun s _ => congrArg g (Fin.ext rfl)

/-- A maximum over 128 rows of which all but the first four are `-∞`. -/
theorem max_first (g : Fin 128 → EReal) (h : ∀ s : Fin 128, 4 ≤ s.val → g s = ⊥) :
    Finset.univ.fold max ⊥ g = Finset.univ.fold max ⊥ fun s : Fin 4 => g (first s) := by
  show Finset.univ.sup g = Finset.univ.sup fun s : Fin 4 => g (first s)
  refine le_antisymm (Finset.sup_le fun s _ => ?_) (Finset.sup_le fun s _ => Finset.le_sup (f := g) (Finset.mem_univ _))
  by_cases c : s.val < 4
  · exact Finset.le_sup (f := fun s : Fin 4 => g (first s)) (Finset.mem_univ ⟨s.val, c⟩)
  · rw [h s (by omega)]; exact bot_le

section Pad

variable (f i : Fin 128 → EReal) (m : EReal) (hf : ∀ s : Fin 128, 4 ≤ s.val → f s = 0) (hi : ∀ s : Fin 128, 4 ≤ s.val → i s = ⊥)

include hf

theorem total_first : total f = total fun s : Fin 4 => f (first s) := sum_first f hf

theorem upto_first (t : Fin 4) : upto f (first t) = upto (fun s : Fin 4 => f (first s)) t := by
  unfold upto
  refine (sum_first _ fun s h => ?_).trans rfl
  rw [hf s h]; exact ite_self 0

include hi

/-- The other rows do not change the running maximum … -/
theorem newMax_first : newMax f i m = newMax (fun s : Fin 4 => f (first s)) (fun s : Fin 4 => i (first s)) m := by
  unfold newMax
  rw [max_first _ fun s h => by rw [hi s h]; exact EReal.add_bot _, total_first f hf]
  simp only [upto_first f hf]

/-- … nor the weights of the chunk's rows … -/
theorem weight_first (s : Fin 4) : weight f i m (first s) = weight (fun s : Fin 4 => f (first s)) (fun s : Fin 4 => i (first s)) m s := by
  unfold weight
  rw [newMax_first f i m hf hi, total_first f hf, upto_first f hf]

/-- … nor that of the old state, … -/
theorem decay_first : decay f i m = decay (fun s : Fin 4 => f (first s)) (fun s : Fin 4 => i (first s)) m := by
  unfold decay
  rw [newMax_first f i m hf hi, total_first f hf]

omit hf in
/-- … and their own weights are zero, … -/
theorem weight_rest (s : Fin 128) (h : 4 ≤ s.val) : weight f i m s = 0 := by
  unfold weight
  rw [hi s h, EReal.add_bot, sub_eq_add_neg, EReal.bot_add]
  rfl

/-- … so they add nothing. -/
theorem added_first (k v : Fin 128 → EReal) :
    added f i m k v = added (fun s : Fin 4 => f (first s)) (fun s : Fin 4 => i (first s)) m (fun s => k (first s)) (fun s => v (first s)) := by
  unfold added
  rw [sum_first _ fun s h => by rw [weight_rest f i m hi s h, mul_zero, zero_mul]]
  simp only [weight_first f i m hf hi]

end Pad

/-- A number that is not `+∞` is the sum of its three parts: itself, what is left of it, and what is left of that. -/
theorem split_sum (x : EReal) (h : x ≠ ⊤) : x + (x - x) + (x - x - (x - x)) = x := by
  induction x using EReal.rec with
  | bot => simp [sub_eq_add_neg]
  | top => exact absurd rfl h
  | coe x => norm_cast; simp

/-- The same of a sum of some of the numbers, part by part. -/
theorem split_sums {n : ℕ} (x : Fin n → EReal) (h : ∀ s, x s ≠ ⊤) (p : Fin n → Prop) [DecidablePred p] :
    (∑ s, if p s then x s else 0) + (∑ s, if p s then x s - x s else 0) + (∑ s, if p s then x s - x s - (x s - x s) else 0)
      = ∑ s, if p s then x s else 0 := by
  rw [← Finset.sum_add_distrib, ← Finset.sum_add_distrib]
  refine Finset.sum_congr rfl fun s _ => ?_
  by_cases c : p s
  · simp only [if_pos c]; exact split_sum _ (h s)
  · simp only [if_neg c, add_zero]

end Cert.State

end
-- ==== Proof.MixState.Gates.lean ====
/- The sample batch's mixer: its gates on 128 rows, their sums, and both transposed, as the kernel forms them. -/
module

public import proofs.«01_k».proof.Proof.Layer.Sample
public import proofs.«01_k».proof.Proof.Attn.Block
public import proofs.«01_k».proof.Proof.MixState.State
public import proofs.«01_k».proof.Proof.Gen.MixStateIdeal.Skeleton

@[expose] public section

set_option maxRecDepth 16384
set_option maxHeartbeats 400000

noncomputable section

namespace Cert.MixState

open Cert.MixStateIdeal Cert.MixStateIdeal.Gen Idealize.ShloMosaic Idealize.ShloMosaic.TcCoe Idealize.SL.Sem
open Cert.Layer Cert.State

/-- Choosing by a comparison of two small positions. -/
theorem select_sle {α : Type} (a b : ℕ) (ha : a < 2147483648) (hb : b < 2147483648) (x y : α) :
    Scalar.select (IntOp.cmpi .sle (BitVec.ofNat 32 a) (BitVec.ofNat 32 b)) x y = if a ≤ b then x else y := by
  rw [WordCmp.cmpi_sle_ofNat (w := 32) ha hb]
  unfold Scalar.select
  by_cases h : a ≤ b <;> simp [h]

theorem select_eq {α : Type} (a b : ℕ) (ha : a < 4294967296) (hb : b < 4294967296) (x y : α) :
    Scalar.select (IntOp.cmpi .eq (BitVec.ofNat 32 a) (BitVec.ofNat 32 b)) x y = if a = b then x else y := by
  rw [WordCmp.cmpi_eq_ofNat (w := 32) ha hb]
  unfold Scalar.select
  by_cases h : a = b <;> simp [h]

theorem select_range {α : Type} (a b c : ℕ) (ha : a < 2147483648) (hb : b < 2147483648) (hc : c < 2147483648) (x y : α) :
    Scalar.select (IntOp.andi (IntOp.cmpi .sge (BitVec.ofNat 32 a) (BitVec.ofNat 32 b)) (IntOp.cmpi .slt (BitVec.ofNat 32 a) (BitVec.ofNat 32 c))) x y
      = if b ≤ a ∧ a < c then x else y := by
  rw [WordCmp.cmpi_sge_ofNat (w := 32) ha hb, WordCmp.cmpi_slt_ofNat (w := 32) ha hc, WordCmp.andi_ofBool]
  unfold Scalar.select
  by_cases h : b ≤ a <;> by_cases h' : a < c <;> simp [h, h']

/-- The mask constant is `-∞`. -/
theorem mask_bot : (Named.named (F := Ideal) Cert.MixStateIdeal.κ "mask" (φ := .f32) 0xF149F2CA#32 : EReal) = ⊥ :=
  IdealRules.named_const.ideal_named_scalar _ _ _ _ rfl

variable (g : Vec Ideal S8x128 .f32) (b : Vec Ideal S1x128 .f32)

/-- The kernel's gates: one row per position, one lane per head for the input gates, then one per head for the forget gates. -/
abbrev gates : FVec Ideal S128x128 .f32 := k0_pay12 (F := Ideal) k0_pay9 (k0_pay10 g b) k0_pay11

/-- The choice of the gates, lane by lane. -/
theorem gate_value (w x y z b : EReal) (e : x = y) (l : Fin 128)
    (h : w = Scalar.select (IntOp.cmpi .slt (BitVec.ofNat 32 l.val) (BitVec.ofNat 32 4)) (x + b)
        (Scalar.select (IntOp.andi (IntOp.cmpi .sge (BitVec.ofNat 32 l.val) (BitVec.ofNat 32 4)) (IntOp.cmpi .slt (BitVec.ofNat 32 l.val) (BitVec.ofNat 32 8)))
          (0 - (max (0 - (x + b)) 0 + Ideal.log1p (Ideal.exp (0 - FloatOps.absf (F := Ideal) (φ := .f32) (0 - (x + b)))))) z)) :
    w = if l.val < 4 then y + b else if 4 ≤ l.val ∧ l.val < 8 then logSig (y + b) else z := by
  have hl := l.isLt
  rw [h, Cert.Attn.select_slt _ _ (by omega) (by omega), select_range _ _ _ (by omega) (by omega) (by omega), e]
  refine if_congr Iff.rfl rfl (if_congr Iff.rfl ?_ rfl)
  unfold logSig
  rw [Cert.Attn.sp_kernel, zero_sub, zero_sub]

theorem gates_first (r : Fin 4) (l : Fin 128) : gates g b (ix2 (first r) l)
    = if l.val < 4 then g (ix2 ⟨r.val, by omega⟩ l) + b (ix2 0 l)
      else if 4 ≤ l.val ∧ l.val < 8 then logSig (g (ix2 ⟨r.val, by omega⟩ l) + b (ix2 0 l)) else 0 := by
  pointwise [gates, k0_pay12, k0_pay9, k0_pay10, k0_pay11]
  have hr := r.isLt
  have hl := l.isLt
  have h8 : (first r).val < 8 := by show r.val < 8; omega
  exact gate_value _ _ _ _ _ (dif_pos h8) l (Cert.Attn.select_slt _ _ (by show r.val < _; omega) (by omega) _ _ |>.trans (if_pos hr))

theorem gates_rest (r : Fin 128) (hr : 4 ≤ r.val) (l : Fin 128) : gates g b (ix2 r l) = if l.val < 4 then ⊥ else 0 := by
  pointwise [gates, k0_pay12, k0_pay9, k0_pay10, k0_pay11]
  have hl := l.isLt
  rw [Cert.Attn.select_slt _ _ (by omega) (by omega), if_neg (by omega), Cert.Attn.select_slt _ _ (by omega) (by omega), mask_bot]

variable (v12 : IVec S128x128 1) (v35 : FVec Ideal S128x128 .f32) (v37 : IVec S128x128 1)

theorem sums_at (h : ∀ i, k0_pay12 v12 v35 v37 i ≠ ⊤) (t l : Fin 128) :
    k0_pay20 v12 v35 v37 (ix2 t l) = upto (fun s : Fin 128 => k0_pay12 v12 v35 v37 (ix2 s l)) t := by
  unfold upto
  rw [← split_sums _ (fun s => h (ix2 s l)) (fun s => s.val ≤ t.val)]
  pointwise [k0_pay20, k0_pay19, k0_pay18, k0_pay17, k0_pay16, k0_pay14, k0_pay13]
  have ht := t.isLt
  have e : ∀ (s : Fin 128) (x y : EReal), Scalar.select (IntOp.cmpi .sle (BitVec.ofNat 32 s.val) (BitVec.ofNat 32 t.val)) x y
      = if s.val ≤ t.val then x else y := fun s x y => select_sle _ _ (by omega) (by omega) x y
  simp only [e]

theorem gatesT_at (h : ∀ i, k0_pay12 v12 v35 v37 i ≠ ⊤) (l t : Fin 128) :
    k0_pay24 v12 v35 v37 (ix2 l t) = k0_pay12 v12 v35 v37 (ix2 t l) := by
  pointwise [k0_pay24, k0_pay23, k0_pay22, k0_pay21, k0_pay19, k0_pay18, k0_pay17, k0_pay16, k0_pay15]
  have hl := l.isLt
  have e : ∀ (s : Fin 128) (x y : EReal), Scalar.select (IntOp.cmpi .eq (BitVec.ofNat 32 s.val) (BitVec.ofNat 32 l.val)) x y
      = if s = l then x else y := fun s x y => (select_eq _ _ (by omega) (by omega) x y).trans (if_congr Fin.val_inj rfl rfl)
  simp only [e]
  rw [split_sums _ (fun s => h (ix2 t s)) (fun s => s = l)]
  simp

/-- The gates' three parts, transposed. -/
theorem part0_at (l t : Fin 128) : k0_pay21 v12 v35 v37 (ix2 l t) = k0_pay12 v12 v35 v37 (ix2 t l) := by
  pointwise [k0_pay21, k0_pay16, k0_pay15]
  have e : ∀ (s : Fin 128) (x y : EReal), Scalar.select (IntOp.cmpi .eq (BitVec.ofNat 32 s.val) (BitVec.ofNat 32 l.val)) x y
      = if s = l then x else y := fun s x y => (select_eq _ _ (by omega) (by omega) x y).trans (if_congr Fin.val_inj rfl rfl)
  simp only [e]
  simp

theorem part1_at (l t : Fin 128) : k0_pay22 v12 v35 v37 (ix2 l t) = k0_pay12 v12 v35 v37 (ix2 t l) - k0_pay12 v12 v35 v37 (ix2 t l) := by
  pointwise [k0_pay22, k0_pay18, k0_pay17, k0_pay16, k0_pay15]
  have e : ∀ (s : Fin 128) (x y : EReal), Scalar.select (IntOp.cmpi .eq (BitVec.ofNat 32 s.val) (BitVec.ofNat 32 l.val)) x y
      = if s = l then x else y := fun s x y => (select_eq _ _ (by omega) (by omega) x y).trans (if_congr Fin.val_inj rfl rfl)
  simp only [e]
  simp

theorem part2_at (l t : Fin 128) : k0_pay23 v12 v35 v37 (ix2 l t)
    = k0_pay12 v12 v35 v37 (ix2 t l) - k0_pay12 v12 v35 v37 (ix2 t l) - (k0_pay12 v12 v35 v37 (ix2 t l) - k0_pay12 v12 v35 v37 (ix2 t l)) := by
  pointwise [k0_pay23, k0_pay19, k0_pay18, k0_pay17, k0_pay16, k0_pay15]
  have e : ∀ (s : Fin 128) (x y : EReal), Scalar.select (IntOp.cmpi .eq (BitVec.ofNat 32 s.val) (BitVec.ofNat 32 l.val)) x y
      = if s = l then x else y := fun s x y => (select_eq _ _ (by omega) (by omega) x y).trans (if_congr Fin.val_inj rfl rfl)
  simp only [e]
  simp

theorem sumsT_at (h : ∀ i, k0_pay12 v12 v35 v37 i ≠ ⊤) (l t : Fin 128) :
    k0_pay25 v12 v35 v37 (ix2 l t) = upto (fun s : Fin 128 => k0_pay12 v12 v35 v37 (ix2 s l)) t := by
  unfold upto
  rw [← split_sums _ (fun s => h (ix2 s l)) (fun s => s.val ≤ t.val)]
  pointwise [k0_pay25, k0_pay14, k0_pay13]
  simp only [part0_at, part1_at, part2_at]
  have e : ∀ (s : Fin 128) (x y : EReal), Scalar.select (IntOp.cmpi .sle (BitVec.ofNat 32 s.val) (BitVec.ofNat 32 t.val)) x y
      = if s.val ≤ t.val then x else y := fun s x y => select_sle _ _ (by omega) (by omega) x y
  simp only [e]

end Cert.MixState

end
-- ==== Proof.MixState.Heads.lean ====
/- The sample batch's mixer: what the kernel makes of one head's state, for each of the four heads. -/
module

public import proofs.«01_k».proof.Proof.MixState.Gates

@[expose] public section

set_option maxRecDepth 16384
set_option maxHeartbeats 400000

noncomputable section

namespace Cert.MixState

open Cert.MixStateIdeal Cert.MixStateIdeal.Gen Idealize.ShloMosaic Idealize.ShloMosaic.TcCoe Idealize.SL.Sem
open Cert.Layer Cert.State

/-- The word of `-∞`. -/
theorem neg_inf : Ideal.ofBits .f32 0xFF800000#32 = ⊥ := by
  first | rfl | pointwise []

theorem upto_last (f : Fin 128 → EReal) : upto f 127 = total f := by
  unfold upto total
  exact Finset.sum_congr rfl fun s _ => if_pos (by have := s.isLt; show s.val ≤ 127; omega)

abbrev lanes : IVec S128x128 32 := iota .tc S128x128 32 [1] iota_S128x128_d1_w32

/-- A head's keys in the kernel, lane by lane: those of the head's own 64 lanes, the others zero. -/
def keyLane (p : FVec Ideal S128x2560 .f32) (o lo : ℕ) (ho : o + 128 ≤ 2560) (s r : Fin 128) : EReal :=
  if lo ≤ r.val ∧ r.val < lo + 64 then p (ix2 s ⟨o + r.val, by omega⟩) * Ideal.ofBits .f32 0x3E000000#32 else 0

/-- A head's values in the kernel, with a column of ones after them and zeros after that. -/
def valueLane (p : FVec Ideal S128x2560 .f32) (o : ℕ) (ho : o + 128 ≤ 2560) (s : Fin 128) (j : Fin 256) : EReal :=
  if h : j.val < 128 then p (ix2 s ⟨o + j.val, by omega⟩) else if j.val = 128 then 1 else 0

theorem valueLane_lt (p : FVec Ideal S128x2560 .f32) (o : ℕ) (ho : o + 128 ≤ 2560) (s : Fin 128) (j : Fin 256) (c : j.val < 128) :
    valueLane p o ho s j = p (ix2 s ⟨o + j.val, by omega⟩) := by
  unfold valueLane; rw [dif_pos c]

theorem valueLane_ge (p : FVec Ideal S128x2560 .f32) (o : ℕ) (ho : o + 128 ≤ 2560) (s : Fin 128) (j : Fin 256) (c : ¬ j.val < 128) :
    valueLane p o ho s j = if j.val = 128 then 1 else 0 := by
  unfold valueLane; rw [dif_neg c]

/-- The choice of a head's lanes. -/
theorem key_choice (lo hi : ℕ) (h : hi = lo + 64) (hh : hi < 2147483648) (r : Fin 128) (x : EReal) :
    Scalar.select (IntOp.andi (IntOp.cmpi .sge (BitVec.ofNat 32 r.val) (BitVec.ofNat 32 lo)) (IntOp.cmpi .slt (BitVec.ofNat 32 r.val) (BitVec.ofNat 32 hi))) x 0
      = if lo ≤ r.val ∧ r.val < lo + 64 then x else 0 := by
  subst h
  exact select_range _ _ _ (by omega) (by omega) (by omega) _ _

/-- The column of ones is the values' next one. -/
theorem value_choice (j : Fin 256) (h : ¬ j.val < 128) :
    Scalar.select (IntOp.cmpi .eq (BitVec.ofNat 32 (j.val - 128)) (BitVec.ofNat 32 0)) (1 : EReal) 0 = if j.val = 128 then 1 else 0 :=
  (select_eq _ _ (by omega) (by omega) _ _).trans (if_congr (by omega) rfl rfl)

/-- The last row of the scores has no later row to mask. -/
theorem last_max (f i b x : Fin 128 → EReal) (a : EReal) (hb : ∀ s, b s = upto f s) (hx : ∀ s, x s = i s) (ha : a = total f) :
    Finset.univ.fold max (Ideal.ofBits .f32 0xFF800000#32) (fun s : Fin 128 =>
        Scalar.select (IntOp.cmpi .sle (BitVec.ofNat 32 s.val) (BitVec.ofNat 32 127)) (a - b s + x s) (Named.named (F := Ideal) Cert.MixStateIdeal.κ "mask" (φ := .f32) 0xF149F2CA#32))
      = Finset.univ.fold max ⊥ fun s => total f - upto f s + i s := by
  rw [neg_inf]
  refine Finset.fold_congr fun s _ => ?_
  rw [select_sle _ _ (by omega) (by omega), if_pos (by omega), hb, hx, ha]

/-- The kernel's column of ones, in lane 0. -/
abbrev ones : FVec Ideal S128x128 .f32 := k0_pay26 (F := Ideal) lanes

variable (P : FVec Ideal S128x2560 .f32) (X B XT BT : FVec Ideal S128x128 .f32) (M : Vec Ideal S1x128 .f32) (C : Vec Ideal S1x128x256 .f32)
  (f i : Fin 128 → EReal)

/-! ## The first head -/

/-- The first head's keys and values. -/
theorem key0 (s r : Fin 128) : k0_pay29 P lanes (ix2 s r) = keyLane P 256 0 (by decide) s r := by
  pointwise [k0_pay29, k0_pay27, lanes]
  exact key_choice 0 64 rfl (by decide) r _

theorem value0 (s : Fin 128) (j : Fin 256) : k0_pay38 P lanes (ix2 s j) = valueLane P 512 (by decide) s j := by
  pointwise [k0_pay38, k0_pay26, lanes]
  by_cases c : j.val < 128
  · exact (dif_pos c).trans (valueLane_lt P _ _ s j c).symm
  · exact (dif_neg c).trans ((value_choice j c).trans (valueLane_ge P _ _ s j c).symm)

section

variable (hB : ∀ t : Fin 128, B (ix2 t 4) = upto f t) (hBT : ∀ t : Fin 128, BT (ix2 4 t) = upto f t)
  (hX : ∀ t : Fin 128, X (ix2 t 0) = i t) (hXT : ∀ t : Fin 128, XT (ix2 0 t) = i t)

include hB hBT hXT

/-- The first head's running maximum. -/
theorem max0 : k0_pay35 k0_pay13 B XT BT M (ix2 127 0) = newMax f i (M (ix2 0 4)) := by
  have hl : B (ix2 127 4) = total f := (hB 127).trans (upto_last f)
  pointwise [k0_pay35, k0_pay34, k0_pay33, k0_pay32, k0_pay31, k0_pay13]
  unfold newMax
  exact congrArg₂ max (congrArg (· + M (ix2 0 4)) hl) (last_max f i _ _ _ hBT hXT hl)

include hX

/-- The first head's new state. -/
theorem state0 (r : Fin 128) (j : Fin 256) :
    k0_pay43 (k0_pay29 P lanes) (k0_pay30 X) (k0_pay31 B) (k0_pay32 M) (k0_pay35 k0_pay13 B XT BT M) (k0_pay38 P lanes) C (ix3 0 r j)
      = decay f i (M (ix2 0 4)) * C (ix3 0 r j) + added f i (M (ix2 0 4)) (fun s => keyLane P 256 0 (by decide) s r) (fun s => valueLane P 512 (by decide) s j) := by
  have hl : B (ix2 127 4) = total f := (hB 127).trans (upto_last f)
  have hm := max0 B XT BT M f i hB hBT hXT
  unfold added decay weight
  pointwise [k0_pay43, k0_pay42, k0_pay40, k0_pay39, k0_pay32, k0_pay31, k0_pay30]
  simp only [hl, hm, hB, hX, key0, value0]

end

/-! ## The second head -/

/-- The second head's keys and values. -/
theorem key1 (s r : Fin 128) : k0_pay50 P lanes (ix2 s r) = keyLane P 256 64 (by decide) s r := by
  pointwise [k0_pay50, k0_pay47, lanes]
  exact key_choice 64 128 rfl (by decide) r _

theorem value1 (s : Fin 128) (j : Fin 256) : k0_pay58 ones (k0_pay48 P) (ix2 s j) = valueLane P 640 (by decide) s j := by
  pointwise [k0_pay58, k0_pay48, ones, k0_pay26, lanes]
  by_cases c : j.val < 128
  · exact (dif_pos c).trans (valueLane_lt P _ _ s j c).symm
  · exact (dif_neg c).trans ((value_choice j c).trans (valueLane_ge P _ _ s j c).symm)

section

variable (hB : ∀ t : Fin 128, B (ix2 t 5) = upto f t) (hBT : ∀ t : Fin 128, BT (ix2 5 t) = upto f t)
  (hX : ∀ t : Fin 128, X (ix2 t 1) = i t) (hXT : ∀ t : Fin 128, XT (ix2 1 t) = i t)

include hB hBT hXT

/-- The second head's running maximum. -/
theorem max1 : k0_pay56 k0_pay13 B XT BT M (ix2 127 0) = newMax f i (M (ix2 0 5)) := by
  have hl : B (ix2 127 5) = total f := (hB 127).trans (upto_last f)
  pointwise [k0_pay56, k0_pay55, k0_pay54, k0_pay53, k0_pay52, k0_pay13]
  unfold newMax
  exact congrArg₂ max (congrArg (· + M (ix2 0 5)) hl) (last_max f i _ _ _ hBT hXT hl)

include hX

/-- The second head's new state. -/
theorem state1 (r : Fin 128) (j : Fin 256) :
    k0_pay62 ones (k0_pay48 P) (k0_pay50 P lanes) (k0_pay51 X) (k0_pay52 B) (k0_pay53 M) (k0_pay56 k0_pay13 B XT BT M) C (ix3 0 r j)
      = decay f i (M (ix2 0 5)) * C (ix3 0 r j) + added f i (M (ix2 0 5)) (fun s => keyLane P 256 64 (by decide) s r) (fun s => valueLane P 640 (by decide) s j) := by
  have hl : B (ix2 127 5) = total f := (hB 127).trans (upto_last f)
  have hm := max1 B XT BT M f i hB hBT hXT
  unfold added decay weight
  pointwise [k0_pay62, k0_pay61, k0_pay59, k0_pay53, k0_pay52, k0_pay51]
  simp only [hl, hm, hB, hX, key1, value1]

end

/-! ## The third head -/

/-- The third head's keys and values. -/
theorem key2 (s r : Fin 128) : k0_pay68 P lanes (ix2 s r) = keyLane P 384 0 (by decide) s r := by
  pointwise [k0_pay68, k0_pay65, lanes]
  exact key_choice 0 64 rfl (by decide) r _

theorem value2 (s : Fin 128) (j : Fin 256) : k0_pay75 ones (k0_pay66 P) (ix2 s j) = valueLane P 768 (by decide) s j := by
  pointwise [k0_pay75, k0_pay66, ones, k0_pay26, lanes]
  by_cases c : j.val < 128
  · exact (dif_pos c).trans (valueLane_lt P _ _ s j c).symm
  · exact (dif_neg c).trans ((value_choice j c).trans (valueLane_ge P _ _ s j c).symm)

section

variable (hB : ∀ t : Fin 128, B (ix2 t 6) = upto f t) (hBT : ∀ t : Fin 128, BT (ix2 6 t) = upto f t)
  (hX : ∀ t : Fin 128, X (ix2 t 2) = i t) (hXT : ∀ t : Fin 128, XT (ix2 2 t) = i t)

include hB hBT hXT

/-- The third head's running maximum. -/
theorem max2 : k0_pay74 (k0_pay70 B) (k0_pay71 M) (k0_pay72 k0_pay13 B XT BT) (ix2 127 0) = newMax f i (M (ix2 0 6)) := by
  have hl : B (ix2 127 6) = total f := (hB 127).trans (upto_last f)
  pointwise [k0_pay74, k0_pay73, k0_pay72, k0_pay71, k0_pay70, k0_pay13]
  unfold newMax
  exact congrArg₂ max (congrArg (· + M (ix2 0 6)) hl) (last_max f i _ _ _ hBT hXT hl)

include hX

/-- The third head's new state. -/
theorem state2 (r : Fin 128) (j : Fin 256) :
    k0_pay80 (k0_pay79 ones (k0_pay66 P) (k0_pay68 P lanes) (k0_pay69 X) (k0_pay70 B) (k0_pay71 M) (k0_pay72 k0_pay13 B XT BT) C) (ix3 0 r j)
      = decay f i (M (ix2 0 6)) * C (ix3 0 r j) + added f i (M (ix2 0 6)) (fun s => keyLane P 384 0 (by decide) s r) (fun s => valueLane P 768 (by decide) s j) := by
  have hl : B (ix2 127 6) = total f := (hB 127).trans (upto_last f)
  have hm := max2 B XT BT M f i hB hBT hXT
  simp only [k0_pay70, k0_pay71] at hm
  unfold added decay weight
  pointwise [k0_pay80, k0_pay79, k0_pay78, k0_pay76, k0_pay71, k0_pay70, k0_pay69]
  simp only [hl, hm, hB, hX, key2, value2]

end

/-! ## The fourth head -/

/-- The fourth head's keys and values. -/
theorem key3 (s r : Fin 128) : k0_pay86 P lanes (ix2 s r) = keyLane P 384 64 (by decide) s r := by
  pointwise [k0_pay86, k0_pay83, lanes]
  exact key_choice 64 128 rfl (by decide) r _

theorem value3 (s : Fin 128) (j : Fin 256) : k0_pay95 ones (k0_pay84 P) (ix2 s j) = valueLane P 896 (by decide) s j := by
  pointwise [k0_pay95, k0_pay84, ones, k0_pay26, lanes]
  by_cases c : j.val < 128
  · exact (dif_pos c).trans (valueLane_lt P _ _ s j c).symm
  · exact (dif_neg c).trans ((value_choice j c).trans (valueLane_ge P _ _ s j c).symm)

section

variable (hB : ∀ t : Fin 128, B (ix2 t 7) = upto f t) (hBT : ∀ t : Fin 128, BT (ix2 7 t) = upto f t)
  (hX : ∀ t : Fin 128, X (ix2 t 3) = i t) (hXT : ∀ t : Fin 128, XT (ix2 3 t) = i t)

include hB hBT hXT

/-- The fourth head's running maximum. -/
theorem max3 : k0_pay94 k0_pay13 (k0_pay87 XT) (k0_pay88 BT) (k0_pay90 B) (k0_pay91 M) (ix2 127 0) = newMax f i (M (ix2 0 7)) := by
  have hl : B (ix2 127 7) = total f := (hB 127).trans (upto_last f)
  pointwise [k0_pay94, k0_pay93, k0_pay92, k0_pay91, k0_pay90, k0_pay88, k0_pay87, k0_pay13]
  unfold newMax
  exact congrArg₂ max (congrArg (· + M (ix2 0 7)) hl) (last_max f i _ _ _ hBT hXT hl)

include hX

/-- The fourth head's new state. -/
theorem state3 (r : Fin 128) (j : Fin 256) :
    k0_pay102 (k0_pay86 P lanes) (k0_pay95 ones (k0_pay84 P)) (k0_pay96 C) (k0_pay100 k0_pay13 (k0_pay87 XT) (k0_pay88 BT) (k0_pay89 X) (k0_pay90 B) (k0_pay91 M)) (k0_pay101 k0_pay13 (k0_pay87 XT) (k0_pay88 BT) (k0_pay90 B) (k0_pay91 M)) (ix3 0 r j)
      = decay f i (M (ix2 0 7)) * C (ix3 0 r j) + added f i (M (ix2 0 7)) (fun s => keyLane P 384 64 (by decide) s r) (fun s => valueLane P 896 (by decide) s j) := by
  have hl : B (ix2 127 7) = total f := (hB 127).trans (upto_last f)
  have hm := max3 B XT BT M f i hB hBT hXT
  simp only [k0_pay90, k0_pay91] at hm
  unfold added decay weight
  pointwise [k0_pay102, k0_pay101, k0_pay100, k0_pay99, k0_pay98, k0_pay96, k0_pay91, k0_pay90, k0_pay89]
  simp only [hl, hm, hB, hX, key3, value3]

end

end Cert.MixState

end
-- ==== Proof.MixState.Kernel.lean ====
/- The sample batch's mixer: what its kernel's two state arrays hold after the run. -/
module

public import proofs.«01_k».proof.Proof.Layer.Sample
public import proofs.«01_k».proof.Proof.MixState.Heads
public import proofs.«01_k».proof.Proof.Gen.MixStateIdeal.Value
public import Idealize.ShloMosaic.Lib.Pipeline.Covers
public import Idealize.ShloMosaic.Lib.Pipeline.ValueKit
public import Idealize.ShloMosaic.Lib.Pipeline.ReadBack
public import Idealize.ShloMosaic.Lib.WholeRead

@[expose] public section

set_option maxRecDepth 16384
set_option maxHeartbeats 400000

noncomputable section

namespace Cert.MixState

open Cert.MixStateIdeal Cert.MixStateIdeal.Gen Idealize.ShloMosaic Idealize.ShloMosaic.TcCoe Idealize.SL.Sem
open Idealize.ShloMosaic.Pipeline (Dat)
open Cert.Layer Cert.State

/-! ## The state, from the arguments -/

/-- The packed state of a whole batch, and its running maxima: one lane per head, from lane 4 on. -/
abbrev Packed := (⟨S32x4x128x256, .f32⟩ : BufTy).Contents (Elt Ideal)
abbrev Maxima := (⟨S32x1x128, .f32⟩ : BufTy).Contents (Elt Ideal)

/-- A row of the sequence's chunk, among its eight. -/
def pos (s : Fin 4) : Fin 8 := ⟨s.val, by omega⟩

/-- The lanes of a head's input gate, and of its forget gate and its running maximum. -/
def inLane (h : Fin 4) : Fin 128 := ⟨h.val, by omega⟩
def forgetLane (h : Fin 4) : Fin 128 := ⟨4 + h.val, by omega⟩

theorem inLane_lt (h : Fin 4) : (inLane h).val < 4 := h.isLt
theorem forgetLane_ge (h : Fin 4) : ¬ (forgetLane h).val < 4 := by show ¬ 4 + h.val < 4; omega
theorem forgetLane_range (h : Fin 4) : 4 ≤ (forgetLane h).val ∧ (forgetLane h).val < 8 := by show 4 ≤ 4 + h.val ∧ 4 + h.val < 8; omega

/-- A head's input gates, and its forget gates' logarithms. -/
def inGate (g : Mat2 256 128) (b : Mat2 1 128) (n : Fin 32) (h s : Fin 4) : EReal :=
  g (ix2 (samp n (pos s)) (inLane h)) + b (ix2 0 (inLane h))
def forgetGate (g : Mat2 256 128) (b : Mat2 1 128) (n : Fin 32) (h s : Fin 4) : EReal :=
  logSig (g (ix2 (samp n (pos s)) (forgetLane h)) + b (ix2 0 (forgetLane h)))

/-- The key that a head's row `r` of the packed state takes: two heads share 128 columns, and each keeps to its own 64. -/
def keyAt (p : Mat2 256 2560) (n : Fin 32) (h : Fin 4) (r : Fin 128) (s : Fin 4) : EReal :=
  if 64 * (h.val % 2) ≤ r.val ∧ r.val < 64 * (h.val % 2) + 64 then
    p (ix2 (samp n (pos s)) ⟨256 + 128 * (h.val / 2) + r.val, by omega⟩) * Ideal.ofBits .f32 0x3E000000#32
  else 0

/-- The value that its column `j` takes: the head's values, then a one, whose column sums the keys, then zeros. -/
def valueAt (p : Mat2 256 2560) (n : Fin 32) (h : Fin 4) (j : Fin 256) (s : Fin 4) : EReal :=
  if c : j.val < 128 then p (ix2 (samp n (pos s)) ⟨512 + 128 * h.val + j.val, by omega⟩) else if j.val = 128 then 1 else 0

/-- The new state, and the new running maxima. -/
def newState (p : Mat2 256 2560) (g : Mat2 256 128) (b : Mat2 1 128) (C : Packed) (m0 : Maxima) (n : Fin 32) (h : Fin 4) (r : Fin 128) (j : Fin 256) : EReal :=
  decay (forgetGate g b n h) (inGate g b n h) (m0 (ix3 n 0 (forgetLane h))) * C (ix4 n h r j)
    + added (forgetGate g b n h) (inGate g b n h) (m0 (ix3 n 0 (forgetLane h))) (keyAt p n h r) (valueAt p n h j)

def newMaxAt (g : Mat2 256 128) (b : Mat2 1 128) (m0 : Maxima) (n : Fin 32) (h : Fin 4) : EReal :=
  newMax (forgetGate g b n h) (inGate g b n h) (m0 (ix3 n 0 (forgetLane h)))

def newMaxima (g : Mat2 256 128) (b : Mat2 1 128) (m0 : Maxima) (n : Fin 32) (l : Fin 128) : EReal :=
  if l.val = 7 then newMaxAt g b m0 n 3 else if l.val = 6 then newMaxAt g b m0 n 2 else if l.val = 5 then newMaxAt g b m0 n 1
  else if l.val = 4 then newMaxAt g b m0 n 0 else m0 (ix3 n 0 l)

/-! ## The blocks -/

variable (m : (ℓ : Loc nD τ sig) → Buf (Elt Ideal) ℓ)

/-- Where each point's blocks are, of those the states need: one sequence's rows, gates, state and maxima. -/
theorem idx : ∀ t : Fin cfg0.N,
    (cfg0.win 0).index t = ![t.val, 0] ∧
    (cfg0.win 1).index t = ![t.val, 0] ∧
    (cfg0.win 2).index t = ![0, 0] ∧
    (cfg0.win 3).index t = ![t.val, 0, 0, 0] ∧
    (cfg0.win 4).index t = ![t.val, 0, 0] ∧
    (cfg0.win 11).index t = ![t.val, 0, 0, 0] ∧
    (cfg0.win 12).index t = ![t.val, 0, 0] := by
  decide +kernel

/-- The arguments the states need, as the run finds them. -/
abbrev argP (c : Dev nD) : Mat2 256 2560 := m ((c : Thread nD τ).loc main_arg0)
abbrev argG (c : Dev nD) : Mat2 256 128 := m ((c : Thread nD τ).loc main_arg1)
abbrev argB (c : Dev nD) : Mat2 1 128 := m ((c : Thread nD τ).loc main_arg2)
abbrev argC (c : Dev nD) : Packed := m ((c : Thread nD τ).loc main_arg3)
abbrev argM (c : Dev nD) : Maxima := m ((c : Thread nD τ).loc main_arg4)

/-- The point's blocks of them. -/
abbrev pB (c : Dev nD) (t : Fin cfg0.N) : Vec Ideal S8x2560 .f32 := iblk m c 0 t
abbrev gB (c : Dev nD) (t : Fin cfg0.N) : Vec Ideal S8x128 .f32 := iblk m c 1 t
abbrev bB (c : Dev nD) (t : Fin cfg0.N) : Vec Ideal S1x128 .f32 := iblk m c 2 t
abbrev cB (c : Dev nD) (t : Fin cfg0.N) : Vec Ideal S1x4x128x256 .f32 := iblk m c 3 t
abbrev mB (c : Dev nD) (t : Fin cfg0.N) : Vec Ideal S1x1x128 .f32 := iblk m c 4 t

theorem p_read (c : Dev nD) (t : Fin cfg0.N) (r : Fin 8) (k : Fin 2560) : pB m c t (ix2 r k) = argP m c (ix2 (samp t r) k) := by
  have := (idx t).1
  have hV : V m c (Pipeline.arrRef spec0 0) = argP m c := V_main_arg0 m c
  unfold pB iblk
  rw [hV]
  unfold argP samp
  blk_ext [this]

theorem g_read (c : Dev nD) (t : Fin cfg0.N) (r : Fin 8) (k : Fin 128) : gB m c t (ix2 r k) = argG m c (ix2 (samp t r) k) := by
  have := (idx t).2.1
  have hV : V m c (Pipeline.arrRef spec0 1) = argG m c := V_main_arg1 m c
  unfold gB iblk
  rw [hV]
  unfold argG samp
  blk_ext [this]

theorem b_read (c : Dev nD) (t : Fin cfg0.N) (k : Fin 128) : bB m c t (ix2 0 k) = argB m c (ix2 0 k) := by
  have := (idx t).2.2.1
  have hV : V m c (Pipeline.arrRef spec0 2) = argB m c := V_main_arg2 m c
  unfold bB iblk
  rw [hV]
  unfold argB
  blk_ext [this]

theorem c_read (c : Dev nD) (t : Fin cfg0.N) (h : Fin 4) (r : Fin 128) (j : Fin 256) : cB m c t (ix4 0 h r j) = argC m c (ix4 t h r j) := by
  have := (idx t).2.2.2.1
  have hV : V m c (Pipeline.arrRef spec0 3) = argC m c := V_main_arg3 m c
  unfold cB iblk
  rw [hV]
  unfold argC
  blk_ext [this]

theorem m_read (c : Dev nD) (t : Fin cfg0.N) (l : Fin 128) : mB m c t (ix3 0 0 l) = argM m c (ix3 t 0 l) := by
  have := (idx t).2.2.2.2.1
  have hV : V m c (Pipeline.arrRef spec0 4) = argM m c := V_main_arg4 m c
  unfold mB iblk
  rw [hV]
  unfold argM
  blk_ext [this]

/-- What the kernel first makes of its blocks: maxima as one row, rows padded to 128, the state in the scratch buffer and out of it. -/
theorem maxima_at (v : Vec Ideal S1x1x128 .f32) (l : Fin 128) : k0_pay7 v (ix2 0 l) = v (ix3 0 0 l) := by
  pointwise [k0_pay7]

theorem top_at (v : Vec Ideal S8x2560 .f32) (s : Fin 4) (k : Fin 2560) : k0_pay8 v (ix2 (first s) k) = v (ix2 (pos s) k) := by
  pointwise [k0_pay8]
  exact dif_pos (show s.val < 8 by omega)

theorem scratch_at (v : Vec Ideal S1x4x128x256 .f32) (h : Fin 4) (r : Fin 128) (j : Fin 256) : k0_pay6 v (ix3 h r j) = v (ix4 0 h r j) := by
  pointwise [k0_pay6]

theorem unscratch_at (v : Vec Ideal S4x128x256 .f32) (h : Fin 4) (r : Fin 128) (j : Fin 256) : k0_pay4 v (ix4 0 h r j) = v (ix3 h r j) := by
  pointwise [k0_pay4]

theorem row_at (v : Vec Ideal S1x128 .f32) (l : Fin 128) : k0_pay5 v (ix3 0 0 l) = v (ix2 0 l) := by
  pointwise [k0_pay5]

/-! ## The gates -/

/-- No gate is `+∞` when no token's input gate is: a forget gate's logarithm never is, and the rest is padding. -/
theorem gates_ne_top (g : Vec Ideal S8x128 .f32) (b : Vec Ideal S1x128 .f32)
    (hi : ∀ h s : Fin 4, gates g b (ix2 (first s) (inLane h)) ≠ (⊤ : EReal)) (y : S128x128.Idx) : gates g b y ≠ (⊤ : EReal) := by
  idx_vars y
  by_cases c : y0.val < 4
  · by_cases c' : y1.val < 4
    · exact hi ⟨y1.val, c'⟩ ⟨y0.val, c⟩
    · rw [show y0 = first ⟨y0.val, c⟩ from Fin.ext rfl, gates_first, if_neg c']
      split
      · exact logSig_ne_top _
      · exact EReal.zero_ne_top
  · rw [gates_rest g b y0 (by omega)]
    split
    · exact bot_ne_top
    · exact EReal.zero_ne_top

/-- A head's gates in the kernel, on all 128 rows. -/
abbrev inRows (c : Dev nD) (t : Fin cfg0.N) (h : Fin 4) (s : Fin 128) : EReal := gates (gB m c t) (bB m c t) (ix2 s (inLane h))
abbrev forgetRows (c : Dev nD) (t : Fin cfg0.N) (h : Fin 4) (s : Fin 128) : EReal := gates (gB m c t) (bB m c t) (ix2 s (forgetLane h))

theorem in_first (c : Dev nD) (t : Fin cfg0.N) (h s : Fin 4) : inRows m c t h (first s) = inGate (argG m c) (argB m c) t h s := by
  unfold inRows inGate
  rw [gates_first, if_pos (inLane_lt h), ← b_read m c t, ← g_read m c t]
  rfl

theorem forget_first (c : Dev nD) (t : Fin cfg0.N) (h s : Fin 4) : forgetRows m c t h (first s) = forgetGate (argG m c) (argB m c) t h s := by
  unfold forgetRows forgetGate
  rw [gates_first, if_neg (forgetLane_ge h), if_pos (forgetLane_range h), ← b_read m c t, ← g_read m c t]
  rfl

theorem in_rest (c : Dev nD) (t : Fin cfg0.N) (h : Fin 4) (s : Fin 128) (hs : 4 ≤ s.val) : inRows m c t h s = ⊥ := by
  unfold inRows
  rw [gates_rest _ _ s hs, if_pos (inLane_lt h)]

theorem forget_rest (c : Dev nD) (t : Fin cfg0.N) (h : Fin 4) (s : Fin 128) (hs : 4 ≤ s.val) : forgetRows m c t h s = 0 := by
  unfold forgetRows
  rw [gates_rest _ _ s hs, if_neg (forgetLane_ge h)]

/-- A head's new maximum in the kernel is the four rows' … -/
theorem max_rows (c : Dev nD) (t : Fin cfg0.N) (h : Fin 4) (l : Fin 128) (hl : l = forgetLane h) :
    newMax (forgetRows m c t h) (inRows m c t h) (k0_pay7 (mB m c t) (ix2 0 l)) = newMaxAt (argG m c) (argB m c) (argM m c) t h := by
  subst hl
  unfold newMaxAt
  rw [newMax_first _ _ _ (forget_rest m c t h) (in_rest m c t h), maxima_at, m_read]
  simp only [in_first, forget_first]

/-- … and so is its new state. -/
theorem state_rows (c : Dev nD) (t : Fin cfg0.N) (h : Fin 4) (l : Fin 128) (hl : l = forgetLane h) (o lo u : ℕ) (ho : o + 128 ≤ 2560) (hu : u + 128 ≤ 2560)
    (eo : o = 256 + 128 * (h.val / 2)) (el : lo = 64 * (h.val % 2)) (eu : u = 512 + 128 * h.val) (r : Fin 128) (j : Fin 256) (x : EReal)
    (hx : x = argC m c (ix4 t h r j)) :
    decay (forgetRows m c t h) (inRows m c t h) (k0_pay7 (mB m c t) (ix2 0 l)) * x
        + added (forgetRows m c t h) (inRows m c t h) (k0_pay7 (mB m c t) (ix2 0 l))
            (fun s => keyLane (k0_pay8 (pB m c t)) o lo ho s r) (fun s => valueLane (k0_pay8 (pB m c t)) u hu s j)
      = newState (argP m c) (argG m c) (argB m c) (argC m c) (argM m c) t h r j := by
  subst hl eo el eu hx
  unfold newState
  have hk : ∀ s : Fin 4, keyLane (k0_pay8 (pB m c t)) (256 + 128 * (h.val / 2)) (64 * (h.val % 2)) ho (first s) r = keyAt (argP m c) t h r s := fun s => by
    unfold keyLane keyAt
    rw [top_at, p_read]
  have hv : ∀ s : Fin 4, valueLane (k0_pay8 (pB m c t)) (512 + 128 * h.val) hu (first s) j = valueAt (argP m c) t h j s := fun s => by
    unfold valueLane valueAt
    simp only [top_at, p_read]
  rw [decay_first _ _ _ (forget_rest m c t h) (in_rest m c t h), added_first _ _ _ (forget_rest m c t h) (in_rest m c t h), maxima_at, m_read]
  simp only [in_first, forget_first, hk, hv]

/-! ## The states -/

/-- A head's slab of the scratch buffer: where it lies in it, and what a load of it reads after the whole was stored. -/
theorem slab_emb (n : ℕ) (hn : n < 4) (inb : ∀ a : Fin 3, ![n, 0, 0] a + ![1, 128, 256] a ≤ S4x128x256.size a) (r : Fin 128) (j : Fin 256) :
    (Rect.unit (s := S4x128x256) ![n, 0, 0] ![1, 128, 256] inb).emb (ix3 0 r j) = ix3 ⟨n, hn⟩ r j := by
  funext a
  match a with
  | 0 => exact Fin.ext ((Rect.idx_unit_val _ _ _ _ _).trans (show n + 0 = n from rfl))
  | 1 => exact Fin.ext ((Rect.idx_unit_val _ _ _ _ _).trans (Nat.zero_add _))
  | 2 => exact Fin.ext ((Rect.idx_unit_val _ _ _ _ _).trans (Nat.zero_add _))

theorem slab_load (Z : Vec Ideal S1x4x128x256 .f32) (n : ℕ) (hn : n < 4) (inb : ∀ a : Fin 3, ![n, 0, 0] a + ![1, 128, 256] a ≤ S4x128x256.size a)
    (inb0 : ∀ a : Fin 3, ![0, 0, 0] a + ![4, 128, 256] a ≤ S4x128x256.size a) (r : Fin 128) (j : Fin 256) :
    (View.whole cc0_scratch0).readCov (Val := Elt Ideal)
        [⟨Rect.unit (s := S4x128x256) ![0, 0, 0] ![4, 128, 256] inb0, k0_pay6 Z⟩]
        (Rect.unit (s := S4x128x256) ![n, 0, 0] ![1, 128, 256] inb).toLoadRect (ix3 0 r j)
      = Z (ix4 0 ⟨n, hn⟩ r j) := by
  refine (congrFun (View.readCov_fill (Val := Elt Ideal) (View.whole cc0_scratch0) inb0 (k0_pay6 Z) [] _ (by decide)) _).trans ?_
  exact (congrArg (k0_pay6 Z) (slab_emb n hn inb r j)).trans (scratch_at Z _ r j)

theorem slab_mem (n : ℕ) (hn : n < 4) (inb : ∀ a : Fin 3, ![n, 0, 0] a + ![1, 128, 256] a ≤ S4x128x256.size a) (r : Fin 128) (j : Fin 256) :
    ix3 ⟨n, hn⟩ r j ∈ (Rect.unit (s := S4x128x256) ![n, 0, 0] ![1, 128, 256] inb).set := by
  rw [← slab_emb n hn inb r j]
  rw [← Rect.map_emb_univ]
  exact Finset.mem_map_of_mem _ (Finset.mem_univ _)

theorem whole_idx (inb : ∀ a : Fin 3, ![0, 0, 0] a + ![4, 128, 256] a ≤ S4x128x256.size a) (h : Fin 4) (r : Fin 128) (j : Fin 256) :
    (Rect.unit (s := S4x128x256) ![0, 0, 0] ![4, 128, 256] inb).idx (ix3 h r j) = ix3 h r j := by
  funext a
  match a with
  | 0 => exact Fin.ext ((Rect.idx_unit_val _ _ _ _ _).trans (Nat.zero_add _))
  | 1 => exact Fin.ext ((Rect.idx_unit_val _ _ _ _ _).trans (Nat.zero_add _))
  | 2 => exact Fin.ext ((Rect.idx_unit_val _ _ _ _ _).trans (Nat.zero_add _))

/-- The state at a place of a head's slab. -/
theorem slab_state (G : Fin 4 → Fin 128 → Fin 256 → EReal) (n : ℕ) (hn : n < 4) (inb : ∀ a : Fin 3, ![n, 0, 0] a + ![1, 128, 256] a ≤ S4x128x256.size a)
    (w : Vec Ideal S1x128x256 .f32) (h : ∀ r j, w (ix3 0 r j) = G ⟨n, hn⟩ r j) (x : S1x128x256.Idx) :
    w x = (fun y : S4x128x256.Idx => G (y 0) (y 1) (y 2)) ((Rect.unit (s := S4x128x256) ![n, 0, 0] ![1, 128, 256] inb).emb x) := by
  idx_vars x
  obtain rfl := Subsingleton.elim x0 0
  rw [slab_emb n hn inb x1 x2]
  exact h x1 x2

/-- The kernel's gates, the sums of its forget gates' logarithms, and both transposed. -/
abbrev gts (c : Dev nD) (t : Fin cfg0.N) : FVec Ideal S128x128 .f32 := gates (gB m c t) (bB m c t)
abbrev sums (c : Dev nD) (t : Fin cfg0.N) : FVec Ideal S128x128 .f32 := k0_pay20 (F := Ideal) k0_pay9 (k0_pay10 (gB m c t) (bB m c t)) k0_pay11
abbrev gtsT (c : Dev nD) (t : Fin cfg0.N) : FVec Ideal S128x128 .f32 := k0_pay24 (F := Ideal) k0_pay9 (k0_pay10 (gB m c t) (bB m c t)) k0_pay11
abbrev sumsT (c : Dev nD) (t : Fin cfg0.N) : FVec Ideal S128x128 .f32 := k0_pay25 (F := Ideal) k0_pay9 (k0_pay10 (gB m c t) (bB m c t)) k0_pay11

section

variable (c : Dev nD) (t : Fin cfg0.N) (H : ∀ y : S128x128.Idx, gts m c t y ≠ (⊤ : EReal)) (C : Vec Ideal S1x128x256 .f32)

include H

/-- The first head's maximum and state. -/
theorem head_max0 : k0_pay35 k0_pay13 (sums m c t) (gtsT m c t) (sumsT m c t) (k0_pay7 (mB m c t)) (ix2 127 0)
    = newMaxAt (argG m c) (argB m c) (argM m c) t 0 :=
  (max0 _ _ _ _ (forgetRows m c t 0) (inRows m c t 0) (fun s => sums_at _ _ _ H s 4) (fun s => sumsT_at _ _ _ H 4 s) (fun s => gatesT_at _ _ _ H 0 s)).trans
    (max_rows m c t 0 4 rfl)

theorem head_state0 (hC : ∀ r j, C (ix3 0 r j) = argC m c (ix4 t 0 r j)) (r : Fin 128) (j : Fin 256) :
    k0_pay43 (k0_pay29 (k0_pay8 (pB m c t)) lanes) (k0_pay30 (gts m c t)) (k0_pay31 (sums m c t)) (k0_pay32 (k0_pay7 (mB m c t))) (k0_pay35 k0_pay13 (sums m c t) (gtsT m c t) (sumsT m c t) (k0_pay7 (mB m c t))) (k0_pay38 (k0_pay8 (pB m c t)) lanes) C (ix3 0 r j)
      = newState (argP m c) (argG m c) (argB m c) (argC m c) (argM m c) t 0 r j :=
  (state0 _ _ _ _ _ _ _ (forgetRows m c t 0) (inRows m c t 0) (fun s => sums_at _ _ _ H s 4) (fun s => sumsT_at _ _ _ H 4 s) (fun _ => rfl) (fun s => gatesT_at _ _ _ H 0 s) r j).trans
    (state_rows m c t 0 4 rfl 256 0 512 _ _ rfl rfl rfl r j _ (hC r j))

/-- The second head's maximum and state. -/
theorem head_max1 : k0_pay56 k0_pay13 (sums m c t) (gtsT m c t) (sumsT m c t) (k0_pay7 (mB m c t)) (ix2 127 0)
    = newMaxAt (argG m c) (argB m c) (argM m c) t 1 :=
  (max1 _ _ _ _ (forgetRows m c t 1) (inRows m c t 1) (fun s => sums_at _ _ _ H s 5) (fun s => sumsT_at _ _ _ H 5 s) (fun s => gatesT_at _ _ _ H 1 s)).trans
    (max_rows m c t 1 5 rfl)

theorem head_state1 (hC : ∀ r j, C (ix3 0 r j) = argC m c (ix4 t 1 r j)) (r : Fin 128) (j : Fin 256) :
    k0_pay62 ones (k0_pay48 (k0_pay8 (pB m c t))) (k0_pay50 (k0_pay8 (pB m c t)) lanes) (k0_pay51 (gts m c t)) (k0_pay52 (sums m c t)) (k0_pay53 (k0_pay7 (mB m c t))) (k0_pay56 k0_pay13 (sums m c t) (gtsT m c t) (sumsT m c t) (k0_pay7 (mB m c t))) C (ix3 0 r j)
      = newState (argP m c) (argG m c) (argB m c) (argC m c) (argM m c) t 1 r j :=
  (state1 _ _ _ _ _ _ _ (forgetRows m c t 1) (inRows m c t 1) (fun s => sums_at _ _ _ H s 5) (fun s => sumsT_at _ _ _ H 5 s) (fun _ => rfl) (fun s => gatesT_at _ _ _ H 1 s) r j).trans
    (state_rows m c t 1 5 rfl 256 64 640 _ _ rfl rfl rfl r j _ (hC r j))

/-- The third head's maximum and state. -/
theorem head_max2 : k0_pay74 (k0_pay70 (sums m c t)) (k0_pay71 (k0_pay7 (mB m c t))) (k0_pay72 k0_pay13 (sums m c t) (gtsT m c t) (sumsT m c t)) (ix2 127 0)
    = newMaxAt (argG m c) (argB m c) (argM m c) t 2 :=
  (max2 _ _ _ _ (forgetRows m c t 2) (inRows m c t 2) (fun s => sums_at _ _ _ H s 6) (fun s => sumsT_at _ _ _ H 6 s) (fun s => gatesT_at _ _ _ H 2 s)).trans
    (max_rows m c t 2 6 rfl)

theorem head_state2 (hC : ∀ r j, C (ix3 0 r j) = argC m c (ix4 t 2 r j)) (r : Fin 128) (j : Fin 256) :
    k0_pay80 (k0_pay79 ones (k0_pay66 (k0_pay8 (pB m c t))) (k0_pay68 (k0_pay8 (pB m c t)) lanes) (k0_pay69 (gts m c t)) (k0_pay70 (sums m c t)) (k0_pay71 (k0_pay7 (mB m c t))) (k0_pay72 k0_pay13 (sums m c t) (gtsT m c t) (sumsT m c t)) C) (ix3 0 r j)
      = newState (argP m c) (argG m c) (argB m c) (argC m c) (argM m c) t 2 r j :=
  (state2 _ _ _ _ _ _ _ (forgetRows m c t 2) (inRows m c t 2) (fun s => sums_at _ _ _ H s 6) (fun s => sumsT_at _ _ _ H 6 s) (fun _ => rfl) (fun s => gatesT_at _ _ _ H 2 s) r j).trans
    (state_rows m c t 2 6 rfl 384 0 768 _ _ rfl rfl rfl r j _ (hC r j))

/-- The fourth head's maximum and state. -/
theorem head_max3 : k0_pay94 k0_pay13 (k0_pay87 (gtsT m c t)) (k0_pay88 (sumsT m c t)) (k0_pay90 (sums m c t)) (k0_pay91 (k0_pay7 (mB m c t))) (ix2 127 0)
    = newMaxAt (argG m c) (argB m c) (argM m c) t 3 :=
  (max3 _ _ _ _ (forgetRows m c t 3) (inRows m c t 3) (fun s => sums_at _ _ _ H s 7) (fun s => sumsT_at _ _ _ H 7 s) (fun s => gatesT_at _ _ _ H 3 s)).trans
    (max_rows m c t 3 7 rfl)

theorem head_state3 (hC : ∀ r j, C (ix3 0 r j) = argC m c (ix4 t 3 r j)) (r : Fin 128) (j : Fin 256) :
    k0_pay102 (k0_pay86 (k0_pay8 (pB m c t)) lanes) (k0_pay95 ones (k0_pay84 (k0_pay8 (pB m c t)))) (k0_pay96 C) (k0_pay100 k0_pay13 (k0_pay87 (gtsT m c t)) (k0_pay88 (sumsT m c t)) (k0_pay89 (gts m c t)) (k0_pay90 (sums m c t)) (k0_pay91 (k0_pay7 (mB m c t)))) (k0_pay101 k0_pay13 (k0_pay87 (gtsT m c t)) (k0_pay88 (sumsT m c t)) (k0_pay90 (sums m c t)) (k0_pay91 (k0_pay7 (mB m c t)))) (ix3 0 r j)
      = newState (argP m c) (argG m c) (argB m c) (argC m c) (argM m c) t 3 r j :=
  (state3 _ _ _ _ _ _ _ (forgetRows m c t 3) (inRows m c t 3) (fun s => sums_at _ _ _ H s 7) (fun s => sumsT_at _ _ _ H 7 s) (fun _ => rfl) (fun s => gatesT_at _ _ _ H 3 s) r j).trans
    (state_rows m c t 3 7 rfl 384 64 896 _ _ rfl rfl rfl r j _ (hC r j))

/-- What point `t` leaves in its block of the packed state. -/
theorem state_value (h : Fin 4) (r : Fin 128) (j : Fin 256) :
    (outsAt0 m c t).2.2.1 (ix4 0 h r j) = newState (argP m c) (argG m c) (argB m c) (argC m c) (argM m c) t h r j := by
  unfold outsAt0
  dsimp only
  unfold out0_A_11
  frame_out
  refine (unscratch_at _ h r j).trans ?_
  rw [View.readCov_eq_canon']
  have key := View.canon_append_of_piecesOf (Val := Elt Ideal) (s := S4x128x256) (e := .f32)
    (fun y => newState (argP m c) (argG m c) (argB m c) (argC m c) (argM m c) t (y 0) (y 1) (y 2))
  refine (key [_] [_, _, _, _] ⟨?_, ?_, ?_, ?_, trivial⟩ _ ?_).trans ?_
  · exact slab_state (newState (argP m c) (argG m c) (argB m c) (argC m c) (argM m c) t) 3 (by decide) inb_S4x128x256_S1x128x256_3_0_0 _ (head_state3 m c t H _ fun r j => by
      rw [View.readCov_skip _ _ _ _ _ (by decide), View.readCov_skip _ _ _ _ _ (by decide), View.readCov_skip _ _ _ _ _ (by decide)]
      exact (slab_load _ 3 (by decide) _ _ r j).trans (c_read m c t _ r j))
  · exact slab_state (newState (argP m c) (argG m c) (argB m c) (argC m c) (argM m c) t) 2 (by decide) inb_S4x128x256_S1x128x256_2_0_0 _ (head_state2 m c t H _ fun r j => by
      rw [View.readCov_skip _ _ _ _ _ (by decide), View.readCov_skip _ _ _ _ _ (by decide)]
      exact (slab_load _ 2 (by decide) _ _ r j).trans (c_read m c t _ r j))
  · exact slab_state (newState (argP m c) (argG m c) (argB m c) (argC m c) (argM m c) t) 1 (by decide) inb_S4x128x256_S1x128x256_1_0_0 _ (head_state1 m c t H _ fun r j => by
      rw [View.readCov_skip _ _ _ _ _ (by decide)]
      exact (slab_load _ 1 (by decide) _ _ r j).trans (c_read m c t _ r j))
  · exact slab_state (newState (argP m c) (argG m c) (argB m c) (argC m c) (argM m c) t) 0 (by decide) inb_S4x128x256_S1x128x256_0_0_0 _ (head_state0 m c t H _ fun r j =>
      (slab_load _ 0 (by decide) _ _ r j).trans (c_read m c t _ r j))
  · rw [whole_idx _ h r j]
    match h with
    | 0 => exact ⟨_, List.mem_cons_of_mem _ (List.mem_cons_of_mem _ (List.mem_cons_of_mem _ List.mem_cons_self)), slab_mem 0 (by decide) inb_S4x128x256_S1x128x256_0_0_0 r j⟩
    | 1 => exact ⟨_, List.mem_cons_of_mem _ (List.mem_cons_of_mem _ List.mem_cons_self), slab_mem 1 (by decide) inb_S4x128x256_S1x128x256_1_0_0 r j⟩
    | 2 => exact ⟨_, List.mem_cons_of_mem _ List.mem_cons_self, slab_mem 2 (by decide) inb_S4x128x256_S1x128x256_2_0_0 r j⟩
    | 3 => exact ⟨_, List.mem_cons_self, slab_mem 3 (by decide) inb_S4x128x256_S1x128x256_3_0_0 r j⟩
  · rw [whole_idx _ h r j]
    rfl

/-- What point `t` leaves in its block of the maxima. -/
theorem maxima_value (l : Fin 128) :
    (outsAt0 m c t).2.2.2 (ix3 0 0 l) = newMaxima (argG m c) (argB m c) (argM m c) t l := by
  unfold outsAt0
  dsimp only
  unfold out0_A_12
  frame_out
  refine (row_at _ l).trans ?_
  unfold newMaxima
  have em : argM m c (ix3 t 0 l) = k0_pay7 (mB m c t) (ix2 0 l) := ((maxima_at _ l).trans (m_read m c t l)).symm
  rw [← head_max0 m c t H, ← head_max1 m c t H, ← head_max2 m c t H, ← head_max3 m c t H, em]
  have hl := l.isLt
  have e : ∀ (a : ℕ) (x y : EReal), a < 8 → Scalar.select (IntOp.cmpi .eq (BitVec.ofNat 32 l.val) (BitVec.ofNat 32 a)) x y = if l.val = a then x else y :=
    fun a x y ha => select_eq _ _ (by omega) (by omega) x y
  rw [← e 7 _ _ (by decide), ← e 6 _ _ (by decide), ← e 5 _ _ (by decide), ← e 4 _ _ (by decide)]
  pointwise [k0_pay104, k0_pay98, k0_pay81, k0_pay78, k0_pay63, k0_pay61, k0_pay44, k0_pay42]

end

/-- The two arrays given by what each sequence leaves in them. -/
def ofState (f : Fin 32 → Fin 4 → Fin 128 → Fin 256 → EReal) : Packed := fun y => f (y 0) (y 1) (y 2) (y 3)
def ofMaxima (f : Fin 32 → Fin 128 → EReal) : Maxima := fun y => f (y 0) (y 2)

variable (c : Dev nD) (hi : ∀ n h s, inGate (argG m c) (argB m c) n h s ≠ (⊤ : EReal))

include hi

theorem gts_ne_top (t : Fin cfg0.N) (y : S128x128.Idx) : gts m c t y ≠ (⊤ : EReal) := by
  refine gates_ne_top _ _ (fun h s => ?_) y
  rw [show gates (gB m c t) (bB m c t) (ix2 (first s) (inLane h)) = _ from in_first m c t h s]
  exact hi t h s

/-- The array of packed states after the run. -/
theorem state_array : (dats m 0 c).arrAt 11 cfg0.N = ofState (newState (argP m c) (argG m c) (argB m c) (argC m c) (argM m c)) := by
  refine (dats m 0 c).arrAt_eq_of_covers 11 _ (by decide +kernel) fun t hf y => ?_
  blk_simp
  rw [after0_11]
  idx_vars y
  obtain rfl := Subsingleton.elim y0 0
  have e : ((View.whole main_v0_2).slice (win0_11.rect t)).emb (ix4 0 y1 y2 y3) = ix4 t y1 y2 y3 := by
    have := (idx t).2.2.2.2.2.1
    blk_ext [this]
  rw [e]
  exact state_value m c t (gts_ne_top m c hi t) y1 y2 y3

/-- The array of maxima after the run. -/
theorem maxima_array : (dats m 0 c).arrAt 12 cfg0.N = ofMaxima (newMaxima (argG m c) (argB m c) (argM m c)) := by
  refine (dats m 0 c).arrAt_eq_of_covers 12 _ (by decide +kernel) fun t hf y => ?_
  blk_simp
  rw [after0_12]
  idx_vars y
  obtain rfl := Subsingleton.elim y0 0
  obtain rfl := Subsingleton.elim y1 0
  have e : ((View.whole main_v0_3).slice (win0_12.rect t)).emb (ix3 0 0 y2) = ix3 t 0 y2 := by
    have := (idx t).2.2.2.2.2.2
    blk_ext [this]
  rw [e]
  exact maxima_value m c t (gts_ne_top m c hi t) y2

end Cert.MixState

end
-- ==== Proof.MixState.Ref.lean ====
/- What the reference of the sample batch's mixer computes for the two state arrays. -/
module

public import Idealize.ShloMosaic.Lib.ReduceAll
public import proofs.«01_k».proof.Defs
public import proofs.«01_k».proof.Proof.Attn.Ref
public import proofs.«01_k».proof.Proof.MixState.Kernel
public import proofs.«01_k».proof.Proof.Gen.MixStateIdeal
public import proofs.«01_k».proof.Proof.Gen.MixStateRefIdeal
public import proofs.«01_k».proof.Proof.Gen.MixStateRefIdeal.Run
public import proofs.«01_k».proof.Proof.Gen.MixStateRefIdeal.Read

@[expose] public section

set_option maxRecDepth 16384
set_option maxHeartbeats 400000

noncomputable section

namespace Cert.MixState

open Idealize.ShloMosaic Idealize.ShloMosaic.TcCoe Idealize.SL.Sem
open Cert.MixStateRefIdeal Cert.MixStateRefIdeal.Gen Cert.MixStateRefIdeal.Read
open Cert.Layer Cert.State

/-- A sum over a window of four along the last axis. -/
theorem sum_window (g : (⟨3, ![1, 1, 4]⟩ : Shape).Idx → EReal) : ∑ i, g i = ∑ w : Fin 4, g (ix3 0 0 w) := by
  symm
  refine Fintype.sum_bijective (fun w : Fin 4 => (ix3 0 0 w : (⟨3, ![1, 1, 4]⟩ : Shape).Idx)) ⟨?_, ?_⟩ _ _ fun _ => rfl
  · intro w w' h; exact congrFun h 2
  · intro i; refine ⟨i 2, funext fun a => ?_⟩
    match a with
    | ⟨0, _⟩ => exact Subsingleton.elim (α := Fin 1) _ _
    | ⟨1, _⟩ => exact Subsingleton.elim (α := Fin 1) _ _
    | ⟨2, _⟩ => rfl

/-- A window of four that ends at `t` sums what is up to `t`. -/
theorem window_four (f : Fin 4 → EReal) (t : Fin 4) :
    ∑ w : Fin 4, (if h : 3 ≤ t.val + w.val then f ⟨t.val + w.val - 3, by omega⟩ else 0) = upto f t := by
  unfold upto
  rw [Fin.sum_univ_four, Fin.sum_univ_four]
  match t with
  | 0 => simp
  | 1 => simp
  | 2 => simp
  | 3 => simp

/-- The cumulative sum: at row `t` the sum up to it. -/
theorem window_upto (x : S32x4x4.Idx → EReal) (f : Fin 4 → EReal) (n : Fin 32) (h t : Fin 4) (hf : ∀ i : Fin 4, x (ix3 n h i) = f i) (hw) :
    Ideal.hostReduceWindowAdd (s := S32x4x4) (t := S32x4x4) ![1, 1, 4] ![1, 1, 1] ![0, 0, 3] ![0, 0, 0] hw x 0 (ix3 n h t) = upto f t := by
  refine (Cert.Attn.window_eq_sum _ _ _ _ hw x 0 _).trans ?_
  refine (zero_add _).trans ((sum_window _).trans ?_)
  refine Eq.trans ?_ (window_four f t)
  refine Finset.sum_congr rfl fun w _ => ?_
  dsimp only
  by_cases c : 3 ≤ t.val + w.val
  · rw [dif_pos c, dif_pos, ← hf]
    · congr 1; funext a
      match a with
      | ⟨0, _⟩ => exact Fin.ext (by show n.val * 1 + 0 - 0 = n.val; omega)
      | ⟨1, _⟩ => exact Fin.ext (by show h.val * 1 + 0 - 0 = h.val; omega)
      | ⟨2, _⟩ => exact Fin.ext (by show t.val * 1 + w.val - 3 = t.val + w.val - 3; omega)
    · intro a
      match a with
      | ⟨0, _⟩ => exact ⟨Nat.zero_le _, by show n.val * 1 + 0 - 0 < 32; omega⟩
      | ⟨1, _⟩ => exact ⟨Nat.zero_le _, by show h.val * 1 + 0 - 0 < 4; omega⟩
      | ⟨2, _⟩ => exact ⟨by show 3 ≤ t.val * 1 + w.val; omega, by show t.val * 1 + w.val - 3 < 4; omega⟩
  · rw [dif_neg c, dif_neg]
    intro hin
    have h2 : 3 ≤ t.val * 1 + w.val := (hin 2).1
    omega

variable (p : (⟨S256x2560, .f32⟩ : BufTy).Contents (Elt Ideal)) (g : (⟨S256x128, .f32⟩ : BufTy).Contents (Elt Ideal))
  (b : (⟨S1x128, .f32⟩ : BufTy).Contents (Elt Ideal)) (C : (⟨S32x4x128x256, .f32⟩ : BufTy).Contents (Elt Ideal))
  (m0 : (⟨S32x1x128, .f32⟩ : BufTy).Contents (Elt Ideal)) (n : Fin 32) (h : Fin 4)

/-- The reference's input gates. -/
theorem ref_in (s : Fin 4) : val_main_v18 (F := Ideal) g b (ix3 n h s) = inGate g b n h s := by
  pointwise [val_main_v18, val_main_v17, val_main_v8, val_main_v7, val_main_v6, val_main_v5, val_main_v4, val_main_v3, val_main_v2]
  rfl

/-- The logarithms of its forget gates. -/
theorem ref_forget (s : Fin 4) : val_main_v21 (F := Ideal) g b (ix3 n h s) = forgetGate g b n h s := by
  pointwise [val_main_v21, val_main_v20, val_main_v19, val_main_call0_v1, val_main_call0_v0, val_main_call0_call0_v4, val_main_call0_call0_v6, val_main_call0_call0_v11, val_main_call0_call0_v1, val_main_call0_call0_v10, val_main_call0_call0_v9, val_main_call0_call0_v8, val_main_call0_call0_v7, val_main_call0_call0_v3, val_main_call0_call0_v2, val_main_call0_call0_v0, val_main_call0_call0_v5, val_main_call0_call0_cst, val_main_v8, val_main_v7, val_main_v6, val_main_v5, val_main_v4, val_main_v3, val_main_v2]
  rw [if_neg (not_not.2 rfl)]
  rfl

/-- Their sums up to a row. -/
theorem ref_upto (t : Fin 4) : val_main_v26 (F := Ideal) g b (ix3 n h t) = upto (forgetGate g b n h) t := by
  unfold val_main_v26
  refine Eq.trans ?_ (window_upto (val_main_v21 (F := Ideal) g b) (forgetGate g b n h) n h t (fun i => ref_forget g b n h i)
    reduceWindows_S32x4x4_S32x4x4_w1s1p0_0_w1s1p0_0_w4s1p3_0)
  unfold Host.reduceWindowAdd
  rw [Ideal.hostReduceWindowAdd_def]
  congr 1
  pointwise [val_main_call2_call0_v0, val_main_call2_call0_cst]

theorem upto_three (f : Fin 4 → EReal) : upto f 3 = total f := by
  unfold upto total
  exact Finset.sum_congr rfl fun s _ => if_pos (by have := s.isLt; show s.val ≤ 3; omega)

/-- A row's score is kept in the last row. -/
theorem last_row (x : Fin 4) (y z : EReal) :
    Scalar.select (Scalar.select (IntOp.cmpi .sge (IntOp.addi 3#32 0#32) (BitVec.ofNat 32 x.val)) 1#1 0#1) y z = y := by
  match x with
  | 0 => rfl
  | 1 => rfl
  | 2 => rfl
  | 3 => rfl

/-- The new running maximum: no row is after the last one. -/
theorem ref_max : val_main_v43 (F := Ideal) g b m0 (ix2 n h) = newMaxAt g b m0 n h := by
  pointwise [val_main_v43, val_main_v42, val_main_v40, val_main_v39, val_main_v38, val_main_v37, val_main_v36, val_main_v35, val_main_call3_v2, val_main_call3_v1, val_main_call3_v0, val_main_cst_0, val_main_cst_1, val_main_v34, val_main_v33, val_main_v32, val_main_v31, val_main_v30, val_main_v29, val_main_v28, val_main_v27, val_main_v25, val_main_call1_v5, val_main_call1_c_0, val_main_call1_v4, val_main_call1_v3, val_main_call1_v2, val_main_call1_v1, val_main_call1_c, val_main_call1_v0, val_main_v24, val_main_c, val_main_v23, val_main_v22]
  unfold newMaxAt newMax
  rw [ref_upto, upto_three, neg_inf]
  refine congrArg₂ max rfl (Finset.fold_congr fun x _ => ?_)
  rw [last_row, ref_upto, ref_in]

/-- The weight of a row in the new state, … -/
theorem ref_weight (s : Fin 4) : val_main_v50 (F := Ideal) g b m0 (ix3 n h s)
    = weight (forgetGate g b n h) (inGate g b n h) (m0 (ix3 n 0 (forgetLane h))) s := by
  pointwise [val_main_v50, val_main_v49, val_main_v48, val_main_v47, val_main_v46, val_main_v45, val_main_v44, val_main_v41]
  rw [ref_upto, ref_upto, ref_in, ref_max, upto_three]
  rfl

/-- … that of the old state, … -/
theorem ref_decay : val_main_v54 (F := Ideal) g b m0 (ix2 n h)
    = decay (forgetGate g b n h) (inGate g b n h) (m0 (ix3 n 0 (forgetLane h))) := by
  pointwise [val_main_v54, val_main_v53, val_main_v52, val_main_v51, val_main_v41, val_main_v23, val_main_v22]
  rw [ref_upto, ref_max, upto_three]
  rfl

/-- … and the weighted keys. -/
theorem ref_key (s : Fin 4) (d : Fin 64) : val_main_v57 (F := Ideal) p g b m0 (ix4 n h s d)
    = weight (forgetGate g b n h) (inGate g b n h) (m0 (ix3 n 0 (forgetLane h))) s
        * (p (ix2 (samp n (pos s)) ⟨256 + 64 * h.val + d.val, by omega⟩) * Ideal.ofBits .f32 0x3E000000#32) := by
  rw [← ref_weight]
  pointwise [val_main_v57, val_main_v56, val_main_v55, val_main_v13, val_main_v12, val_main_v11, val_main_cst, val_main_v10, val_main_v9, val_main_v1, val_main_v0]
  rw [show (⟨256 + 64 * h.val + d.val, by omega⟩ : Fin 2560) = ⟨256 + (h.val * 64 + d.val), by omega⟩ from Fin.ext (by dsimp only; omega)]
  rfl

/-- The values. -/
theorem ref_val (s : Fin 4) (j : Fin 128) : val_main_v16 (F := Ideal) p (ix4 n h s j)
    = p (ix2 (samp n (pos s)) ⟨512 + 128 * h.val + j.val, by omega⟩) := by
  pointwise [val_main_v16, val_main_v15, val_main_v14, val_main_v1, val_main_v0]
  rw [show (⟨512 + 128 * h.val + j.val, by omega⟩ : Fin 2560) = ⟨512 + (h.val * 128 + j.val), by omega⟩ from Fin.ext (by dsimp only; omega)]
  rfl

/-- What the rows add to a head's entry: to `C`, to `n` in the column after it, and nothing to the columns after that. -/
theorem ref_added (d : Fin 64) (j : Fin 256) : val_main_v62 (F := Ideal) p g b m0 (ix4 n h d j)
    = added (forgetGate g b n h) (inGate g b n h) (m0 (ix3 n 0 (forgetLane h)))
        (fun s => p (ix2 (samp n (pos s)) ⟨256 + 64 * h.val + d.val, by omega⟩) * Ideal.ofBits .f32 0x3E000000#32) (valueAt p n h j) := by
  unfold added
  pointwise [val_main_v62, val_main_v61, val_main_cst_3, val_main_v60, val_main_v59, val_main_cst_2, val_main_v58]
  by_cases c : j.val < 128
  · refine (dif_pos c).trans (Finset.sum_congr rfl fun s _ => ?_)
    unfold valueAt
    rw [dif_pos c, ref_key, ref_val, mul_comm (weight _ _ _ _)]
  refine (dif_neg c).trans ?_
  by_cases c' : j.val - 128 < 1
  · refine (dif_pos c').trans (Finset.sum_congr rfl fun s _ => ?_)
    unfold valueAt
    rw [dif_neg c, if_pos (by omega), ref_key, mul_one, mul_comm]
  refine (dif_neg c').trans (Finset.sum_eq_zero fun s _ => ?_).symm
  unfold valueAt
  rw [dif_neg c, if_neg (by omega), mul_zero]

/-- A head's entry is in one of its two blocks of 64 rows; the other is zero. -/
theorem ref_place (a : Fin 64) (e u : Fin 2) (d : Fin 64) (j : Fin 256) : val_main_v72 (F := Ideal) p g b m0 (ix5 a e u d j)
    = if e.val = u.val then val_main_v62 (F := Ideal) p g b m0 (ix4 ⟨a.val / 2, by omega⟩ ⟨a.val % 2 * 2 + e.val, by omega⟩ d j) else 0 := by
  pointwise [val_main_v72, val_main_call4_v3, val_main_call4_v2, val_main_call4_v1, val_main_call4_v0, val_main_cst_4, val_main_v71, val_main_v70, val_main_v69, val_main_v68, val_main_v67, val_main_v66, val_main_v65, val_main_v64, val_main_v63]
  rw [select_eq _ _ (by omega) (by omega)]
  exact if_congr Iff.rfl rfl Cert.Attn.zero_word

/-- The reference's new state. -/
theorem ref_state (r : Fin 128) (j : Fin 256) : val_main_v77 (F := Ideal) p g b C m0 (ix4 n h r j) = newState p g b C m0 n h r j := by
  pointwise [val_main_v77, val_main_v76, val_main_v75, val_main_v74, val_main_v73]
  unfold newState
  rw [ref_decay, ref_place]
  refine congrArg₂ (· + ·) rfl ?_
  have hn : (⟨(n.val * 2 + h.val / 2) / 2, by omega⟩ : Fin 32) = n := Fin.ext (by dsimp only; omega)
  have hh : (⟨(n.val * 2 + h.val / 2) % 2 * 2 + h.val % 2, by omega⟩ : Fin 4) = h := Fin.ext (by dsimp only; omega)
  dsimp only
  rw [hn, hh, ref_added]
  by_cases c : h.val % 2 = r.val / 64
  · rw [if_pos c]
    refine congrArg (fun k => added _ _ _ k _) (funext fun s => ?_)
    unfold keyAt
    rw [if_pos (by omega), show (⟨256 + 64 * h.val + r.val % 64, by omega⟩ : Fin 2560) = ⟨256 + 128 * (h.val / 2) + r.val, by omega⟩ from Fin.ext (by dsimp only; omega)]
  · rw [if_neg c]
    refine (Finset.sum_eq_zero fun s _ => ?_).symm
    unfold keyAt
    rw [if_neg (by omega), zero_mul, zero_mul]

/-- A lane that carries no head's maximum keeps what it held. -/
theorem newMaxima_other (l : Fin 128) (c : ¬ (4 ≤ l.val ∧ l.val < 8)) : newMaxima g b m0 n l = m0 (ix3 n 0 l) := by
  unfold newMaxima
  rw [if_neg (by omega), if_neg (by omega), if_neg (by omega), if_neg (by omega)]

/-- A head's lane gets that head's new maximum. -/
theorem newMaxima_head (h : Fin 4) (l : Fin 128) (e : l.val = 4 + h.val) : newMaxima g b m0 n l = newMaxAt g b m0 n h := by
  unfold newMaxima
  match h, e with
  | 0, e => rw [if_neg (by simp only [e]; decide), if_neg (by simp only [e]; decide), if_neg (by simp only [e]; decide), if_pos (by simp only [e]; rfl)]
  | 1, e => rw [if_neg (by simp only [e]; decide), if_neg (by simp only [e]; decide), if_pos (by simp only [e]; rfl)]
  | 2, e => rw [if_neg (by simp only [e]; decide), if_pos (by simp only [e]; rfl)]
  | 3, e => rw [if_pos (by simp only [e]; rfl)]

/-- The reference's maxima. -/
theorem ref_maxima (l : Fin 128) : val_main_v83 (F := Ideal) g b m0 (ix3 n 0 l) = newMaxima g b m0 n l := by
  pointwise [val_main_v83, val_main_v82, val_main_v81, val_main_v80, val_main_v79, val_main_v78]
  by_cases c : l.val < 4
  · exact (dif_pos c).trans (newMaxima_other g b m0 n l (by omega)).symm
  refine (dif_neg c).trans ?_
  by_cases c' : l.val - 4 < 4
  · exact (dif_pos c').trans ((ref_max g b m0 n ⟨l.val - 4, c'⟩).trans
      (newMaxima_head g b m0 n ⟨l.val - 4, c'⟩ l (show l.val = 4 + (l.val - 4) by omega)).symm)
  · exact (dif_neg c').trans ((congrArg (fun k => m0 (ix3 n 0 k)) (Fin.ext (show 8 + (l.val - 4 - 4) = l.val by omega))).trans
      (newMaxima_other g b m0 n l (by omega)).symm)

theorem ref_state_array : val_main_v77 (F := Ideal) p g b C m0 = ofState (newState p g b C m0) := by
  funext y
  idx_vars y
  exact ref_state p g b C m0 y0 y1 y2 y3

theorem ref_maxima_array : val_main_v83 (F := Ideal) g b m0 = ofMaxima (newMaxima g b m0) := by
  funext y
  idx_vars y
  obtain rfl := Subsingleton.elim y1 0
  exact ref_maxima g b m0 y0 y2

/-! ## The precondition -/

/-- The shape relations the precondition's own function takes. -/
theorem gates_facts : Cert.Pre_gates_below_inf.Facts where
  shapeCasts_S256x128_S32x8x128 := by decide
  slices_S32x8x128_S32x4x4_0_0_0 := by decide
  slices_S1x128_S1x4_0_0 := by decide
  shapeCasts_S1x4_S4 := by decide
  bcast_S4_S1x1x4_2 := by decide
  bcast_S1x1x4_S32x4x4_0_1_2 := by decide
  bcast_S_S32x4x4 := by decide
  reducesTo_S32x4x4_S_d0_1_2 := by decide
  h_S_ := by decide

/-- What the precondition says: no token's input gate is `+∞`. -/
theorem gates_below_top (m : (ℓ : Loc Cert.MixStateIdeal.nD Cert.MixStateIdeal.τ Cert.MixStateIdeal.sig) → Buf (Elt Ideal) ℓ)
    (hpre : Cert.Pre_MixStateIdeal_gates_below_inf (hPre_gates_below_inf := gates_facts) m) (c : Dev Cert.MixStateIdeal.nD)
    (n : Fin 32) (h s : Fin 4) : inGate (argG m c) (argB m c) n h s ≠ (⊤ : EReal) := by
  have hc := congrFun (hpre c) (fun k => k.elim0)
  have lt_top : ∀ a : EReal, BitVec.ofBool (decide (a < Scalar.ofBits (F := Ideal) .f32 0x7F800000#32)) = 1#1 → a ≠ (⊤ : EReal) := by
    intro a h e
    have hlt : a < Scalar.ofBits (F := Ideal) .f32 0x7F800000#32 := by
      by_contra hn
      rw [decide_eq_false hn] at h
      exact absurd h (by decide)
    rw [e] at hlt
    exact not_top_lt hlt
  intro e
  refine lt_top _ (Host.reduce_andi_all _ _ _ _ _ hc (ix3 n s h)) (Eq.trans ?_ e)
  unfold inGate argG argB
  pointwise []
  rfl

/-! ## The claims -/

/-- The value claim of the sample batch's states: with the tokens' input gates below `+∞`, from equal arguments the kernel and
    the reference end with equal packed states and equal packed maxima. -/
theorem algebraic :
    algebraic_MixStateIdeal_MixStateRefIdeal_pre_gates_below_inf (hMixStateIdeal := Cert.MixStateIdeal.Gen.facts)
      (hMixStateRefIdeal := Cert.MixStateRefIdeal.Gen.facts) (hPre_gates_below_inf := gates_facts) := by
  intro m g m' g' hpre hin
  refine ⟨fun c => ofState (newState (argP m c) (argG m c) (argB m c) (argC m c) (argM m c)),
    fun c => ofMaxima (newMaxima (argG m c) (argB m c) (argM m c)), ?_, ?_⟩
  · refine (θ_run _ _ _).mono (fun r h c => ?_) (Cert.MixStateIdeal.Value.run_blocks m g)
    obtain ⟨_, _, h1, h2, h⟩ := h c
    have hi := gates_below_top m hpre c
    exact ⟨h1.trans (state_array m c hi), h2.trans (maxima_array m c hi), h⟩
  · refine (θ_run _ _ _).mono (fun r h c => ?_) (Cert.MixStateRefIdeal.Value.run m' g')
    obtain ⟨h0, h1, h⟩ := h c
    obtain ⟨e0, e1, e2, e3, e4, e5, e6, e7, e8⟩ := hin c
    refine ⟨h0.trans ?_, h1.trans ?_, h⟩
    · rw [Cert.MixStateRefIdeal.Read.val_main_v77_eq, e0, e1, e2, e3, e4]
      exact ref_state_array _ _ _ _ _
    · rw [Cert.MixStateRefIdeal.Read.val_main_v83_eq, e1, e2, e4]
      exact ref_maxima_array _ _ _

/-- The kernel's literal standing for `-∞` is read as `-∞`. -/
theorem preserves : preserves_MixState_MixStateIdeal :=
  IdealRules.named_const.statement Cert.MixStateIdeal.κ "mask" .f32 0xF149F2CA#32 (⊥ : EReal) rfl

/-- The reference runs, leaves its arguments unchanged, and ends with every counter at zero: it declares no semaphore. -/
theorem reference_frame : quiescent_MixStateRefIdeal (hMixStateRefIdeal := Cert.MixStateRefIdeal.Gen.facts) := by
  intro m g _
  exact (θ_run _ _ _).mono (fun r h => ⟨fun c => (h c).2.2, sem_eq_zero_of_no_sems (by decide) r.2⟩) (Cert.MixStateRefIdeal.Value.run m g)

end Cert.MixState

end
-- ==== Proof.lean ====
module

public import proofs.«01_k».proof.Defs
public import proofs.«01_k».proof.Proof.Gen.Attention
public import proofs.«01_k».proof.Proof.Gen.Attention.Skeleton
public import proofs.«01_k».proof.Proof.Gen.Attention.Loops
public import proofs.«01_k».proof.Proof.Gen.Attention.Launch
public import proofs.«01_k».proof.Proof.Gen.Attention.Points
public import proofs.«01_k».proof.Proof.Gen.Attention.Frame
public import proofs.«01_k».proof.Proof.Gen.AttentionIdeal
public import proofs.«01_k».proof.Proof.Gen.AttentionIdeal.Skeleton
public import proofs.«01_k».proof.Proof.Gen.AttentionIdeal.Loops
public import proofs.«01_k».proof.Proof.Gen.AttentionIdeal.Launch
public import proofs.«01_k».proof.Proof.Gen.AttentionIdeal.Points
public import proofs.«01_k».proof.Proof.Gen.AttentionIdeal.Frame
public import proofs.«01_k».proof.Proof.Gen.AttentionRefIdeal
public import proofs.«01_k».proof.Proof.Gen.AttentionRefIdeal.Run
public import proofs.«01_k».proof.Proof.Gen.AttentionRefIdeal.Read
public import proofs.«01_k».proof.Proof.Gen.AttentionIdeal.Value
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpIdeal.Value
public import proofs.«01_k».proof.Proof.Gen.MlpRefIdeal
public import proofs.«01_k».proof.Proof.Gen.MlpRefIdeal.Run
public import proofs.«01_k».proof.Proof.Gen.MlpRefIdeal.Read
public import proofs.«01_k».proof.Proof.Gen.MlpLast
public import proofs.«01_k».proof.Proof.Gen.MlpLast.Skeleton
public import proofs.«01_k».proof.Proof.Gen.MlpLast.Launch
public import proofs.«01_k».proof.Proof.Gen.MlpLast.Points
public import proofs.«01_k».proof.Proof.Gen.MlpLast.Frame
public import proofs.«01_k».proof.Proof.Gen.MlpLastIdeal
public import proofs.«01_k».proof.Proof.Gen.MlpLastIdeal.Skeleton
public import proofs.«01_k».proof.Proof.Gen.MlpLastIdeal.Launch
public import proofs.«01_k».proof.Proof.Gen.MlpLastIdeal.Points
public import proofs.«01_k».proof.Proof.Gen.MlpLastIdeal.Frame
public import proofs.«01_k».proof.Proof.Gen.MlpLastIdeal.Value
public import proofs.«01_k».proof.Proof.Gen.MlpLastRefIdeal
public import proofs.«01_k».proof.Proof.Gen.MlpLastRefIdeal.Run
public import proofs.«01_k».proof.Proof.Gen.MlpLastRefIdeal.Read
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojIdeal.Value
public import proofs.«01_k».proof.Proof.Gen.OutprojRefIdeal
public import proofs.«01_k».proof.Proof.Gen.OutprojRefIdeal.Run
public import proofs.«01_k».proof.Proof.Gen.OutprojRefIdeal.Read
public import proofs.«01_k».proof.Proof.Gen.ProjOdd
public import proofs.«01_k».proof.Proof.Gen.ProjOdd.Skeleton
public import proofs.«01_k».proof.Proof.Gen.ProjOdd.Launch
public import proofs.«01_k».proof.Proof.Gen.ProjOdd.Points
public import proofs.«01_k».proof.Proof.Gen.ProjOdd.Frame
public import proofs.«01_k».proof.Proof.Gen.ProjOddIdeal
public import proofs.«01_k».proof.Proof.Gen.ProjOddIdeal.Skeleton
public import proofs.«01_k».proof.Proof.Gen.ProjOddIdeal.Launch
public import proofs.«01_k».proof.Proof.Gen.ProjOddIdeal.Points
public import proofs.«01_k».proof.Proof.Gen.ProjOddIdeal.Frame
public import proofs.«01_k».proof.Proof.Gen.ProjOddIdeal.Value
public import proofs.«01_k».proof.Proof.Gen.ProjOddRefIdeal
public import proofs.«01_k».proof.Proof.Gen.ProjOddRefIdeal.Run
public import proofs.«01_k».proof.Proof.Gen.ProjOddRefIdeal.Read
public import proofs.«01_k».proof.Proof.Gen.ProjEven
public import proofs.«01_k».proof.Proof.Gen.ProjEven.Skeleton
public import proofs.«01_k».proof.Proof.Gen.ProjEven.Launch
public import proofs.«01_k».proof.Proof.Gen.ProjEven.Points
public import proofs.«01_k».proof.Proof.Gen.ProjEven.Frame
public import proofs.«01_k».proof.Proof.Gen.ProjEvenIdeal
public import proofs.«01_k».proof.Proof.Gen.ProjEvenIdeal.Skeleton
public import proofs.«01_k».proof.Proof.Gen.ProjEvenIdeal.Launch
public import proofs.«01_k».proof.Proof.Gen.ProjEvenIdeal.Points
public import proofs.«01_k».proof.Proof.Gen.ProjEvenIdeal.Frame
public import proofs.«01_k».proof.Proof.Gen.ProjEvenIdeal.Value
public import proofs.«01_k».proof.Proof.Gen.ProjEvenRefIdeal
public import proofs.«01_k».proof.Proof.Gen.ProjEvenRefIdeal.Run
public import proofs.«01_k».proof.Proof.Gen.ProjEvenRefIdeal.Read
public import proofs.«01_k».proof.Proof.Gen.ProjOddS
public import proofs.«01_k».proof.Proof.Gen.ProjOddS.Skeleton
public import proofs.«01_k».proof.Proof.Gen.ProjOddS.Launch
public import proofs.«01_k».proof.Proof.Gen.ProjOddS.Points
public import proofs.«01_k».proof.Proof.Gen.ProjOddS.Frame
public import proofs.«01_k».proof.Proof.Gen.ProjOddSIdeal
public import proofs.«01_k».proof.Proof.Gen.ProjOddSIdeal.Skeleton
public import proofs.«01_k».proof.Proof.Gen.ProjOddSIdeal.Launch
public import proofs.«01_k».proof.Proof.Gen.ProjOddSIdeal.Points
public import proofs.«01_k».proof.Proof.Gen.ProjOddSIdeal.Frame
public import proofs.«01_k».proof.Proof.Gen.ProjOddSIdeal.Value
public import proofs.«01_k».proof.Proof.Gen.ProjOddSRefIdeal
public import proofs.«01_k».proof.Proof.Gen.ProjOddSRefIdeal.Run
public import proofs.«01_k».proof.Proof.Gen.ProjOddSRefIdeal.Read
public import proofs.«01_k».proof.Proof.Gen.MlpLastS
public import proofs.«01_k».proof.Proof.Gen.MlpLastS.Skeleton
public import proofs.«01_k».proof.Proof.Gen.MlpLastS.Launch
public import proofs.«01_k».proof.Proof.Gen.MlpLastS.Points
public import proofs.«01_k».proof.Proof.Gen.MlpLastS.Frame
public import proofs.«01_k».proof.Proof.Gen.MlpLastSIdeal
public import proofs.«01_k».proof.Proof.Gen.MlpLastSIdeal.Skeleton
public import proofs.«01_k».proof.Proof.Gen.MlpLastSIdeal.Launch
public import proofs.«01_k».proof.Proof.Gen.MlpLastSIdeal.Points
public import proofs.«01_k».proof.Proof.Gen.MlpLastSIdeal.Frame
public import proofs.«01_k».proof.Proof.Gen.MlpLastSIdeal.Value
public import proofs.«01_k».proof.Proof.Gen.MlpLastSRefIdeal
public import proofs.«01_k».proof.Proof.Gen.MlpLastSRefIdeal.Run
public import proofs.«01_k».proof.Proof.Gen.MlpLastSRefIdeal.Read
public import proofs.«01_k».proof.Proof.Gen.MixS
public import proofs.«01_k».proof.Proof.Gen.MixS.Skeleton
public import proofs.«01_k».proof.Proof.Gen.MixS.Launch
public import proofs.«01_k».proof.Proof.Gen.MixS.Points
public import proofs.«01_k».proof.Proof.Gen.MixS.Frame
public import proofs.«01_k».proof.Proof.Gen.MixSIdeal
public import proofs.«01_k».proof.Proof.Gen.MixSIdeal.Skeleton
public import proofs.«01_k».proof.Proof.Gen.MixSIdeal.Launch
public import proofs.«01_k».proof.Proof.Gen.MixSIdeal.Points
public import proofs.«01_k».proof.Proof.Gen.MixSIdeal.Frame
public import proofs.«01_k».proof.Proof.Gen.MixSIdeal.Value
public import proofs.«01_k».proof.Proof.Gen.MixSRefIdeal
public import proofs.«01_k».proof.Proof.Gen.MixSRefIdeal.Run
public import proofs.«01_k».proof.Proof.Gen.MixSRefIdeal.Read
public import proofs.«01_k».proof.Proof.Attn.Equation
public import proofs.«01_k».proof.Proof.Mlp.Ref
public import proofs.«01_k».proof.Proof.MlpLast.Ref
public import proofs.«01_k».proof.Proof.Outproj.Ref
public import proofs.«01_k».proof.Proof.ProjOdd.Ref
public import proofs.«01_k».proof.Proof.ProjEven.Ref
public import proofs.«01_k».proof.Proof.ProjOddS.Ref
public import proofs.«01_k».proof.Proof.MlpLastS.Ref
public import proofs.«01_k».proof.Proof.MixS.Ref
public import proofs.«01_k».proof.Proof.Gen.MixState
public import proofs.«01_k».proof.Proof.Gen.MixState.Skeleton
public import proofs.«01_k».proof.Proof.Gen.MixState.Launch
public import proofs.«01_k».proof.Proof.Gen.MixState.Points
public import proofs.«01_k».proof.Proof.Gen.MixState.Frame
public import proofs.«01_k».proof.Proof.Gen.MixStateIdeal
public import proofs.«01_k».proof.Proof.Gen.MixStateIdeal.Skeleton
public import proofs.«01_k».proof.Proof.Gen.MixStateIdeal.Launch
public import proofs.«01_k».proof.Proof.Gen.MixStateIdeal.Points
public import proofs.«01_k».proof.Proof.Gen.MixStateIdeal.Frame
public import proofs.«01_k».proof.Proof.Gen.MixStateIdeal.Value
public import proofs.«01_k».proof.Proof.Gen.MixStateRefIdeal
public import proofs.«01_k».proof.Proof.Gen.MixStateRefIdeal.Run
public import proofs.«01_k».proof.Proof.Gen.MixStateRefIdeal.Read
public import proofs.«01_k».proof.Proof.MixState.Ref
public import Idealize.ShloMosaic.Adequacy
public import Idealize.ShloMosaic.Init

@[expose] public section

noncomputable section

namespace Cert.Proof

open Idealize.ShloMosaic Idealize.SL.Sem Cert.Attention

/-- Every claim of this directory, at the generated witnesses of the programs' facts. -/
theorem claim : Cert.Claim := ⟨Cert.Attention.Gen.facts, Cert.AttentionIdeal.Gen.facts, Cert.AttentionRefIdeal.Gen.facts,
  Cert.Mlp.Gen.facts, Cert.MlpIdeal.Gen.facts, Cert.MlpRefIdeal.Gen.facts,
  Cert.MlpLast.Gen.facts, Cert.MlpLastIdeal.Gen.facts, Cert.MlpLastRefIdeal.Gen.facts,
  Cert.Outproj.Gen.facts, Cert.OutprojIdeal.Gen.facts, Cert.OutprojRefIdeal.Gen.facts,
  Cert.ProjOdd.Gen.facts, Cert.ProjOddIdeal.Gen.facts, Cert.ProjOddRefIdeal.Gen.facts,
  Cert.ProjEven.Gen.facts, Cert.ProjEvenIdeal.Gen.facts, Cert.ProjEvenRefIdeal.Gen.facts,
  Cert.ProjOddS.Gen.facts, Cert.ProjOddSIdeal.Gen.facts, Cert.ProjOddSRefIdeal.Gen.facts,
  Cert.MlpLastS.Gen.facts, Cert.MlpLastSIdeal.Gen.facts, Cert.MlpLastSRefIdeal.Gen.facts,
  Cert.MixS.Gen.facts, Cert.MixSIdeal.Gen.facts, Cert.MixSRefIdeal.Gen.facts,
  Cert.MixState.Gen.facts, Cert.MixStateIdeal.Gen.facts, Cert.MixStateRefIdeal.Gen.facts, Cert.MixState.gates_facts,
  fun m ρ _ => Cert.Attention.Gen.frame m ρ, fun m ρ _ => Cert.AttentionIdeal.Gen.frame m ρ, Cert.Attn.reference_frame,
  fun m ρ _ => Cert.Mlp.Gen.frame m ρ, fun m ρ _ => Cert.MlpIdeal.Gen.frame m ρ, Cert.Mlp.reference_frame,
  fun m ρ _ => Cert.MlpLast.Gen.frame m ρ, fun m ρ _ => Cert.MlpLastIdeal.Gen.frame m ρ, Cert.MlpLast.reference_frame,
  fun m ρ _ => Cert.Outproj.Gen.frame m ρ, fun m ρ _ => Cert.OutprojIdeal.Gen.frame m ρ, Cert.Outproj.reference_frame,
  fun m ρ _ => Cert.ProjOdd.Gen.frame m ρ, fun m ρ _ => Cert.ProjOddIdeal.Gen.frame m ρ, Cert.ProjOdd.reference_frame,
  fun m ρ _ => Cert.ProjEven.Gen.frame m ρ, fun m ρ _ => Cert.ProjEvenIdeal.Gen.frame m ρ, Cert.ProjEven.reference_frame,
  fun m ρ _ => Cert.ProjOddS.Gen.frame m ρ, fun m ρ _ => Cert.ProjOddSIdeal.Gen.frame m ρ, Cert.ProjOddS.reference_frame,
  fun m ρ _ => Cert.MlpLastS.Gen.frame m ρ, fun m ρ _ => Cert.MlpLastSIdeal.Gen.frame m ρ, Cert.MlpLastS.reference_frame,
  fun m ρ _ => Cert.MixS.Gen.frame m ρ, fun m ρ _ => Cert.MixSIdeal.Gen.frame m ρ, Cert.MixS.reference_frame,
  fun m ρ _ => Cert.MixState.Gen.frame m ρ, fun m ρ _ => Cert.MixStateIdeal.Gen.frame m ρ, fun m ρ _ => Cert.MixStateIdeal.Gen.frame m ρ,
  Cert.MixState.reference_frame, fun m ρ _ => Cert.MixState.reference_frame m ρ trivial,
  trivial, Cert.Attn.algebraic,
  trivial, Cert.Mlp.algebraic,
  trivial, Cert.MlpLast.algebraic,
  trivial, Cert.Outproj.algebraic,
  trivial, Cert.ProjOdd.algebraic,
  trivial, Cert.ProjEven.algebraic,
  trivial, Cert.ProjOddS.algebraic,
  trivial, Cert.MlpLastS.algebraic,
  trivial, Cert.MixS.algebraic,
  Cert.MixState.preserves, Cert.MixState.algebraic⟩

end Cert.Proof

end
